-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_arguments [hPre_finite_arguments : Cert.Pre_finite_arguments.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_arguments.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_arguments [hPre_finite_arguments : Cert.Pre_finite_arguments.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_arguments.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_section_gradients [hPre_finite_section_gradients : Cert.Pre_finite_section_gradients.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_section_gradients.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_section_gradients [hPre_finite_section_gradients : Cert.Pre_finite_section_gradients.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_section_gradients.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel11 [hPre_chip_named11 : Cert.Pre_chip_named11.Facts] (m : (ℓ : Loc Cert.Kernel11.nD Cert.Kernel11.τ Cert.Kernel11.sig) → Buf (Elt Bits) ℓ) : Prop :=
  ∀ c : Dev Cert.Kernel11.nD,
    (Cert.Pre_chip_named11.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5))) = (fun _ => 1#1)

def Pre_Kernel11Ideal [hPre_chip_named11 : Cert.Pre_chip_named11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_chip_named11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_chip_named11 [hPre_chip_named11 : Cert.Pre_chip_named11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_chip_named11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))) = (fun _ => 1#1)

def Pre_Kernel12 [hPre_chip_named12 : Cert.Pre_chip_named12.Facts] (m : (ℓ : Loc Cert.Kernel12.nD Cert.Kernel12.τ Cert.Kernel12.sig) → Buf (Elt Bits) ℓ) : Prop :=
  ∀ c : Dev Cert.Kernel12.nD,
    (Cert.Pre_chip_named12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_chip_named12 : Cert.Pre_chip_named12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_chip_named12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_chip_named12 [hPre_chip_named12 : Cert.Pre_chip_named12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_chip_named12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel14 [hPre_chip_named14 : Cert.Pre_chip_named14.Facts] (m : (ℓ : Loc Cert.Kernel14.nD Cert.Kernel14.τ Cert.Kernel14.sig) → Buf (Elt Bits) ℓ) : Prop :=
  ∀ c : Dev Cert.Kernel14.nD,
    (Cert.Pre_chip_named14.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5))) = (fun _ => 1#1)

def Pre_Kernel14Ideal [hPre_chip_named14 : Cert.Pre_chip_named14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_chip_named14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_chip_named14 [hPre_chip_named14 : Cert.Pre_chip_named14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_chip_named14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def Pre_Kernel13 [hPre_chip_named13 : Cert.Pre_chip_named13.Facts] (m : (ℓ : Loc Cert.Kernel13.nD Cert.Kernel13.τ Cert.Kernel13.sig) → Buf (Elt Bits) ℓ) : Prop :=
  ∀ c : Dev Cert.Kernel13.nD,
    (Cert.Pre_chip_named13.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5)) (m ((c.tc : Thread Cert.Kernel13.nD Cert.Kernel13.τ).loc Cert.Kernel13.main_arg6)) (m ((c.tc : Thread Cert.Kernel13.nD Cert.Kernel13.τ).loc Cert.Kernel13.main_arg7)) (m ((c.tc : Thread Cert.Kernel13.nD Cert.Kernel13.τ).loc Cert.Kernel13.main_arg8)) (m ((c.tc : Thread Cert.Kernel13.nD Cert.Kernel13.τ).loc Cert.Kernel13.main_arg9)) (m ((c.tc : Thread Cert.Kernel13.nD Cert.Kernel13.τ).loc Cert.Kernel13.main_arg10)) (m ((c.tc : Thread Cert.Kernel13.nD Cert.Kernel13.τ).loc Cert.Kernel13.main_arg11)) (m ((c.tc : Thread Cert.Kernel13.nD Cert.Kernel13.τ).loc Cert.Kernel13.main_arg12)) (m ((c.tc : Thread Cert.Kernel13.nD Cert.Kernel13.τ).loc Cert.Kernel13.main_arg13)) (m ((c.tc : Thread Cert.Kernel13.nD Cert.Kernel13.τ).loc Cert.Kernel13.main_arg14)) (m ((c.tc : Thread Cert.Kernel13.nD Cert.Kernel13.τ).loc Cert.Kernel13.main_arg15))) = (fun _ => 1#1)

def Pre_Kernel13Ideal [hPre_chip_named13 : Cert.Pre_chip_named13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_chip_named13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9)) (m ((c.tc : Thread Cert.Kernel13Ideal.nD Cert.Kernel13Ideal.τ).loc Cert.Kernel13Ideal.main_arg10)) (m ((c.tc : Thread Cert.Kernel13Ideal.nD Cert.Kernel13Ideal.τ).loc Cert.Kernel13Ideal.main_arg11)) (m ((c.tc : Thread Cert.Kernel13Ideal.nD Cert.Kernel13Ideal.τ).loc Cert.Kernel13Ideal.main_arg12)) (m ((c.tc : Thread Cert.Kernel13Ideal.nD Cert.Kernel13Ideal.τ).loc Cert.Kernel13Ideal.main_arg13)) (m ((c.tc : Thread Cert.Kernel13Ideal.nD Cert.Kernel13Ideal.τ).loc Cert.Kernel13Ideal.main_arg14)) (m ((c.tc : Thread Cert.Kernel13Ideal.nD Cert.Kernel13Ideal.τ).loc Cert.Kernel13Ideal.main_arg15))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_chip_named13 [hPre_chip_named13 : Cert.Pre_chip_named13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_chip_named13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8)) (m ((c.tc : Thread Cert.Reference13Ideal.nD Cert.Reference13Ideal.τ).loc Cert.Reference13Ideal.main_arg9)) (m ((c.tc : Thread Cert.Reference13Ideal.nD Cert.Reference13Ideal.τ).loc Cert.Reference13Ideal.main_arg10)) (m ((c.tc : Thread Cert.Reference13Ideal.nD Cert.Reference13Ideal.τ).loc Cert.Reference13Ideal.main_arg11)) (m ((c.tc : Thread Cert.Reference13Ideal.nD Cert.Reference13Ideal.τ).loc Cert.Reference13Ideal.main_arg12)) (m ((c.tc : Thread Cert.Reference13Ideal.nD Cert.Reference13Ideal.τ).loc Cert.Reference13Ideal.main_arg13)) (m ((c.tc : Thread Cert.Reference13Ideal.nD Cert.Reference13Ideal.τ).loc Cert.Reference13Ideal.main_arg14)) (m ((c.tc : Thread Cert.Reference13Ideal.nD Cert.Reference13Ideal.τ).loc Cert.Reference13Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_arguments [hKernel4Ideal : Cert.Kernel4Ideal.Facts] [hPre_finite_arguments : Cert.Pre_finite_arguments.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_arguments m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_arguments [hReference4Ideal : Cert.Reference4Ideal.Facts] [hPre_finite_arguments : Cert.Pre_finite_arguments.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_arguments m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_section_gradients [hKernel5Ideal : Cert.Kernel5Ideal.Facts] [hPre_finite_section_gradients : Cert.Pre_finite_section_gradients.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_section_gradients m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_section_gradients [hReference5Ideal : Cert.Reference5Ideal.Facts] [hPre_finite_section_gradients : Cert.Pre_finite_section_gradients.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_section_gradients m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel11 [hKernel11 : Cert.Kernel11.Facts] [hPre_chip_named11 : Cert.Pre_chip_named11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] [hPre_chip_named11 : Cert.Pre_chip_named11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_chip_named11 [hReference11Ideal : Cert.Reference11Ideal.Facts] [hPre_chip_named11 : Cert.Pre_chip_named11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_chip_named11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] [hPre_chip_named12 : Cert.Pre_chip_named12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_chip_named12 : Cert.Pre_chip_named12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_chip_named12 [hReference12Ideal : Cert.Reference12Ideal.Facts] [hPre_chip_named12 : Cert.Pre_chip_named12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_chip_named12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel14 [hKernel14 : Cert.Kernel14.Facts] [hPre_chip_named14 : Cert.Pre_chip_named14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] [hPre_chip_named14 : Cert.Pre_chip_named14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_chip_named14 [hReference14Ideal : Cert.Reference14Ideal.Facts] [hPre_chip_named14 : Cert.Pre_chip_named14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_chip_named14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel13 [hKernel13 : Cert.Kernel13.Facts] [hPre_chip_named13 : Cert.Pre_chip_named13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15))
      ∧ r.2.sem = fun _ => 0)

def quiescent_Kernel13Ideal [hKernel13Ideal : Cert.Kernel13Ideal.Facts] [hPre_chip_named13 : Cert.Pre_chip_named13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15))
      ∧ r.2.sem = fun _ => 0)

def quiescent_Reference13Ideal_pre_chip_named13 [hReference13Ideal : Cert.Reference13Ideal.Facts] [hPre_chip_named13 : Cert.Pre_chip_named13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_chip_named13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15))
      ∧ r.2.sem = fun _ => 0)

def preserves_Kernel_KernelIdeal : Prop :=
  True

def preserves_Kernel4_Kernel4Ideal : Prop :=
  True

def algebraic_Kernel4Ideal_Reference4Ideal_pre_finite_arguments [hKernel4Ideal : Cert.Kernel4Ideal.Facts] [hReference4Ideal : Cert.Reference4Ideal.Facts] [hPre_finite_arguments : Cert.Pre_finite_arguments.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_arguments m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v29_0)) (v1 : (c : Dev Cert.Kernel4Ideal.nD) → Buf (Elt Ideal) ((c.tc : Thread Cert.Kernel4Ideal.nD Cert.Kernel4Ideal.τ).loc Cert.Kernel4Ideal.main_v29_1)) (v2 : (c : Dev Cert.Kernel4Ideal.nD) → Buf (Elt Ideal) ((c.tc : Thread Cert.Kernel4Ideal.nD Cert.Kernel4Ideal.τ).loc Cert.Kernel4Ideal.main_v29_2)) (v3 : (c : Dev Cert.Kernel4Ideal.nD) → Buf (Elt Ideal) ((c.tc : Thread Cert.Kernel4Ideal.nD Cert.Kernel4Ideal.τ).loc Cert.Kernel4Ideal.main_v29_3)) (v4 : (c : Dev Cert.Kernel4Ideal.nD) → Buf (Elt Ideal) ((c.tc : Thread Cert.Kernel4Ideal.nD Cert.Kernel4Ideal.τ).loc Cert.Kernel4Ideal.main_v29_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29_0) = v0 c
          ∧ r.2.mem ((c.tc : Thread Cert.Kernel4Ideal.nD Cert.Kernel4Ideal.τ).loc Cert.Kernel4Ideal.main_v29_1) = v1 c
          ∧ r.2.mem ((c.tc : Thread Cert.Kernel4Ideal.nD Cert.Kernel4Ideal.τ).loc Cert.Kernel4Ideal.main_v29_2) = v2 c
          ∧ r.2.mem ((c.tc : Thread Cert.Kernel4Ideal.nD Cert.Kernel4Ideal.τ).loc Cert.Kernel4Ideal.main_v29_3) = v3 c
          ∧ r.2.mem ((c.tc : Thread Cert.Kernel4Ideal.nD Cert.Kernel4Ideal.τ).loc Cert.Kernel4Ideal.main_v29_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_v92) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v93) = v3 c
          ∧ r.2.mem ((c.tc : Thread Cert.Reference4Ideal.nD Cert.Reference4Ideal.τ).loc Cert.Reference4Ideal.main_v94) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel5_Kernel5Ideal : Prop :=
  True

def algebraic_Kernel5Ideal_Reference5Ideal_pre_finite_section_gradients [hKernel5Ideal : Cert.Kernel5Ideal.Facts] [hReference5Ideal : Cert.Reference5Ideal.Facts] [hPre_finite_section_gradients : Cert.Pre_finite_section_gradients.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_section_gradients m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)) (v2 : (c : Dev Cert.Kernel10Ideal.nD) → Buf (Elt Ideal) ((c.tc : Thread Cert.Kernel10Ideal.nD Cert.Kernel10Ideal.τ).loc Cert.Kernel10Ideal.main_v13_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_v13_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v28_0)) (v1 : (c : Dev Cert.Kernel9Ideal.nD) → Buf (Elt Ideal) ((c.tc : Thread Cert.Kernel9Ideal.nD Cert.Kernel9Ideal.τ).loc Cert.Kernel9Ideal.main_v28_1)) (v2 : (c : Dev Cert.Kernel9Ideal.nD) → Buf (Elt Ideal) ((c.tc : Thread Cert.Kernel9Ideal.nD Cert.Kernel9Ideal.τ).loc Cert.Kernel9Ideal.main_v28_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v28_0) = v0 c
          ∧ r.2.mem ((c.tc : Thread Cert.Kernel9Ideal.nD Cert.Kernel9Ideal.τ).loc Cert.Kernel9Ideal.main_v28_1) = v1 c
          ∧ r.2.mem ((c.tc : Thread Cert.Kernel9Ideal.nD Cert.Kernel9Ideal.τ).loc Cert.Kernel9Ideal.main_v28_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v40) = v1 c
          ∧ r.2.mem ((c.tc : Thread Cert.Reference9Ideal.nD Cert.Reference9Ideal.τ).loc Cert.Reference9Ideal.main_v47) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v8)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v8) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v70) = v3 c
          ∧ r.2.mem ((c.tc : Thread Cert.Reference3Ideal.nD Cert.Reference3Ideal.τ).loc Cert.Reference3Ideal.main_v60) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel11_Kernel11Ideal : Prop :=
  True

def algebraic_Kernel11Ideal_Reference11Ideal [hKernel11Ideal : Cert.Kernel11Ideal.Facts] [hReference11Ideal : Cert.Reference11Ideal.Facts] [hPre_chip_named11 : Cert.Pre_chip_named11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v34) = v1 c
          ∧ r.2.mem ((c.tc : Thread Cert.Reference11Ideal.nD Cert.Reference11Ideal.τ).loc Cert.Reference11Ideal.main_v15) = v2 c
          ∧ r.2.mem ((c.tc : Thread Cert.Reference11Ideal.nD Cert.Reference11Ideal.τ).loc Cert.Reference11Ideal.main_v21) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] [hPre_chip_named12 : Cert.Pre_chip_named12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v34) = v1 c
          ∧ r.2.mem ((c.tc : Thread Cert.Reference12Ideal.nD Cert.Reference12Ideal.τ).loc Cert.Reference12Ideal.main_v15) = v2 c
          ∧ r.2.mem ((c.tc : Thread Cert.Reference12Ideal.nD Cert.Reference12Ideal.τ).loc Cert.Reference12Ideal.main_v21) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel14_Kernel14Ideal : Prop :=
  True

def algebraic_Kernel14Ideal_Reference14Ideal [hKernel14Ideal : Cert.Kernel14Ideal.Facts] [hReference14Ideal : Cert.Reference14Ideal.Facts] [hPre_chip_named14 : Cert.Pre_chip_named14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_v34) = v1 c
          ∧ r.2.mem ((c.tc : Thread Cert.Reference14Ideal.nD Cert.Reference14Ideal.τ).loc Cert.Reference14Ideal.main_v15) = v2 c
          ∧ r.2.mem ((c.tc : Thread Cert.Reference14Ideal.nD Cert.Reference14Ideal.τ).loc Cert.Reference14Ideal.main_v21) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel13_Kernel13Ideal : Prop :=
  True

def algebraic_Kernel13Ideal_Reference13Ideal [hKernel13Ideal : Cert.Kernel13Ideal.Facts] [hReference13Ideal : Cert.Reference13Ideal.Facts] [hPre_chip_named13 : Cert.Pre_chip_named13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)) (v6 : (c : Dev Cert.Kernel13Ideal.nD) → Buf (Elt Ideal) ((c.tc : Thread Cert.Kernel13Ideal.nD Cert.Kernel13Ideal.τ).loc Cert.Kernel13Ideal.main_v0_6)) (v7 : (c : Dev Cert.Kernel13Ideal.nD) → Buf (Elt Ideal) ((c.tc : Thread Cert.Kernel13Ideal.nD Cert.Kernel13Ideal.τ).loc Cert.Kernel13Ideal.main_v0_7)) (v8 : (c : Dev Cert.Kernel13Ideal.nD) → Buf (Elt Ideal) ((c.tc : Thread Cert.Kernel13Ideal.nD Cert.Kernel13Ideal.τ).loc Cert.Kernel13Ideal.main_v0_8)) (v9 : (c : Dev Cert.Kernel13Ideal.nD) → Buf (Elt Ideal) ((c.tc : Thread Cert.Kernel13Ideal.nD Cert.Kernel13Ideal.τ).loc Cert.Kernel13Ideal.main_v0_9)) (v10 : (c : Dev Cert.Kernel13Ideal.nD) → Buf (Elt Ideal) ((c.tc : Thread Cert.Kernel13Ideal.nD Cert.Kernel13Ideal.τ).loc Cert.Kernel13Ideal.main_v0_10)) (v11 : (c : Dev Cert.Kernel13Ideal.nD) → Buf (Elt Ideal) ((c.tc : Thread Cert.Kernel13Ideal.nD Cert.Kernel13Ideal.τ).loc Cert.Kernel13Ideal.main_v0_11)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_v0_6) = v6 c
          ∧ r.2.mem ((c.tc : Thread Cert.Kernel13Ideal.nD Cert.Kernel13Ideal.τ).loc Cert.Kernel13Ideal.main_v0_7) = v7 c
          ∧ r.2.mem ((c.tc : Thread Cert.Kernel13Ideal.nD Cert.Kernel13Ideal.τ).loc Cert.Kernel13Ideal.main_v0_8) = v8 c
          ∧ r.2.mem ((c.tc : Thread Cert.Kernel13Ideal.nD Cert.Kernel13Ideal.τ).loc Cert.Kernel13Ideal.main_v0_9) = v9 c
          ∧ r.2.mem ((c.tc : Thread Cert.Kernel13Ideal.nD Cert.Kernel13Ideal.τ).loc Cert.Kernel13Ideal.main_v0_10) = v10 c
          ∧ r.2.mem ((c.tc : Thread Cert.Kernel13Ideal.nD Cert.Kernel13Ideal.τ).loc Cert.Kernel13Ideal.main_v0_11) = v11 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_v34) = v1 c
          ∧ r.2.mem ((c.tc : Thread Cert.Reference13Ideal.nD Cert.Reference13Ideal.τ).loc Cert.Reference13Ideal.main_v15) = v2 c
          ∧ r.2.mem ((c.tc : Thread Cert.Reference13Ideal.nD Cert.Reference13Ideal.τ).loc Cert.Reference13Ideal.main_v21) = v3 c
          ∧ r.2.mem ((c.tc : Thread Cert.Reference13Ideal.nD Cert.Reference13Ideal.τ).loc Cert.Reference13Ideal.main_v45) = v4 c
          ∧ r.2.mem ((c.tc : Thread Cert.Reference13Ideal.nD Cert.Reference13Ideal.τ).loc Cert.Reference13Ideal.main_v69) = v5 c
          ∧ r.2.mem ((c.tc : Thread Cert.Reference13Ideal.nD Cert.Reference13Ideal.τ).loc Cert.Reference13Ideal.main_v50) = v6 c
          ∧ r.2.mem ((c.tc : Thread Cert.Reference13Ideal.nD Cert.Reference13Ideal.τ).loc Cert.Reference13Ideal.main_v56) = v7 c
          ∧ r.2.mem ((c.tc : Thread Cert.Reference13Ideal.nD Cert.Reference13Ideal.τ).loc Cert.Reference13Ideal.main_v80) = v8 c
          ∧ r.2.mem ((c.tc : Thread Cert.Reference13Ideal.nD Cert.Reference13Ideal.τ).loc Cert.Reference13Ideal.main_v104) = v9 c
          ∧ r.2.mem ((c.tc : Thread Cert.Reference13Ideal.nD Cert.Reference13Ideal.τ).loc Cert.Reference13Ideal.main_v85) = v10 c
          ∧ r.2.mem ((c.tc : Thread Cert.Reference13Ideal.nD Cert.Reference13Ideal.τ).loc Cert.Reference13Ideal.main_v91) = v11 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15))

def Claim : Prop :=
  ∃ (hKernel : Cert.Kernel.Facts) (hKernelIdeal : Cert.KernelIdeal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel7 : Cert.Kernel7.Facts) (hKernel7Ideal : Cert.Kernel7Ideal.Facts) (hReference7Ideal : Cert.Reference7Ideal.Facts) (hKernel5 : Cert.Kernel5.Facts) (hKernel5Ideal : Cert.Kernel5Ideal.Facts) (hReference5Ideal : Cert.Reference5Ideal.Facts) (hKernel10 : Cert.Kernel10.Facts) (hKernel10Ideal : Cert.Kernel10Ideal.Facts) (hReference10Ideal : Cert.Reference10Ideal.Facts) (hKernel9 : Cert.Kernel9.Facts) (hKernel9Ideal : Cert.Kernel9Ideal.Facts) (hReference9Ideal : Cert.Reference9Ideal.Facts) (hKernel3 : Cert.Kernel3.Facts) (hKernel3Ideal : Cert.Kernel3Ideal.Facts) (hReference3Ideal : Cert.Reference3Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel13 : Cert.Kernel13.Facts) (hKernel13Ideal : Cert.Kernel13Ideal.Facts) (hReference13Ideal : Cert.Reference13Ideal.Facts) (hPre_finite_arguments : Cert.Pre_finite_arguments.Facts) (hPre_finite_section_gradients : Cert.Pre_finite_section_gradients.Facts) (hPre_chip_named11 : Cert.Pre_chip_named11.Facts) (hPre_chip_named12 : Cert.Pre_chip_named12.Facts) (hPre_chip_named14 : Cert.Pre_chip_named14.Facts) (hPre_chip_named13 : Cert.Pre_chip_named13.Facts),
    quiescent_Kernel (hKernel := hKernel)
    ∧ quiescent_KernelIdeal (hKernelIdeal := hKernelIdeal)
    ∧ quiescent_Kernel4 (hKernel4 := hKernel4)
    ∧ quiescent_Kernel4Ideal (hKernel4Ideal := hKernel4Ideal)
    ∧ quiescent_Kernel4Ideal_pre_finite_arguments (hKernel4Ideal := hKernel4Ideal) (hPre_finite_arguments := hPre_finite_arguments)
    ∧ quiescent_Reference4Ideal (hReference4Ideal := hReference4Ideal)
    ∧ quiescent_Reference4Ideal_pre_finite_arguments (hReference4Ideal := hReference4Ideal) (hPre_finite_arguments := hPre_finite_arguments)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel5 (hKernel5 := hKernel5)
    ∧ quiescent_Kernel5Ideal (hKernel5Ideal := hKernel5Ideal)
    ∧ quiescent_Kernel5Ideal_pre_finite_section_gradients (hKernel5Ideal := hKernel5Ideal) (hPre_finite_section_gradients := hPre_finite_section_gradients)
    ∧ quiescent_Reference5Ideal (hReference5Ideal := hReference5Ideal)
    ∧ quiescent_Reference5Ideal_pre_finite_section_gradients (hReference5Ideal := hReference5Ideal) (hPre_finite_section_gradients := hPre_finite_section_gradients)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel11 (hKernel11 := hKernel11) (hPre_chip_named11 := hPre_chip_named11)
    ∧ quiescent_Kernel11Ideal (hKernel11Ideal := hKernel11Ideal) (hPre_chip_named11 := hPre_chip_named11)
    ∧ quiescent_Reference11Ideal (hReference11Ideal := hReference11Ideal)
    ∧ quiescent_Reference11Ideal_pre_chip_named11 (hReference11Ideal := hReference11Ideal) (hPre_chip_named11 := hPre_chip_named11)
    ∧ quiescent_Kernel12 (hKernel12 := hKernel12) (hPre_chip_named12 := hPre_chip_named12)
    ∧ quiescent_Kernel12Ideal (hKernel12Ideal := hKernel12Ideal) (hPre_chip_named12 := hPre_chip_named12)
    ∧ quiescent_Reference12Ideal (hReference12Ideal := hReference12Ideal)
    ∧ quiescent_Reference12Ideal_pre_chip_named12 (hReference12Ideal := hReference12Ideal) (hPre_chip_named12 := hPre_chip_named12)
    ∧ quiescent_Kernel14 (hKernel14 := hKernel14) (hPre_chip_named14 := hPre_chip_named14)
    ∧ quiescent_Kernel14Ideal (hKernel14Ideal := hKernel14Ideal) (hPre_chip_named14 := hPre_chip_named14)
    ∧ quiescent_Reference14Ideal (hReference14Ideal := hReference14Ideal)
    ∧ quiescent_Reference14Ideal_pre_chip_named14 (hReference14Ideal := hReference14Ideal) (hPre_chip_named14 := hPre_chip_named14)
    ∧ quiescent_Kernel13 (hKernel13 := hKernel13) (hPre_chip_named13 := hPre_chip_named13)
    ∧ quiescent_Kernel13Ideal (hKernel13Ideal := hKernel13Ideal) (hPre_chip_named13 := hPre_chip_named13)
    ∧ quiescent_Reference13Ideal (hReference13Ideal := hReference13Ideal)
    ∧ quiescent_Reference13Ideal_pre_chip_named13 (hReference13Ideal := hReference13Ideal) (hPre_chip_named13 := hPre_chip_named13)
    ∧ preserves_Kernel_KernelIdeal
    ∧ preserves_Kernel4_Kernel4Ideal
    ∧ algebraic_Kernel4Ideal_Reference4Ideal_pre_finite_arguments (hKernel4Ideal := hKernel4Ideal) (hReference4Ideal := hReference4Ideal) (hPre_finite_arguments := hPre_finite_arguments)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel7_Kernel7Ideal
    ∧ algebraic_Kernel7Ideal_Reference7Ideal (hKernel7Ideal := hKernel7Ideal) (hReference7Ideal := hReference7Ideal)
    ∧ preserves_Kernel5_Kernel5Ideal
    ∧ algebraic_Kernel5Ideal_Reference5Ideal_pre_finite_section_gradients (hKernel5Ideal := hKernel5Ideal) (hReference5Ideal := hReference5Ideal) (hPre_finite_section_gradients := hPre_finite_section_gradients)
    ∧ preserves_Kernel10_Kernel10Ideal
    ∧ algebraic_Kernel10Ideal_Reference10Ideal (hKernel10Ideal := hKernel10Ideal) (hReference10Ideal := hReference10Ideal)
    ∧ preserves_Kernel9_Kernel9Ideal
    ∧ algebraic_Kernel9Ideal_Reference9Ideal (hKernel9Ideal := hKernel9Ideal) (hReference9Ideal := hReference9Ideal)
    ∧ preserves_Kernel3_Kernel3Ideal
    ∧ algebraic_Kernel3Ideal_Reference3Ideal (hKernel3Ideal := hKernel3Ideal) (hReference3Ideal := hReference3Ideal)
    ∧ preserves_Kernel11_Kernel11Ideal
    ∧ algebraic_Kernel11Ideal_Reference11Ideal (hKernel11Ideal := hKernel11Ideal) (hReference11Ideal := hReference11Ideal) (hPre_chip_named11 := hPre_chip_named11)
    ∧ preserves_Kernel12_Kernel12Ideal
    ∧ algebraic_Kernel12Ideal_Reference12Ideal (hKernel12Ideal := hKernel12Ideal) (hReference12Ideal := hReference12Ideal) (hPre_chip_named12 := hPre_chip_named12)
    ∧ preserves_Kernel14_Kernel14Ideal
    ∧ algebraic_Kernel14Ideal_Reference14Ideal (hKernel14Ideal := hKernel14Ideal) (hReference14Ideal := hReference14Ideal) (hPre_chip_named14 := hPre_chip_named14)
    ∧ preserves_Kernel13_Kernel13Ideal
    ∧ algebraic_Kernel13Ideal_Reference13Ideal (hKernel13Ideal := hKernel13Ideal) (hReference13Ideal := hReference13Ideal) (hPre_chip_named13 := hPre_chip_named13)
-- ==== Pre_chip_named11.lean ====
abbrev S1 : Shape := ⟨1, ![1]⟩
abbrev S4x1024x512 : Shape := ⟨3, ![4, 1024, 512]⟩
abbrev S3x1024x512 : Shape := ⟨3, ![3, 1024, 512]⟩
abbrev S1024x512 : Shape := ⟨2, ![1024, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1024x512 .bf16) (main_arg2 : FVec F S3x1024x512 .bf16) (main_arg3 : FVec F S1024x512 .f32) (main_arg4 : FVec F S1024x512 .f32) (main_arg5 : FVec F S1024x512 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_chip_named12.lean ====
abbrev S1 : Shape := ⟨1, ![1]⟩
abbrev S4x512x1024 : Shape := ⟨3, ![4, 512, 1024]⟩
abbrev S3x512x1024 : Shape := ⟨3, ![3, 512, 1024]⟩
abbrev S512x1024 : Shape := ⟨2, ![512, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x512x1024 .bf16) (main_arg2 : FVec F S3x512x1024 .bf16) (main_arg3 : FVec F S512x1024 .f32) (main_arg4 : FVec F S512x1024 .f32) (main_arg5 : FVec F S512x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_chip_named13.lean ====
abbrev S1 : Shape := ⟨1, ![1]⟩
abbrev S4x128x1024 : Shape := ⟨3, ![4, 128, 1024]⟩
abbrev S3x128x1024 : Shape := ⟨3, ![3, 128, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x128x1024 .bf16) (main_arg2 : FVec F S4x128x1024 .bf16) (main_arg3 : FVec F S4x128x1024 .bf16) (main_arg4 : FVec F S3x128x1024 .bf16) (main_arg5 : FVec F S3x128x1024 .bf16) (main_arg6 : FVec F S3x128x1024 .bf16) (main_arg7 : FVec F S128x1024 .f32) (main_arg8 : FVec F S128x1024 .f32) (main_arg9 : FVec F S128x1024 .f32) (main_arg10 : FVec F S128x1024 .f32) (main_arg11 : FVec F S128x1024 .f32) (main_arg12 : FVec F S128x1024 .f32) (main_arg13 : FVec F S128x1024 .f32) (main_arg14 : FVec F S128x1024 .f32) (main_arg15 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_chip_named14.lean ====
abbrev S1 : Shape := ⟨1, ![1]⟩
abbrev S4x1024x896 : Shape := ⟨3, ![4, 1024, 896]⟩
abbrev S3x1024x896 : Shape := ⟨3, ![3, 1024, 896]⟩
abbrev S1024x896 : Shape := ⟨2, ![1024, 896]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1024x896 .bf16) (main_arg2 : FVec F S3x1024x896 .bf16) (main_arg3 : FVec F S1024x896 .f32) (main_arg4 : FVec F S1024x896 .f32) (main_arg5 : FVec F S1024x896 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 3#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_finite_arguments.lean ====
abbrev S2048x1024 : Shape := ⟨2, ![2048, 1024]⟩
abbrev S1024x4096 : Shape := ⟨2, ![1024, 4096]⟩
abbrev S4096x1024 : Shape := ⟨2, ![4096, 1024]⟩
abbrev S4x1024 : Shape := ⟨2, ![4, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S1024x4096 .bf16) (main_arg5 : FVec F S4096x1024 .bf16) (main_arg6 : FVec F S4x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024x4096 .bf16 := Host.absf main_arg4
  let main_cst_6 : FVec F S_ .bf16 := constant S_ .bf16 0x7F80#16
  let main_v20 : FVec F S1024x4096 .bf16 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096x1024 .bf16 := Host.absf main_arg5
  let main_cst_8 : FVec F S_ .bf16 := constant S_ .bf16 0x7F80#16
  let main_v25 : FVec F S4096x1024 .bf16 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S2048x1024 .bf16) (main_arg1 : FVec F S2048x1024 .f32) (main_arg2 : FVec F S2048x1024 .f32) (main_arg3 : FVec F S2048x1024 .f32) (main_arg4 : FVec F S1024x4096 .bf16) (main_arg5 : FVec F S4096x1024 .bf16) (main_arg6 : FVec F S4x1024 .f32) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_v13 main_v16
-- ==== Pre_finite_section_gradients.lean ====
abbrev S8x2048x1024 : Shape := ⟨3, ![8, 2048, 1024]⟩
abbrev S1024x7168 : Shape := ⟨2, ![1024, 7168]⟩
abbrev S2048x1024 : Shape := ⟨2, ![2048, 1024]⟩
abbrev S1x1024 : Shape := ⟨2, ![1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x7168 : S_.BroadcastsInDim S1024x7168 (![] : Fin 0 → Fin S1024x7168.rank)
  reducesTo_S1024x7168_S_d0_1 : S1024x7168.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S8x2048x1024 .bf16) (main_arg1 : FVec F S1024x7168 .bf16) (main_arg2 : FVec F S2048x1024 .f32) (main_arg3 : FVec F S2048x1024 .f32) (main_arg4 : FVec F S1x1024 .f32) : IVec S_ 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x7168 .bf16 := Host.absf main_arg1
  let main_cst_0 : FVec F S_ .bf16 := constant S_ .bf16 0x7F80#16
  let main_v5 : FVec F S1024x7168 .bf16 := broadcastInDim S1024x7168 ![] bcast_S_S1024x7168 main_cst_0
  let main_v6 : IVec S1024x7168 1 := cmpf .olt main_v4 main_v5
  let main_c_1 : IVec S_ 1 := constantI S_ 1 1#1
  let main_v7 : IVec S_ 1 := (fun x v => Host.reduce IntOp.andi x v reducesTo_S1024x7168_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S2048x1024 : Shape := ⟨2, ![2048, 1024]⟩
abbrev S2048x2048 : Shape := ⟨2, ![2048, 2048]⟩
abbrev S1x1024 : Shape := ⟨2, ![1, 1024]⟩
abbrev S8x128x128 : Shape := ⟨3, ![8, 128, 128]⟩
abbrev S8x128 : Shape := ⟨2, ![8, 128]⟩
abbrev S8x2048x1024 : Shape := ⟨3, ![8, 2048, 1024]⟩
abbrev S128x8 : Shape := ⟨2, ![128, 8]⟩
abbrev S512x1024 : Shape := ⟨2, ![512, 1024]⟩
abbrev S512x2048 : Shape := ⟨2, ![512, 2048]⟩
abbrev S2x512x1024 : Shape := ⟨3, ![2, 512, 1024]⟩
abbrev S128x128 : Shape := ⟨2, ![128, 128]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩
abbrev S1x128 : Shape := ⟨2, ![1, 128]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S8x2048x1024, .bf16⟩
  | .hbm, ⟨7, _⟩ => ⟨S128x8, .f32⟩
  | .hbm, ⟨8, _⟩ => ⟨S8x2048x1024, .bf16⟩
  | .hbm, ⟨9, _⟩ => ⟨S8x128x128, .f32⟩
  | .hbm, ⟨10, _⟩ => ⟨S128x8, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S2x512x1024, .bf16⟩
  | .local _ .vmem, ⟨9, _⟩ => ⟨S2x512x1024, .bf16⟩
  | .local _ .vmem, ⟨10, _⟩ => ⟨S8x128x128, .f32⟩
  | .local _ .vmem, ⟨11, _⟩ => ⟨S128x8, .f32⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel4.lean ====
abbrev S2048x1024 : Shape := ⟨2, ![2048, 1024]⟩
abbrev S1024x4096 : Shape := ⟨2, ![1024, 4096]⟩
abbrev S4096x1024 : Shape := ⟨2, ![4096, 1024]⟩
abbrev S4x1024 : Shape := ⟨2, ![4, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S2x1024 : Shape := ⟨2, ![2, 1024]⟩
abbrev S256x1024 : Shape := ⟨2, ![256, 1024]⟩
abbrev S256x4096 : Shape := ⟨2, ![256, 4096]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 47
  | .vmem => 22
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x4096, .bf16⟩
  | .hbm, ⟨5, _⟩ => ⟨S4096x1024, .bf16⟩
  | .hbm, ⟨6, _⟩ => ⟨S4x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S1024x4096, .f32⟩
  | .hbm, ⟨41, _⟩ => ⟨S2048x4096, .f32⟩
  | .hbm, ⟨42, _⟩ => ⟨S2048x4096, .bf16⟩
  | .hbm, ⟨43, _⟩ => ⟨S2048x4096, .bf16⟩
  | .hbm, ⟨44, _⟩ => ⟨S2048x1024, .f32⟩
  | .hbm, ⟨45, _⟩ => ⟨S2048x1024, .bf16⟩
  | .hbm, ⟨46, _⟩ => ⟨S2x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .f32⟩
  | .local _ .vmem, ⟨3, _⟩ => ⟨S256x4096, .f32⟩
  | .local _ .vmem, ⟨4, _⟩ => ⟨S1024x4096, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S4x1024, .f32⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S2x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S2048x1024 : Shape := ⟨2, ![2048, 1024]⟩
abbrev S1024x4096 : Shape := ⟨2, ![1024, 4096]⟩
abbrev S4096x1024 : Shape := ⟨2, ![4096, 1024]⟩
abbrev S4x1024 : Shape := ⟨2, ![4, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024 : Shape := ⟨1, ![1024]⟩
abbrev S2x1024 : Shape := ⟨2, ![2, 1024]⟩

abbrev nBuf : Space → Nat
  | .hbm => 126
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024x4096, .bf16⟩
  | .hbm, ⟨5, _⟩ => ⟨S4096x1024, .bf16⟩
  | .hbm, ⟨6, _⟩ => ⟨S4x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S1024x4096, .f32⟩
  | .hbm, ⟨49, _⟩ => ⟨S2048x4096, .f32⟩
  | .hbm, ⟨50, _⟩ => ⟨S_, .f32⟩
  | .hbm, ⟨51, _⟩ => ⟨S2048x4096, .f32⟩
  | .hbm, ⟨52, _⟩ => ⟨S2048x4096, .f32⟩
  | .hbm, ⟨53, _⟩ => ⟨S_, .f32⟩
  | .hbm, ⟨54, _⟩ => ⟨S2048x4096, .f32⟩
  | .hbm, ⟨55, _⟩ => ⟨S2048x4096, .i1⟩
  | .hbm, ⟨56, _⟩ => ⟨S_, .f32⟩
  | .hbm, ⟨57, _⟩ => ⟨S2048x4096, .f32⟩
  | .hbm, ⟨58, _⟩ => ⟨S2048x4096, .f32⟩
  | .hbm, ⟨59, _⟩ => ⟨S_, .f32⟩
  | .hbm, ⟨60, _⟩ => ⟨S2048x4096, .f32⟩
  | .hbm, ⟨61, _⟩ => ⟨S2048x4096, .f32⟩
  | .hbm, ⟨62, _⟩ => ⟨S4096x1024, .f32⟩
  | .hbm, ⟨63, _⟩ => ⟨S2048x1024, .f32⟩
  | .hbm, ⟨64, _⟩ => ⟨S2048x1024, .f32⟩
  | .hbm, ⟨65, _⟩ => ⟨S2048x4096, .f32⟩
  | .hbm, ⟨66, _⟩ => ⟨S2048x4096, .f32⟩
  | .hbm, ⟨67, _⟩ => ⟨S_, .f32⟩
  | .hbm, ⟨68, _⟩ => ⟨S2048x4096, .f32⟩
  | .hbm, ⟨69, _⟩ => ⟨S2048x4096, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S2048x1024, .f32⟩
  | .hbm, ⟨82, _⟩ => ⟨S2048x1024, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S_, .f32⟩
  | .hbm, ⟨103, _⟩ => ⟨S2048, .f32⟩
  | .hbm, ⟨104, _⟩ => ⟨S2048x1, .f32⟩
  | .hbm, ⟨105, _⟩ => ⟨S2048x1024, .f32⟩
  | .hbm, ⟨106, _⟩ => ⟨S2048x1024, .f32⟩
  | .hbm, ⟨107, _⟩ => ⟨S2048x1, .f32⟩
  | .hbm, ⟨108, _⟩ => ⟨S_, .f32⟩
  | .hbm, ⟨109, _⟩ => ⟨S2048x1, .f32⟩
  | .hbm, ⟨110, _⟩ => ⟨S2048x1, .f32⟩
  | .hbm, ⟨111, _⟩ => ⟨S_, .f32⟩
  | .hbm, ⟨112, _⟩ => ⟨S2048, .f32⟩
  | .hbm, ⟨113, _⟩ => ⟨S2048x1024, .f32⟩
  | .hbm, ⟨114, _⟩ => ⟨S2048x1024, .f32⟩
  | .hbm, ⟨115, _⟩ => ⟨S2048x1024, .f32⟩
  | .hbm, ⟨116, _⟩ => ⟨S2048x1024, .f32⟩
  | .hbm, ⟨117, _⟩ => ⟨S2048x1024, .f32⟩
  | .hbm, ⟨118, _⟩ => ⟨S_, .f32⟩
  | .hbm, ⟨119, _⟩ => ⟨S2048x4096, .f32⟩
  | .hbm, ⟨120, _⟩ => ⟨S2048x4096, .f32⟩
  | .hbm, ⟨121, _⟩ => ⟨S2048x4096, .f32⟩
  | .hbm, ⟨122, _⟩ => ⟨S2048x4096, .bf16⟩
  | .hbm, ⟨123, _⟩ => ⟨S2048x4096, .bf16⟩
  | .hbm, ⟨124, _⟩ => ⟨S2048x1024, .bf16⟩
  | .hbm, ⟨125, _⟩ => ⟨S2x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_call1_cst : Ref sig .tc := ⟨.hbm, 118, rfl⟩
abbrev main_call1_v0 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S8x2048x1024 : Shape := ⟨3, ![8, 2048, 1024]⟩
abbrev S_ : Shape := ⟨0, ![]⟩
abbrev S2048 : Shape := ⟨1, ![2048]⟩
abbrev S2048x1 : Shape := ⟨2, ![2048, 1]⟩
abbrev S1024x7168 : Shape := ⟨2, ![1024, 7168]⟩
abbrev S1x2048x1024 : Shape := ⟨3, ![1, 2048, 1024]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1024x7168, .bf16⟩
  | .local _ .vmem, ⟨0, _⟩ => ⟨S2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![7, 1], ![false, false]⟩

def k0_cond3 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c5_i32 : BitVec 32 := 5#32
  let v1 : BitVec 1 := Scalar.cmpi .slt arg0 c5_i32
  let c2_i32_0 : BitVec 32 := 2#32
  let v2 : BitVec 32 := Scalar.addi arg0 c2_i32_0
  let c3_i32 : BitVec 32 := 3#32
  let v3 : BitVec 32 := Scalar.subi arg0 c3_i32
  let v4 : BitVec 32 := Scalar.select v1 v2 v3
  let v5 : BitVec 32 := Scalar.select v0 arg0 v4
  let c0_i32 : BitVec 32 := 0#32
  let c0_i32_1 : BitVec 32 := 0#32
  ![v5.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S2048x1024 : Shape := ⟨2, ![2048, 1024]⟩
abbrev S1x1024 : Shape := ⟨2, ![1, 1024]⟩
abbrev S8x2048x1024 : Shape := ⟨3, ![8, 2048, 1024]⟩
abbrev S_ : Shape := ⟨0, ![]⟩
abbrev S1024x7168 : Shape := ⟨2, ![1024, 7168]⟩
abbrev S2048 : Shape := ⟨1, ![2048]⟩
abbrev S2048x1 : Shape := ⟨2, ![2048, 1]⟩
abbrev S2048x7168 : Shape := ⟨2, ![2048, 7168]⟩
abbrev S1x2048x1024 : Shape := ⟨3, ![1, 2048, 1024]⟩
abbrev S7168x1024 : Shape := ⟨2, ![7168, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x1024, .bf16⟩
  | .hbm, ⟨3, _⟩ => ⟨S_, .f32⟩
  | .hbm, ⟨4, _⟩ => ⟨S1024x7168, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x7168, .f32⟩
  | .hbm, ⟨21, _⟩ => ⟨S1x2048x1024, .bf16⟩
  | .hbm, ⟨22, _⟩ => ⟨S2048x1024, .bf16⟩
  | .hbm, ⟨23, _⟩ => ⟨S1x2048x1024, .bf16⟩
  | .hbm, ⟨24, _⟩ => ⟨S2048x1024, .bf16⟩
  | .hbm, ⟨25, _⟩ => ⟨S1x2048x1024, .bf16⟩
  | .hbm, ⟨26, _⟩ => ⟨S2048x1024, .bf16⟩
  | .hbm, ⟨27, _⟩ => ⟨S1x2048x1024, .bf16⟩
  | .hbm, ⟨28, _⟩ => ⟨S2048x1024, .bf16⟩
  | .hbm, ⟨29, _⟩ => ⟨S1x2048x1024, .bf16⟩
  | .hbm, ⟨30, _⟩ => ⟨S2048x1024, .bf16⟩
  | .hbm, ⟨31, _⟩ => ⟨S1x2048x1024, .bf16⟩
  | .hbm, ⟨32, _⟩ => ⟨S2048x1024, .bf16⟩
  | .hbm, ⟨33, _⟩ => ⟨S1x2048x1024, .bf16⟩
  | .hbm, ⟨34, _⟩ => ⟨S2048x1024, .bf16⟩
  | .hbm, ⟨35, _⟩ => ⟨S2048x7168, .bf16⟩
  | .hbm, ⟨36, _⟩ => ⟨S2048x7168, .f32⟩
  | .hbm, ⟨37, _⟩ => ⟨S7168x1024, .f32⟩
  | .hbm, ⟨38, _⟩ => ⟨S1024x7168, .f32⟩
  | .hbm, ⟨39, _⟩ => ⟨S1024x7168, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel8.lean ====
abbrev S2048x1024 : Shape := ⟨2, ![2048, 1024]⟩
abbrev S1x1024 : Shape := ⟨2, ![1, 1024]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024x4096 : Shape := ⟨2, ![1024, 4096]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x4096, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 v2
  let c0_i32_2 : BitVec 32 := 0#32
  ![arg2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1x1024 : Shape := ⟨2, ![1, 1024]⟩
abbrev S2048x4096 : Shape := ⟨2, ![2048, 4096]⟩
abbrev S_ : Shape := ⟨0, ![]⟩
abbrev S1024x4096 : Shape := ⟨2, ![1024, 4096]⟩
abbrev S2048 : Shape := ⟨1, ![2048]⟩
abbrev S2048x1 : Shape := ⟨2, ![2048, 1]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x4096, .bf16⟩
  | .hbm, ⟨3, _⟩ => ⟨S_, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S4096x1024, .f32⟩
  | .hbm, ⟨23, _⟩ => ⟨S1024x4096, .f32⟩
  | .hbm, ⟨24, _⟩ => ⟨S1024x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024x7168 : Shape := ⟨2, ![1024, 7168]⟩
abbrev S2048x1024 : Shape := ⟨2, ![2048, 1024]⟩
abbrev S1x1024 : Shape := ⟨2, ![1, 1024]⟩
abbrev S1x1024x1024 : Shape := ⟨3, ![1, 1024, 1024]⟩
abbrev S1024x1024 : Shape := ⟨2, ![1024, 1024]⟩
abbrev S2 : Shape := ⟨1, ![2]⟩
abbrev S1 : Shape := ⟨1, ![1]⟩
abbrev S_ : Shape := ⟨0, ![]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x1024, .bf16⟩
  | .hbm, ⟨1, _⟩ => ⟨S1024x7168, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 7], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_cond2 (i : grid0.Coords) : BitVec 1 :=
  let arg1 : BitVec 32 := BitVec.ofNat 32 (i 1).val
  let c0_i32_6 : BitVec 32 := 0#32
  let v11 : BitVec 1 := Scalar.cmpi .eq arg1 c0_i32_6
  let v12 : BitVec 32 := Scalar.extui v11
  let c0_i32_8 : BitVec 32 := 0#32
  let v13 : BitVec 1 := Scalar.cmpi .ne v12 c0_i32_8
  v13

def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_16 : BitVec 32 := 0#32
  ![v1.toNat, 0]
def k0_cond4 (i : grid0.Coords) : BitVec 1 :=
  let arg1 : BitVec 32 := BitVec.ofNat 32 (i 1).val
  let c6_i32 : BitVec 32 := 6#32
  let v17 : BitVec 1 := Scalar.cmpi .eq arg1 c6_i32
  let v18 : BitVec 32 := Scalar.extui v17
  let c0_i32_13 : BitVec 32 := 0#32
  let v19 : BitVec 1 := Scalar.cmpi .ne v18 c0_i32_13
  v19

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_14 : BitVec 32 := 0#32
  ![v1.toNat, 0]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c5_i32 : BitVec 32 := 5#32
  let v1 : BitVec 1 := Scalar.cmpi .slt arg1 c5_i32
  let c2_i32_0 : BitVec 32 := 2#32
  let v2 : BitVec 32 := Scalar.addi arg1 c2_i32_0
  let c3_i32 : BitVec 32 := 3#32
  let v3 : BitVec 32 := Scalar.subi arg1 c3_i32
  let v4 : BitVec 32 := Scalar.select v1 v2 v3
  let v5 : BitVec 32 := Scalar.select v0 arg1 v4
  let c0_i32 : BitVec 32 := 0#32
  let c0_i32_1 : BitVec 32 := 0#32
  ![v5.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference5Ideal.lean ====
abbrev S8x2048x1024 : Shape := ⟨3, ![8, 2048, 1024]⟩
abbrev S1024x7168 : Shape := ⟨2, ![1024, 7168]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x7168 : Shape := ⟨2, ![2048, 7168]⟩
abbrev S1x2048x1024 : Shape := ⟨3, ![1, 2048, 1024]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S1024x7168, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x7168, .f32⟩
  | .hbm, ⟨25, _⟩ => ⟨S2048x7168, .f32⟩
  | .hbm, ⟨26, _⟩ => ⟨S1x2048x1024, .bf16⟩
  | .hbm, ⟨27, _⟩ => ⟨S2048x1024, .bf16⟩
  | .hbm, ⟨28, _⟩ => ⟨S1x2048x1024, .bf16⟩
  | .hbm, ⟨29, _⟩ => ⟨S2048x1024, .bf16⟩
  | .hbm, ⟨30, _⟩ => ⟨S1x2048x1024, .bf16⟩
  | .hbm, ⟨31, _⟩ => ⟨S2048x1024, .bf16⟩
  | .hbm, ⟨32, _⟩ => ⟨S1x2048x1024, .bf16⟩
  | .hbm, ⟨33, _⟩ => ⟨S2048x1024, .bf16⟩
  | .hbm, ⟨34, _⟩ => ⟨S1x2048x1024, .bf16⟩
  | .hbm, ⟨35, _⟩ => ⟨S2048x1024, .bf16⟩
  | .hbm, ⟨36, _⟩ => ⟨S1x2048x1024, .bf16⟩
  | .hbm, ⟨37, _⟩ => ⟨S2048x1024, .bf16⟩
  | .hbm, ⟨38, _⟩ => ⟨S1x2048x1024, .bf16⟩
  | .hbm, ⟨39, _⟩ => ⟨S2048x1024, .bf16⟩
  | .hbm, ⟨40, _⟩ => ⟨S2048x7168, .bf16⟩
  | .hbm, ⟨41, _⟩ => ⟨S2048x7168, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Kernel10.lean ====
abbrev S2048x1024 : Shape := ⟨2, ![2048, 1024]⟩
abbrev S1x1024 : Shape := ⟨2, ![1, 1024]⟩
abbrev S1024x7168 : Shape := ⟨2, ![1024, 7168]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x3072 : Shape := ⟨2, ![2048, 3072]⟩
abbrev S1024x1024 : Shape := ⟨2, ![1024, 1024]⟩

abbrev nBuf : Space → Nat
  | .hbm => 22
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x7168, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x2048, .f32⟩
  | .hbm, ⟨20, _⟩ => ⟨S2048x3072, .bf16⟩
  | .hbm, ⟨21, _⟩ => ⟨S2048x2048, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .f32⟩
  | .local _ .vmem, ⟨8, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let c5_i32 : BitVec 32 := 5#32
  let v4 : BitVec 1 := Scalar.cmpi .slt arg0 c5_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c5_i32_2 : BitVec 32 := 5#32
  let v8 : BitVec 1 := Scalar.cmpi .sge arg0 c5_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2048x1024 : Shape := ⟨2, ![2048, 1024]⟩
abbrev S1x1024 : Shape := ⟨2, ![1, 1024]⟩
abbrev S1024x7168 : Shape := ⟨2, ![1024, 7168]⟩
abbrev S_ : Shape := ⟨0, ![]⟩
abbrev S2048 : Shape := ⟨1, ![2048]⟩
abbrev S2048x1 : Shape := ⟨2, ![2048, 1]⟩
abbrev S2048x7168 : Shape := ⟨2, ![2048, 7168]⟩
abbrev S2048x2048 : Shape := ⟨2, ![2048, 2048]⟩
abbrev S2048x3072 : Shape := ⟨2, ![2048, 3072]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x7168, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x7168, .f32⟩
  | .hbm, ⟨19, _⟩ => ⟨S2048x7168, .f32⟩
  | .hbm, ⟨20, _⟩ => ⟨S2048x2048, .f32⟩
  | .hbm, ⟨21, _⟩ => ⟨S2048x3072, .f32⟩
  | .hbm, ⟨22, _⟩ => ⟨S2048x3072, .bf16⟩
  | .hbm, ⟨23, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S2048x2048 : Shape := ⟨2, ![2048, 2048]⟩
abbrev S2048x1024 : Shape := ⟨2, ![2048, 1024]⟩
abbrev S2x1024 : Shape := ⟨2, ![2, 1024]⟩
abbrev S2048x3072 : Shape := ⟨2, ![2048, 3072]⟩
abbrev S1x1024 : Shape := ⟨2, ![1, 1024]⟩
abbrev S1024 : Shape := ⟨1, ![1024]⟩
abbrev S_ : Shape := ⟨0, ![]⟩
abbrev S1024x1024 : Shape := ⟨2, ![1024, 1024]⟩

abbrev nBuf : Space → Nat
  | .hbm => 42
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2x1024, .f32⟩
  | .hbm, ⟨6, _⟩ => ⟨S2048x3072, .bf16⟩
  | .hbm, ⟨7, _⟩ => ⟨S2048x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | .hbm, ⟨39, _⟩ => ⟨S1024x1024, .bf16⟩
  | .hbm, ⟨40, _⟩ => ⟨S1024x1024, .bf16⟩
  | .hbm, ⟨41, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_12 : BitVec 32 := 0#32
  let v21 : BitVec 1 := Scalar.cmpi .eq arg1 c0_i32_12
  let v22 : BitVec 32 := Scalar.extui v21
  let c0_i32_13 : BitVec 32 := 0#32
  let v23 : BitVec 1 := Scalar.cmpi .ne v22 c0_i32_13
  v23

def k0_cond4 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def k0_cond5 (i : grid0.Coords) : BitVec 1 :=
  let arg1 : BitVec 32 := BitVec.ofNat 32 (i 1).val
  let c0_i32_12 : BitVec 32 := 0#32
  let v20 : BitVec 1 := Scalar.cmpi .eq arg1 c0_i32_12
  let v21 : BitVec 32 := Scalar.extui v20
  let c0_i32_13 : BitVec 32 := 0#32
  let v22 : BitVec 1 := Scalar.cmpi .ne v21 c0_i32_13
  v22

def k0_cond6 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def k0_cond7 (i : grid0.Coords) : BitVec 1 :=
  let arg1 : BitVec 32 := BitVec.ofNat 32 (i 1).val
  let c0_i32_12 : BitVec 32 := 0#32
  let v20 : BitVec 1 := Scalar.cmpi .eq arg1 c0_i32_12
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference9Ideal.lean ====
abbrev S2048x2048 : Shape := ⟨2, ![2048, 2048]⟩
abbrev S2048x1024 : Shape := ⟨2, ![2048, 1024]⟩
abbrev S2x1024 : Shape := ⟨2, ![2, 1024]⟩
abbrev S2048x3072 : Shape := ⟨2, ![2048, 3072]⟩
abbrev S1x1024 : Shape := ⟨2, ![1, 1024]⟩
abbrev S1024 : Shape := ⟨1, ![1024]⟩
abbrev S_ : Shape := ⟨0, ![]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2x1024, .f32⟩
  | .hbm, ⟨6, _⟩ => ⟨S2048x3072, .bf16⟩
  | .hbm, ⟨7, _⟩ => ⟨S2048x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024x1024, .f32⟩
  | .hbm, ⟨40, _⟩ => ⟨S2048x1024, .bf16⟩
  | .hbm, ⟨41, _⟩ => ⟨S2048x1024, .f32⟩
  | .hbm, ⟨42, _⟩ => ⟨S2048x1024, .f32⟩
  | .hbm, ⟨43, _⟩ => ⟨S1024x1024, .f32⟩
  | .hbm, ⟨44, _⟩ => ⟨S1024x1024, .f32⟩
  | .hbm, ⟨45, _⟩ => ⟨S1024x1024, .bf16⟩
  | .hbm, ⟨46, _⟩ => ⟨S2048x1024, .bf16⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1024x1024, .f32⟩
  | .hbm, ⟨51, _⟩ => ⟨S1024x1024, .f32⟩
  | .hbm, ⟨52, _⟩ => ⟨S1024x1024, .bf16⟩
  | .hbm, ⟨53, _⟩ => ⟨S2048x1024, .bf16⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S1024x1024, .f32⟩
  | .hbm, ⟨58, _⟩ => ⟨S1024x1024, .f32⟩
  | .hbm, ⟨59, _⟩ => ⟨S1024x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel3.lean ====
abbrev S2048x1024 : Shape := ⟨2, ![2048, 1024]⟩
abbrev S2048x2048 : Shape := ⟨2, ![2048, 2048]⟩
abbrev S1024x1024 : Shape := ⟨2, ![1024, 1024]⟩
abbrev S4x1024 : Shape := ⟨2, ![4, 1024]⟩
abbrev S2048x3072 : Shape := ⟨2, ![2048, 3072]⟩
abbrev S8x2048x1024 : Shape := ⟨3, ![8, 2048, 1024]⟩
abbrev S2x1024 : Shape := ⟨2, ![2, 1024]⟩
abbrev S512x1024 : Shape := ⟨2, ![512, 1024]⟩
abbrev S512x2048 : Shape := ⟨2, ![512, 2048]⟩
abbrev S512x3072 : Shape := ⟨2, ![512, 3072]⟩
abbrev S2x512x1024 : Shape := ⟨3, ![2, 512, 1024]⟩
abbrev S1x1024 : Shape := ⟨2, ![1, 1024]⟩
abbrev S1x512x1024 : Shape := ⟨3, ![1, 512, 1024]⟩
abbrev S1024 : Shape := ⟨1, ![1024]⟩
abbrev S2x2048x1024 : Shape := ⟨3, ![2, 2048, 1024]⟩

abbrev nBuf : Space → Nat
  | .hbm => 21
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S2048x1024, .f32⟩
  | .hbm, ⟨14, _⟩ => ⟨S2048x2048, .f32⟩
  | .hbm, ⟨15, _⟩ => ⟨S2048x3072, .bf16⟩
  | .hbm, ⟨16, _⟩ => ⟨S8x2048x1024, .bf16⟩
  | .hbm, ⟨17, _⟩ => ⟨S2048x1024, .f32⟩
  | .hbm, ⟨18, _⟩ => ⟨S2048x1024, .bf16⟩
  | .hbm, ⟨19, _⟩ => ⟨S2x1024, .f32⟩
  | .hbm, ⟨20, _⟩ => ⟨S2x2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S4x1024, .f32⟩
  | .local _ .vmem, ⟨10, _⟩ => ⟨S512x3072, .bf16⟩
  | .local _ .vmem, ⟨11, _⟩ => ⟨S512x3072, .bf16⟩
  | .local _ .vmem, ⟨12, _⟩ => ⟨S2x512x1024, .bf16⟩
  | .local _ .vmem, ⟨13, _⟩ => ⟨S2x512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S2x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S2048x1024 : Shape := ⟨2, ![2048, 1024]⟩
abbrev S2048x2048 : Shape := ⟨2, ![2048, 2048]⟩
abbrev S1024x1024 : Shape := ⟨2, ![1024, 1024]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S2048x3072 : Shape := ⟨2, ![2048, 3072]⟩
abbrev S1x2048x1024 : Shape := ⟨3, ![1, 2048, 1024]⟩
abbrev S2x2048x1024 : Shape := ⟨3, ![2, 2048, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1024x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S2x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S2048x1024, .f32⟩
  | .hbm, ⟨82, _⟩ => ⟨S2048x1024, .f32⟩
  | .hbm, ⟨83, _⟩ => ⟨S2048x1024, .bf16⟩
  | .hbm, ⟨84, _⟩ => ⟨S2048x1024, .bf16⟩
  | .hbm, ⟨85, _⟩ => ⟨S2048x3072, .bf16⟩
  | .hbm, ⟨86, _⟩ => ⟨S1x2048x1024, .f32⟩
  | .hbm, ⟨87, _⟩ => ⟨S1x2048x1024, .f32⟩
  | .hbm, ⟨88, _⟩ => ⟨S2x2048x1024, .f32⟩
  | .hbm, ⟨89, _⟩ => ⟨S2x2048x1024, .bf16⟩
  | .hbm, ⟨90, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Kernel11.lean ====
abbrev S1 : Shape := ⟨1, ![1]⟩
abbrev S4x1024x512 : Shape := ⟨3, ![4, 1024, 512]⟩
abbrev S3x1024x512 : Shape := ⟨3, ![3, 1024, 512]⟩
abbrev S1024x512 : Shape := ⟨2, ![1024, 512]⟩
abbrev S1x256x512 : Shape := ⟨3, ![1, 256, 512]⟩
abbrev S3x256x512 : Shape := ⟨3, ![3, 256, 512]⟩
abbrev S256x512 : Shape := ⟨2, ![256, 512]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x512, .bf16⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S1x256x512, .bf16⟩
  | .local _ .vmem, ⟨1, _⟩ => ⟨S1x256x512, .bf16⟩
  | .local _ .vmem, ⟨2, _⟩ => ⟨S3x256x512, .bf16⟩
  | .local _ .vmem, ⟨3, _⟩ => ⟨S3x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S1 : Shape := ⟨1, ![1]⟩
abbrev S4x1024x512 : Shape := ⟨3, ![4, 1024, 512]⟩
abbrev S3x1024x512 : Shape := ⟨3, ![3, 1024, 512]⟩
abbrev S1024x512 : Shape := ⟨2, ![1024, 512]⟩
abbrev S4 : Shape := ⟨1, ![4]⟩
abbrev S_ : Shape := ⟨0, ![]⟩
abbrev S4x1x1 : Shape := ⟨3, ![4, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x512, .bf16⟩
  | .hbm, ⟨2, _⟩ => ⟨S3x1024x512, .bf16⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x1024x512, .f32⟩
  | .hbm, ⟨12, _⟩ => ⟨S_, .f32⟩
  | .hbm, ⟨13, _⟩ => ⟨S_, .f32⟩
  | .hbm, ⟨14, _⟩ => ⟨S4x1024x512, .i1⟩
  | .hbm, ⟨15, _⟩ => ⟨S4x1024x512, .f32⟩
  | .hbm, ⟨16, _⟩ => ⟨S4x1024x512, .f32⟩
  | .hbm, ⟨17, _⟩ => ⟨S_, .f32⟩
  | .hbm, ⟨18, _⟩ => ⟨S1024x512, .f32⟩
  | .hbm, ⟨19, _⟩ => ⟨S3x1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S_, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S_, .f32⟩
  | .hbm, ⟨54, _⟩ => ⟨S1024x512, .f32⟩
  | .hbm, ⟨55, _⟩ => ⟨S1024x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel12.lean ====
abbrev S1 : Shape := ⟨1, ![1]⟩
abbrev S4x512x1024 : Shape := ⟨3, ![4, 512, 1024]⟩
abbrev S3x512x1024 : Shape := ⟨3, ![3, 512, 1024]⟩
abbrev S512x1024 : Shape := ⟨2, ![512, 1024]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x512x1024, .bf16⟩
  | .hbm, ⟨1, _⟩ => ⟨S3x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1 : Shape := ⟨1, ![1]⟩
abbrev S4x512x1024 : Shape := ⟨3, ![4, 512, 1024]⟩
abbrev S3x512x1024 : Shape := ⟨3, ![3, 512, 1024]⟩
abbrev S512x1024 : Shape := ⟨2, ![512, 1024]⟩
abbrev S4 : Shape := ⟨1, ![4]⟩
abbrev S_ : Shape := ⟨0, ![]⟩
abbrev S4x1x1 : Shape := ⟨3, ![4, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x1024, .bf16⟩
  | .hbm, ⟨2, _⟩ => ⟨S3x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x512x1024, .f32⟩
  | .hbm, ⟨12, _⟩ => ⟨S_, .f32⟩
  | .hbm, ⟨13, _⟩ => ⟨S_, .f32⟩
  | .hbm, ⟨14, _⟩ => ⟨S4x512x1024, .i1⟩
  | .hbm, ⟨15, _⟩ => ⟨S4x512x1024, .f32⟩
  | .hbm, ⟨16, _⟩ => ⟨S4x512x1024, .f32⟩
  | .hbm, ⟨17, _⟩ => ⟨S_, .f32⟩
  | .hbm, ⟨18, _⟩ => ⟨S512x1024, .f32⟩
  | .hbm, ⟨19, _⟩ => ⟨S3x512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S_, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512x1024, .f32⟩
  | .hbm, ⟨51, _⟩ => ⟨S512x1024, .f32⟩
  | .hbm, ⟨52, _⟩ => ⟨S512x1024, .f32⟩
  | .hbm, ⟨53, _⟩ => ⟨S_, .f32⟩
  | .hbm, ⟨54, _⟩ => ⟨S512x1024, .f32⟩
  | .hbm, ⟨55, _⟩ => ⟨S512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel14.lean ====
abbrev S1 : Shape := ⟨1, ![1]⟩
abbrev S4x1024x896 : Shape := ⟨3, ![4, 1024, 896]⟩
abbrev S3x1024x896 : Shape := ⟨3, ![3, 1024, 896]⟩
abbrev S1024x896 : Shape := ⟨2, ![1024, 896]⟩
abbrev S1x256x896 : Shape := ⟨3, ![1, 256, 896]⟩
abbrev S3x256x896 : Shape := ⟨3, ![3, 256, 896]⟩
abbrev S256x896 : Shape := ⟨2, ![256, 896]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x896, .bf16⟩
  | .hbm, ⟨1, _⟩ => ⟨S3x1024x896, .bf16⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S1x256x896, .bf16⟩
  | .local _ .vmem, ⟨1, _⟩ => ⟨S1x256x896, .bf16⟩
  | .local _ .vmem, ⟨2, _⟩ => ⟨S3x256x896, .bf16⟩
  | .local _ .vmem, ⟨3, _⟩ => ⟨S3x256x896, .bf16⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | .local _ .smem, ⟨0, _⟩ => ⟨S1, .i32⟩
  | _, _ => ⟨S4x1024x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1 : Shape := ⟨1, ![1]⟩
abbrev S4x1024x896 : Shape := ⟨3, ![4, 1024, 896]⟩
abbrev S3x1024x896 : Shape := ⟨3, ![3, 1024, 896]⟩
abbrev S1024x896 : Shape := ⟨2, ![1024, 896]⟩
abbrev S4 : Shape := ⟨1, ![4]⟩
abbrev S_ : Shape := ⟨0, ![]⟩
abbrev S4x1x1 : Shape := ⟨3, ![4, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x896, .bf16⟩
  | .hbm, ⟨2, _⟩ => ⟨S3x1024x896, .bf16⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S4x1x1, .i1⟩
  | .hbm, ⟨11, _⟩ => ⟨S4x1024x896, .f32⟩
  | .hbm, ⟨12, _⟩ => ⟨S_, .f32⟩
  | .hbm, ⟨13, _⟩ => ⟨S_, .f32⟩
  | .hbm, ⟨14, _⟩ => ⟨S4x1024x896, .i1⟩
  | .hbm, ⟨15, _⟩ => ⟨S4x1024x896, .f32⟩
  | .hbm, ⟨16, _⟩ => ⟨S4x1024x896, .f32⟩
  | .hbm, ⟨17, _⟩ => ⟨S_, .f32⟩
  | .hbm, ⟨18, _⟩ => ⟨S1024x896, .f32⟩
  | .hbm, ⟨19, _⟩ => ⟨S3x1024x896, .f32⟩
  | .hbm, ⟨20, _⟩ => ⟨S_, .f32⟩
  | .hbm, ⟨21, _⟩ => ⟨S1024x896, .f32⟩
  | .hbm, ⟨22, _⟩ => ⟨S1024x896, .f32⟩
  | .hbm, ⟨23, _⟩ => ⟨S_, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | .hbm, ⟨37, _⟩ => ⟨S1024x896, .f32⟩
  | .hbm, ⟨38, _⟩ => ⟨S_, .f32⟩
  | .hbm, ⟨39, _⟩ => ⟨S1024x896, .f32⟩
  | .hbm, ⟨40, _⟩ => ⟨S1024x896, .f32⟩
  | .hbm, ⟨41, _⟩ => ⟨S_, .f32⟩
  | .hbm, ⟨42, _⟩ => ⟨S1024x896, .f32⟩
  | .hbm, ⟨43, _⟩ => ⟨S1024x896, .f32⟩
  | .hbm, ⟨44, _⟩ => ⟨S1024x896, .f32⟩
  | .hbm, ⟨45, _⟩ => ⟨S_, .f32⟩
  | .hbm, ⟨46, _⟩ => ⟨S1024x896, .f32⟩
  | .hbm, ⟨47, _⟩ => ⟨S1024x896, .f32⟩
  | .hbm, ⟨48, _⟩ => ⟨S1024x896, .f32⟩
  | .hbm, ⟨49, _⟩ => ⟨S_, .f32⟩
  | .hbm, ⟨50, _⟩ => ⟨S1024x896, .f32⟩
  | .hbm, ⟨51, _⟩ => ⟨S1024x896, .f32⟩
  | .hbm, ⟨52, _⟩ => ⟨S1024x896, .f32⟩
  | .hbm, ⟨53, _⟩ => ⟨S_, .f32⟩
  | .hbm, ⟨54, _⟩ => ⟨S1024x896, .f32⟩
  | .hbm, ⟨55, _⟩ => ⟨S1024x896, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel13.lean ====
abbrev S1 : Shape := ⟨1, ![1]⟩
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩

abbrev nBuf : Space → Nat
  | .hbm => 27
  | .vmem => 27
  | .smem => 1
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S4x128x1024, .bf16⟩
  | .hbm, ⟨3, _⟩ => ⟨S3x128x1024, .bf16⟩
  | .hbm, ⟨4, _⟩ => ⟨S3x128x1024, .bf16⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S3x128x1024, .bf16⟩
  | .local _ .vmem, ⟨4, _⟩ => ⟨S3x128x1024, .bf16⟩
  | .local _ .vmem, ⟨5, _⟩ => ⟨S3x128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_arg15 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S128x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]
-- ==== Reference13Ideal.lean ====
abbrev S1 : Shape := ⟨1, ![1]⟩
abbrev S4x128x1024 : Shape := ⟨3, ![4, 128, 1024]⟩
abbrev S3x128x1024 : Shape := ⟨3, ![3, 128, 1024]⟩
abbrev S128x1024 : Shape := ⟨2, ![128, 1024]⟩
abbrev S4 : Shape := ⟨1, ![4]⟩
abbrev S_ : Shape := ⟨0, ![]⟩
abbrev S4x1x1 : Shape := ⟨3, ![4, 1, 1]⟩

abbrev nBuf : Space → Nat
  | .hbm => 166
  | .vmem => 0
  | .smem => 0
  | _ => 0

abbrev hbmTy0_0 (i : Nat) : BufTy := match i % 128 with
  | 0 => ⟨S1, .i32⟩
  | 1 => ⟨S4x128x1024, .bf16⟩
  | 2 => ⟨S4x128x1024, .bf16⟩
  | 3 => ⟨S4x128x1024, .bf16⟩
  | 4 => ⟨S3x128x1024, .bf16⟩
  | 5 => ⟨S3x128x1024, .bf16⟩
  | 6 => ⟨S3x128x1024, .bf16⟩
  | 7 => ⟨S128x1024, .f32⟩
  | 8 => ⟨S128x1024, .f32⟩
  | 9 => ⟨S128x1024, .f32⟩
  | 10 => ⟨S128x1024, .f32⟩
  | 11 => ⟨S128x1024, .f32⟩
  | 12 => ⟨S128x1024, .f32⟩
  | 13 => ⟨S128x1024, .f32⟩
  | 14 => ⟨S128x1024, .f32⟩
  | 15 => ⟨S128x1024, .f32⟩
  | 16 => ⟨S4, .i32⟩
  | 17 => ⟨S_, .i32⟩
  | 18 => ⟨S4, .i32⟩
  | 19 => ⟨S4, .i1⟩
  | 20 => ⟨S4x1x1, .i1⟩
  | 21 => ⟨S4x128x1024, .f32⟩
  | 22 => ⟨S_, .f32⟩
  | 23 => ⟨S_, .f32⟩
  | 24 => ⟨S4x128x1024, .i1⟩
  | 25 => ⟨S4x128x1024, .f32⟩
  | 26 => ⟨S4x128x1024, .f32⟩
  | 27 => ⟨S_, .f32⟩
  | 28 => ⟨S128x1024, .f32⟩
  | 29 => ⟨S3x128x1024, .f32⟩
  | 30 => ⟨S_, .f32⟩
  | 31 => ⟨S128x1024, .f32⟩
  | 32 => ⟨S128x1024, .f32⟩
  | 33 => ⟨S_, .f32⟩
  | 34 => ⟨S128x1024, .f32⟩
  | 35 => ⟨S128x1024, .f32⟩
  | 36 => ⟨S_, .f32⟩
  | 37 => ⟨S128x1024, .f32⟩
  | 38 => ⟨S128x1024, .f32⟩
  | 39 => ⟨S128x1024, .f32⟩
  | 40 => ⟨S_, .f32⟩
  | 41 => ⟨S128x1024, .f32⟩
  | 42 => ⟨S128x1024, .f32⟩
  | 43 => ⟨S128x1024, .f32⟩
  | 44 => ⟨S_, .f32⟩
  | 45 => ⟨S128x1024, .f32⟩
  | 46 => ⟨S128x1024, .f32⟩
  | 47 => ⟨S128x1024, .f32⟩
  | 48 => ⟨S_, .f32⟩
  | 49 => ⟨S128x1024, .f32⟩
  | 50 => ⟨S128x1024, .f32⟩
  | 51 => ⟨S_, .f32⟩
  | 52 => ⟨S128x1024, .f32⟩
  | 53 => ⟨S128x1024, .f32⟩
  | 54 => ⟨S128x1024, .f32⟩
  | 55 => ⟨S_, .f32⟩
  | 56 => ⟨S128x1024, .f32⟩
  | 57 => ⟨S128x1024, .f32⟩
  | 58 => ⟨S128x1024, .f32⟩
  | 59 => ⟨S_, .f32⟩
  | 60 => ⟨S128x1024, .f32⟩
  | 61 => ⟨S128x1024, .f32⟩
  | 62 => ⟨S128x1024, .f32⟩
  | 63 => ⟨S_, .f32⟩
  | 64 => ⟨S128x1024, .f32⟩
  | 65 => ⟨S128x1024, .f32⟩
  | 66 => ⟨S4, .i32⟩
  | 67 => ⟨S_, .i32⟩
  | 68 => ⟨S4, .i32⟩
  | 69 => ⟨S4, .i1⟩
  | 70 => ⟨S4x1x1, .i1⟩
  | 71 => ⟨S4x128x1024, .f32⟩
  | 72 => ⟨S_, .f32⟩
  | 73 => ⟨S_, .f32⟩
  | 74 => ⟨S4x128x1024, .i1⟩
  | 75 => ⟨S4x128x1024, .f32⟩
  | 76 => ⟨S4x128x1024, .f32⟩
  | 77 => ⟨S_, .f32⟩
  | 78 => ⟨S128x1024, .f32⟩
  | 79 => ⟨S3x128x1024, .f32⟩
  | 80 => ⟨S_, .f32⟩
  | 81 => ⟨S128x1024, .f32⟩
  | 82 => ⟨S128x1024, .f32⟩
  | 83 => ⟨S_, .f32⟩
  | 84 => ⟨S128x1024, .f32⟩
  | 85 => ⟨S128x1024, .f32⟩
  | 86 => ⟨S_, .f32⟩
  | 87 => ⟨S128x1024, .f32⟩
  | 88 => ⟨S128x1024, .f32⟩
  | 89 => ⟨S128x1024, .f32⟩
  | 90 => ⟨S_, .f32⟩
  | 91 => ⟨S128x1024, .f32⟩
  | 92 => ⟨S128x1024, .f32⟩
  | 93 => ⟨S128x1024, .f32⟩
  | 94 => ⟨S_, .f32⟩
  | 95 => ⟨S128x1024, .f32⟩
  | 96 => ⟨S128x1024, .f32⟩
  | 97 => ⟨S128x1024, .f32⟩
  | 98 => ⟨S_, .f32⟩
  | 99 => ⟨S128x1024, .f32⟩
  | 100 => ⟨S128x1024, .f32⟩
  | 101 => ⟨S_, .f32⟩
  | 102 => ⟨S128x1024, .f32⟩
  | 103 => ⟨S128x1024, .f32⟩
  | 104 => ⟨S128x1024, .f32⟩
  | 105 => ⟨S_, .f32⟩
  | 106 => ⟨S128x1024, .f32⟩
  | 107 => ⟨S128x1024, .f32⟩
  | 108 => ⟨S128x1024, .f32⟩
  | 109 => ⟨S_, .f32⟩
  | 110 => ⟨S128x1024, .f32⟩
  | 111 => ⟨S128x1024, .f32⟩
  | 112 => ⟨S128x1024, .f32⟩
  | 113 => ⟨S_, .f32⟩
  | 114 => ⟨S128x1024, .f32⟩
  | 115 => ⟨S128x1024, .f32⟩
  | 116 => ⟨S4, .i32⟩
  | 117 => ⟨S_, .i32⟩
  | 118 => ⟨S4, .i32⟩
  | 119 => ⟨S4, .i1⟩
  | 120 => ⟨S4x1x1, .i1⟩
  | 121 => ⟨S4x128x1024, .f32⟩
  | 122 => ⟨S_, .f32⟩
  | 123 => ⟨S_, .f32⟩
  | 124 => ⟨S4x128x1024, .i1⟩
  | 125 => ⟨S4x128x1024, .f32⟩
  | 126 => ⟨S4x128x1024, .f32⟩
  | 127 => ⟨S_, .f32⟩
  | _ => ⟨S1, .i32⟩

abbrev hbmTy0_1 (i : Nat) : BufTy := match i % 128 with
  | 0 => ⟨S128x1024, .f32⟩
  | 1 => ⟨S3x128x1024, .f32⟩
  | 2 => ⟨S_, .f32⟩
  | 3 => ⟨S128x1024, .f32⟩
  | 4 => ⟨S128x1024, .f32⟩
  | 5 => ⟨S_, .f32⟩
  | 6 => ⟨S128x1024, .f32⟩
  | 7 => ⟨S128x1024, .f32⟩
  | 8 => ⟨S_, .f32⟩
  | 9 => ⟨S128x1024, .f32⟩
  | 10 => ⟨S128x1024, .f32⟩
  | 11 => ⟨S128x1024, .f32⟩
  | 12 => ⟨S_, .f32⟩
  | 13 => ⟨S128x1024, .f32⟩
  | 14 => ⟨S128x1024, .f32⟩
  | 15 => ⟨S128x1024, .f32⟩
  | 16 => ⟨S_, .f32⟩
  | 17 => ⟨S128x1024, .f32⟩
  | 18 => ⟨S128x1024, .f32⟩
  | 19 => ⟨S128x1024, .f32⟩
  | 20 => ⟨S_, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S128x1024, .f32⟩
  | 27 => ⟨S_, .f32⟩
  | 28 => ⟨S128x1024, .f32⟩
  | 29 => ⟨S128x1024, .f32⟩
  | 30 => ⟨S128x1024, .f32⟩
  | 31 => ⟨S_, .f32⟩
  | 32 => ⟨S128x1024, .f32⟩
  | 33 => ⟨S128x1024, .f32⟩
  | 34 => ⟨S128x1024, .f32⟩
  | 35 => ⟨S_, .f32⟩
  | 36 => ⟨S128x1024, .f32⟩
  | 37 => ⟨S128x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_8 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_10 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v41 : Ref sig .tc := ⟨.hbm, 76, rfl⟩
abbrev main_cst_12 : Ref sig .tc := ⟨.hbm, 77, rfl⟩
abbrev main_v42 : Ref sig .tc := ⟨.hbm, 78, rfl⟩
abbrev main_v43 : Ref sig .tc := ⟨.hbm, 79, rfl⟩
abbrev main_cst_13 : Ref sig .tc := ⟨.hbm, 80, rfl⟩
abbrev main_v44 : Ref sig .tc := ⟨.hbm, 81, rfl⟩
abbrev main_v45 : Ref sig .tc := ⟨.hbm, 82, rfl⟩
abbrev main_cst_14 : Ref sig .tc := ⟨.hbm, 83, rfl⟩
abbrev main_v46 : Ref sig .tc := ⟨.hbm, 84, rfl⟩
abbrev main_v47 : Ref sig .tc := ⟨.hbm, 85, rfl⟩
abbrev main_cst_15 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_16 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_17 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_18 : Ref sig .tc := ⟨.hbm, 98, rfl⟩
abbrev main_v57 : Ref sig .tc := ⟨.hbm, 99, rfl⟩
abbrev main_v58 : Ref sig .tc := ⟨.hbm, 100, rfl⟩
abbrev main_cst_19 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_20 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_21 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_22 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_23 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v76 : Ref sig .tc := ⟨.hbm, 126, rfl⟩
abbrev main_cst_24 : Ref sig .tc := ⟨.hbm, 127, rfl⟩
abbrev main_v77 : Ref sig .tc := ⟨.hbm, 128, rfl⟩
abbrev main_v78 : Ref sig .tc := ⟨.hbm, 129, rfl⟩
abbrev main_cst_25 : Ref sig .tc := ⟨.hbm, 130, rfl⟩
abbrev main_v79 : Ref sig .tc := ⟨.hbm, 131, rfl⟩
abbrev main_v80 : Ref sig .tc := ⟨.hbm, 132, rfl⟩
abbrev main_cst_26 : Ref sig .tc := ⟨.hbm, 133, rfl⟩
abbrev main_v81 : Ref sig .tc := ⟨.hbm, 134, rfl⟩
abbrev main_v82 : Ref sig .tc := ⟨.hbm, 135, rfl⟩
abbrev main_cst_27 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_28 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_29 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_30 : Ref sig .tc := ⟨.hbm, 148, rfl⟩
abbrev main_v92 : Ref sig .tc := ⟨.hbm, 149, rfl⟩
abbrev main_v93 : Ref sig .tc := ⟨.hbm, 150, rfl⟩
abbrev main_cst_31 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_32 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_33 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_34 : Ref sig .tc := ⟨.hbm, 163, rfl⟩
abbrev main_v103 : Ref sig .tc := ⟨.hbm, 164, rfl⟩
abbrev main_v104 : Ref sig .tc := ⟨.hbm, 165, rfl⟩

abbrev nD : Nat := 1
abbrev τ : Topo := Topo.v7x

variable {F : FTy → Type} [FloatOps F]
-- ==== Proof.Common.lean ====
/- What every value proof here reuses: products read at an index, buffers read back whole. -/
module

public import Idealize.ShloMosaic.Lib.Pipeline.Value
public import Idealize.ShloMosaic.Lib.ValueIdx
public import Idealize.ShloMosaic.Lib.StableHlo.Run
public import Idealize.ShloMosaic.Lib.MatmulPlain
public import Idealize.ShloMosaic.PureOps.Ideal.Laws

@[expose] public section

set_option maxRecDepth 16384

noncomputable section

namespace Cert.Common

open Idealize.ShloMosaic Idealize.ShloMosaic.ValueIdx
open scoped BigOperators

theorem zeros2 : (![0, 0] : Fin 2 → Nat) = fun _ => 0 := funext fun a => by fin_cases a <;> rfl

theorem zeros3 : (![0, 0, 0] : Fin 3 → Nat) = fun _ => 0 := funext fun a => by fin_cases a <;> rfl

/-- `[K,M]ᵀ × [K,N]` at `(r, c)`: the accumulator plus the sum over the shared leading axis. -/
theorem matmul_tn {K M N : ℕ} {φ₁ φ₂ : FTy} (wf) (prec : Option ContractPrecision)
    (lhs : FVec Ideal ⟨2, ![K, M]⟩ φ₁) (rhs : FVec Ideal ⟨2, ![K, N]⟩ φ₂) (acc : FVec Ideal ⟨2, ![M, N]⟩ .f32)
    (r : Fin M) (c : Fin N) :
    FloatOps.matmul (⟨[0], [0], [1], [1], [], [], wf⟩ : DotDims ⟨2, ![K, M]⟩ ⟨2, ![K, N]⟩ ⟨2, ![M, N]⟩) prec lhs rhs acc (ix2 r c)
      = acc (ix2 r c) + ∑ k : Fin K, lhs (ix2 k r) * rhs (ix2 k c) := by
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  rw [Ideal.matmul_apply, ← Equiv.sum_comp (contrEquiv1 d K hr hs).symm]
  refine congrArg (acc (ix2 r c) + ·) (Finset.sum_congr rfl fun k _ => ?_)
  have hk := contrEquiv1_symm_val d K hr hs k
  subst hd
  have el : DotDims.lhsIdx (⟨[0], [0], [1], [1], [], [], wf⟩ : DotDims ⟨2, ![K, M]⟩ ⟨2, ![K, N]⟩ ⟨2, ![M, N]⟩) (ix2 r c)
      ((contrEquiv1 _ K hr hs).symm k) = ix2 k r := by
    funext a; apply Fin.ext
    match a with
    | ⟨0, _⟩ => exact hk
    | ⟨1, _⟩ => rfl
  have er : DotDims.rhsIdx (⟨[0], [0], [1], [1], [], [], wf⟩ : DotDims ⟨2, ![K, M]⟩ ⟨2, ![K, N]⟩ ⟨2, ![M, N]⟩) (ix2 r c)
      ((contrEquiv1 _ K hr hs).symm k) = ix2 k c := by
    funext a; apply Fin.ext
    match a with
    | ⟨0, _⟩ => exact hk
    | ⟨1, _⟩ => rfl
  rw [el, er]

/-- The same into the zero splat. -/
theorem matmul_tn_zero {K M N : ℕ} {φ₁ φ₂ : FTy} (wf) (prec : Option ContractPrecision)
    (lhs : FVec Ideal ⟨2, ![K, M]⟩ φ₁) (rhs : FVec Ideal ⟨2, ![K, N]⟩ φ₂) (r : Fin M) (c : Fin N) :
    (FloatOps.matmul (⟨[0], [0], [1], [1], [], [], wf⟩ : DotDims ⟨2, ![K, M]⟩ ⟨2, ![K, N]⟩ ⟨2, ![M, N]⟩) prec lhs rhs
        (constant ⟨2, ![M, N]⟩ .f32 0x00000000#32) (ix2 r c) : EReal)
      = ∑ k : Fin K, (lhs (ix2 k r) : EReal) * (rhs (ix2 k c) : EReal) := by
  rw [matmul_tn]
  show Ideal.ofBits .f32 0x00000000#32 + _ = _
  rw [Ideal.ofBits_zero_f32, zero_add]

/-- `[M,K] × [N,K]ᵀ` at `(r, c)`, into the zero splat. -/
theorem matmul_nt_zero {K M N : ℕ} {φ₁ φ₂ : FTy} (wf) (prec : Option ContractPrecision)
    (lhs : FVec Ideal ⟨2, ![M, K]⟩ φ₁) (rhs : FVec Ideal ⟨2, ![N, K]⟩ φ₂) (r : Fin M) (c : Fin N) :
    (FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 r c) : EReal)
      = ∑ k : Fin K, (lhs (ix2 r k) : EReal) * (rhs (ix2 c k) : EReal) := by
  refine (Ideal.matmul_transposedRhs_apply prec lhs rhs _ r c).trans ?_
  show Ideal.ofBits .f32 0x00000000#32 + _ = _
  rw [Ideal.ofBits_zero_f32, zero_add]

/-- `[M,K] × [K,N]` at `(r, c)`, into the zero splat. -/
theorem matmul_nn_zero {K M N : ℕ} {φ₁ φ₂ : FTy} (wf) (prec : Option ContractPrecision)
    (lhs : FVec Ideal ⟨2, ![M, K]⟩ φ₁) (rhs : FVec Ideal ⟨2, ![K, N]⟩ φ₂) (r : Fin M) (c : Fin N) :
    (FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 r c) : EReal)
      = ∑ k : Fin K, (lhs (ix2 r k) : EReal) * (rhs (ix2 k c) : EReal) := by
  refine (Ideal.matmul_plain_apply prec lhs rhs _ r c).trans ?_
  show Ideal.ofBits .f32 0x00000000#32 + _ = _
  rw [Ideal.ofBits_zero_f32, zero_add]

/-- Every index of a rank-2 array is a pair of coordinates. -/
theorem exists_ix2 {M N : ℕ} (j : (⟨2, ![M, N]⟩ : Shape).Idx) : ∃ (r : Fin M) (q : Fin N), j = ix2 r q :=
  ⟨j 0, j 1, by funext a; match a with | ⟨0, _⟩ => rfl | ⟨1, _⟩ => rfl⟩

end Cert.Common
-- ==== Proof.DwFf1.lean ====
/- dw_ff1: the gradient of the first feed-forward weight, `rms_norm(x1)ᵀ · da`. -/
module

public import proofs.«01_k».proof.Defs
public import proofs.«01_k».proof.Proof.Common
public import proofs.«01_k».proof.Proof.Gen.Kernel8Ideal.Value
public import proofs.«01_k».proof.Proof.Gen.Reference8Ideal.Run
public import proofs.«01_k».proof.Proof.Gen.Reference8Ideal.Read
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen Idealize.ShloMosaic.ValueIdx Cert.Common

variable (m : (ℓ : Loc nD τ sig) → Buf (Elt Ideal) ℓ) (ρ : Dev nD → PrngReg)

/-- What one point stores: the zeroed accumulator plus the block product, cast down. -/
theorem out_eq {F : FTy → Type} [FloatOps F] (c : Dev nD) (i : grid0.Coords) (a3 h3 a4 h4 a5 h5 a6 h6 c0 c1 c2)
    (x0 x1 : Vec F S2048x1024 .bf16) :
    out0_A_2 c i a3 h3 a4 h4 a5 h5 a6 h6 c0 c1 c2 x0 x1
      = k0_pay3 (k0_pay2 (k0_pay1 (F := F)) x0 x1) := by
  unfold out0_A_2
  rw [View.read_writes_eq_canon _ _ _ (cover0_A_2 c i a3 h3 a4 h4 a5 h5 a6 h6 c0 c1 c2 x0 x1)]
  unfold kernelRun0_A
  dsimp only
  sl_unfold_words
  rw [View.canon_unit_zero (S := S1024x1024) zeros2, View.readCov_cons_toLoadRect, View.readCov_cons_toLoadRect]
  simp only [View.readAt_eq_ld, h3.read_unread, h4.read_unread, View.ld_unit_zero (S := S2048x1024) zeros2]

/-- One entry of what a point stores. -/
theorem block_apply (x0 x1 : Vec Ideal S2048x1024 .bf16) (r : Fin 1024) (q : Fin 1024) :
    k0_pay3 (k0_pay2 (k0_pay1 (F := Ideal)) x0 x1) (ix2 r q) = ∑ k : Fin 2048, x0 (ix2 k r) * x1 (ix2 k q) := by
  unfold k0_pay3 k0_pay2 k0_pay1
  simp only [shapeCast_self]
  exact (congrArg₂ (· + · : EReal → EReal → EReal) Ideal.ofBits_zero_f32 (matmul_tn_zero _ none x0 x1 r q)).trans (zero_add _)

/-- The left operand the region finds: `rms_norm(x1)`. -/
abbrev lhs (c : Dev nD) : Vec Ideal S2048x1024 .bf16 := V m c main_v12
abbrev rhs (c : Dev nD) : Vec Ideal S2048x4096 .bf16 := V m c main_arg2

/-- The result array. -/
def result (c : Dev nD) : Vec Ideal S1024x4096 .bf16 := fun i => ∑ k : Fin 2048, lhs m c (ix2 k (i 0)) * rhs m c (ix2 k (i 1))

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = t.val :=
  (by decide +kernel : ∀ t : Fin grid0.N, win0_2.index t 0 = 0 ∧ win0_2.index t 1 = t.val)
theorem xsize2 : ∀ t : Fin cfg0.N, win0_2.xsize (grid0.coords t) 0 = 1024 ∧ win0_2.xsize (grid0.coords t) 1 = 1024 :=
  (by decide +kernel : ∀ t : Fin grid0.N, win0_2.xsize (grid0.coords t) 0 = 1024 ∧ win0_2.xsize (grid0.coords t) 1 = 1024)

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext j
  rw [View.read_apply]
  obtain ⟨r, q, rfl⟩ := exists_ix2 (M := 1024) (N := 1024) j
  refine (block_apply _ _ r q).trans ?_
  unfold result
  refine Finset.sum_congr rfl fun k _ => ?_
  refine congrArg₂ (· * ·) ?_ ?_
  · show V m c main_v12 _ = V m c main_v12 _
    congr 1
    funext a
    apply Fin.ext
    match a with
    | ⟨0, _⟩ => show win0_0.index t 0 * 2048 + 1 * k.val = k.val; rw [(index0 t).1]; omega
    | ⟨1, _⟩ => show win0_0.index t 1 * 1024 + 1 * r.val = win0_2.index t 0 * 1024 + 1 * r.val; rw [(index0 t).2, (index2 t).1]
  · show V m c main_arg2 _ = V m c main_arg2 _
    congr 1
    funext a
    apply Fin.ext
    match a with
    | ⟨0, _⟩ => show win0_1.index t 0 * 2048 + 1 * k.val = k.val; rw [(index1 t).1]; omega
    | ⟨1, _⟩ => show win0_1.index t 1 * 1024 + 1 * q.val = win0_2.index t 1 * 1024 + 1 * q.val; rw [(index1 t).2, (index2 t).2]

theorem final (c : Dev nD) : (dats m 0 c).arrAt 2 cfg0.N = result m c :=
  (dats m 0 c).arrAt_eq_of_cover 2 (result m c) (flushed_eq m c) fun i => by
    have h0 : (i 0 : Nat) < 1024 := (i 0).isLt
    have h1 : (i 1 : Nat) < 4096 := (i 1).isLt
    have hN : cfg0.N = 4 := N_0
    let t : Fin cfg0.N := ⟨(i 1 : Nat) / 1024, by omega⟩
    refine ⟨t, flush0_2 t, ?_⟩
    show i ∈ ((View.whole main_v13).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + win0_2.xsize (grid0.coords t) 0
      rw [(index2 t).1, (xsize2 t).1]; omega
    | ⟨1, _⟩ =>
      show win0_2.index t 1 * 1024 ≤ (i 1 : Nat) ∧ (i 1 : Nat) < win0_2.index t 1 * 1024 + win0_2.xsize (grid0.coords t) 1
      rw [(index2 t).2, (xsize2 t).2]; show (i 1 : Nat) / 1024 * 1024 ≤ _ ∧ _ < (i 1 : Nat) / 1024 * 1024 + 1024; omega

/-- The left operand, as the host operations before the region leave it. -/
theorem lhs_eq (c : Dev nD) : lhs m c = Cert.Reference8Ideal.Read.val_main_v12 (m ((c : Thread nD τ).loc main_arg0)) (m ((c : Thread nD τ).loc main_arg1)) := by
  show V m c main_v12 = _
  entry_read
  rfl

/-- The array the region leaves is the reference's composed term. -/
theorem result_eq (c : Dev nD) :
    result m c = Cert.Reference8Ideal.Read.val_main_v17 (m ((c : Thread nD τ).loc main_arg0)) (m ((c : Thread nD τ).loc main_arg1)) (m ((c : Thread nD τ).loc main_arg2)) := by
  funext i
  unfold result rhs
  rw [Cert.Reference8Ideal.Read.val_main_v17_apply, Cert.Reference8Ideal.Read.val_main_v16_apply]
  refine Eq.trans ?_ (Cert.Reference8Ideal.Read.val_main_v15_apply _ _ _ _).symm
  refine Finset.sum_congr rfl fun k _ => ?_
  rw [lhs_eq, V_main_arg2]
  refine (mul_comm (G := EReal) _ _).trans (congrArg₂ (· * · : EReal → EReal → EReal) ?_ ?_)
  · exact congrArg (m ((c : Thread nD τ).loc main_arg2)) (funext fun a => by match a with | ⟨0, _⟩ => rfl | ⟨1, _⟩ => rfl)
  · exact congrArg (Cert.Reference8Ideal.Read.val_main_v12 (m ((c : Thread nD τ).loc main_arg0)) (m ((c : Thread nD τ).loc main_arg1))) (funext fun a => by match a with | ⟨0, _⟩ => rfl | ⟨1, _⟩ => rfl)

end Cert.Kernel8Ideal.Product

namespace Cert.DwFf1

open Cert.Kernel8Ideal.Product

theorem reference_quiescent : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := fun m ρ m' ρ' _ hag =>
  ⟨fun c => result m c,
    (θ_run Cert.Kernel8Ideal.defs _ _).mono (fun _ h c => ⟨(h c).1.trans (final m c), (h c).2⟩)
      (Cert.Kernel8Ideal.Value.run_blocks (F := Ideal) m ρ),
    (θ_run Cert.Reference8Ideal.defs _ _).mono (fun _ h c => ⟨(h c).1.trans (by
        show _ = result m c
        rw [result_eq, ← (hag c).1, ← (hag c).2.1, ← (hag c).2.2]
        exact Cert.Reference8Ideal.Read.val_main_v17_eq _ _ _), (h c).2⟩)
      (Cert.Reference8Ideal.Value.run (F := Ideal) m' ρ')⟩

end Cert.DwFf1
-- ==== Proof.DwFf2.lean ====
/- dw_ff2: the gradient of the second feed-forward weight, `square(relu a)ᵀ · df`. -/
module

public import proofs.«01_k».proof.Defs
public import proofs.«01_k».proof.Proof.Common
public import proofs.«01_k».proof.Proof.Gen.Kernel7Ideal.Value
public import proofs.«01_k».proof.Proof.Gen.Reference7Ideal.Run
public import proofs.«01_k».proof.Proof.Gen.Reference7Ideal.Read
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen Idealize.ShloMosaic.ValueIdx Cert.Common

variable (m : (ℓ : Loc nD τ sig) → Buf (Elt Ideal) ℓ) (ρ : Dev nD → PrngReg)

/-- What one point stores: the zeroed accumulator plus the block product, cast down. -/
theorem out_eq {F : FTy → Type} [FloatOps F] (c : Dev nD) (i : grid0.Coords) (a3 h3 a4 h4 a5 h5 a6 h6 c0 c1 c2)
    (x0 x1 : Vec F S2048x1024 .bf16) :
    out0_A_2 c i a3 h3 a4 h4 a5 h5 a6 h6 c0 c1 c2 x0 x1
      = k0_pay3 (k0_pay2 (k0_pay1 (F := F)) x0 x1) := by
  unfold out0_A_2
  rw [View.read_writes_eq_canon _ _ _ (cover0_A_2 c i a3 h3 a4 h4 a5 h5 a6 h6 c0 c1 c2 x0 x1)]
  unfold kernelRun0_A
  dsimp only
  sl_unfold_words
  rw [View.canon_unit_zero (S := S1024x1024) zeros2, View.readCov_cons_toLoadRect, View.readCov_cons_toLoadRect]
  simp only [View.readAt_eq_ld, h3.read_unread, h4.read_unread, View.ld_unit_zero (S := S2048x1024) zeros2]

/-- One entry of what a point stores. -/
theorem block_apply (x0 x1 : Vec Ideal S2048x1024 .bf16) (r : Fin 1024) (q : Fin 1024) :
    k0_pay3 (k0_pay2 (k0_pay1 (F := Ideal)) x0 x1) (ix2 r q) = ∑ k : Fin 2048, x0 (ix2 k r) * x1 (ix2 k q) := by
  unfold k0_pay3 k0_pay2 k0_pay1
  simp only [shapeCast_self]
  exact (congrArg₂ (· + · : EReal → EReal → EReal) Ideal.ofBits_zero_f32 (matmul_tn_zero _ none x0 x1 r q)).trans (zero_add _)

/-- The left operand the region finds: `square(relu a)`. -/
abbrev lhs (c : Dev nD) : Vec Ideal S2048x4096 .bf16 := V m c main_v2
abbrev rhs (c : Dev nD) : Vec Ideal S2048x1024 .bf16 := V m c main_arg1

/-- The result array. -/
def result (c : Dev nD) : Vec Ideal S4096x1024 .bf16 := fun i => ∑ k : Fin 2048, lhs m c (ix2 k (i 0)) * rhs m c (ix2 k (i 1))

theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem xsize2 : ∀ t : Fin cfg0.N, win0_2.xsize (grid0.coords t) 0 = 1024 ∧ win0_2.xsize (grid0.coords t) 1 = 1024 :=
  (by decide +kernel : ∀ t : Fin grid0.N, win0_2.xsize (grid0.coords t) 0 = 1024 ∧ win0_2.xsize (grid0.coords t) 1 = 1024)

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext j
  rw [View.read_apply]
  obtain ⟨r, q, rfl⟩ := exists_ix2 (M := 1024) (N := 1024) j
  refine (block_apply _ _ r q).trans ?_
  unfold result
  refine Finset.sum_congr rfl fun k _ => ?_
  refine congrArg₂ (· * ·) ?_ ?_
  · show V m c main_v2 _ = V m c main_v2 _
    congr 1
    funext a
    apply Fin.ext
    match a with
    | ⟨0, _⟩ => show win0_0.index t 0 * 2048 + 1 * k.val = k.val; rw [(index0 t).1]; omega
    | ⟨1, _⟩ => show win0_0.index t 1 * 1024 + 1 * r.val = win0_2.index t 0 * 1024 + 1 * r.val; rw [(index0 t).2, (index2 t).1]
  · show V m c main_arg1 _ = V m c main_arg1 _
    congr 1
    funext a
    apply Fin.ext
    match a with
    | ⟨0, _⟩ => show win0_1.index t 0 * 2048 + 1 * k.val = k.val; rw [(index1 t).1]; omega
    | ⟨1, _⟩ => show win0_1.index t 1 * 1024 + 1 * q.val = win0_2.index t 1 * 1024 + 1 * q.val; rw [(index1 t).2, (index2 t).2]

theorem final (c : Dev nD) : (dats m 0 c).arrAt 2 cfg0.N = result m c :=
  (dats m 0 c).arrAt_eq_of_cover 2 (result m c) (flushed_eq m c) fun i => by
    have h0 : (i 0 : Nat) < 4096 := (i 0).isLt
    have h1 : (i 1 : Nat) < 1024 := (i 1).isLt
    have hN : cfg0.N = 4 := N_0
    let t : Fin cfg0.N := ⟨(i 0 : Nat) / 1024, by omega⟩
    refine ⟨t, flush0_2 t, ?_⟩
    show i ∈ ((View.whole main_v3).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + win0_2.xsize (grid0.coords t) 0
      rw [(index2 t).1, (xsize2 t).1]; show (i 0 : Nat) / 1024 * 1024 ≤ _ ∧ _ < (i 0 : Nat) / 1024 * 1024 + 1024; omega
    | ⟨1, _⟩ =>
      show win0_2.index t 1 * 1024 ≤ (i 1 : Nat) ∧ (i 1 : Nat) < win0_2.index t 1 * 1024 + win0_2.xsize (grid0.coords t) 1
      rw [(index2 t).2, (xsize2 t).2]; omega

/-- The left operand, as the host operations before the region leave it. -/
theorem lhs_eq (c : Dev nD) : lhs m c = Cert.Reference7Ideal.Read.val_main_v2 (m ((c : Thread nD τ).loc main_arg0)) := by
  show V m c main_v2 = _
  entry_read
  rfl

/-- The array the region leaves is the reference's composed term. -/
theorem result_eq (c : Dev nD) :
    result m c = Cert.Reference7Ideal.Read.val_main_v7 (m ((c : Thread nD τ).loc main_arg0)) (m ((c : Thread nD τ).loc main_arg1)) := by
  funext i
  unfold result rhs
  rw [Cert.Reference7Ideal.Read.val_main_v7_apply, Cert.Reference7Ideal.Read.val_main_v6_apply]
  refine Eq.trans ?_ (Cert.Reference7Ideal.Read.val_main_v5_apply _ _ _).symm
  refine Finset.sum_congr rfl fun k _ => ?_
  rw [lhs_eq, V_main_arg1]
  refine (mul_comm (G := EReal) _ _).trans (congrArg₂ (· * · : EReal → EReal → EReal) ?_ ?_)
  · exact congrArg (m ((c : Thread nD τ).loc main_arg1)) (funext fun a => by match a with | ⟨0, _⟩ => rfl | ⟨1, _⟩ => rfl)
  · exact congrArg (Cert.Reference7Ideal.Read.val_main_v2 (m ((c : Thread nD τ).loc main_arg0))) (funext fun a => by match a with | ⟨0, _⟩ => rfl | ⟨1, _⟩ => rfl)

end Cert.Kernel7Ideal.Product

namespace Cert.DwFf2

open Cert.Kernel7Ideal.Product

theorem reference_quiescent : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := fun m ρ m' ρ' _ hag =>
  ⟨fun c => result m c,
    (θ_run Cert.Kernel7Ideal.defs _ _).mono (fun _ h c => ⟨(h c).1.trans (final m c), (h c).2⟩)
      (Cert.Kernel7Ideal.Value.run_blocks (F := Ideal) m ρ),
    (θ_run Cert.Reference7Ideal.defs _ _).mono (fun _ h c => ⟨(h c).1.trans (by
        show _ = result m c
        rw [result_eq, ← (hag c).1, ← (hag c).2]
        exact Cert.Reference7Ideal.Read.val_main_v7_eq _ _), (h c).2⟩)
      (Cert.Reference7Ideal.Value.run (F := Ideal) m' ρ')⟩

end Cert.DwFf2
-- ==== Proof.Sections.lean ====
/- The seven sections of the in-projection's output gradient, as the packed array `dz : [8, 2048, 1024]` holds them. -/
module

public import proofs.«01_k».proof.Proof.Common

@[expose] public section

set_option maxRecDepth 16384

noncomputable section

namespace Cert.Common

open Idealize.ShloMosaic Idealize.ShloMosaic.ValueIdx

/-- Which plane of `dz` holds section `n` of the projection's columns. -/
def sect : ℕ → Fin 8
  | 0 => 0 | 1 => 1 | 2 => 4 | 3 => 5 | 4 => 6 | 5 => 2 | _ => 3

/-- Plane `n` of the packed array, as a matrix. -/
theorem plane_eq {α : Type} (dz : (⟨3, ![8, 2048, 1024]⟩ : Shape).Idx → α) (n : ℕ) (hn : n < 8)
    (hs : (⟨3, ![8, 2048, 1024]⟩ : Shape).Slices ![n, 0, 0] ⟨3, ![1, 2048, 1024]⟩)
    (hc : (⟨3, ![1, 2048, 1024]⟩ : Shape).ShapeCasts ⟨2, ![2048, 1024]⟩) :
    shapeCast ⟨2, ![2048, 1024]⟩ (extractStridedSlice ⟨3, ![1, 2048, 1024]⟩ ![n, 0, 0] dz hs) hc
      = fun i => dz (ix3 ⟨n, hn⟩ (i 0) (i 1)) := by
  funext i
  rw [shapeCast_dropUnit_apply ![2048, 1024]]
  refine extractStridedSlice_apply _ dz hs _ (ix3 ⟨n, hn⟩ (i 0) (i 1)) fun a => ?_
  match a with
  | ⟨0, _⟩ => rfl
  | ⟨1, _⟩ => show (i 0).val = 0 + (i 0).val; omega
  | ⟨2, _⟩ => show (i 1).val = 0 + (i 1).val; omega

/-- The seven planes side by side, read at an index. -/
theorem concat_sections {α : Type} (dz : (⟨3, ![8, 2048, 1024]⟩ : Shape).Idx → α) (hs0 hs1 hs4 hs5 hs6 hs2 hs3 hc)
    (h : Shape.Concatenates [⟨2, ![2048, 1024]⟩, ⟨2, ![2048, 1024]⟩, ⟨2, ![2048, 1024]⟩, ⟨2, ![2048, 1024]⟩, ⟨2, ![2048, 1024]⟩, ⟨2, ![2048, 1024]⟩, ⟨2, ![2048, 1024]⟩] ⟨2, ![2048, 7168]⟩ 1)
    (i : (⟨2, ![2048, 7168]⟩ : Shape).Idx) :
    concatenate ⟨2, ![2048, 7168]⟩ 1
      [⟨⟨2, ![2048, 1024]⟩, shapeCast ⟨2, ![2048, 1024]⟩ (extractStridedSlice ⟨3, ![1, 2048, 1024]⟩ ![0, 0, 0] dz hs0) hc⟩,
       ⟨⟨2, ![2048, 1024]⟩, shapeCast ⟨2, ![2048, 1024]⟩ (extractStridedSlice ⟨3, ![1, 2048, 1024]⟩ ![1, 0, 0] dz hs1) hc⟩,
       ⟨⟨2, ![2048, 1024]⟩, shapeCast ⟨2, ![2048, 1024]⟩ (extractStridedSlice ⟨3, ![1, 2048, 1024]⟩ ![4, 0, 0] dz hs4) hc⟩,
       ⟨⟨2, ![2048, 1024]⟩, shapeCast ⟨2, ![2048, 1024]⟩ (extractStridedSlice ⟨3, ![1, 2048, 1024]⟩ ![5, 0, 0] dz hs5) hc⟩,
       ⟨⟨2, ![2048, 1024]⟩, shapeCast ⟨2, ![2048, 1024]⟩ (extractStridedSlice ⟨3, ![1, 2048, 1024]⟩ ![6, 0, 0] dz hs6) hc⟩,
       ⟨⟨2, ![2048, 1024]⟩, shapeCast ⟨2, ![2048, 1024]⟩ (extractStridedSlice ⟨3, ![1, 2048, 1024]⟩ ![2, 0, 0] dz hs2) hc⟩,
       ⟨⟨2, ![2048, 1024]⟩, shapeCast ⟨2, ![2048, 1024]⟩ (extractStridedSlice ⟨3, ![1, 2048, 1024]⟩ ![3, 0, 0] dz hs3) hc⟩] h i
      = dz (ix3 (sect ((i 1).val / 1024)) (i 0) ⟨(i 1).val % 1024, Nat.mod_lt _ (by decide)⟩) := by
  rw [plane_eq dz 0 (by decide), plane_eq dz 1 (by decide), plane_eq dz 4 (by decide), plane_eq dz 5 (by decide),
    plane_eq dz 6 (by decide), plane_eq dz 2 (by decide), plane_eq dz 3 (by decide)]
  have h1 : (i 1).val < 7168 := (i 1).isLt
  refine concatenate_ofFn_apply (t := ⟨2, ![2048, 7168]⟩) (s₁ := ⟨2, ![2048, 1024]⟩) 1 (N := 7)
    (fun n j => dz (ix3 (sect n.val) (j 0) (j 1))) h rfl 1024 rfl i ⟨(i 1).val / 1024, by omega⟩ rfl
    (ix2 (i 0) ⟨(i 1).val % 1024, Nat.mod_lt _ (by decide)⟩) rfl fun b hb => ?_
  match b with
  | ⟨0, _⟩ => rfl
  | ⟨1, _⟩ => exact absurd rfl hb

end Cert.Common
-- ==== Proof.DwIn.lean ====
/- dw_in: the gradient of the in-projection weight, `rms_norm(x)ᵀ · [du|dv|dq|dk|dv_attn|dgate_a|dgate_b]`. -/
module

public import proofs.«01_k».proof.Defs
public import proofs.«01_k».proof.Proof.Sections
public import proofs.«01_k».proof.Proof.Gen.Kernel6Ideal.Value
public import proofs.«01_k».proof.Proof.Gen.Reference6Ideal.Run
public import proofs.«01_k».proof.Proof.Gen.Reference6Ideal.Read
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.Product

open Cert.Kernel6Ideal Cert.Kernel6Ideal.Gen Idealize.ShloMosaic.ValueIdx Cert.Common

variable (m : (ℓ : Loc nD τ sig) → Buf (Elt Ideal) ℓ) (ρ : Dev nD → PrngReg)

/-- What one point stores: the block product, cast down. -/
theorem out_eq {F : FTy → Type} [FloatOps F] (c : Dev nD) (i : grid0.Coords) (a2 h2 a3 h3 a4 h4 a5 h5 c0 c1 c2)
    (x0 : Vec F S2048x1024 .bf16) (x1 : Vec F S1x2048x1024 .bf16) :
    out0_A_2 c i a2 h2 a3 h3 a4 h4 a5 h5 c0 c1 c2 x0 x1 = k0_pay4 (k0_pay2 x0 x1) := by
  unfold out0_A_2
  rw [View.read_writes_eq_canon _ _ _ (cover0_A_2 c i a2 h2 a3 h3 a4 h4 a5 h5 c0 c1 c2 x0 x1)]
  unfold kernelRun0_A
  dsimp only
  sl_unfold_words
  rw [View.canon_unit_zero (S := S1024x1024) zeros2, View.readCov_cons_toLoadRect]
  simp only [View.readAt_eq_ld, h2.read_unread, h3.read_unread, View.ld_unit_zero (S := S2048x1024) zeros2,
    View.ld_unit_zero (S := S1x2048x1024) zeros3]

/-- One entry of what a point stores. -/
theorem block_apply (x0 : Vec Ideal S2048x1024 .bf16) (x1 : Vec Ideal S1x2048x1024 .bf16) (r : Fin 1024) (q : Fin 1024) :
    k0_pay4 (F := Ideal) (k0_pay2 x0 x1) (ix2 r q) = ∑ k : Fin 2048, x0 (ix2 k r) * x1 (ix3 0 k q) := by
  unfold k0_pay4 k0_pay2 k0_pay1
  simp only [shapeCast_self]
  refine (matmul_tn_zero _ none x0 _ r q).trans (Finset.sum_congr rfl fun k _ => ?_)
  rw [shapeCast_dropUnit_apply ![2048, 1024]]
  exact congrArg (fun j => (x0 (ix2 k r) * x1 j : EReal)) (funext fun a => by match a with | ⟨0, _⟩ => rfl | ⟨1, _⟩ => rfl | ⟨2, _⟩ => rfl)

/-- The left operand the region finds: `rms_norm(x)`. -/
abbrev lhs (c : Dev nD) : Vec Ideal S2048x1024 .bf16 := V m c main_v12
abbrev rhs (c : Dev nD) : Vec Ideal S8x2048x1024 .bf16 := V m c main_arg2

/-- The result array. -/
def result (c : Dev nD) : Vec Ideal S1024x7168 .bf16 := fun i => ∑ k : Fin 2048,
  lhs m c (ix2 k (i 0)) * rhs m c (ix3 (sect ((i 1).val / 1024)) k ⟨(i 1).val % 1024, Nat.mod_lt _ (by decide)⟩)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = (sect t.val).val ∧ win0_1.index t 1 = 0 ∧ win0_1.index t 2 = 0 :=
  (by decide +kernel : ∀ t : Fin grid0.N, win0_1.index t 0 = (sect t.val).val ∧ win0_1.index t 1 = 0 ∧ win0_1.index t 2 = 0)
theorem index2 : ∀ t : Fin cfg0.N, win0_2.index t 0 = 0 ∧ win0_2.index t 1 = t.val :=
  (by decide +kernel : ∀ t : Fin grid0.N, win0_2.index t 0 = 0 ∧ win0_2.index t 1 = t.val)
theorem xsize2 : ∀ t : Fin cfg0.N, win0_2.xsize (grid0.coords t) 0 = 1024 ∧ win0_2.xsize (grid0.coords t) 1 = 1024 :=
  (by decide +kernel : ∀ t : Fin grid0.N, win0_2.xsize (grid0.coords t) 0 = 1024 ∧ win0_2.xsize (grid0.coords t) 1 = 1024)

theorem flushed_eq (c : Dev nD) (t : Fin cfg0.N) (hf : (cfg0.win 2).flush t = true) :
    (dats m 0 c).flushed 2 t = ((cfg0.win 2).blk t).view.read (Elt Ideal) (result m c) := by
  rw [Value.flushed2_A, out_eq]
  funext j
  rw [View.read_apply]
  obtain ⟨r, q, rfl⟩ := exists_ix2 (M := 1024) (N := 1024) j
  refine (block_apply _ _ r q).trans ?_
  unfold result
  refine Finset.sum_congr rfl fun k _ => ?_
  refine congrArg₂ (· * ·) ?_ ?_
  · show V m c main_v12 _ = V m c main_v12 _
    congr 1
    funext a
    apply Fin.ext
    match a with
    | ⟨0, _⟩ => show win0_0.index t 0 * 2048 + 1 * k.val = k.val; rw [(index0 t).1]; omega
    | ⟨1, _⟩ => show win0_0.index t 1 * 1024 + 1 * r.val = win0_2.index t 0 * 1024 + 1 * r.val; rw [(index0 t).2, (index2 t).1]
  · show V m c main_arg2 _ = V m c main_arg2 _
    congr 1
    funext a
    apply Fin.ext
    match a with
    | ⟨0, _⟩ =>
      show win0_1.index t 0 * 1 + 1 * 0 = (sect ((win0_2.index t 1 * 1024 + 1 * q.val) / 1024)).val
      rw [(index1 t).1, (index2 t).2, show (t.val * 1024 + 1 * q.val) / 1024 = t.val by omega]; omega
    | ⟨1, _⟩ => show win0_1.index t 1 * 2048 + 1 * k.val = k.val; rw [(index1 t).2.1]; omega
    | ⟨2, _⟩ => show win0_1.index t 2 * 1024 + 1 * q.val = (win0_2.index t 1 * 1024 + 1 * q.val) % 1024; rw [(index1 t).2.2, (index2 t).2]; omega

theorem final (c : Dev nD) : (dats m 0 c).arrAt 2 cfg0.N = result m c :=
  (dats m 0 c).arrAt_eq_of_cover 2 (result m c) (flushed_eq m c) fun i => by
    have h0 : (i 0 : Nat) < 1024 := (i 0).isLt
    have h1 : (i 1 : Nat) < 7168 := (i 1).isLt
    have hN : cfg0.N = 7 := N_0
    let t : Fin cfg0.N := ⟨(i 1 : Nat) / 1024, by omega⟩
    refine ⟨t, flush0_2 t, ?_⟩
    show i ∈ ((View.whole main_v13).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + win0_2.xsize (grid0.coords t) 0
      rw [(index2 t).1, (xsize2 t).1]; omega
    | ⟨1, _⟩ =>
      show win0_2.index t 1 * 1024 ≤ (i 1 : Nat) ∧ (i 1 : Nat) < win0_2.index t 1 * 1024 + win0_2.xsize (grid0.coords t) 1
      rw [(index2 t).2, (xsize2 t).2]; show (i 1 : Nat) / 1024 * 1024 ≤ _ ∧ _ < (i 1 : Nat) / 1024 * 1024 + 1024; omega

/-- The left operand, as the host operations before the region leave it. -/
theorem lhs_eq (c : Dev nD) : lhs m c = Cert.Reference6Ideal.Read.val_main_v12 (m ((c : Thread nD τ).loc main_arg0)) (m ((c : Thread nD τ).loc main_arg1)) := by
  show V m c main_v12 = _
  entry_read
  rfl

/-- The reference's concatenated sections, read at an index. -/
theorem reference_sections (dz : Vec Ideal S8x2048x1024 .bf16) (i : (⟨2, ![2048, 7168]⟩ : Shape).Idx) :
    Cert.Reference6Ideal.Read.val_main_v29 dz i = dz (ix3 (sect ((i 1).val / 1024)) (i 0) ⟨(i 1).val % 1024, Nat.mod_lt _ (by decide)⟩) := by
  rw [Cert.Reference6Ideal.Read.val_main_v29_apply]
  show Cert.Reference6Ideal.Read.val_main_v28 dz i = _
  unfold Cert.Reference6Ideal.Read.val_main_v28
  exact concat_sections dz _ _ _ _ _ _ _ _ _ i

/-- The array the region leaves is the reference's composed term. -/
theorem result_eq (c : Dev nD) :
    result m c = Cert.Reference6Ideal.Read.val_main_v32 (m ((c : Thread nD τ).loc main_arg0)) (m ((c : Thread nD τ).loc main_arg1)) (m ((c : Thread nD τ).loc main_arg2)) := by
  funext i
  unfold result rhs
  rw [Cert.Reference6Ideal.Read.val_main_v32_apply, Cert.Reference6Ideal.Read.val_main_v31_apply]
  refine Eq.trans ?_ (Cert.Reference6Ideal.Read.val_main_v30_apply _ _ _ _).symm
  refine Finset.sum_congr rfl fun k _ => ?_
  rw [lhs_eq, V_main_arg2]
  refine (mul_comm (G := EReal) _ _).trans (congrArg₂ (· * · : EReal → EReal → EReal) ?_ ?_)
  · exact (reference_sections (m ((c : Thread nD τ).loc main_arg2))
      (Cert.Reference6Ideal.Read.lidx_main_v30 (Cert.Reference6Ideal.Read.idx_main_v31 i) k)).symm
  · exact congrArg (Cert.Reference6Ideal.Read.val_main_v12 (m ((c : Thread nD τ).loc main_arg0)) (m ((c : Thread nD τ).loc main_arg1))) (funext fun a => by match a with | ⟨0, _⟩ => rfl | ⟨1, _⟩ => rfl)

end Cert.Kernel6Ideal.Product

namespace Cert.DwIn

open Cert.Kernel6Ideal.Product

theorem reference_quiescent : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := fun m ρ m' ρ' _ hag =>
  ⟨fun c => result m c,
    (θ_run Cert.Kernel6Ideal.defs _ _).mono (fun _ h c => ⟨(h c).1.trans (final m c), (h c).2⟩)
      (Cert.Kernel6Ideal.Value.run_blocks (F := Ideal) m ρ),
    (θ_run Cert.Reference6Ideal.defs _ _).mono (fun _ h c => ⟨(h c).1.trans (by
        show _ = result m c
        rw [result_eq, ← (hag c).1, ← (hag c).2.1, ← (hag c).2.2]
        exact Cert.Reference6Ideal.Read.val_main_v32_eq _ _ _), (h c).2⟩)
      (Cert.Reference6Ideal.Value.run (F := Ideal) m' ρ')⟩

end Cert.DwIn
-- ==== Proof.IdleWindow.lean ====
/- A window the body leaves alone at a point, and a whole load. -/
module

public import Idealize.ShloMosaic.Lib.Pipeline.TableIdle
public import Idealize.ShloMosaic.Lib.VecWindow
public import Idealize.ShloMosaic.Lib.Tactic

@[expose] public section

noncomputable section

namespace Cert.IdleWindow

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

section
variable {nD : Nat} {τ : Topo} {sig : RefSig} {Val : EltTy → Type} {Λ₀ : Labels}
variable {Ix : Type} [DecidableEq Ix] {Name : Type} [DecidableEq Name] {U : Type} [URA U] {Lvl : Type}
variable {cfg : Cfg sig Λ₀} {c : Dev nD} (dat : Dat τ Val Ix Name U Lvl cfg c)

/-- At a point the body touches a window, it leaves what the proof data says. -/
theorem leaves_live (w : Fin cfg.W) (t : Fin cfg.N) (hi : cfg.idle w (cfg.grid.coords t) = false) :
    dat.leavesExact w t = owns (c : Thread nD τ) ((cfg.win w).stage (cfg.slots t w)) fullShare (dat.after w t) := by
  unfold Dat.leavesExact; rw [hi]

/-- At a point it does not, the buffer handed in is handed back: as it came if nothing is written back there, and if
    something is, that is what the proof data says provided the buffer already held it. -/
theorem leaves_kept (w : Fin cfg.W) (t : Fin cfg.N) (hi : cfg.idle w (cfg.grid.coords t) = true)
    (hk : (cfg.win w).flush t = true → ∀ d, dat.before w t d = dat.after w t) :
    iprop(∃ d, owns (c : Thread nD τ) ((cfg.win w).stage (cfg.slots t w)) fullShare (dat.before w t d)) ⊢ dat.leavesExact w t := by
  cases hf : (cfg.win w).flush t with
  | false => rw [Dat.leavesExact_idle _ w t hi hf]
  | true =>
    unfold Dat.leavesExact; rw [hi, hf]
    iintro ⟨%d, H⟩
    rw [hk hf d]; iexact H

end

/-- A whole load of a buffer that reads `x`. -/
theorem load_whole {sig : RefSig} {Val : EltTy → Type} {sp : Space} {s : Shape} {e : EltTy} (M : Memref sig .tc sp s e) (hM : M.IsWhole) (x : s.Idx → Val e)
    {off : Fin s.rank → ℕ} (inb : ∀ a, off a + s.size a ≤ s.size a) :
    M.view.readAt Val (Rect.unit off s.size inb).toLoadRect (hM.unread x) = x := by
  rw [View.readAt_full, hM.read_unread]

end Cert.IdleWindow

end
-- ==== Proof.DwMidFrame.lean ====
/- dw_mid: the frame of the whole call, with what each output holds after each point. -/
module

public import proofs.«01_k».proof.Proof.Gen.Kernel9Ideal.Frame
public import proofs.«01_k».proof.Proof.Gen.Kernel9Ideal.Skeleton
public import proofs.«01_k».proof.Proof.IdleWindow
public import Idealize.ShloMosaic.Lib.Claim
public import Idealize.ShloMosaic.Lib.Quiescent

@[expose] public section

set_option maxRecDepth 16384

noncomputable section

namespace Cert.Kernel9Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen Cert.IdleWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

abbrev accM : Memref sig .tc .vmem S1024x1024 .f32 := Memref.whole cc0_scratch0
abbrev cond1 (i : grid0.Coords) : BitVec 1 := Scalar.cmpi .ne (Scalar.extui (Scalar.cmpi .eq (BitVec.ofNat 32 (i 1).val) 0#32) : BitVec 32) 0#32

set_option maxHeartbeats 1000000 in
/-- The first point. -/
theorem run_first (c : Dev nD) (i : grid0.Coords)
    (arg2 : Memref sig .tc .vmem S2048x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S2048x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole)
    (h1 : cond1 i = 1#1) (h2 : k0_cond2 i = 1#1) (h3 : k0_cond3 i = 1#1) (h4 : ¬k0_cond4 i = 1#1) (h6 : ¬k0_cond6 i = 1#1)
    (x y : Vec F S2048x1024 .bf16) (K : PUnit → sProp 𝕄) :
    iprop(owns (c : Thread nD τ) arg2 fullShare x ∗ owns (c : Thread nD τ) arg5 fullShare y ∗ (∃ d, owns (c : Thread nD τ) arg6 fullShare d) ∗ (∃ d, owns (c : Thread nD τ) accM fullShare d)
        ∗ (iprop(owns (c : Thread nD τ) arg2 fullShare x ∗ owns (c : Thread nD τ) arg5 fullShare y ∗ owns (c : Thread nD τ) arg6 fullShare (k0_pay3 (k0_pay2 k0_pay1 x y)) ∗ (∃ d, owns (c : Thread nD τ) accM fullShare d)) -∗ K ⟨⟩))
      ⊢ wp frame (wpE (defs₀ (F := F)) Variants.none c none) Set.univ (cc0_dw_mid i arg2 harg2 arg3 harg3 arg4 harg4 arg5 harg5 arg6 harg6 arg7 harg7 arg8 harg8 accM (Memref.isWhole_whole _)) K := by
  simp only [cc0_dw_mid_eq_skeleton]; unfold cc0_dw_mid_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg5.eq_unread hf1; clear hf0 hf1
  sl_exec (disch := first | sl_exact h1 | sl_exact h2 | sl_exact h3 | sl_exact h4 | sl_exact h6)
  sl_step
  iapply Hk
  isplitl [H0]
  · iexists _; isplitr; · ipureintro; exact harg2.read_unread _
    iexact H0
  isplitl [H1]
  · iexists _; isplitr; · ipureintro; exact harg5.read_unread _
    iexact H1
  isplitl [H2]
  · iexists _; isplitr
    swap; · iexact H2
    ipureintro
    refine (View.read_writes_full _ _ _ _ _).trans ?_
    sl_unfold_words
    rw [View.readCov_full, View.readCov_full, load_whole arg2 harg2, load_whole arg5 harg5]
  iexists _, _; isplitr
  swap; · iexact H3
  ipureintro; rfl

set_option maxHeartbeats 1000000 in
/-- The second point. -/
theorem run_second (c : Dev nD) (i : grid0.Coords)
    (arg2 : Memref sig .tc .vmem S2048x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S2048x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole)
    (h1 : cond1 i = 1#1) (h2 : ¬k0_cond2 i = 1#1) (h4 : k0_cond4 i = 1#1) (h5 : k0_cond5 i = 1#1) (h6 : ¬k0_cond6 i = 1#1)
    (x y : Vec F S2048x1024 .bf16) (K : PUnit → sProp 𝕄) :
    iprop(owns (c : Thread nD τ) arg3 fullShare x ∗ owns (c : Thread nD τ) arg5 fullShare y ∗ (∃ d, owns (c : Thread nD τ) arg7 fullShare d) ∗ (∃ d, owns (c : Thread nD τ) accM fullShare d)
        ∗ (iprop(owns (c : Thread nD τ) arg3 fullShare x ∗ owns (c : Thread nD τ) arg5 fullShare y ∗ owns (c : Thread nD τ) arg7 fullShare (k0_pay5 (k0_pay4 k0_pay1 x y)) ∗ (∃ d, owns (c : Thread nD τ) accM fullShare d)) -∗ K ⟨⟩))
      ⊢ wp frame (wpE (defs₀ (F := F)) Variants.none c none) Set.univ (cc0_dw_mid i arg2 harg2 arg3 harg3 arg4 harg4 arg5 harg5 arg6 harg6 arg7 harg7 arg8 harg8 accM (Memref.isWhole_whole _)) K := by
  simp only [cc0_dw_mid_eq_skeleton]; unfold cc0_dw_mid_skel
  unfold owns
  iintro ⟨⟨%f0, %hf0, H0⟩, ⟨%f1, %hf1, H1⟩, ⟨%d2, %f2, -, H2⟩, ⟨%d3, %f3, -, H3⟩, Hk⟩
  obtain rfl := harg3.eq_unread hf0; obtain rfl := harg5.eq_unread hf1; clear hf0 hf1
  sl_exec (disch := first | sl_exact h1 | sl_exact h2 | sl_exact h4 | sl_exact h5 | sl_exact h6)
  sl_step
  iapply Hk
  isplitl [H0]
  · iexists _; isplitr; · ipureintro; exact harg3.read_unread _
    iexact H0
  isplitl [H1]
  · iexists _; isplitr; · ipureintro; exact harg5.read_unread _
    iexact H1
  isplitl [H2]
  · iexists _; isplitr
    swap; · iexact H2
    ipureintro
    refine (View.read_writes_full _ _ _ _ _).trans ?_
    sl_unfold_words
    rw [View.readCov_full, View.readCov_full, load_whole arg3 harg3, load_whole arg5 harg5]
  iexists _, _; isplitr
  swap; · iexact H3
  ipureintro; rfl

set_option maxHeartbeats 1000000 in
/-- The third point. -/
theorem run_third (c : Dev nD) (i : grid0.Coords)
    (arg2 : Memref sig .tc .vmem S2048x1024 .bf16) (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S2048x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole)
    (h1 : cond1 i = 1#1) (h2 : ¬k0_cond2 i = 1#1) (h4 : ¬k0_cond4 i = 1#1) (h6 : k0_cond6 i = 1#1) (h7 : k0_cond7 i = 1#1)
    (x y : Vec F S2048x1024 .bf16) (K : PUnit → sProp 𝕄) :
    iprop(owns (c : Thread nD τ) arg4 fullShare x ∗ owns (c : Thread nD τ) arg5 fullShare y ∗ (∃ d, owns (c : Thread nD τ) arg8 fullShare d) ∗ (∃ d, owns (c : Thread nD τ) accM fullShare d)
        ∗ (iprop(owns (c : Thread nD τ) arg4 fullShare x ∗ owns (c : Thread nD τ) arg5 fullShare y ∗ owns (c : Thread nD τ) arg8 fullShare (k0_pay7 (k0_pay6 k0_pay1 x y)) ∗ (∃ d, owns (c : Thread nD τ) accM fullShare d)) -∗ K ⟨⟩))
      ⊢ wp frame (wpE (defs₀ (F := F)) Variants.none c none) Set.univ (cc0_dw_mid i arg2 harg2 arg3 harg3 arg4 harg4 arg5 harg5 arg6 harg6 arg7 harg7 arg8 harg8 accM (Memref.isWhole_whole _)) K := by
  simp only [cc0_dw_mid_eq_skeleton]; unfold cc0_dw_mid_skel
  unfold owns
  iintro ⟨⟨%f0, %hf0, H0⟩, ⟨%f1, %hf1, H1⟩, ⟨%d2, %f2, -, H2⟩, ⟨%d3, %f3, -, H3⟩, Hk⟩
  obtain rfl := harg4.eq_unread hf0; obtain rfl := harg5.eq_unread hf1; clear hf0 hf1
  sl_exec (disch := first | sl_exact h1 | sl_exact h2 | sl_exact h4 | sl_exact h6 | sl_exact h7)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    refine (View.read_writes_full _ _ _ _ _).trans ?_
    sl_unfold_words
    rw [View.readCov_full, View.readCov_full, load_whole arg4 harg4, load_whole arg5 harg5]
  iexists _, _; isplitr
  swap; · iexact H3
  ipureintro; rfl

/-! ## Which point is which -/

theorem cond1_all : ∀ t : Fin grid0.N, cond1 (grid0.coords t) = 1#1 := by decide +kernel
theorem cond2_iff : ∀ t : Fin grid0.N, k0_cond2 (grid0.coords t) = 1#1 ↔ t.val = 0 := by decide +kernel
theorem cond3_all : ∀ t : Fin grid0.N, k0_cond3 (grid0.coords t) = 1#1 := by decide +kernel
theorem cond4_iff : ∀ t : Fin grid0.N, k0_cond4 (grid0.coords t) = 1#1 ↔ t.val = 1 := by decide +kernel
theorem cond5_all : ∀ t : Fin grid0.N, k0_cond5 (grid0.coords t) = 1#1 := by decide +kernel
theorem cond6_iff : ∀ t : Fin grid0.N, k0_cond6 (grid0.coords t) = 1#1 ↔ t.val = 2 := by decide +kernel
theorem cond7_all : ∀ t : Fin grid0.N, k0_cond7 (grid0.coords t) = 1#1 := by decide +kernel
theorem idle_4 : ∀ t : Fin grid0.N, cfg0.idle 4 (grid0.coords t) = true ↔ ¬t.val = 0 := by decide +kernel
theorem idle_5 : ∀ t : Fin grid0.N, cfg0.idle 5 (grid0.coords t) = true ↔ ¬t.val = 1 := by decide +kernel
theorem idle_6 : ∀ t : Fin grid0.N, cfg0.idle 6 (grid0.coords t) = true ↔ ¬t.val = 2 := by decide +kernel

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => k0_pay3 (k0_pay2 k0_pay1 (iblk m c 0 t0_0) (iblk m c 3 t0_0))
    | 5 => k0_pay5 (k0_pay4 k0_pay1 (iblk m c 1 t0_1) (iblk m c 3 t0_1))
    | 6 => k0_pay7 (k0_pay6 k0_pay1 (iblk m c 2 t0_2) (iblk m c 3 t0_2))
    | ⟨_ + 7, h⟩ => absurd h (Nat.not_lt_of_ge (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (k0_pay2 k0_pay1 (iblk m c 0 t0_0) (iblk m c 3 t0_0)) := by dsimp only [dats]
theorem after_5 (c : Dev nD) (t : Fin cfg0.N) : (dats m 0 c).after 5 t = k0_pay5 (k0_pay4 k0_pay1 (iblk m c 1 t0_1) (iblk m c 3 t0_1)) := by dsimp only [dats]
theorem after_6 (c : Dev nD) (t : Fin cfg0.N) : (dats m 0 c).after 6 t = k0_pay7 (k0_pay6 k0_pay1 (iblk m c 2 t0_2) (iblk m c 3 t0_2)) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-! ## What an output keeps outside its point -/

theorem fresh_4 (t : Fin cfg0.N) (h : t.val % 3 = 2) : cfg0.fresh 4 t.val = false := by
  have hN : cfg0.N = 3 := N_0
  have h2 : t.val = 2 := by have := t.isLt; omega
  refine (Cfg.fresh_tab cfg0 4 (fun n => n == 0 || n == 3) rfl ?_ t.val (Nat.le_of_lt t.isLt)).trans ?_
  · decide +kernel
  · rw [h2]; rfl
theorem kept_4 (c : Dev nD) (t : Fin cfg0.N) (h : ¬t.val = 0) (hf : (cfg0.win 4).flush t = true) (d) : (dats m 0 c).before 4 t d = (dats m 0 c).after 4 t := by
  rw [Dat.before_out_traj (dats m 0 c) 4 rfl (fun _ _ => rfl) (fun s _ _ _ => by rw [after_4, after_4]) t.val t rfl d, fresh_4 t ((flush0_4 t).mp hf), if_neg Bool.false_ne_true, after_4, after_4]

theorem fresh_5 (t : Fin cfg0.N) (h : t.val % 3 = 2) : cfg0.fresh 5 t.val = false := by
  have hN : cfg0.N = 3 := N_0
  have h2 : t.val = 2 := by have := t.isLt; omega
  refine (Cfg.fresh_tab cfg0 5 (fun n => n == 0 || n == 1 || n == 3) rfl ?_ t.val (Nat.le_of_lt t.isLt)).trans ?_
  · decide +kernel
  · rw [h2]; rfl
theorem kept_5 (c : Dev nD) (t : Fin cfg0.N) (h : ¬t.val = 1) (hf : (cfg0.win 5).flush t = true) (d) : (dats m 0 c).before 5 t d = (dats m 0 c).after 5 t := by
  rw [Dat.before_out_traj (dats m 0 c) 5 rfl (fun _ _ => rfl) (fun s _ _ _ => by rw [after_5, after_5]) t.val t rfl d, fresh_5 t ((flush0_5 t).mp hf), if_neg Bool.false_ne_true, after_5, after_5]

theorem kept_6 (c : Dev nD) (t : Fin cfg0.N) (h : ¬t.val = 2) (hf : (cfg0.win 6).flush t = true) (d) : (dats m 0 c).before 6 t d = (dats m 0 c).after 6 t :=
  absurd ((flush0_6 t).mp hf) (by have hN : cfg0.N = 3 := N_0; have := t.isLt; omega)

/-! ## The body at any point -/

theorem PhiA_eq (c : Dev nD) : (Pipeline.ΦA spec0 c : sProp 𝕄) = iprop((∃ f, (c : Thread nD τ).loc cc0_scratch0 ↦{fullShare} f) ∗ (∃ r, prngReg c r)) := by
  unfold Pipeline.ΦA; rw [scopedRest0_eq]

theorem acc_owns (c : Dev nD) : (iprop(∃ f, (c : Thread nD τ).loc cc0_scratch0 ↦{fullShare} f) : sProp 𝕄) ⊢ iprop(∃ d, owns (c : Thread nD τ) accM fullShare d) := by
  iintro ⟨%f, H⟩
  iexists f; iapply (Entails.of_eq (owns_whole (c : Thread nD τ) cc0_scratch0 fullShare f).symm); iexact H

theorem owns_acc (c : Dev nD) : (iprop(∃ d, owns (c : Thread nD τ) accM fullShare d) : sProp 𝕄) ⊢ iprop(∃ f, (c : Thread nD τ).loc cc0_scratch0 ↦{fullShare} f) := by
  iintro ⟨%f, H⟩
  iexists f; iapply (Entails.of_eq (owns_whole (c : Thread nD τ) cc0_scratch0 fullShare f)); iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t
    ∗ (dats m 0 c).leavesExact 6 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  have hN : t.val < 3 := lt_of_lt_of_eq t.isLt (show cfg0.N = 3 from N_0)
  unfold bodyPre bodyPost bodyAt0
  rw [show (dats m 0 c).Φ t.succ = (dats m 0 c).Φ t.castSucc from rfl, show (dats m 0 c).owesAt () t.succ = (dats m 0 c).owesAt () t.castSucc from rfl,
    show (dats m 0 c).Φ t.castSucc = Pipeline.ΦA spec0 c from rfl, PhiA_eq, after_0, after_1, after_2, after_3]
  have pt : t.val = 0 ∨ t.val = 1 ∨ t.val = 2 := by omega
  rcases pt with h0 | h1 | h2
  · have h1 : ¬t.val = 1 := by omega
    have h2 : ¬t.val = 2 := by omega
    obtain rfl : t = t0_0 := Fin.ext h0
    rw [leaves_live (dats m 0 c) 4 t0_0 (Bool.eq_false_iff.mpr fun h => (idle_4 t0_0).mp h h0), after_4]
    iintro ⟨⟨Ha, Hp⟩, Ho, ⟨%d0, H0⟩, ⟨%d1, H1⟩, ⟨%d2, H2⟩, ⟨%d3, H3⟩, H4, H5, H6⟩
    icases H4 with ⟨%dw, H4⟩
    rw [before_0, before_1, before_2, before_3]
    iapply (run_first c (grid0.coords t0_0) _ _ _ _ _ _ _ _ _ _ _ _ _ _ (cond1_all t0_0) ((cond2_iff t0_0).mpr h0) (cond3_all t0_0) (fun h => h1 ((cond4_iff t0_0).mp h)) (fun h => h2 ((cond6_iff t0_0).mp h)) (iblk m c 0 t0_0) (iblk m c 3 t0_0) _)
    isplitl [H0]; · iexact H0
    isplitl [H3]; · iexact H3
    isplitl [H4]; · iexists _; iexact H4
    isplitl [Ha]; · iapply (acc_owns c); iexact Ha
    iintro ⟨H0, H3, H4, Ha⟩
    isplitl [Ha Hp]
    · isplitl [Ha]; · iapply (owns_acc c); iexact Ha
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iapply (leaves_kept (dats m 0 c) 5 t0_0 ((idle_5 t0_0).mpr h1) (kept_5 m c t0_0 h1)); iexact H5
    iapply (leaves_kept (dats m 0 c) 6 t0_0 ((idle_6 t0_0).mpr h2) (kept_6 m c t0_0 h2)); iexact H6
  · have h0 : ¬t.val = 0 := by omega
    have h2 : ¬t.val = 2 := by omega
    obtain rfl : t = t0_1 := Fin.ext h1
    rw [leaves_live (dats m 0 c) 5 t0_1 (Bool.eq_false_iff.mpr fun h => (idle_5 t0_1).mp h h1), after_5]
    iintro ⟨⟨Ha, Hp⟩, Ho, ⟨%d0, H0⟩, ⟨%d1, H1⟩, ⟨%d2, H2⟩, ⟨%d3, H3⟩, H4, H5, H6⟩
    icases H5 with ⟨%dw, H5⟩
    rw [before_0, before_1, before_2, before_3]
    iapply (run_second c (grid0.coords t0_1) _ _ _ _ _ _ _ _ _ _ _ _ _ _ (cond1_all t0_1) (fun h => h0 ((cond2_iff t0_1).mp h)) ((cond4_iff t0_1).mpr h1) (cond5_all t0_1) (fun h => h2 ((cond6_iff t0_1).mp h)) (iblk m c 1 t0_1) (iblk m c 3 t0_1) _)
    isplitl [H1]; · iexact H1
    isplitl [H3]; · iexact H3
    isplitl [H5]; · iexists _; iexact H5
    isplitl [Ha]; · iapply (acc_owns c); iexact Ha
    iintro ⟨H1, H3, H5, Ha⟩
    isplitl [Ha Hp]
    · isplitl [Ha]; · iapply (owns_acc c); iexact Ha
      iexact Hp
    isplitl [Ho]; · iexact Ho
    isplitl [H0]; · iexact H0
    isplitl [H1]; · iexact H1
    isplitl [H2]; · iexact H2
    isplitl [H3]; · iexact H3
    isplitl [H4]; · iapply (leaves_kept (dats m 0 c) 4 t0_1 ((idle_4 t0_1).mpr h0) (kept_4 m c t0_1 h0)); iexact H4
    isplitl [H5]; · iexact H5
    iapply (leaves_kept (dats m 0 c) 6 t0_1 ((idle_6 t0_1).mpr h2) (kept_6 m c t0_1 h2)); iexact H6
  · have h0 : ¬t.val = 0 := by omega
    have h1 : ¬t.val = 1 := by omega
    obtain rfl : t = t0_2 := Fin.ext h2
    rw [leaves_live (dats m 0 c) 6 t0_2 (Bool.eq_false_iff.mpr fun h => (idle_6 t0_2).mp h h2), after_6]
    iintro ⟨⟨Ha, Hp⟩, Ho, ⟨%d0, H0⟩, ⟨%d1, H1⟩, ⟨%d2, H2⟩, ⟨%d3, H3⟩, H4, H5, H6⟩
    icases H6 with ⟨%dw, H6⟩
    rw [before_0, before_1, before_2, before_3]
    iapply (run_third c (grid0.coords t0_2) _ _ _ _ _ _ _ _ _ _ _ _ _ _ (cond1_all t0_2) (fun h => h0 ((cond2_iff t0_2).mp h)) (fun h => h1 ((cond4_iff t0_2).mp h)) ((cond6_iff t0_2).mpr h2) (cond7_all t0_2) (iblk m c 2 t0_2) (iblk m c 3 t0_2) _)
    isplitl [H2]; · iexact H2
    isplitl [H3]; · iexact H3
    isplitl [H6]; · iexists _; iexact H6
    isplitl [Ha]; · iapply (acc_owns c); iexact Ha
    iintro ⟨H2, H3, H6, Ha⟩
    isplitl [Ha Hp]
    · isplitl [Ha]; · iapply (owns_acc c); iexact Ha
      iexact Hp
    isplitl [Ho]; · iexact Ho
    isplitl [H0]; · iexact H0
    isplitl [H1]; · iexact H1
    isplitl [H2]; · iexact H2
    isplitl [H3]; · iexact H3
    isplitl [H4]; · iapply (leaves_kept (dats m 0 c) 4 t0_2 ((idle_4 t0_2).mpr h0) (kept_4 m c t0_2 h0)); iexact H4
    isplitl [H5]; · iapply (leaves_kept (dats m 0 c) 5 t0_2 ((idle_5 t0_2).mpr h1) (kept_5 m c t0_2 h1)); iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main_quiescent m ρ))) ((θ_run defs _ _).mono (fun _ h => h.2) (run_main_quiescent m ρ))

end Cert.Kernel9Ideal.Hand

end
-- ==== Proof.DwMid.lean ====
/- dw_mid: the three weight gradients of the merge, each a transposed activation times a third of the cotangents. -/
module

public import proofs.«01_k».proof.Defs
public import proofs.«01_k».proof.Proof.Common
public import proofs.«01_k».proof.Proof.DwMidFrame
public import proofs.«01_k».proof.Proof.Gen.Reference9Ideal.Run
public import proofs.«01_k».proof.Proof.Gen.Reference9Ideal.Read
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen Cert.Common

variable (m : (ℓ : Loc nD τ sig) → Buf (Elt Ideal) ℓ) (ρ : Dev nD → PrngReg)

/-- The three activations and the cotangents, as the region finds them. -/
abbrev act0 (c : Dev nD) : Vec Ideal S2048x1024 .bf16 := V m c main_v27
abbrev act1 (c : Dev nD) : Vec Ideal S2048x1024 .bf16 := V m c main_arg1
abbrev act2 (c : Dev nD) : Vec Ideal S2048x1024 .bf16 := V m c main_arg2
abbrev cot (c : Dev nD) : Vec Ideal S2048x3072 .bf16 := V m c main_arg6

/-- The gradient from an activation and one third of the cotangents. -/
def grad (c : Dev nD) (y : Vec Ideal S2048x1024 .bf16) (s : Fin 3) : Vec Ideal S1024x1024 .bf16 := fun i =>
  ∑ k : Fin 2048, y (ValueIdx.ix2 k (i 0)) * cot m c (ValueIdx.ix2 k ⟨s.val * 1024 + (i 1).val, by have : (i 1).val < 1024 := (i 1).isLt; omega⟩)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = t.val :=
  (by decide +kernel : ∀ t : Fin grid0.N, win0_3.index t 0 = 0 ∧ win0_3.index t 1 = t.val)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem zero_add_real (x : EReal) : (Ideal.ofBits .f32 0x00000000#32 + x : EReal) = x := by
  rw [Ideal.ofBits_zero_f32, zero_add]

theorem prod0_apply (x y : Vec Ideal S2048x1024 .bf16) (r q : Fin 1024) :
    (k0_pay3 (F := Ideal) (k0_pay2 k0_pay1 x y) (ValueIdx.ix2 r q) : EReal) = ∑ k : Fin 2048, x (ValueIdx.ix2 k r) * y (ValueIdx.ix2 k q) := by
  unfold k0_pay3 k0_pay2 k0_pay1
  simp only [shapeCast_self]
  refine (show _ = _ from zero_add_real (matmul (F := Ideal) (φ₁ := .bf16) (φ₂ := .bf16) dot_S2048x1024_S2048x1024_S1024x1024_0_0_1_1_n_n none x y (constant S1024x1024 .f32 0x00000000#32) (ValueIdx.ix2 r q))).trans ?_
  exact matmul_tn_zero (φ₁ := .bf16) (φ₂ := .bf16) _ none x y r q

theorem prod1_apply (x y : Vec Ideal S2048x1024 .bf16) (r q : Fin 1024) :
    (k0_pay5 (F := Ideal) (k0_pay4 k0_pay1 x y) (ValueIdx.ix2 r q) : EReal) = ∑ k : Fin 2048, x (ValueIdx.ix2 k r) * y (ValueIdx.ix2 k q) := by
  unfold k0_pay5 k0_pay4 k0_pay1
  simp only [shapeCast_self]
  refine (show _ = _ from zero_add_real (matmul (F := Ideal) (φ₁ := .bf16) (φ₂ := .bf16) dot_S2048x1024_S2048x1024_S1024x1024_0_0_1_1_n_n none x y (constant S1024x1024 .f32 0x00000000#32) (ValueIdx.ix2 r q))).trans ?_
  exact matmul_tn_zero (φ₁ := .bf16) (φ₂ := .bf16) _ none x y r q

theorem prod2_apply (x y : Vec Ideal S2048x1024 .bf16) (r q : Fin 1024) :
    (k0_pay7 (F := Ideal) (k0_pay6 k0_pay1 x y) (ValueIdx.ix2 r q) : EReal) = ∑ k : Fin 2048, x (ValueIdx.ix2 k r) * y (ValueIdx.ix2 k q) := by
  unfold k0_pay7 k0_pay6 k0_pay1
  simp only [shapeCast_self]
  refine (show _ = _ from zero_add_real (matmul (F := Ideal) (φ₁ := .bf16) (φ₂ := .bf16) dot_S2048x1024_S2048x1024_S1024x1024_0_0_1_1_n_n none x y (constant S1024x1024 .f32 0x00000000#32) (ValueIdx.ix2 r q))).trans ?_
  exact matmul_tn_zero (φ₁ := .bf16) (φ₂ := .bf16) _ none x y r q

/-- The third of the cotangents a point reads. -/
theorem cot_block (c : Dev nD) (t : Fin cfg0.N) (s : Fin 3) (hs : t.val = s.val) (k : Fin 2048) (q : Fin 1024) :
    (iblk m c 3 t : Vec Ideal S2048x1024 .bf16) (ValueIdx.ix2 k q) = cot m c (ValueIdx.ix2 k ⟨s.val * 1024 + q.val, by omega⟩) := by
  show V m c main_arg6 _ = V m c main_arg6 _
  congr 1
  funext a
  apply Fin.ext
  match a with
  | ⟨0, _⟩ => show win0_3.index t 0 * 2048 + 1 * k.val = k.val; rw [(index3 t).1]; omega
  | ⟨1, _⟩ => show win0_3.index t 1 * 1024 + 1 * q.val = s.val * 1024 + q.val; rw [(index3 t).2, hs]; omega

theorem act0_block (c : Dev nD) (t : Fin cfg0.N) (k : Fin 2048) (r : Fin 1024) :
    (iblk m c 0 t : Vec Ideal S2048x1024 .bf16) (ValueIdx.ix2 k r) = act0 m c (ValueIdx.ix2 k r) := by
  show V m c main_v27 _ = V m c main_v27 _
  congr 1
  funext a
  apply Fin.ext
  match a with
  | ⟨0, _⟩ => show win0_0.index t 0 * 2048 + 1 * k.val = k.val; rw [(index0 t).1]; omega
  | ⟨1, _⟩ => show win0_0.index t 1 * 1024 + 1 * r.val = r.val; rw [(index0 t).2]; omega

theorem final4 (c : Dev nD) : (dats m 0 c).arrAt 4 cfg0.N = grad m c (act0 m c) 0 := by
  refine (dats m 0 c).arrAt_eq_of_covers 4 _ (by decide +kernel) fun t hf y => ?_
  blk_simp
  rw [after_4]
  obtain ⟨p, j, rfl⟩ := exists_ix2 (M := 1024) (N := 1024) y
  have e0 : (win0_4.blk t).view.emb (ValueIdx.ix2 p j) = ValueIdx.ix2 p j := funext fun a => Fin.ext (by
    match a with
    | ⟨0, _⟩ => show win0_4.index t 0 * 1024 + 1 * p.val = p.val; rw [(index4 t).1]; omega
    | ⟨1, _⟩ => show win0_4.index t 1 * 1024 + 1 * j.val = j.val; rw [(index4 t).2]; omega)
  refine Eq.trans ?_ (congrArg (grad m c (act0 m c) 0) e0.symm)
  refine (prod0_apply _ _ p j).trans ?_
  unfold grad
  exact Finset.sum_congr rfl fun k _ => congrArg₂ (· * · : EReal → EReal → EReal) (act0_block m c t0_0 k p) (cot_block m c t0_0 0 rfl k j)

theorem act1_block (c : Dev nD) (t : Fin cfg0.N) (k : Fin 2048) (r : Fin 1024) :
    (iblk m c 1 t : Vec Ideal S2048x1024 .bf16) (ValueIdx.ix2 k r) = act1 m c (ValueIdx.ix2 k r) := by
  show V m c main_arg1 _ = V m c main_arg1 _
  congr 1
  funext a
  apply Fin.ext
  match a with
  | ⟨0, _⟩ => show win0_1.index t 0 * 2048 + 1 * k.val = k.val; rw [(index1 t).1]; omega
  | ⟨1, _⟩ => show win0_1.index t 1 * 1024 + 1 * r.val = r.val; rw [(index1 t).2]; omega

theorem final5 (c : Dev nD) : (dats m 0 c).arrAt 5 cfg0.N = grad m c (act1 m c) 1 := by
  refine (dats m 0 c).arrAt_eq_of_covers 5 _ (by decide +kernel) fun t hf y => ?_
  blk_simp
  rw [after_5]
  obtain ⟨p, j, rfl⟩ := exists_ix2 (M := 1024) (N := 1024) y
  have e0 : (win0_5.blk t).view.emb (ValueIdx.ix2 p j) = ValueIdx.ix2 p j := funext fun a => Fin.ext (by
    match a with
    | ⟨0, _⟩ => show win0_5.index t 0 * 1024 + 1 * p.val = p.val; rw [(index5 t).1]; omega
    | ⟨1, _⟩ => show win0_5.index t 1 * 1024 + 1 * j.val = j.val; rw [(index5 t).2]; omega)
  refine Eq.trans ?_ (congrArg (grad m c (act1 m c) 1) e0.symm)
  refine (prod1_apply _ _ p j).trans ?_
  unfold grad
  exact Finset.sum_congr rfl fun k _ => congrArg₂ (· * · : EReal → EReal → EReal) (act1_block m c t0_1 k p) (cot_block m c t0_1 1 rfl k j)

theorem act2_block (c : Dev nD) (t : Fin cfg0.N) (k : Fin 2048) (r : Fin 1024) :
    (iblk m c 2 t : Vec Ideal S2048x1024 .bf16) (ValueIdx.ix2 k r) = act2 m c (ValueIdx.ix2 k r) := by
  show V m c main_arg2 _ = V m c main_arg2 _
  congr 1
  funext a
  apply Fin.ext
  match a with
  | ⟨0, _⟩ => show win0_2.index t 0 * 2048 + 1 * k.val = k.val; rw [(index2 t).1]; omega
  | ⟨1, _⟩ => show win0_2.index t 1 * 1024 + 1 * r.val = r.val; rw [(index2 t).2]; omega

theorem final6 (c : Dev nD) : (dats m 0 c).arrAt 6 cfg0.N = grad m c (act2 m c) 2 := by
  refine (dats m 0 c).arrAt_eq_of_covers 6 _ (by decide +kernel) fun t hf y => ?_
  blk_simp
  rw [after_6]
  obtain ⟨p, j, rfl⟩ := exists_ix2 (M := 1024) (N := 1024) y
  have e0 : (win0_6.blk t).view.emb (ValueIdx.ix2 p j) = ValueIdx.ix2 p j := funext fun a => Fin.ext (by
    match a with
    | ⟨0, _⟩ => show win0_6.index t 0 * 1024 + 1 * p.val = p.val; rw [(index6 t).1]; omega
    | ⟨1, _⟩ => show win0_6.index t 1 * 1024 + 1 * j.val = j.val; rw [(index6 t).2]; omega)
  refine Eq.trans ?_ (congrArg (grad m c (act2 m c) 2) e0.symm)
  refine (prod2_apply _ _ p j).trans ?_
  unfold grad
  exact Finset.sum_congr rfl fun k _ => congrArg₂ (· * · : EReal → EReal → EReal) (act2_block m c t0_2 k p) (cot_block m c t0_2 2 rfl k j)

/-! ## The reference -/

theorem act0_eq (c : Dev nD) : act0 m c = Cert.Reference9Ideal.Read.val_main_v26 (F := Ideal) (m ((c : Thread nD τ).loc main_arg0)) (m ((c : Thread nD τ).loc main_arg3)) (m ((c : Thread nD τ).loc main_arg4)) (m ((c : Thread nD τ).loc main_arg5)) := by
  show V m c main_v27 = _
  entry_read
  rfl

theorem grad0_eq (c : Dev nD) : grad m c (act0 m c) 0 = Cert.Reference9Ideal.Read.val_main_v33 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  funext i
  rw [Cert.Reference9Ideal.Read.val_main_v33_apply, Cert.Reference9Ideal.Read.val_main_v32_apply]
  refine Eq.trans ?_ (Cert.Reference9Ideal.Read.val_main_v31_apply _ _ _ _ _ _).symm
  unfold grad
  refine Finset.sum_congr rfl fun k _ => ?_
  refine (mul_comm (G := EReal) _ _).trans (congrArg₂ (· * · : EReal → EReal → EReal) ?_ ?_)
  · rw [Cert.Reference9Ideal.Read.val_main_v30_apply, Cert.Reference9Ideal.Read.val_main_v28_apply]
    show V m c main_arg6 _ = _
    rw [V_main_arg6]
    exact congrArg (m ((c : Thread nD τ).loc main_arg6)) (funext fun a => Fin.ext (by
      match a with
      | ⟨0, _⟩ => first | rfl | exact (Nat.zero_add _).symm | exact Nat.zero_add _
      | ⟨1, _⟩ => first | rfl | exact Nat.zero_add _ | exact (Nat.zero_add _).symm))
  · rw [act0_eq]
    exact congrArg (Cert.Reference9Ideal.Read.val_main_v26 (F := Ideal) (m ((c : Thread nD τ).loc main_arg0)) (m ((c : Thread nD τ).loc main_arg3)) (m ((c : Thread nD τ).loc main_arg4)) (m ((c : Thread nD τ).loc main_arg5))) (funext fun a => by match a with | ⟨0, _⟩ => rfl | ⟨1, _⟩ => rfl)

theorem grad1_eq (c : Dev nD) : grad m c (act1 m c) 1 = Cert.Reference9Ideal.Read.val_main_v40 (F := Ideal) (m ((c : Thread nD τ).loc main_arg1)) (m ((c : Thread nD τ).loc main_arg6)) := by
  funext i
  rw [Cert.Reference9Ideal.Read.val_main_v40_apply, Cert.Reference9Ideal.Read.val_main_v39_apply]
  refine Eq.trans ?_ (Cert.Reference9Ideal.Read.val_main_v38_apply _ _ _).symm
  unfold grad
  refine Finset.sum_congr rfl fun k _ => ?_
  refine (mul_comm (G := EReal) _ _).trans (congrArg₂ (· * · : EReal → EReal → EReal) ?_ ?_)
  · rw [Cert.Reference9Ideal.Read.val_main_v37_apply, Cert.Reference9Ideal.Read.val_main_v34_apply]
    show V m c main_arg6 _ = _
    rw [V_main_arg6]
    exact congrArg (m ((c : Thread nD τ).loc main_arg6)) (funext fun a => Fin.ext (by
      match a with
      | ⟨0, _⟩ => first | rfl | exact (Nat.zero_add _).symm | exact Nat.zero_add _
      | ⟨1, _⟩ => first | rfl | exact Nat.zero_add _ | exact (Nat.zero_add _).symm))
  · rw [Cert.Reference9Ideal.Read.val_main_v35_apply]
    show V m c main_arg1 _ = _
    rw [V_main_arg1]
    exact congrArg (m ((c : Thread nD τ).loc main_arg1)) (funext fun a => by match a with | ⟨0, _⟩ => rfl | ⟨1, _⟩ => rfl)

theorem grad2_eq (c : Dev nD) : grad m c (act2 m c) 2 = Cert.Reference9Ideal.Read.val_main_v47 (F := Ideal) (m ((c : Thread nD τ).loc main_arg2)) (m ((c : Thread nD τ).loc main_arg6)) := by
  funext i
  rw [Cert.Reference9Ideal.Read.val_main_v47_apply, Cert.Reference9Ideal.Read.val_main_v46_apply]
  refine Eq.trans ?_ (Cert.Reference9Ideal.Read.val_main_v45_apply _ _ _).symm
  unfold grad
  refine Finset.sum_congr rfl fun k _ => ?_
  refine (mul_comm (G := EReal) _ _).trans (congrArg₂ (· * · : EReal → EReal → EReal) ?_ ?_)
  · rw [Cert.Reference9Ideal.Read.val_main_v44_apply, Cert.Reference9Ideal.Read.val_main_v41_apply]
    show V m c main_arg6 _ = _
    rw [V_main_arg6]
    exact congrArg (m ((c : Thread nD τ).loc main_arg6)) (funext fun a => Fin.ext (by
      match a with
      | ⟨0, _⟩ => first | rfl | exact (Nat.zero_add _).symm | exact Nat.zero_add _
      | ⟨1, _⟩ => first | rfl | exact Nat.zero_add _ | exact (Nat.zero_add _).symm))
  · rw [Cert.Reference9Ideal.Read.val_main_v42_apply]
    show V m c main_arg2 _ = _
    rw [V_main_arg2]
    exact congrArg (m ((c : Thread nD τ).loc main_arg2)) (funext fun a => by match a with | ⟨0, _⟩ => rfl | ⟨1, _⟩ => rfl)

/-- The run's results. -/
theorem run_results : θ_run defs (onTc (τ := τ) (main (F := Ideal))) ⟨m, fun _ => 0, ρ⟩ (fun r => ∀ c : Dev nD,
      r.2.mem ((c.tc : Thread nD τ).loc main_v28_0) = grad m c (act0 m c) 0
      ∧ r.2.mem ((c.tc : Thread nD τ).loc main_v28_1) = grad m c (act1 m c) 1
      ∧ r.2.mem ((c.tc : Thread nD τ).loc main_v28_2) = grad m c (act2 m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).1 4).trans (final4 m c), ((h.1.1 c).1 5).trans (final5 m c), ((h.1.1 c).1 6).trans (final6 m c), h.2.1 c⟩)
    (θ_run_and (run_main_quiescent m ρ) (frame m ρ))

end Cert.Kernel9Ideal.Hand

namespace Cert.DwMid

open Cert.Kernel9Ideal.Hand

theorem reference_quiescent : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

theorem algebraic : Cert.algebraic_Kernel9Ideal_Reference9Ideal := fun m ρ m' ρ' _ hag =>
  ⟨fun c => grad m c (act0 m c) 0, fun c => grad m c (act1 m c) 1, fun c => grad m c (act2 m c) 2, run_results m ρ,
    (θ_run Cert.Reference9Ideal.defs _ _).mono (fun _ h c => by
        obtain ⟨e0, e1, e2, e3, e4, e5, e6⟩ := hag c
        refine ⟨(h c).1.trans ?_, (h c).2.1.trans ?_, (h c).2.2.1.trans ?_, (h c).2.2.2⟩
        · show _ = grad m c (act0 m c) 0
          rw [grad0_eq, ← e0, ← e3, ← e4, ← e5, ← e6]
          exact Cert.Reference9Ideal.Read.val_main_v33_eq (F := Ideal) _ _ _ _ _
        · show _ = grad m c (act1 m c) 1
          rw [grad1_eq, ← e1, ← e6]
          exact Cert.Reference9Ideal.Read.val_main_v40_eq (F := Ideal) _ _
        · show _ = grad m c (act2 m c) 2
          rw [grad2_eq, ← e2, ← e6]
          exact Cert.Reference9Ideal.Read.val_main_v47_eq (F := Ideal) _ _)
      (Cert.Reference9Ideal.Value.run (F := Ideal) m' ρ')⟩

end Cert.DwMid

end
-- ==== Proof.RmsBwd.lean ====
/- The gradient of RMS normalisation by rows, in the two forms that meet here: a kernel's
   `r d' - x (r³ Σ x d' / n)` and the transposed `r d' + w x + w x` with `w = (Σ x d')(-½ r/s)/n`, where `d' = d g`,
   `s = Σ x²/n + ε` and `r = 1/√s`. Over real rows the two are one real number. -/
module

public import proofs.«01_k».proof.Proof.Common
public import Idealize.ShloMosaic.PureOps.Ideal
public import Idealize.ShloMosaic.PureOps.Ideal.Laws

@[expose] public section

set_option maxRecDepth 16384

noncomputable section

namespace Cert.Rms

open Idealize.ShloMosaic
open scoped BigOperators

/-- The row length 1024, the epsilon and the factor -1/2, as the programs write them. -/
abbrev wide : EReal := Ideal.ofBits .f32 0x44800000#32
abbrev eps : EReal := Ideal.ofBits .f32 0x358637BD#32
abbrev negHalf : EReal := Ideal.ofBits .f32 0xBF000000#32

def epsR : ℝ := 8796093 * (2 : ℝ) ^ (-43 : ℤ)

theorem wide_eq : wide = ((1024 : ℝ) : EReal) := by
  simp [wide, Ideal.ofBits, Ideal.ieee]; rw [← EReal.coe_mul]; norm_num
theorem negHalf_eq : negHalf = ((-(1 / 2) : ℝ) : EReal) := by
  simp [negHalf, Ideal.ofBits, Ideal.ieee]; rw [← EReal.coe_mul]; norm_num
theorem eps_eq : eps = ((epsR : ℝ) : EReal) := by
  simp [eps, epsR, Ideal.ofBits, Ideal.ieee]
theorem epsR_pos : 0 < epsR := by unfold epsR; positivity

theorem div_wide (a : ℝ) : Ideal.div (a : EReal) wide = ((a / 1024 : ℝ) : EReal) := by
  rw [wide_eq, Ideal.div_coe (by norm_num : (1024 : ℝ) ≠ 0), ← EReal.coe_mul, mul_one_div]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {n : ℕ}

/-- The mean square of a row, shifted; its inverse root. -/
def msq (x : Fin n → EReal) : EReal := Ideal.div (∑ k, x k * x k) wide + eps
def rinv (x : Fin n → EReal) : EReal := Ideal.rsqrt (msq x)

/-- The forward normalisation of one row. -/
def norm (x g : Fin n → EReal) (j : Fin n) : EReal := x j * rinv x * g j

/-- The gradient in the kernel's arrangement. -/
def kbwd (x g d : Fin n → EReal) (j : Fin n) : EReal :=
  rinv x * (d j * g j) - x j * (rinv x * rinv x * rinv x * Ideal.div (∑ k, x k * (d k * g k)) wide)

/-- The weight of the row itself in the transposed arrangement. -/
def wbwd (x g d : Fin n → EReal) : EReal :=
  Ideal.div ((∑ k, x k * (d k * g k)) * (negHalf * Ideal.div (rinv x) (msq x))) wide
def rbwd (x g d : Fin n → EReal) (j : Fin n) : EReal :=
  (d j * g j * rinv x + x j * wbwd x g d) + wbwd x g d * x j

/-! Real rows. -/

def msqR (x : Fin n → ℝ) : ℝ := (∑ k, x k * x k) / 1024 + epsR
def rinvR (x : Fin n → ℝ) : ℝ := (Real.sqrt (msqR x))⁻¹
def bwdR (x g d : Fin n → ℝ) (j : Fin n) : ℝ :=
  rinvR x * (d j * g j) - x j * (rinvR x * rinvR x * rinvR x * ((∑ k, x k * (d k * g k)) / 1024))

theorem msqR_pos (x : Fin n → ℝ) : 0 < msqR x :=
  add_pos_of_nonneg_of_pos (div_nonneg (Finset.sum_nonneg fun k _ => mul_self_nonneg _) (by norm_num)) epsR_pos

theorem msq_coe (x : Fin n → ℝ) : msq (fun k => (x k : EReal)) = (msqR x : EReal) := by
  unfold msq msqR
  simp only [← EReal.coe_mul, ← coe_sum]
  rw [div_wide, eps_eq, ← EReal.coe_add]

theorem rinv_coe (x : Fin n → ℝ) : rinv (fun k => (x k : EReal)) = (rinvR x : EReal) := by
  unfold rinv rinvR
  rw [msq_coe]
  show (if msqR x < 0 then (⊥ : EReal) else if msqR x = 0 then ⊤ else ((Real.sqrt (msqR x))⁻¹ : ℝ)) = _
  rw [if_neg (not_lt.mpr (msqR_pos x).le), if_neg (msqR_pos x).ne']

theorem norm_coe (x g : Fin n → ℝ) (j : Fin n) :
    norm (fun k => (x k : EReal)) (fun k => (g k : EReal)) j = ((x j * rinvR x * g j : ℝ) : EReal) := by
  unfold norm; rw [rinv_coe]; simp only [← EReal.coe_mul]

theorem kbwd_coe (x g d : Fin n → ℝ) (j : Fin n) :
    kbwd (fun k => (x k : EReal)) (fun k => (g k : EReal)) (fun k => (d k : EReal)) j = (bwdR x g d j : EReal) := by
  unfold kbwd bwdR
  rw [rinv_coe]
  simp only [← EReal.coe_mul, ← coe_sum]
  rw [div_wide]
  simp only [← EReal.coe_mul, ← EReal.coe_sub]

theorem rbwd_coe (x g d : Fin n → ℝ) (j : Fin n) :
    rbwd (fun k => (x k : EReal)) (fun k => (g k : EReal)) (fun k => (d k : EReal)) j = (bwdR x g d j : EReal) := by
  have hs := msqR_pos x
  have hr : rinvR x * rinvR x = (msqR x)⁻¹ := by
    unfold rinvR; rw [← mul_inv, Real.mul_self_sqrt hs.le]
  unfold rbwd wbwd
  rw [rinv_coe, msq_coe, Ideal.div_coe hs.ne', negHalf_eq]
  simp only [← EReal.coe_mul, ← coe_sum]
  rw [div_wide]
  simp only [← EReal.coe_mul, ← EReal.coe_add]
  congr 1
  unfold bwdR
  rw [hr, one_div (msqR x)]
  ring

/-- Every entry of a family is a real number. -/
def Reals {ι : Type} (f : ι → EReal) : Prop := ∃ r : ι → ℝ, f = fun i => (r i : EReal)

theorem Reals.of {ι : Type} {f : ι → EReal} (h : ∀ i, ∃ r : ℝ, f i = r) : Reals f :=
  ⟨fun i => (h i).choose, funext fun i => (h i).choose_spec⟩

theorem Reals.at {ι : Type} {f : ι → EReal} (h : Reals f) (i : ι) : ∃ r : ℝ, f i = r := by
  obtain ⟨r, rfl⟩ := h; exact ⟨r i, rfl⟩

theorem Reals.comp {ι κ : Type} {f : ι → EReal} (h : Reals f) (e : κ → ι) : Reals fun i => f (e i) := by
  obtain ⟨r, rfl⟩ := h; exact ⟨fun i => r (e i), rfl⟩

theorem Reals.add {ι : Type} {f g : ι → EReal} (hf : Reals f) (hg : Reals g) : Reals fun i => f i + g i := by
  obtain ⟨a, rfl⟩ := hf; obtain ⟨b, rfl⟩ := hg; exact ⟨fun i => a i + b i, funext fun i => (EReal.coe_add _ _).symm⟩

theorem Reals.mul {ι : Type} {f g : ι → EReal} (hf : Reals f) (hg : Reals g) : Reals fun i => f i * g i := by
  obtain ⟨a, rfl⟩ := hf; obtain ⟨b, rfl⟩ := hg; exact ⟨fun i => a i * b i, funext fun i => (EReal.coe_mul _ _).symm⟩

theorem Reals.sum {ι κ : Type} [Fintype κ] {f : ι → κ → EReal} (h : ∀ i, Reals (f i)) : Reals fun i => ∑ k, f i k :=
  Reals.of fun i => by obtain ⟨r, hr⟩ := h i; exact ⟨∑ k, r k, by rw [hr, coe_sum]⟩

theorem kbwd_eq_rbwd {x g d : Fin n → EReal} (hx : Reals x) (hg : Reals g) (hd : Reals d) (j : Fin n) :
    kbwd x g d j = rbwd x g d j := by
  obtain ⟨x, rfl⟩ := hx; obtain ⟨g, rfl⟩ := hg; obtain ⟨d, rfl⟩ := hd
  rw [kbwd_coe, rbwd_coe]

theorem kbwd_reals {x g d : Fin n → EReal} (hx : Reals x) (hg : Reals g) (hd : Reals d) : Reals (kbwd x g d) := by
  obtain ⟨x, rfl⟩ := hx; obtain ⟨g, rfl⟩ := hg; obtain ⟨d, rfl⟩ := hd
  exact ⟨bwdR x g d, funext fun j => kbwd_coe x g d j⟩

theorem norm_reals {x g : Fin n → EReal} (hx : Reals x) (hg : Reals g) : Reals (norm x g) := by
  obtain ⟨x, rfl⟩ := hx; obtain ⟨g, rfl⟩ := hg
  exact ⟨_, funext fun j => norm_coe x g j⟩

theorem rinv_real {x : Fin n → EReal} (hx : Reals x) : ∃ r : ℝ, rinv x = r := by
  obtain ⟨x, rfl⟩ := hx; exact ⟨_, rinv_coe x⟩

end Cert.Rms
-- ==== Proof.RmsOps.lean ====
/- The vector operations of the normalisation's gradient, read at an index: row sums, column sums, the inverse root
   mean square of each row, and the whole row formula. -/
module

public import proofs.«01_k».proof.Proof.RmsBwd
public import Idealize.ShloMosaic.Lib.ValueLayout

@[expose] public section

set_option maxRecDepth 16384

noncomputable section

namespace Cert.RmsOps

open Idealize.ShloMosaic Idealize.ShloMosaic.ValueIdx Cert.Common Cert.Rms
open scoped BigOperators

/-- A row of a matrix. -/
abbrev row {R C : ℕ} (x : (⟨2, ![R, C]⟩ : Shape).Idx → EReal) (p : Fin R) : Fin C → EReal := fun j => x (ix2 p j)
/-- A matrix by its coordinates. -/
abbrev mat {R C : ℕ} (x : (⟨2, ![R, C]⟩ : Shape).Idx → EReal) : Fin R → Fin C → EReal := fun p j => x (ix2 p j)

variable {R C : ℕ}

theorem column_apply (r : FVec Ideal ⟨2, ![R, 1]⟩ .f32) (h : (⟨2, ![R, 1]⟩ : Shape).Broadcasts ⟨2, ![R, C]⟩) (p : Fin R) (j : Fin C) :
    (broadcastTo ⟨2, ![R, C]⟩ r h (ix2 p j) : EReal) = r (ix2 p 0) := by
  refine broadcastTo_apply r h (ix2 p j) (ix2 p 0) fun a => ?_
  match a with
  | ⟨0, _⟩ =>
    show (p : ℕ) = if R = 1 then 0 else (p : ℕ)
    have := p.isLt
    split <;> omega
  | ⟨1, _⟩ => rfl

theorem rowSum_apply (y : FVec Ideal ⟨2, ![R, C]⟩ .f32) (h : (⟨2, ![R, C]⟩ : Shape).Reduces [1] ⟨1, ![R]⟩) (hφ hacc)
    (hc : (⟨1, ![R]⟩ : Shape).ShapeCasts ⟨2, ![R, 1]⟩) (p : Fin R) (z : Fin 1) :
    (shapeCast ⟨2, ![R, 1]⟩ (multiReduction .add [1] ⟨1, ![R]⟩ y 0x00000000#32 h hφ hacc) hc (ix2 p z) : EReal) = ∑ k : Fin C, (y (ix2 p k) : EReal) := by
  rw [shapeCast_apply _ hc (ix2 p z) (ix1 p) (by
    rw [Shape.rowMajor_val_one, Shape.rowMajor_val_two]; show (p : ℕ) = (p : ℕ) * 1 + (z : ℕ); omega)]
  refine (Ideal.multiReduction_add_single y _ h _ _ _).trans (Finset.sum_congr rfl fun k _ => ?_)
  refine congrArg y ?_
  funext a; apply Fin.ext
  match a with
  | ⟨0, _⟩ => rfl
  | ⟨1, _⟩ => rfl

theorem colSum_apply (y : FVec Ideal ⟨2, ![R, C]⟩ .f32) (h : (⟨2, ![R, C]⟩ : Shape).Reduces [0] ⟨1, ![C]⟩) (hφ hacc)
    (hc : (⟨1, ![C]⟩ : Shape).ShapeCasts ⟨2, ![1, C]⟩) (z : Fin 1) (j : Fin C) :
    (shapeCast ⟨2, ![1, C]⟩ (multiReduction .add [0] ⟨1, ![C]⟩ y 0x00000000#32 h hφ hacc) hc (ix2 z j) : EReal) = ∑ p : Fin R, (y (ix2 p j) : EReal) := by
  rw [shapeCast_apply _ hc (ix2 z j) (ix1 j) (by
    rw [Shape.rowMajor_val_one, Shape.rowMajor_val_two]; show (j : ℕ) = (z : ℕ) * C + (j : ℕ); have := z.isLt; simp [show (z : ℕ) = 0 by omega])]
  refine (Ideal.multiReduction_add_single y _ h _ _ _).trans (Finset.sum_congr rfl fun k _ => ?_)
  refine congrArg y ?_
  funext a; apply Fin.ext
  match a with
  | ⟨0, _⟩ => rfl
  | ⟨1, _⟩ => rfl

/-- The inverse root mean square of every row. -/
theorem rinv_apply (x : FVec Ideal ⟨2, ![R, C]⟩ .f32) (h : (⟨2, ![R, C]⟩ : Shape).Reduces [1] ⟨1, ![R]⟩) (hφ hacc)
    (hc : (⟨1, ![R]⟩ : Shape).ShapeCasts ⟨2, ![R, 1]⟩) (p : Fin R) (z : Fin 1) :
    (rsqrt (addf (divf (shapeCast ⟨2, ![R, 1]⟩ (multiReduction .add [1] ⟨1, ![R]⟩ (mulf x x) 0x00000000#32 h hφ hacc) hc)
        (broadcast ⟨2, ![R, 1]⟩ (Scalar.ofBits .f32 0x44800000#32)))
      (broadcast ⟨2, ![R, 1]⟩ (Scalar.ofBits .f32 0x358637BD#32))) (ix2 p z) : EReal) = rinv (row x p) := by
  unfold rinv msq
  exact congrArg Ideal.rsqrt (congrArg₂ (· + · : EReal → EReal → EReal) (congrArg₂ Ideal.div (rowSum_apply (mulf x x) h hφ hacc hc p z) rfl) rfl)

/-- The gradient at a row, in the kernel's arrangement. -/
theorem kbwd_apply (x d : FVec Ideal ⟨2, ![R, C]⟩ .f32) (g : FVec Ideal ⟨2, ![1, C]⟩ .f32) (r : FVec Ideal ⟨2, ![R, 1]⟩ .f32)
    (h : (⟨2, ![R, C]⟩ : Shape).Reduces [1] ⟨1, ![R]⟩) (hφ hacc) (hc : (⟨1, ![R]⟩ : Shape).ShapeCasts ⟨2, ![R, 1]⟩)
    (hg : (⟨2, ![1, C]⟩ : Shape).Broadcasts ⟨2, ![R, C]⟩) (hr : (⟨2, ![R, 1]⟩ : Shape).Broadcasts ⟨2, ![R, C]⟩)
    (er : ∀ p z, (r (ix2 p z) : EReal) = rinv (row x p)) (p : Fin R) (j : Fin C) :
    (subf (mulf (broadcastTo ⟨2, ![R, C]⟩ r hr) (mulf d (broadcastTo ⟨2, ![R, C]⟩ g hg)))
      (mulf x (broadcastTo ⟨2, ![R, C]⟩ (mulf (mulf (mulf r r) r)
        (divf (shapeCast ⟨2, ![R, 1]⟩ (multiReduction .add [1] ⟨1, ![R]⟩ (mulf x (mulf d (broadcastTo ⟨2, ![R, C]⟩ g hg))) 0x00000000#32 h hφ hacc) hc)
          (broadcast ⟨2, ![R, 1]⟩ (Scalar.ofBits .f32 0x44800000#32)))) hr)) (ix2 p j) : EReal)
      = kbwd (row x p) (row g 0) (row d p) j := by
  have eg : ∀ j, (broadcastTo ⟨2, ![R, C]⟩ g hg (ix2 p j) : EReal) = row g 0 j := fun j => broadcastTo_1b_ab_apply g hg p j
  unfold kbwd
  refine congrArg₂ (· - · : EReal → EReal → EReal) (congrArg₂ (· * · : EReal → EReal → EReal) ?_ (congrArg₂ (· * · : EReal → EReal → EReal) rfl (eg j)))
    (congrArg₂ (· * · : EReal → EReal → EReal) rfl ?_)
  · exact (column_apply r hr p j).trans (er p _)
  · refine (column_apply _ hr p j).trans ?_
    refine congrArg₂ (· * · : EReal → EReal → EReal) ?_ (congrArg₂ Ideal.div ((rowSum_apply _ h hφ hacc hc p _).trans ?_) rfl)
    · show ((r (ix2 p _) : EReal) * r (ix2 p _) * r (ix2 p _) : EReal) = _
      rw [er]
    · exact Finset.sum_congr rfl fun k _ => congrArg₂ (· * · : EReal → EReal → EReal) rfl (congrArg₂ (· * · : EReal → EReal → EReal) rfl (eg k))

end Cert.RmsOps
-- ==== Proof.FfnRows.lean ====
/- ffn_bwd: the rows of the feed-forward block's gradient, and each stored value of the kernel's body at an index. -/
module

public import proofs.«01_k».proof.Kernel4Ideal
public import proofs.«01_k».proof.Proof.Common
public import proofs.«01_k».proof.Proof.RmsOps
public import proofs.«01_k».proof.Proof.Gen.Kernel4Ideal.Skeleton

@[expose] public section

set_option maxRecDepth 16384

noncomputable section

open Idealize.ShloMosaic Idealize.ShloMosaic.TcCoe Idealize.SL.Sem

namespace Cert.Kernel4Ideal.Grad

open Cert.Kernel4Ideal Cert.Kernel4Ideal.Gen Idealize.ShloMosaic.ValueIdx Cert.Common Cert.Rms Cert.RmsOps

/-! ## One row of the gradient -/

abbrev two : EReal := Ideal.ofBits .f32 0x40000000#32

/-- `da` of one row: the squared ReLU's derivative times `df w2ᵀ`. -/
def daRow (df : Fin 1024 → EReal) (a : Fin 4096 → EReal) (w2 : Fin 4096 → Fin 1024 → EReal) (k : Fin 4096) : EReal :=
  two * max (a k) 0 * ∑ j, df j * w2 k j
/-- The gradient at the normalised row: `da w1ᵀ`. -/
def dhRow (df : Fin 1024 → EReal) (a : Fin 4096 → EReal) (w1 : Fin 1024 → Fin 4096 → EReal) (w2 : Fin 4096 → Fin 1024 → EReal)
    (j : Fin 1024) : EReal := ∑ k, daRow df a w2 k * w1 j k
def s2Row (a : Fin 4096 → EReal) (k : Fin 4096) : EReal := max (a k) 0 * max (a k) 0

/-- The gradient at the residual stream of one row. -/
def dxRow (df : Fin 1024 → EReal) (a : Fin 4096 → EReal) (w1 : Fin 1024 → Fin 4096 → EReal) (w2 : Fin 4096 → Fin 1024 → EReal)
    (x g dy : Fin 1024 → EReal) (j : Fin 1024) : EReal := dy j + kbwd x g (dhRow df a w1 w2) j

/-! ## The payloads at an index -/

theorem pay5_apply (v3 : Vec Ideal S256x1024 .bf16) (v4 : Vec Ideal S256x1024 .f32) (v13 : Vec Ideal S1024x1024 .bf16) (p : Fin 256) (q : Fin 1024) :
    k0_pay5 v3 v4 v13 (ix2 p q) = two * max (v4 (ix2 p q)) 0 * ∑ j : Fin 1024, v3 (ix2 p j) * v13 (ix2 q j) := by
  unfold k0_pay5 k0_pay3
  simp only [shapeCast_self]
  refine congrArg₂ (· * · : EReal → EReal → EReal) ?_ (matmul_nt_zero _ none v3 v13 p q)
  show two * max (v4 (ix2 p q)) (Ideal.ofBits .f32 0x00000000#32) = _
  rw [Ideal.ofBits_zero_f32]

theorem pay10_eq (v3 : Vec Ideal S256x1024 .bf16) (v4 : Vec Ideal S256x1024 .f32) (v13 : Vec Ideal S1024x1024 .bf16) :
    k0_pay10 v3 (k0_pay9 v4) v13 = k0_pay5 v3 v4 v13 := rfl
theorem pay13_eq (v3 : Vec Ideal S256x1024 .bf16) (v4 : Vec Ideal S256x1024 .f32) (v13 : Vec Ideal S1024x1024 .bf16) :
    k0_pay13 v3 v4 v13 = k0_pay5 v3 v4 v13 := rfl
theorem pay17_eq (v3 : Vec Ideal S256x1024 .bf16) (v4 : Vec Ideal S256x1024 .f32) (v13 : Vec Ideal S1024x1024 .bf16) :
    k0_pay17 v3 (k0_pay15 v4) v13 = k0_pay5 v3 v4 v13 := rfl

theorem pay4_apply (v4 : Vec Ideal S256x1024 .f32) (y : S256x1024.Idx) : k0_pay4 v4 y = (max (v4 y) 0 * max (v4 y) 0 : EReal) := by
  unfold k0_pay4 k0_pay3
  simp only [shapeCast_self]
  show max (v4 y) (Ideal.ofBits .f32 0x00000000#32) * max (v4 y) (Ideal.ofBits .f32 0x00000000#32) = _
  rw [Ideal.ofBits_zero_f32]
theorem pay8_eq (v4 : Vec Ideal S256x1024 .f32) : k0_pay8 v4 = k0_pay4 v4 := rfl
theorem pay12_eq (v4 : Vec Ideal S256x1024 .f32) : k0_pay12 v4 = k0_pay4 v4 := rfl
theorem pay16_eq (v4 : Vec Ideal S256x1024 .f32) : k0_pay16 v4 = k0_pay4 v4 := rfl

/-- One chunk's share of `dh`. -/
theorem pay6_apply (v3 : Vec Ideal S256x1024 .bf16) (v4 : Vec Ideal S256x1024 .f32) (v13 v18 : Vec Ideal S1024x1024 .bf16) (p : Fin 256) (j : Fin 1024) :
    k0_pay6 v3 v4 v13 v18 (ix2 p j) = ∑ q : Fin 1024, k0_pay5 v3 v4 v13 (ix2 p q) * v18 (ix2 j q) :=
  matmul_nt_zero _ none (k0_pay5 v3 v4 v13) v18 p j

/-- `dh` of a block, from its four chunks. -/
theorem pay18_apply (v3 : Vec Ideal S256x1024 .bf16) (a0 a1 a2 a3 : Vec Ideal S256x1024 .f32) (w0 w1 w2 w3 u0 u1 u2 u3 : Vec Ideal S1024x1024 .bf16)
    (p : Fin 256) (j : Fin 1024) :
    k0_pay18 v3 (k0_pay14 v3 (k0_pay6 v3 a0 w0 u0) (k0_pay9 a1) w1 u1 a2 w2 u2) (k0_pay15 a3) w3 u3 (ix2 p j)
      = (((k0_pay6 v3 a0 w0 u0 (ix2 p j) + k0_pay6 v3 a1 w1 u1 (ix2 p j)) + k0_pay6 v3 a2 w2 u2 (ix2 p j)) + k0_pay6 v3 a3 w3 u3 (ix2 p j) : EReal) := rfl

theorem pay20_apply (x : Vec Ideal S256x1024 .f32) (p : Fin 256) (z : Fin 1) : k0_pay20 x (ix2 p z) = rinv (row x p) := by
  unfold k0_pay20 k0_pay19
  simp only [shapeCast_self]
  exact rinv_apply x _ _ _ _ p z

theorem pay25_apply (x : Vec Ideal S256x1024 .f32) (p : Fin 256) (z : Fin 1) : k0_pay25 x (ix2 p z) = rinv (row x p) :=
  rinv_apply x _ _ _ _ p z

theorem pay21_apply (v3 : Vec Ideal S256x1024 .bf16) (v53 v57 : Vec Ideal S256x1024 .f32) (v63 v68 : Vec Ideal S1024x1024 .bf16)
    (x : Vec Ideal S256x1024 .f32) (g : Vec Ideal S1x1024 .f32) (p : Fin 256) (j : Fin 1024) :
    k0_pay21 v3 v53 v57 v63 v68 x g (ix2 p j) = kbwd (row x p) (row g 0) (row (k0_pay18 v3 v53 v57 v63 v68) p) j := by
  unfold k0_pay21 k0_pay19
  simp only [shapeCast_self]
  exact kbwd_apply x (k0_pay18 v3 v53 v57 v63 v68) g (k0_pay20 x) _ _ _ _ _ _ (pay20_apply x) p j

theorem pay26_apply (v96 : FVec Ideal S256x1024 .f32) (dy : Vec Ideal S256x1024 .f32) (o : Vec Ideal S256x1024 .f32) (g : Vec Ideal S1x1024 .f32)
    (p : Fin 256) (j : Fin 1024) :
    k0_pay26 v96 dy o g (ix2 p j) = kbwd (row o p) (row g 0) (row (k0_pay24 v96 dy) p) j :=
  kbwd_apply o (k0_pay24 v96 dy) g (k0_pay25 o) _ _ _ _ _ _ (pay25_apply o) p j

theorem pay24_apply (v96 : FVec Ideal S256x1024 .f32) (dy : Vec Ideal S256x1024 .f32) (y : S256x1024.Idx) :
    k0_pay24 v96 dy y = (dy y + v96 y : EReal) := rfl

/-- The second row of the vector gradients: the old one plus the block's column sums. -/
theorem pay1_apply (v3 : Vec Ideal S256x1024 .bf16) (v53 v57 : Vec Ideal S256x1024 .f32) (v63 v68 : Vec Ideal S1024x1024 .bf16)
    (x : Vec Ideal S256x1024 .f32) (old : Vec Ideal S1x1024 .f32) (j : Fin 1024) :
    k0_pay1 (k0_pay23 (k0_pay22 v3 v53 v57 v63 v68 x)) old (ix2 0 j)
      = old (ix2 0 j) + ∑ p : Fin 256, k0_pay18 v3 v53 v57 v63 v68 (ix2 p j) * (x (ix2 p j) * rinv (row x p)) := by
  unfold k0_pay1 k0_pay23 k0_pay22 k0_pay19
  simp only [shapeCast_self]
  refine congrArg₂ (· + · : EReal → EReal → EReal) rfl ((colSum_apply _ _ _ _ _ 0 j).trans (Finset.sum_congr rfl fun p _ => ?_))
  exact congrArg₂ (· * · : EReal → EReal → EReal) rfl (congrArg₂ (· * · : EReal → EReal → EReal) rfl
    ((column_apply _ _ p j).trans (pay20_apply x p 0)))

theorem pay27_apply (v96 : FVec Ideal S256x1024 .f32) (dy o : Vec Ideal S256x1024 .f32) (old : Vec Ideal S1x1024 .f32) (j : Fin 1024) :
    k0_pay27 v96 dy o old (ix2 0 j)
      = old (ix2 0 j) + ∑ p : Fin 256, k0_pay24 v96 dy (ix2 p j) * (o (ix2 p j) * rinv (row o p)) := by
  unfold k0_pay27
  simp only [shapeCast_self]
  refine congrArg₂ (· + · : EReal → EReal → EReal) rfl ((colSum_apply _ _ _ _ _ 0 j).trans (Finset.sum_congr rfl fun p _ => ?_))
  exact congrArg₂ (· * · : EReal → EReal → EReal) rfl (congrArg₂ (· * · : EReal → EReal → EReal) rfl
    ((column_apply _ _ p j).trans (pay25_apply o p 0)))

theorem pay2_apply (y : S2x1024.Idx) : k0_pay2 (F := Ideal) y = (0 : EReal) := Ideal.ofBits_zero_f32

/-! ## Four column chunks make a row -/

section Chunks

variable (x0 : Vec Ideal S256x1024 .bf16) (x1 : Vec Ideal S256x4096 .f32) (x2 : Vec Ideal S1024x4096 .bf16) (x3 : Vec Ideal S4096x1024 .bf16)

/-- `v` is columns `off …` of `x`; `w` is rows `off …` of `x`. -/
def ColsAt {R : ℕ} (x : (⟨2, ![R, 4096]⟩ : Shape).Idx → EReal) (off : ℕ) (v : (⟨2, ![R, 1024]⟩ : Shape).Idx → EReal) : Prop :=
  ∀ (p : Fin R) (q : Fin 1024) (k : Fin 4096), k.val = off + q.val → v (ix2 p q) = x (ix2 p k)
def RowsAt (x : (⟨2, ![4096, 1024]⟩ : Shape).Idx → EReal) (off : ℕ) (v : (⟨2, ![1024, 1024]⟩ : Shape).Idx → EReal) : Prop :=
  ∀ (q : Fin 1024) (j : Fin 1024) (k : Fin 4096), k.val = off + q.val → v (ix2 q j) = x (ix2 k j)

variable {x0 x1 x2 x3}

theorem chunk_s2 {off : ℕ} {v4 : Vec Ideal S256x1024 .f32} (h4 : ColsAt x1 off v4) (p : Fin 256) (q : Fin 1024) (k : Fin 4096)
    (hk : k.val = off + q.val) : k0_pay4 v4 (ix2 p q) = s2Row (row x1 p) k := by
  rw [pay4_apply, h4 p q k hk]; rfl

theorem chunk_da {off : ℕ} {v4 : Vec Ideal S256x1024 .f32} {v13 : Vec Ideal S1024x1024 .bf16} (h4 : ColsAt x1 off v4) (h13 : RowsAt x3 off v13)
    (p : Fin 256) (q : Fin 1024) (k : Fin 4096) (hk : k.val = off + q.val) :
    k0_pay5 x0 v4 v13 (ix2 p q) = daRow (row x0 p) (row x1 p) (mat x3) k := by
  rw [pay5_apply, h4 p q k hk]
  unfold daRow
  exact congrArg₂ (· * · : EReal → EReal → EReal) rfl (Finset.sum_congr rfl fun j _ =>
    congrArg₂ (· * · : EReal → EReal → EReal) rfl (h13 q j k hk))

theorem chunk_dh {off : ℕ} (hoff : off + 1024 ≤ 4096) {v4 : Vec Ideal S256x1024 .f32} {v13 v18 : Vec Ideal S1024x1024 .bf16} (h4 : ColsAt x1 off v4)
    (h13 : RowsAt x3 off v13) (h18 : ColsAt x2 off v18) (p : Fin 256) (j : Fin 1024) :
    (k0_pay6 x0 v4 v13 v18 (ix2 p j) : EReal)
      = ∑ q : Fin 1024, daRow (row x0 p) (row x1 p) (mat x3) ⟨off + q.val, by omega⟩ * mat x2 j ⟨off + q.val, by omega⟩ := by
  rw [pay6_apply]
  exact Finset.sum_congr rfl fun q _ => congrArg₂ (· * · : EReal → EReal → EReal) (chunk_da h4 h13 p q _ rfl) (h18 j q _ rfl)

theorem sum_chunks (f : Fin 4096 → EReal) :
    (((∑ q : Fin 1024, f ⟨0 + q.val, by omega⟩) + ∑ q : Fin 1024, f ⟨1024 + q.val, by omega⟩) + ∑ q : Fin 1024, f ⟨2048 + q.val, by omega⟩)
      + ∑ q : Fin 1024, f ⟨3072 + q.val, by omega⟩ = ∑ k, f k := by
  rw [← (finProdFinEquiv (m := 4) (n := 1024)).sum_comp f, Fintype.sum_prod_type, Fin.sum_univ_four]
  refine congrArg₂ (· + ·) (congrArg₂ (· + ·) (congrArg₂ (· + ·) ?_ ?_) ?_) ?_ <;>
    refine Finset.sum_congr rfl fun q _ => congrArg f (Fin.ext ?_)
  · show 0 + q.val = q.val + 1024 * 0; omega
  · show 1024 + q.val = q.val + 1024 * 1; omega
  · show 2048 + q.val = q.val + 1024 * 2; omega
  · show 3072 + q.val = q.val + 1024 * 3; omega

theorem dh_apply {a0 a1 a2 a3 : Vec Ideal S256x1024 .f32} {w0 w1 w2 w3 u0 u1 u2 u3 : Vec Ideal S1024x1024 .bf16}
    (ha0 : ColsAt x1 0 a0) (ha1 : ColsAt x1 1024 a1) (ha2 : ColsAt x1 2048 a2) (ha3 : ColsAt x1 3072 a3)
    (hw0 : RowsAt x3 0 w0) (hw1 : RowsAt x3 1024 w1) (hw2 : RowsAt x3 2048 w2) (hw3 : RowsAt x3 3072 w3)
    (hu0 : ColsAt x2 0 u0) (hu1 : ColsAt x2 1024 u1) (hu2 : ColsAt x2 2048 u2) (hu3 : ColsAt x2 3072 u3) (p : Fin 256) (j : Fin 1024) :
    (k0_pay18 x0 (k0_pay14 x0 (k0_pay6 x0 a0 w0 u0) (k0_pay9 a1) w1 u1 a2 w2 u2) (k0_pay15 a3) w3 u3 (ix2 p j) : EReal)
      = dhRow (row x0 p) (row x1 p) (mat x2) (mat x3) j := by
  rw [pay18_apply, chunk_dh (by omega) ha0 hw0 hu0, chunk_dh (by omega) ha1 hw1 hu1, chunk_dh (by omega) ha2 hw2 hu2, chunk_dh (by omega) ha3 hw3 hu3]
  exact sum_chunks fun k => daRow (row x0 p) (row x1 p) (mat x3) k * mat x2 j k

theorem dh_row {a0 a1 a2 a3 : Vec Ideal S256x1024 .f32} {w0 w1 w2 w3 u0 u1 u2 u3 : Vec Ideal S1024x1024 .bf16}
    (ha0 : ColsAt x1 0 a0) (ha1 : ColsAt x1 1024 a1) (ha2 : ColsAt x1 2048 a2) (ha3 : ColsAt x1 3072 a3)
    (hw0 : RowsAt x3 0 w0) (hw1 : RowsAt x3 1024 w1) (hw2 : RowsAt x3 2048 w2) (hw3 : RowsAt x3 3072 w3)
    (hu0 : ColsAt x2 0 u0) (hu1 : ColsAt x2 1024 u1) (hu2 : ColsAt x2 2048 u2) (hu3 : ColsAt x2 3072 u3) (p : Fin 256) :
    row (k0_pay18 x0 (k0_pay14 x0 (k0_pay6 x0 a0 w0 u0) (k0_pay9 a1) w1 u1 a2 w2 u2) (k0_pay15 a3) w3 u3) p
      = dhRow (row x0 p) (row x1 p) (mat x2) (mat x3) :=
  funext fun j => dh_apply ha0 ha1 ha2 ha3 hw0 hw1 hw2 hw3 hu0 hu1 hu2 hu3 p j

end Chunks

/-! ## The arrays the region leaves -/

section Arrays

variable (df : Vec Ideal S2048x1024 .bf16) (a : Vec Ideal S2048x4096 .f32) (w1 : Vec Ideal S1024x4096 .bf16) (w2 : Vec Ideal S4096x1024 .bf16)
  (x dy o : Vec Ideal S2048x1024 .f32) (vecs : Vec Ideal S4x1024 .f32)

def da : Vec Ideal S2048x4096 .bf16 := fun i => daRow (row df (i 0)) (row a (i 0)) (mat w2) (i 1)
def s2 : Vec Ideal S2048x4096 .bf16 := fun i => s2Row (row a (i 0)) (i 1)
def dx : Vec Ideal S2048x1024 .f32 := fun i => dxRow (row df (i 0)) (row a (i 0)) (mat w1) (mat w2) (row x (i 0)) (row vecs 3) (row dy (i 0)) (i 1)
def dout : Vec Ideal S2048x1024 .bf16 := fun i => kbwd (row o (i 0)) (row vecs 2) (fun j => dx df a w1 w2 x dy vecs (ix2 (i 0) j)) (i 1)
def dvec : Vec Ideal S2x1024 .f32 := fun i =>
  if (i 0).val = 0 then ∑ p : Fin 2048, dx df a w1 w2 x dy vecs (ix2 p (i 1)) * (o (ix2 p (i 1)) * rinv (row o p))
  else ∑ p : Fin 2048, dhRow (row df p) (row a p) (mat w1) (mat w2) (i 1) * (x (ix2 p (i 1)) * rinv (row x p))

end Arrays

end Cert.Kernel4Ideal.Grad
-- ==== Proof.RealArgs.lean ====
/- What a precondition `all (|x| < ∞)` says over the extended reals: every entry is a real number. -/
module

public import proofs.«01_k».proof.Proof.RmsBwd
public import Idealize.ShloMosaic.Lib.ReduceAll

@[expose] public section

set_option maxRecDepth 16384

noncomputable section

namespace Cert.RealArgs

open Idealize.ShloMosaic Cert.Rms

theorem real_of_abs_lt_top (a : EReal) (h : max a (-a) < ⊤) : ∃ r : ℝ, a = r := by
  induction a using EReal.rec with
  | bot => simp at h
  | top => simp at h
  | coe r => exact ⟨r, rfl⟩

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

theorem lt_of_cmp {a b : EReal} (h : Ideal.cmp .olt a b = 1#1) : a < b := by
  by_contra hn
  rw [show Ideal.cmp .olt a b = 0#1 by simp [Ideal.cmp, hn]] at h
  exact absurd h (by decide)

/-- The conjunct of one f32 argument. -/
theorem reals_f32 {s t : Shape} {axes : List (Fin s.rank)} [Subsingleton t.Idx] (x : FVec Ideal s .f32)
    (hb : (⟨0, ![]⟩ : Shape).BroadcastsInDim s (![] : Fin 0 → Fin s.rank)) (init : (⟨0, ![]⟩ : Shape).Idx → BitVec 1) (hr : s.ReducesTo axes t) (hu : 0 < (⟨0, ![]⟩ : Shape).numel) (j : t.Idx)
    (h : Host.reduce IntOp.andi (cmpf .olt (Host.absf x) (broadcastInDim s ![] hb (constant ⟨0, ![]⟩ .f32 0x7F800000#32))) init hr hu j = 1#1) :
    Reals (fun i => (x i : EReal)) :=
  Reals.of fun i => real_of_abs_lt_top _ (by
    have e := lt_of_cmp (Host.reduce_andi_all _ _ _ _ j h i)
    rw [← top_f32]; exact e)

/-- The conjunct of one bf16 argument. -/
theorem reals_bf16 {s t : Shape} {axes : List (Fin s.rank)} [Subsingleton t.Idx] (x : FVec Ideal s .bf16)
    (hb : (⟨0, ![]⟩ : Shape).BroadcastsInDim s (![] : Fin 0 → Fin s.rank)) (init : (⟨0, ![]⟩ : Shape).Idx → BitVec 1) (hr : s.ReducesTo axes t) (hu : 0 < (⟨0, ![]⟩ : Shape).numel) (j : t.Idx)
    (h : Host.reduce IntOp.andi (cmpf .olt (Host.absf x) (broadcastInDim s ![] hb (constant ⟨0, ![]⟩ .bf16 0x7F80#16))) init hr hu j = 1#1) :
    Reals (fun i => (x i : EReal)) :=
  Reals.of fun i => real_of_abs_lt_top _ (by
    have e := lt_of_cmp (Host.reduce_andi_all _ _ _ _ j h i)
    rw [← top_bf16]; exact e)

end Cert.RealArgs
-- ==== Proof.FfnRef.lean ====
/- ffn_bwd: the reference's stages, row by row. -/
module

public import proofs.«01_k».proof.Defs
public import proofs.«01_k».proof.Proof.Common
public import proofs.«01_k».proof.Proof.RmsBwd
public import proofs.«01_k».proof.Proof.RmsOps
public import proofs.«01_k».proof.Proof.FfnRows
public import proofs.«01_k».proof.Proof.Gen.Reference4Ideal.Read
public import Idealize.ShloMosaic.Lib.ValueIdx

@[expose] public section

set_option maxRecDepth 16384

noncomputable section

open Idealize.ShloMosaic Idealize.ShloMosaic.TcCoe Idealize.ShloMosaic.ValueIdx

namespace Cert.Reference4Ideal.Rows

open Cert.Reference4Ideal Cert.Reference4Ideal.Read Cert.Rms Cert.RmsOps Cert.Kernel4Ideal.Grad

variable (x0 : Vec Ideal S2048x1024 .bf16) (x1 x2 x3 : Vec Ideal S2048x1024 .f32) (x4 : Vec Ideal S1024x4096 .bf16)
  (x5 : Vec Ideal S4096x1024 .bf16) (x6 : Vec Ideal S4x1024 .f32)

/-! ## The normalisation of `o` and of the residual stream -/

theorem v7_at (p : Fin 2048) (z : Fin 1) : (val_main_v7 (F := Ideal) x3 (ix2 p z) : EReal) = msq (row x3 p) := by
  simp only [val_main_v7_apply, val_main_v6_apply, val_main_v5_apply, val_main_v4_apply, val_main_v3_apply, val_main_v2_apply, val_main_v1_apply]
  have e : ∀ k, idx_main_v2 (idx_main_v3 (ix2 p z)) k = ix2 p k := fun k => funext fun a => by match a with | ⟨0, _⟩ => rfl | ⟨1, _⟩ => rfl
  simp only [e]
  show Ideal.div (Ideal.ofBits .f32 0x00000000#32 + ∑ k : Fin 1024, x3 (ix2 p k) * x3 (ix2 p k)) wide + eps = _
  rw [Ideal.ofBits_zero_f32, zero_add]
  rfl

theorem v8_at (p : Fin 2048) (z : Fin 1) : (val_main_v8 (F := Ideal) x3 (ix2 p z) : EReal) = rinv (row x3 p) := by
  rw [val_main_v8_apply]
  exact congrArg Ideal.rsqrt (v7_at x3 p z)

theorem v24_at (p : Fin 2048) (z : Fin 1) : (val_main_v24 (F := Ideal) x2 x3 x6 (ix2 p z) : EReal) = msq (row (val_main_v16 (F := Ideal) x2 x3 x6) p) := by
  simp only [val_main_v24_apply, val_main_v23_apply, val_main_v22_apply, val_main_v21_apply, val_main_v20_apply, val_main_v19_apply, val_main_v18_apply]
  have e : ∀ k, idx_main_v19 (idx_main_v20 (ix2 p z)) k = ix2 p k := fun k => funext fun a => by match a with | ⟨0, _⟩ => rfl | ⟨1, _⟩ => rfl
  simp only [e]
  generalize val_main_v16 (F := Ideal) x2 x3 x6 = X
  show Ideal.div (Ideal.ofBits .f32 0x00000000#32 + ∑ k : Fin 1024, X (ix2 p k) * X (ix2 p k)) wide + eps = _
  rw [Ideal.ofBits_zero_f32, zero_add]
  rfl

theorem v25_at (p : Fin 2048) (z : Fin 1) : (val_main_v25 (F := Ideal) x2 x3 x6 (ix2 p z) : EReal) = rinv (row (val_main_v16 (F := Ideal) x2 x3 x6) p) := by
  rw [val_main_v25_apply]
  exact congrArg Ideal.rsqrt (v24_at x2 x3 x6 p z)

theorem v13_at (p : Fin 2048) (j : Fin 1024) : (val_main_v13 (F := Ideal) x3 (ix2 p j) : EReal) = x3 (ix2 p j) * rinv (row x3 p) := by
  simp only [val_main_v13_apply, val_main_v12_apply]
  have e : idx_main_v12 (ix2 p j) = ix2 p (0 : Fin 1) := funext fun a => by match a with | ⟨0, _⟩ => rfl | ⟨1, _⟩ => rfl
  rw [e, v8_at]
  rfl

theorem v16_at (p : Fin 2048) (j : Fin 1024) : (val_main_v16 (F := Ideal) x2 x3 x6 (ix2 p j) : EReal) = x2 (ix2 p j) + norm (row x3 p) (row x6 2) j := by
  simp only [val_main_v16_apply, val_main_v15_apply, val_main_v14_apply, val_main_v0_apply]
  rw [v13_at]
  have e : idx_main_v0 (idx_main_v14 (ix2 p j)) = ix2 (2 : Fin 4) j := funext fun a => by
    match a with
    | ⟨0, _⟩ => rfl
    | ⟨1, _⟩ => exact Fin.ext (by simp [idx_main_v0, idx_main_v14])
  rw [e]
  rfl

theorem v30_at (p : Fin 2048) (j : Fin 1024) : (val_main_v30 (F := Ideal) x2 x3 x6 (ix2 p j) : EReal)
    = val_main_v16 (F := Ideal) x2 x3 x6 (ix2 p j) * rinv (row (val_main_v16 (F := Ideal) x2 x3 x6) p) := by
  simp only [val_main_v30_apply, val_main_v29_apply]
  have e : idx_main_v29 (ix2 p j) = ix2 p (0 : Fin 1) := funext fun a => by match a with | ⟨0, _⟩ => rfl | ⟨1, _⟩ => rfl
  rw [e, v25_at]
  rfl

theorem gain3 (p : Fin 2048) (j : Fin 1024) : val_main_v17 (F := Ideal) x6 (idx_main_v53 (ix2 p j)) = x6 (ix2 3 j) := by
  rw [val_main_v17_apply]
  exact congrArg x6 (funext fun a => by
    match a with
    | ⟨0, _⟩ => rfl
    | ⟨1, _⟩ => exact Fin.ext (by simp [idx_main_v17, idx_main_v53]))

theorem gain2 (p : Fin 2048) (j : Fin 1024) : val_main_v0 (F := Ideal) x6 (idx_main_v73 (ix2 p j)) = x6 (ix2 2 j) := by
  rw [val_main_v0_apply]
  exact congrArg x6 (funext fun a => by
    match a with
    | ⟨0, _⟩ => rfl
    | ⟨1, _⟩ => exact Fin.ext (by simp [idx_main_v0, idx_main_v73]))

theorem v34_at (p : Fin 2048) (k : Fin 4096) : (val_main_v34 x2 x3 x4 x6 (ix2 p k) : EReal)
    = ∑ j, norm (row (val_main_v16 (F := Ideal) x2 x3 x6) p) (row x6 3) j * mat x4 j k := by
  simp only [val_main_v34_apply, val_main_v33_apply, val_main_v32_apply, val_main_v31_apply]
  refine Finset.sum_congr rfl fun j _ => ?_
  have e : lidx_main_v34 (ix2 p k) j = ix2 p j := funext fun a => by match a with | ⟨0, _⟩ => rfl | ⟨1, _⟩ => rfl
  have e' : ridx_main_v34 (ix2 p k) j = ix2 j k := funext fun a => by match a with | ⟨0, _⟩ => rfl | ⟨1, _⟩ => rfl
  rw [e, e', v30_at]
  exact congrArg₂ (· * · : EReal → EReal → EReal) (congrArg₂ (· * · : EReal → EReal → EReal) rfl (gain3 x6 p j)) rfl

/-! ## Through the two products and the squared ReLU -/

theorem v45_at (p : Fin 2048) (k : Fin 4096) : (val_main_v45 x0 x5 (ix2 p k) : EReal) = ∑ j, row x0 p j * mat x5 k j := by
  simp only [val_main_v45_apply, val_main_v44_apply, val_main_v43_apply, val_main_v42_apply]
  refine Finset.sum_congr rfl fun j _ => ?_
  have e : lidx_main_v45 (ix2 p k) j = ix2 p j := funext fun a => by match a with | ⟨0, _⟩ => rfl | ⟨1, _⟩ => rfl
  have e' : ridx_main_v45 (ix2 p k) j = ix2 k j := funext fun a => by match a with | ⟨0, _⟩ => rfl | ⟨1, _⟩ => rfl
  rw [e, e']
  rfl

theorem select_pos (a b : EReal) :
    Scalar.select (Ideal.cmp .ogt a 0) (b * (two * max a 0)) (0 : EReal) = two * max a 0 * b := by
  by_cases h : (0 : EReal) < a
  · have e : Ideal.cmp .ogt a 0 = 1#1 := by simp [Ideal.cmp, h]
    rw [e]
    exact mul_comm _ _
  · have e : Ideal.cmp .ogt a 0 = 0#1 := by simp [Ideal.cmp, h]
    rw [e, max_eq_right (not_lt.mp h), mul_zero, zero_mul]
    rfl

theorem v48_at (p : Fin 2048) (k : Fin 4096) : (val_main_v48 (F := Ideal) x0 x2 x3 x4 x5 x6 (ix2 p k) : EReal)
    = daRow (row x0 p) (row (val_main_v34 x2 x3 x4 x6) p) (mat x5) k := by
  simp only [val_main_v48_apply, val_main_v47_apply, val_main_v46_apply, val_main_v41_apply, val_main_v40_apply, val_main_v37_apply, val_main_v36_apply, val_main_v35_apply]
  unfold daRow
  rw [v45_at]
  refine Eq.trans ?_ (select_pos _ _)
  have z : ∀ i, (val_main_cst_7 (F := Ideal) i : EReal) = 0 := fun _ => Ideal.ofBits_zero_f32
  have z' : ∀ i, (val_main_cst_10 (F := Ideal) i : EReal) = 0 := fun _ => Ideal.ofBits_zero_f32
  have z'' : ∀ i, (val_main_call0_v0 (F := Ideal) i : EReal) = 0 := fun _ => Ideal.ofBits_zero_f32
  rw [z, z', z'']
  rfl

theorem v90_at (p : Fin 2048) (k : Fin 4096) : (val_main_v90 (F := Ideal) x2 x3 x4 x6 (ix2 p k) : EReal)
    = s2Row (row (val_main_v34 x2 x3 x4 x6) p) k := by
  simp only [val_main_v90_apply, val_main_v89_apply]
  have z : ∀ i, (val_main_call1_v0 (F := Ideal) i : EReal) = 0 := fun _ => Ideal.ofBits_zero_f32
  rw [z]
  rfl

theorem v49_at (p : Fin 2048) (j : Fin 1024) : (val_main_v49 x0 x2 x3 x4 x5 x6 (ix2 p j) : EReal)
    = dhRow (row x0 p) (row (val_main_v34 x2 x3 x4 x6) p) (mat x4) (mat x5) j := by
  simp only [val_main_v49_apply, val_main_v33_apply]
  refine Finset.sum_congr rfl fun k _ => ?_
  have e : lidx_main_v49 (ix2 p j) k = ix2 p k := funext fun a => by match a with | ⟨0, _⟩ => rfl | ⟨1, _⟩ => rfl
  have e' : ridx_main_v49 (ix2 p j) k = ix2 j k := funext fun a => by match a with | ⟨0, _⟩ => rfl | ⟨1, _⟩ => rfl
  rw [e, e', v48_at]
  rfl

/-! ## The two normalisations' gradients -/

theorem v62_at (p : Fin 2048) (z : Fin 1) : (val_main_v62 x0 x2 x3 x4 x5 x6 (ix2 p z) : EReal)
    = wbwd (row (val_main_v16 (F := Ideal) x2 x3 x6) p) (row x6 3) (row (val_main_v49 x0 x2 x3 x4 x5 x6) p) := by
  simp only [val_main_v62_apply, val_main_v61_apply, val_main_v60_apply, val_main_v57_apply, val_main_v56_apply, val_main_v55_apply, val_main_v54_apply,
    val_main_v53_apply, val_main_v28_apply, val_main_v27_apply, val_main_v26_apply]
  have e : ∀ k, idx_main_v56 (idx_main_v57 (ix2 p z)) k = ix2 p k := fun k => funext fun a => by
    match a with
    | ⟨0, _⟩ => exact Fin.ext (by show p.val * 1 + z.val = p.val; omega)
    | ⟨1, _⟩ => rfl
  simp only [e, gain3, v24_at, v25_at]
  generalize val_main_v16 (F := Ideal) x2 x3 x6 = X
  generalize val_main_v49 x0 x2 x3 x4 x5 x6 = D
  show Ideal.div ((Ideal.ofBits .f32 0x00000000#32 + ∑ k : Fin 1024, X (ix2 p k) * (D (ix2 p k) * x6 (ix2 3 k))) * (negHalf * Ideal.div (rinv (row X p)) (msq (row X p)))) wide = _
  rw [Ideal.ofBits_zero_f32, zero_add]
  rfl

theorem v68_at (p : Fin 2048) (j : Fin 1024) : (val_main_v68 x0 x2 x3 x4 x5 x6 (ix2 p j) : EReal)
    = rbwd (row (val_main_v16 (F := Ideal) x2 x3 x6) p) (row x6 3) (row (val_main_v49 x0 x2 x3 x4 x5 x6) p) j := by
  simp only [val_main_v68_apply, val_main_v67_apply, val_main_v66_apply, val_main_v65_apply, val_main_v64_apply, val_main_v63_apply, val_main_v59_apply, val_main_v58_apply,
    val_main_v54_apply, val_main_v53_apply]
  have e : ∀ z, idx_main_v63 (idx_main_v64 (ix2 p j)) z = ix2 p (0 : Fin 1) := fun z => funext fun a => by match a with | ⟨0, _⟩ => rfl | ⟨1, _⟩ => exact (Subsingleton.elim (α := Fin 1) _ _)
  have e' : idx_main_v58 (ix2 p j) = ix2 p (0 : Fin 1) := funext fun a => by match a with | ⟨0, _⟩ => rfl | ⟨1, _⟩ => rfl
  simp only [e, e', gain3, v25_at, v62_at, Fin.sum_univ_one]
  unfold rbwd
  generalize wbwd _ _ _ = W
  have z : ∀ i, (val_main_cst_14 (F := Ideal) i : EReal) + W = W := fun _ => (congrArg (· + W) Ideal.ofBits_zero_f32).trans (zero_add _)
  simp only [z]
  rfl

theorem v82_at (p : Fin 2048) (z : Fin 1) : (val_main_v82 x0 x1 x2 x3 x4 x5 x6 (ix2 p z) : EReal)
    = wbwd (row x3 p) (row x6 2) (row (val_main_v69 x0 x1 x2 x3 x4 x5 x6) p) := by
  simp only [val_main_v82_apply, val_main_v81_apply, val_main_v80_apply, val_main_v77_apply, val_main_v76_apply, val_main_v75_apply, val_main_v74_apply,
    val_main_v73_apply, val_main_v11_apply, val_main_v10_apply, val_main_v9_apply]
  have e : ∀ k, idx_main_v76 (idx_main_v77 (ix2 p z)) k = ix2 p k := fun k => funext fun a => by
    match a with
    | ⟨0, _⟩ => exact Fin.ext (by show p.val * 1 + z.val = p.val; omega)
    | ⟨1, _⟩ => rfl
  simp only [e, gain2, v7_at, v8_at]
  generalize val_main_v69 x0 x1 x2 x3 x4 x5 x6 = D
  show Ideal.div ((Ideal.ofBits .f32 0x00000000#32 + ∑ k : Fin 1024, x3 (ix2 p k) * (D (ix2 p k) * x6 (ix2 2 k))) * (negHalf * Ideal.div (rinv (row x3 p)) (msq (row x3 p)))) wide = _
  rw [Ideal.ofBits_zero_f32, zero_add]
  rfl

theorem v88_at (p : Fin 2048) (j : Fin 1024) : (val_main_v88 x0 x1 x2 x3 x4 x5 x6 (ix2 p j) : EReal)
    = rbwd (row x3 p) (row x6 2) (row (val_main_v69 x0 x1 x2 x3 x4 x5 x6) p) j := by
  simp only [val_main_v88_apply, val_main_v87_apply, val_main_v86_apply, val_main_v85_apply, val_main_v84_apply, val_main_v83_apply, val_main_v79_apply, val_main_v78_apply,
    val_main_v74_apply, val_main_v73_apply]
  have e : ∀ z, idx_main_v83 (idx_main_v84 (ix2 p j)) z = ix2 p (0 : Fin 1) := fun z => funext fun a => by match a with | ⟨0, _⟩ => rfl | ⟨1, _⟩ => exact (Subsingleton.elim (α := Fin 1) _ _)
  have e' : idx_main_v78 (ix2 p j) = ix2 p (0 : Fin 1) := funext fun a => by match a with | ⟨0, _⟩ => rfl | ⟨1, _⟩ => rfl
  simp only [e, e', gain2, v8_at, v82_at, Fin.sum_univ_one]
  unfold rbwd
  generalize wbwd _ _ _ = W
  have z : ∀ i, (val_main_cst_18 (F := Ideal) i : EReal) + W = W := fun _ => (congrArg (· + W) Ideal.ofBits_zero_f32).trans (zero_add _)
  simp only [z]
  rfl

theorem v94_at0 (j : Fin 1024) : (val_main_v94 x0 x1 x2 x3 x4 x5 x6 (ix2 0 j) : EReal)
    = ∑ p : Fin 2048, val_main_v69 x0 x1 x2 x3 x4 x5 x6 (ix2 p j) * (x3 (ix2 p j) * rinv (row x3 p)) := by
  unfold val_main_v94
  refine (show _ = val_main_v72 x0 x1 x2 x3 x4 x5 x6 (ix2 0 j) from rfl).trans ?_
  simp only [val_main_v72_apply, val_main_v71_apply, val_main_v70_apply]
  have e : ∀ k, idx_main_v71 (idx_main_v72 (ix2 (0 : Fin 1) j)) k = ix2 k j := fun k => funext fun a => by
    match a with
    | ⟨0, _⟩ => rfl
    | ⟨1, _⟩ => exact Fin.ext (by simp [idx_main_v71, idx_main_v72])
  simp only [e, v13_at]
  refine (congrArg₂ (· + ·) Ideal.ofBits_zero_f32 (Finset.sum_congr rfl fun p _ => ?_)).trans (zero_add _)
  exact mul_comm (G := EReal) _ _

theorem v94_at1 (j : Fin 1024) : (val_main_v94 x0 x1 x2 x3 x4 x5 x6 (ix2 1 j) : EReal)
    = ∑ p : Fin 2048, val_main_v49 x0 x2 x3 x4 x5 x6 (ix2 p j)
        * (val_main_v16 (F := Ideal) x2 x3 x6 (ix2 p j) * rinv (row (val_main_v16 (F := Ideal) x2 x3 x6) p)) := by
  unfold val_main_v94
  refine (show _ = val_main_v52 x0 x2 x3 x4 x5 x6 (ix2 0 j) from rfl).trans ?_
  simp only [val_main_v52_apply, val_main_v51_apply, val_main_v50_apply]
  have e : ∀ k, idx_main_v51 (idx_main_v52 (ix2 (0 : Fin 1) j)) k = ix2 k j := fun k => funext fun a => by
    match a with
    | ⟨0, _⟩ => rfl
    | ⟨1, _⟩ => exact Fin.ext (by simp [idx_main_v51, idx_main_v52])
  simp only [e, v30_at]
  refine (congrArg₂ (· + ·) Ideal.ofBits_zero_f32 (Finset.sum_congr rfl fun p _ => ?_)).trans (zero_add _)
  exact mul_comm (G := EReal) _ _

/-! ## Over the reals -/

section Real

variable {x0 x1 x2 x3 x4 x5 x6} (h0 : Reals fun i => (x0 i : EReal)) (h1 : Reals fun i => (x1 i : EReal)) (h2 : Reals fun i => (x2 i : EReal))
  (h3 : Reals fun i => (x3 i : EReal)) (h4 : Reals fun i => (x4 i : EReal)) (h5 : Reals fun i => (x5 i : EReal)) (h6 : Reals fun i => (x6 i : EReal))

include h2 h3 h6 in
theorem stream_reals (p : Fin 2048) : Reals (row (val_main_v16 (F := Ideal) x2 x3 x6) p) := by
  have e : row (val_main_v16 (F := Ideal) x2 x3 x6) p = fun j => row x2 p j + norm (row x3 p) (row x6 2) j := funext fun j => v16_at x2 x3 x6 p j
  rw [e]
  exact (h2.comp fun j => ix2 p j).add (norm_reals (h3.comp fun j => ix2 p j) (h6.comp fun j => ix2 2 j))

include h2 h3 h4 h6 in
theorem pre_reals (p : Fin 2048) : Reals (row (val_main_v34 x2 x3 x4 x6) p) := by
  have e : row (val_main_v34 x2 x3 x4 x6) p = fun k => ∑ j, norm (row (val_main_v16 (F := Ideal) x2 x3 x6) p) (row x6 3) j * mat x4 j k :=
    funext fun k => v34_at x2 x3 x4 x6 p k
  rw [e]
  exact Reals.sum fun k => (norm_reals (stream_reals h2 h3 h6 p) (h6.comp fun j => ix2 3 j)).mul (h4.comp fun j => ix2 j k)

theorem two_mul_max_real {a : EReal} (h : ∃ r : ℝ, a = r) : ∃ r : ℝ, two * max a 0 = r := by
  obtain ⟨r, rfl⟩ := h
  have e : two = ((2 : ℝ) : EReal) := by
    simp [two, Ideal.ofBits, Ideal.ieee]
    rw [← EReal.coe_mul]
    norm_num
  exact ⟨2 * max r 0, by rw [e, EReal.coe_mul, ← EReal.coe_zero, (EReal.coe_strictMono.monotone).map_max]⟩

theorem daRow_reals {df : Fin 1024 → EReal} {a : Fin 4096 → EReal} {w2 : Fin 4096 → Fin 1024 → EReal} (hd : Reals df) (ha : Reals a)
    (hw : ∀ k, Reals (w2 k)) : Reals (daRow df a w2) :=
  Reals.mul (Reals.of fun k => two_mul_max_real (ha.at k)) (Reals.sum fun k => hd.mul (hw k))

theorem dhRow_reals {df : Fin 1024 → EReal} {a : Fin 4096 → EReal} {w1 : Fin 1024 → Fin 4096 → EReal} {w2 : Fin 4096 → Fin 1024 → EReal} (hd : Reals df)
    (ha : Reals a) (hv : ∀ j, Reals (w1 j)) (hw : ∀ k, Reals (w2 k)) : Reals (dhRow df a w1 w2) :=
  Reals.sum fun j => (daRow_reals hd ha hw).mul (hv j)

include h0 h2 h3 h4 h5 h6 in
theorem dh_reals (p : Fin 2048) : Reals (dhRow (row x0 p) (row (val_main_v34 x2 x3 x4 x6) p) (mat x4) (mat x5)) :=
  dhRow_reals (h0.comp fun j => ix2 p j) (pre_reals h2 h3 h4 h6 p) (fun j => h4.comp fun k => ix2 j k) (fun k => h5.comp fun j => ix2 k j)

theorem dh_row : row (val_main_v49 x0 x2 x3 x4 x5 x6) = fun p => dhRow (row x0 p) (row (val_main_v34 x2 x3 x4 x6) p) (mat x4) (mat x5) :=
  funext fun p => funext fun j => v49_at x0 x2 x3 x4 x5 x6 p j

include h0 h2 h3 h4 h5 h6 in
theorem v69_at (p : Fin 2048) (j : Fin 1024) : (val_main_v69 x0 x1 x2 x3 x4 x5 x6 (ix2 p j) : EReal)
    = dxRow (row x0 p) (row (val_main_v34 x2 x3 x4 x6) p) (mat x4) (mat x5) (row (val_main_v16 (F := Ideal) x2 x3 x6) p) (row x6 3) (row x1 p) j := by
  rw [val_main_v69_apply, v68_at, dh_row]
  exact congrArg₂ (· + · : EReal → EReal → EReal) rfl
    (kbwd_eq_rbwd (stream_reals h2 h3 h6 p) (h6.comp fun j => ix2 3 j) (dh_reals h0 h2 h3 h4 h5 h6 p) j).symm

include h0 h1 h2 h3 h4 h5 h6 in
theorem dx_reals (p : Fin 2048) : Reals (row (val_main_v69 x0 x1 x2 x3 x4 x5 x6) p) := by
  have e : row (val_main_v69 x0 x1 x2 x3 x4 x5 x6) p = fun j => row x1 p j + kbwd (row (val_main_v16 (F := Ideal) x2 x3 x6) p) (row x6 3)
      (dhRow (row x0 p) (row (val_main_v34 x2 x3 x4 x6) p) (mat x4) (mat x5)) j := funext fun j => v69_at h0 h2 h3 h4 h5 h6 p j
  rw [e]
  exact (h1.comp fun j => ix2 p j).add (kbwd_reals (stream_reals h2 h3 h6 p) (h6.comp fun j => ix2 3 j) (dh_reals h0 h2 h3 h4 h5 h6 p))

include h0 h1 h2 h3 h4 h5 h6 in
theorem v88_kbwd (p : Fin 2048) (j : Fin 1024) : (val_main_v88 x0 x1 x2 x3 x4 x5 x6 (ix2 p j) : EReal)
    = kbwd (row x3 p) (row x6 2) (row (val_main_v69 x0 x1 x2 x3 x4 x5 x6) p) j := by
  rw [v88_at]
  exact (kbwd_eq_rbwd (h3.comp fun j => ix2 p j) (h6.comp fun j => ix2 2 j) (dx_reals h0 h1 h2 h3 h4 h5 h6 p) j).symm

end Real

/-! ## The five results -/

section Results

variable {x0 x1 x2 x3 x4 x5 x6} (h0 : Reals fun i => (x0 i : EReal)) (h1 : Reals fun i => (x1 i : EReal)) (h2 : Reals fun i => (x2 i : EReal))
  (h3 : Reals fun i => (x3 i : EReal)) (h4 : Reals fun i => (x4 i : EReal)) (h5 : Reals fun i => (x5 i : EReal)) (h6 : Reals fun i => (x6 i : EReal))

theorem da_eq : da x0 (val_main_v34 x2 x3 x4 x6) x5 = val_main_v91 (F := Ideal) x0 x2 x3 x4 x5 x6 := by
  funext i
  obtain ⟨p, k, rfl⟩ := Cert.Common.exists_ix2 (M := 2048) (N := 4096) i
  rw [val_main_v91_apply]
  exact (v48_at x0 x2 x3 x4 x5 x6 p k).symm

theorem s2_eq : s2 (val_main_v34 x2 x3 x4 x6) = val_main_v92 (F := Ideal) x2 x3 x4 x6 := by
  funext i
  obtain ⟨p, k, rfl⟩ := Cert.Common.exists_ix2 (M := 2048) (N := 4096) i
  rw [val_main_v92_apply]
  exact (v90_at x2 x3 x4 x6 p k).symm

include h0 h2 h3 h4 h5 h6 in
theorem dx_eq : dx x0 (val_main_v34 x2 x3 x4 x6) x4 x5 (val_main_v16 (F := Ideal) x2 x3 x6) x1 x6 = val_main_v69 x0 x1 x2 x3 x4 x5 x6 := by
  funext i
  obtain ⟨p, j, rfl⟩ := Cert.Common.exists_ix2 (M := 2048) (N := 1024) i
  exact (v69_at h0 h2 h3 h4 h5 h6 p j).symm

include h0 h1 h2 h3 h4 h5 h6 in
theorem dout_eq : dout x0 (val_main_v34 x2 x3 x4 x6) x4 x5 (val_main_v16 (F := Ideal) x2 x3 x6) x1 x3 x6 = val_main_v93 (F := Ideal) x0 x1 x2 x3 x4 x5 x6 := by
  funext i
  obtain ⟨p, j, rfl⟩ := Cert.Common.exists_ix2 (M := 2048) (N := 1024) i
  rw [val_main_v93_apply]
  refine Eq.trans ?_ (v88_kbwd h0 h1 h2 h3 h4 h5 h6 p j).symm
  unfold dout
  rw [dx_eq h0 h2 h3 h4 h5 h6]

include h0 h2 h3 h4 h5 h6 in
theorem dvec_eq : dvec x0 (val_main_v34 x2 x3 x4 x6) x4 x5 (val_main_v16 (F := Ideal) x2 x3 x6) x1 x3 x6 = val_main_v94 (F := Ideal) x0 x1 x2 x3 x4 x5 x6 := by
  funext i
  obtain ⟨r, j, rfl⟩ := Cert.Common.exists_ix2 (M := 2) (N := 1024) i
  unfold dvec
  rw [dx_eq h0 h2 h3 h4 h5 h6]
  match r with
  | 0 => exact (v94_at0 x0 x1 x2 x3 x4 x5 x6 j).symm
  | 1 =>
    refine Eq.trans (Finset.sum_congr rfl fun p _ => ?_) (v94_at1 x0 x1 x2 x3 x4 x5 x6 j).symm
    exact congrArg₂ (· * · : EReal → EReal → EReal) (v49_at x0 x2 x3 x4 x5 x6 p j).symm rfl

end Results

end Cert.Reference4Ideal.Rows
-- ==== Proof.FfnBwd.lean ====
/- ffn_bwd: the gradient of the feed-forward block — squared ReLU, two products, two RMS normalisations. -/
module

public import proofs.«01_k».proof.Defs
public import proofs.«01_k».proof.Proof.Common
public import proofs.«01_k».proof.Proof.FfnRows
public import proofs.«01_k».proof.Proof.RealArgs
public import proofs.«01_k».proof.Proof.FfnRef
public import proofs.«01_k».proof.Pre_finite_arguments
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Grad

open Cert.Kernel4Ideal Cert.Kernel4Ideal.Gen Cert.Common Cert.Rms Cert.RmsOps

variable (m : (ℓ : Loc nD τ sig) → Buf (Elt Ideal) ℓ) (ρ : Dev nD → PrngReg)

/-! ## The stored blocks -/

theorem block8_A (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32) (y : S256x4096.Idx) :
    out0_A_8 (F := Ideal) c i a1 h1 a2 h2 a3 h3 a4 h4 a5 h5 a6 h6 a7 h7 a8 h8 a9 h9 a10 h10 a11 h11 a12 h12 a13 h13 c0 x0 x1 x2 x3 x4 x5 x6 x7 y = daRow (row x0 (y 0)) (row x1 (y 0)) (mat x3) (y 1) := by
  frame_out
  canon_tiles x h
  all_goals
    obtain ⟨p, q, rfl⟩ := exists_ix2 (M := 256) (N := 1024) x
    obtain ⟨p', k, rfl⟩ := exists_ix2 (M := 256) (N := 4096) y
    obtain rfl : p' = p := Fin.ext h0
  · rw [pay17_eq]; refine chunk_da (off := 3072) ?_ ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay13_eq]; refine chunk_da (off := 2048) ?_ ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay10_eq]; refine chunk_da (off := 1024) ?_ ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · refine chunk_da (off := 0) ?_ ?_ _ _ _ (h1.trans (Nat.zero_add _).symm)
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)

theorem block9_A (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32) (y : S256x4096.Idx) :
    out0_A_9 (F := Ideal) c i a1 h1 a2 h2 a3 h3 a4 h4 a5 h5 a6 h6 a7 h7 a8 h8 a9 h9 a10 h10 a11 h11 a12 h12 a13 h13 c0 x0 x1 x2 x3 x4 x5 x6 x7 y = s2Row (row x1 (y 0)) (y 1) := by
  frame_out
  canon_tiles x h
  all_goals
    obtain ⟨p, q, rfl⟩ := exists_ix2 (M := 256) (N := 1024) x
    obtain ⟨p', k, rfl⟩ := exists_ix2 (M := 256) (N := 4096) y
    obtain rfl : p' = p := Fin.ext h0
  · rw [pay16_eq]; refine chunk_s2 (off := 3072) ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay12_eq]; refine chunk_s2 (off := 2048) ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay8_eq]; refine chunk_s2 (off := 1024) ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · refine chunk_s2 (off := 0) ?_ _ _ _ (h1.trans (Nat.zero_add _).symm)
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)

theorem block10_A (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32) (p : Fin 256) (j : Fin 1024) :
    out0_A_10 (F := Ideal) c i a1 h1 a2 h2 a3 h3 a4 h4 a5 h5 a6 h6 a7 h7 a8 h8 a9 h9 a10 h10 a11 h11 a12 h12 a13 h13 c0 x0 x1 x2 x3 x4 x5 x6 x7 (ValueIdx.ix2 p j) = dxRow (row x0 p) (row x1 p) (mat x2) (mat x3) (row x4 p) (row x7 3) (row x5 p) j := by
  frame_out
  show k0_pay24 (F := Ideal) _ _ (ValueIdx.ix2 p j) = _
  rw [pay24_apply, pay21_apply, dh_row (x1 := x1) (x2 := x2) (x3 := x3)]
  · refine congrArg₂ (· + · : EReal → EReal → EReal) rfl (congrArg (fun g => kbwd (row x4 p) g _ j) ?_)
    exact (funext fun j => View.ld_unit_apply_of _ _ _ _ _ _ fun a => by
    match a with
    | 0 => rfl
    | 1 => exact (Nat.zero_add _).symm)
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem block11_A (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32) (p : Fin 256) (j : Fin 1024) :
    out0_A_11 (F := Ideal) c i a1 h1 a2 h2 a3 h3 a4 h4 a5 h5 a6 h6 a7 h7 a8 h8 a9 h9 a10 h10 a11 h11 a12 h12 a13 h13 c0 x0 x1 x2 x3 x4 x5 x6 x7 (ValueIdx.ix2 p j) = kbwd (row x6 p) (row x7 2)
      (dxRow (row x0 p) (row x1 p) (mat x2) (mat x3) (row x4 p) (row x7 3) (row x5 p)) j := by
  frame_out
  rw [pay26_apply]
  refine congrArg₂ (fun g d => kbwd (row x6 p) g d j) (funext fun j => View.ld_unit_apply_of _ _ _ _ _ _ fun a => by
    match a with
    | 0 => rfl
    | 1 => exact (Nat.zero_add _).symm) (funext fun j => ?_)
  show k0_pay24 (F := Ideal) _ _ (ValueIdx.ix2 p j) = _
  rw [pay24_apply, pay21_apply, dh_row (x1 := x1) (x2 := x2) (x3 := x3)]
  · refine congrArg₂ (· + · : EReal → EReal → EReal) rfl (congrArg (fun g => kbwd (row x4 p) g _ j) ?_)
    exact (funext fun j => View.ld_unit_apply_of _ _ _ _ _ _ fun a => by
    match a with
    | 0 => rfl
    | 1 => exact (Nat.zero_add _).symm)
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem block12_A_0 (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32) (j : Fin 1024) :
    out0_A_12 (F := Ideal) c i a1 h1 a2 h2 a3 h3 a4 h4 a5 h5 a6 h6 a7 h7 a8 h8 a9 h9 a10 h10 a11 h11 a12 h12 a13 h13 c0 x0 x1 x2 x3 x4 x5 x6 x7 (ValueIdx.ix2 0 j) = (0 : EReal) + ∑ p : Fin 256,
      dxRow (row x0 p) (row x1 p) (mat x2) (mat x3) (row x4 p) (row x7 3) (row x5 p) j * (x6 (ValueIdx.ix2 p j) * rinv (row x6 p)) := by
  frame_out
  have e : (ValueIdx.ix2 (0 : Fin 2) j : S2x1024.Idx) = (Rect.unit ![0, 0] ![1, 1024] inb_S2x1024_S1x1024_0_0).emb (ValueIdx.ix2 0 j) := by
    refine funext fun a => Fin.ext ?_
    match a with
    | 0 => rfl
    | 1 => show j.val = 0 + 1 * j.val; omega
  refine (View.canon_cons_of_not_mem _ _ fun h => by
    have h' := (Rect.mem_set_unit (inb := inb_S2x1024_S1x1024_1_0)).mp h 0
    exact absurd (show 1 ≤ 0 from h'.1) (by decide)).trans ?_
  refine (congrArg _ e).trans ((View.canon_cons_emb _ _ _ _).trans ?_)
  rw [pay27_apply]
  refine congrArg₂ (· + · : EReal → EReal → EReal) ?_ (Finset.sum_congr rfl fun p _ => congrArg₂ (· * · : EReal → EReal → EReal) ?_ rfl)
  · rw [View.readCov_eq_canon']
    exact (congrFun (View.canon_cons_unit_lit _ _ _ (by decide)) _).trans (pay2_apply _)
  show k0_pay24 (F := Ideal) _ _ (ValueIdx.ix2 p j) = _
  rw [pay24_apply, pay21_apply, dh_row (x1 := x1) (x2 := x2) (x3 := x3)]
  · refine congrArg₂ (· + · : EReal → EReal → EReal) rfl (congrArg (fun g => kbwd (row x4 p) g _ j) ?_)
    exact (funext fun j => View.ld_unit_apply_of _ _ _ _ _ _ fun a => by
    match a with
    | 0 => rfl
    | 1 => exact (Nat.zero_add _).symm)
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem block12_A_1 (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32) (j : Fin 1024) :
    out0_A_12 (F := Ideal) c i a1 h1 a2 h2 a3 h3 a4 h4 a5 h5 a6 h6 a7 h7 a8 h8 a9 h9 a10 h10 a11 h11 a12 h12 a13 h13 c0 x0 x1 x2 x3 x4 x5 x6 x7 (ValueIdx.ix2 1 j) = (0 : EReal) + ∑ p : Fin 256,
      dhRow (row x0 p) (row x1 p) (mat x2) (mat x3) j * (x4 (ValueIdx.ix2 p j) * rinv (row x4 p)) := by
  frame_out
  have e : (ValueIdx.ix2 (1 : Fin 2) j : S2x1024.Idx) = (Rect.unit ![1, 0] ![1, 1024] inb_S2x1024_S1x1024_1_0).emb (ValueIdx.ix2 0 j) := by
    refine funext fun a => Fin.ext ?_
    match a with
    | 0 => rfl
    | 1 => show j.val = 0 + 1 * j.val; omega
  refine (congrArg _ e).trans ((View.canon_cons_emb _ _ _ _).trans ?_)
  rw [pay1_apply]
  refine congrArg₂ (· + · : EReal → EReal → EReal) ?_ (Finset.sum_congr rfl fun p _ => congrArg₂ (· * · : EReal → EReal → EReal) ?_ rfl)
  · rw [View.readCov_eq_canon']
    refine (View.canon_cons_of_not_mem _ _ fun h => by
      have h' := (Rect.mem_set_unit (inb := inb_S2x1024_S1x1024_0_0)).mp h 0
      exact absurd (show 1 < 0 + 1 from h'.2) (by decide)).trans ?_
    exact (congrFun (View.canon_cons_unit_lit _ _ _ (by decide)) _).trans (pay2_apply _)
  rw [dh_apply (x1 := x1) (x2 := x2) (x3 := x3)]
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem block8_B (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32)
    (xa : Vec Ideal S2x1024 .f32) (y : S256x4096.Idx) :
    out0_B_8 (F := Ideal) c i a1 h1 a2 h2 a3 h3 a4 h4 a5 h5 a6 h6 a7 h7 a8 h8 a9 h9 a10 h10 a11 h11 a12 h12 a13 h13 c0 x0 x1 x2 x3 x4 x5 x6 x7 xa y = daRow (row x0 (y 0)) (row x1 (y 0)) (mat x3) (y 1) := by
  frame_out
  canon_tiles x h
  all_goals
    obtain ⟨p, q, rfl⟩ := exists_ix2 (M := 256) (N := 1024) x
    obtain ⟨p', k, rfl⟩ := exists_ix2 (M := 256) (N := 4096) y
    obtain rfl : p' = p := Fin.ext h0
  · rw [pay17_eq]; refine chunk_da (off := 3072) ?_ ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay13_eq]; refine chunk_da (off := 2048) ?_ ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay10_eq]; refine chunk_da (off := 1024) ?_ ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · refine chunk_da (off := 0) ?_ ?_ _ _ _ (h1.trans (Nat.zero_add _).symm)
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)

theorem block9_B (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32)
    (xa : Vec Ideal S2x1024 .f32) (y : S256x4096.Idx) :
    out0_B_9 (F := Ideal) c i a1 h1 a2 h2 a3 h3 a4 h4 a5 h5 a6 h6 a7 h7 a8 h8 a9 h9 a10 h10 a11 h11 a12 h12 a13 h13 c0 x0 x1 x2 x3 x4 x5 x6 x7 xa y = s2Row (row x1 (y 0)) (y 1) := by
  frame_out
  canon_tiles x h
  all_goals
    obtain ⟨p, q, rfl⟩ := exists_ix2 (M := 256) (N := 1024) x
    obtain ⟨p', k, rfl⟩ := exists_ix2 (M := 256) (N := 4096) y
    obtain rfl : p' = p := Fin.ext h0
  · rw [pay16_eq]; refine chunk_s2 (off := 3072) ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay12_eq]; refine chunk_s2 (off := 2048) ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · rw [pay8_eq]; refine chunk_s2 (off := 1024) ?_ _ _ _ h1
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)
  · refine chunk_s2 (off := 0) ?_ _ _ _ (h1.trans (Nat.zero_add _).symm)
    all_goals first
      | (intro p q k hk; refine View.ld_unit_apply_of _ _ _ _ _ _ fun a => ?_
         match a with
         | 0 => exact (Nat.zero_add _).symm
         | 1 => exact hk)
      | (intro p q k hk; refine View.ld_unit_apply_of _ _ _ _ _ _ fun a => ?_
         match a with
         | 0 => exact hk
         | 1 => exact (Nat.zero_add _).symm)

theorem block10_B (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32)
    (xa : Vec Ideal S2x1024 .f32) (p : Fin 256) (j : Fin 1024) :
    out0_B_10 (F := Ideal) c i a1 h1 a2 h2 a3 h3 a4 h4 a5 h5 a6 h6 a7 h7 a8 h8 a9 h9 a10 h10 a11 h11 a12 h12 a13 h13 c0 x0 x1 x2 x3 x4 x5 x6 x7 xa (ValueIdx.ix2 p j) = dxRow (row x0 p) (row x1 p) (mat x2) (mat x3) (row x4 p) (row x7 3) (row x5 p) j := by
  frame_out
  show k0_pay24 (F := Ideal) _ _ (ValueIdx.ix2 p j) = _
  rw [pay24_apply, pay21_apply, dh_row (x1 := x1) (x2 := x2) (x3 := x3)]
  · refine congrArg₂ (· + · : EReal → EReal → EReal) rfl (congrArg (fun g => kbwd (row x4 p) g _ j) ?_)
    exact (funext fun j => View.ld_unit_apply_of _ _ _ _ _ _ fun a => by
    match a with
    | 0 => rfl
    | 1 => exact (Nat.zero_add _).symm)
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem block11_B (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32)
    (xa : Vec Ideal S2x1024 .f32) (p : Fin 256) (j : Fin 1024) :
    out0_B_11 (F := Ideal) c i a1 h1 a2 h2 a3 h3 a4 h4 a5 h5 a6 h6 a7 h7 a8 h8 a9 h9 a10 h10 a11 h11 a12 h12 a13 h13 c0 x0 x1 x2 x3 x4 x5 x6 x7 xa (ValueIdx.ix2 p j) = kbwd (row x6 p) (row x7 2)
      (dxRow (row x0 p) (row x1 p) (mat x2) (mat x3) (row x4 p) (row x7 3) (row x5 p)) j := by
  frame_out
  rw [pay26_apply]
  refine congrArg₂ (fun g d => kbwd (row x6 p) g d j) (funext fun j => View.ld_unit_apply_of _ _ _ _ _ _ fun a => by
    match a with
    | 0 => rfl
    | 1 => exact (Nat.zero_add _).symm) (funext fun j => ?_)
  show k0_pay24 (F := Ideal) _ _ (ValueIdx.ix2 p j) = _
  rw [pay24_apply, pay21_apply, dh_row (x1 := x1) (x2 := x2) (x3 := x3)]
  · refine congrArg₂ (· + · : EReal → EReal → EReal) rfl (congrArg (fun g => kbwd (row x4 p) g _ j) ?_)
    exact (funext fun j => View.ld_unit_apply_of _ _ _ _ _ _ fun a => by
    match a with
    | 0 => rfl
    | 1 => exact (Nat.zero_add _).symm)
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem block12_B_0 (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32)
    (xa : Vec Ideal S2x1024 .f32) (j : Fin 1024) :
    out0_B_12 (F := Ideal) c i a1 h1 a2 h2 a3 h3 a4 h4 a5 h5 a6 h6 a7 h7 a8 h8 a9 h9 a10 h10 a11 h11 a12 h12 a13 h13 c0 x0 x1 x2 x3 x4 x5 x6 x7 xa (ValueIdx.ix2 0 j) = xa (ValueIdx.ix2 0 j) + ∑ p : Fin 256,
      dxRow (row x0 p) (row x1 p) (mat x2) (mat x3) (row x4 p) (row x7 3) (row x5 p) j * (x6 (ValueIdx.ix2 p j) * rinv (row x6 p)) := by
  frame_out
  canon_tiles x h
  · exact absurd h0 (by show ¬ (0 = 1 + (x 0).val); omega)
  obtain ⟨p0, q, rfl⟩ := exists_ix2 (M := 1) (N := 1024) x
  obtain rfl : j = q := Fin.ext h1
  obtain rfl : p0 = 0 := Subsingleton.elim _ _
  rw [pay27_apply]
  refine congrArg₂ (· + · : EReal → EReal → EReal) ?_ (Finset.sum_congr rfl fun p _ => congrArg₂ (· * · : EReal → EReal → EReal) ?_ rfl)
  · exact View.ld_unit_apply_of _ _ _ _ _ _ fun a => by
      match a with
      | 0 => rfl
      | 1 => exact (Nat.zero_add _).symm
  show k0_pay24 (F := Ideal) _ _ (ValueIdx.ix2 p j) = _
  rw [pay24_apply, pay21_apply, dh_row (x1 := x1) (x2 := x2) (x3 := x3)]
  · refine congrArg₂ (· + · : EReal → EReal → EReal) rfl (congrArg (fun g => kbwd (row x4 p) g _ j) ?_)
    exact (funext fun j => View.ld_unit_apply_of _ _ _ _ _ _ fun a => by
    match a with
    | 0 => rfl
    | 1 => exact (Nat.zero_add _).symm)
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem block12_B_1 (c : Dev nD) (i : grid0.Coords) a1 h1 a2 h2 a3 h3 a4 h4 a5 h5 a6 h6 a7 h7 a8 h8 a9 h9 a10 h10 a11 h11 a12 h12 a13 h13 c0
    (x0 : Vec Ideal S256x1024 .bf16) (x1 : Vec Ideal S256x4096 .f32) (x2 : Vec Ideal S1024x4096 .bf16) (x3 : Vec Ideal S4096x1024 .bf16)
    (x4 x5 x6 : Vec Ideal S256x1024 .f32) (x7 : Vec Ideal S4x1024 .f32)
    (xa : Vec Ideal S2x1024 .f32) (j : Fin 1024) :
    out0_B_12 (F := Ideal) c i a1 h1 a2 h2 a3 h3 a4 h4 a5 h5 a6 h6 a7 h7 a8 h8 a9 h9 a10 h10 a11 h11 a12 h12 a13 h13 c0 x0 x1 x2 x3 x4 x5 x6 x7 xa (ValueIdx.ix2 1 j) = xa (ValueIdx.ix2 1 j) + ∑ p : Fin 256,
      dhRow (row x0 p) (row x1 p) (mat x2) (mat x3) j * (x4 (ValueIdx.ix2 p j) * rinv (row x4 p)) := by
  frame_out
  canon_tiles x h
  rotate_left
  · exact absurd h0 (by show ¬ (1 = (x 0).val); omega)
  obtain ⟨p0, q, rfl⟩ := exists_ix2 (M := 1) (N := 1024) x
  obtain rfl : j = q := Fin.ext h1
  obtain rfl : p0 = 0 := Subsingleton.elim _ _
  rw [pay1_apply]
  refine congrArg₂ (· + · : EReal → EReal → EReal) ?_ (Finset.sum_congr rfl fun p _ => congrArg₂ (· * · : EReal → EReal → EReal) ?_ rfl)
  · exact View.ld_unit_apply_of _ _ _ _ _ _ fun a => by
      match a with
      | 0 => rfl
      | 1 => exact (Nat.zero_add _).symm
  rw [dh_apply (x1 := x1) (x2 := x2) (x3 := x3)]
  all_goals first
    | (intro p q k hk; refine View.ld_unit_apply_of _ _ _ _ _ _ fun a => ?_
       match a with
       | 0 => exact (Nat.zero_add _).symm
       | 1 => exact hk)
    | (intro p q k hk; refine View.ld_unit_apply_of _ _ _ _ _ _ fun a => ?_
       match a with
       | 0 => exact hk
       | 1 => exact (Nat.zero_add _).symm)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

theorem rows0 (c : Dev nD) (t : Fin cfg0.N) (p : Fin 256) (P : Fin 2048) (hP : P.val = t.val * 256 + p.val) :
    row (iblk m c 0 t : Vec Ideal S256x1024 .bf16) p = row (V m c main_arg0 : Vec Ideal S2048x1024 .bf16) P := by
  funext j
  show V m c main_arg0 _ = V m c main_arg0 _
  congr 1
  funext a
  apply Fin.ext
  match a with
  | ⟨0, _⟩ => show win0_0.index t 0 * 256 + 1 * p.val = P.val; rw [(index0 t).1, hP]; omega
  | ⟨1, _⟩ => show win0_0.index t 1 * 1024 + 1 * j.val = j.val; rw [(index0 t).2]; omega
theorem rows1 (c : Dev nD) (t : Fin cfg0.N) (p : Fin 256) (P : Fin 2048) (hP : P.val = t.val * 256 + p.val) :
    row (iblk m c 1 t : Vec Ideal S256x4096 .f32) p = row (V m c main_v28 : Vec Ideal S2048x4096 .f32) P := by
  funext j
  show V m c main_v28 _ = V m c main_v28 _
  congr 1
  funext a
  apply Fin.ext
  match a with
  | ⟨0, _⟩ => show win0_1.index t 0 * 256 + 1 * p.val = P.val; rw [(index1 t).1, hP]; omega
  | ⟨1, _⟩ => show win0_1.index t 1 * 4096 + 1 * j.val = j.val; rw [(index1 t).2]; omega
theorem whole2 (c : Dev nD) (t : Fin cfg0.N) : (iblk m c 2 t : Vec Ideal S1024x4096 .bf16) = V m c main_arg4 := by
  funext y
  show V m c main_arg4 _ = V m c main_arg4 _
  congr 1
  funext a
  apply Fin.ext
  match a with
  | ⟨0, _⟩ => show win0_2.index t 0 * 1024 + 1 * (y 0).val = (y 0).val; rw [(index2 t).1]; omega
  | ⟨1, _⟩ => show win0_2.index t 1 * 4096 + 1 * (y 1).val = (y 1).val; rw [(index2 t).2]; omega
theorem whole3 (c : Dev nD) (t : Fin cfg0.N) : (iblk m c 3 t : Vec Ideal S4096x1024 .bf16) = V m c main_arg5 := by
  funext y
  show V m c main_arg5 _ = V m c main_arg5 _
  congr 1
  funext a
  apply Fin.ext
  match a with
  | ⟨0, _⟩ => show win0_3.index t 0 * 4096 + 1 * (y 0).val = (y 0).val; rw [(index3 t).1]; omega
  | ⟨1, _⟩ => show win0_3.index t 1 * 1024 + 1 * (y 1).val = (y 1).val; rw [(index3 t).2]; omega
theorem rows4 (c : Dev nD) (t : Fin cfg0.N) (p : Fin 256) (P : Fin 2048) (hP : P.val = t.val * 256 + p.val) :
    row (iblk m c 4 t : Vec Ideal S256x1024 .f32) p = row (V m c main_v13 : Vec Ideal S2048x1024 .f32) P := by
  funext j
  show V m c main_v13 _ = V m c main_v13 _
  congr 1
  funext a
  apply Fin.ext
  match a with
  | ⟨0, _⟩ => show win0_4.index t 0 * 256 + 1 * p.val = P.val; rw [(index4 t).1, hP]; omega
  | ⟨1, _⟩ => show win0_4.index t 1 * 1024 + 1 * j.val = j.val; rw [(index4 t).2]; omega
theorem rows5 (c : Dev nD) (t : Fin cfg0.N) (p : Fin 256) (P : Fin 2048) (hP : P.val = t.val * 256 + p.val) :
    row (iblk m c 5 t : Vec Ideal S256x1024 .f32) p = row (V m c main_arg1 : Vec Ideal S2048x1024 .f32) P := by
  funext j
  show V m c main_arg1 _ = V m c main_arg1 _
  congr 1
  funext a
  apply Fin.ext
  match a with
  | ⟨0, _⟩ => show win0_5.index t 0 * 256 + 1 * p.val = P.val; rw [(index5 t).1, hP]; omega
  | ⟨1, _⟩ => show win0_5.index t 1 * 1024 + 1 * j.val = j.val; rw [(index5 t).2]; omega
theorem rows6 (c : Dev nD) (t : Fin cfg0.N) (p : Fin 256) (P : Fin 2048) (hP : P.val = t.val * 256 + p.val) :
    row (iblk m c 6 t : Vec Ideal S256x1024 .f32) p = row (V m c main_arg3 : Vec Ideal S2048x1024 .f32) P := by
  funext j
  show V m c main_arg3 _ = V m c main_arg3 _
  congr 1
  funext a
  apply Fin.ext
  match a with
  | ⟨0, _⟩ => show win0_6.index t 0 * 256 + 1 * p.val = P.val; rw [(index6 t).1, hP]; omega
  | ⟨1, _⟩ => show win0_6.index t 1 * 1024 + 1 * j.val = j.val; rw [(index6 t).2]; omega
theorem whole7 (c : Dev nD) (t : Fin cfg0.N) : (iblk m c 7 t : Vec Ideal S4x1024 .f32) = V m c main_arg6 := by
  funext y
  show V m c main_arg6 _ = V m c main_arg6 _
  congr 1
  funext a
  apply Fin.ext
  match a with
  | ⟨0, _⟩ => show win0_7.index t 0 * 4 + 1 * (y 0).val = (y 0).val; rw [(index7 t).1]; omega
  | ⟨1, _⟩ => show win0_7.index t 1 * 1024 + 1 * (y 1).val = (y 1).val; rw [(index7 t).2]; omega
theorem index8 : ∀ t : Fin cfg0.N, win0_8.index t 0 = t.val ∧ win0_8.index t 1 = 0 :=
  (by decide +kernel : ∀ t : Fin grid0.N, win0_8.index t 0 = t.val ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)
theorem index10 : ∀ t : Fin cfg0.N, win0_10.index t 0 = t.val ∧ win0_10.index t 1 = 0 :=
  (by decide +kernel : ∀ t : Fin grid0.N, win0_10.index t 0 = t.val ∧ win0_10.index t 1 = 0)
theorem index11 : ∀ t : Fin cfg0.N, win0_11.index t 0 = t.val ∧ win0_11.index t 1 = 0 :=
  (by decide +kernel : ∀ t : Fin grid0.N, win0_11.index t 0 = t.val ∧ win0_11.index t 1 = 0)

theorem final8 (c : Dev nD) : (dats m 0 c).arrAt 8 cfg0.N = da (V m c main_arg0) (V m c main_v28) (V m c main_arg5) := by
  refine (dats m 0 c).arrAt_eq_of_covers 8 _ (by decide +kernel) fun t hf y => ?_
  blk_simp
  rw [after0_8]
  obtain ⟨p, j, rfl⟩ := exists_ix2 (M := 256) (N := 4096) y
  generalize hE : (win0_8.blk t).view.emb (ValueIdx.ix2 p j) = E
  have hE0 : (E 0).val = t.val * 256 + p.val := by
    rw [← hE]; show win0_8.index t 0 * 256 + 1 * p.val = _; rw [(index8 t).1]; omega
  have hE1 : E 1 = j := by
    rw [← hE]; exact Fin.ext (by show win0_8.index t 1 * 4096 + 1 * j.val = _; rw [(index8 t).2]; omega)
  have key : daRow (row (iblk m c 0 t : Vec Ideal S256x1024 .bf16) p) (row (iblk m c 1 t : Vec Ideal S256x4096 .f32) p) (mat (iblk m c 3 t : Vec Ideal S4096x1024 .bf16)) j
      = da (V m c main_arg0) (V m c main_v28) (V m c main_arg5) E := by
    rw [rows0 m c t p (E 0) hE0, rows1 m c t p (E 0) hE0, whole3, ← hE1]; rfl
  by_cases h : t.val % 8 = 0
  · rw [outsAt0_A m c t h]
    dsimp only
    rw [block8_A]
    exact key
  · rw [outsAt0_B m c t h]
    dsimp only
    rw [block8_B]
    exact key

theorem final9 (c : Dev nD) : (dats m 0 c).arrAt 9 cfg0.N = s2 (V m c main_v28) := by
  refine (dats m 0 c).arrAt_eq_of_covers 9 _ (by decide +kernel) fun t hf y => ?_
  blk_simp
  rw [after0_9]
  obtain ⟨p, j, rfl⟩ := exists_ix2 (M := 256) (N := 4096) y
  generalize hE : (win0_9.blk t).view.emb (ValueIdx.ix2 p j) = E
  have hE0 : (E 0).val = t.val * 256 + p.val := by
    rw [← hE]; show win0_9.index t 0 * 256 + 1 * p.val = _; rw [(index9 t).1]; omega
  have hE1 : E 1 = j := by
    rw [← hE]; exact Fin.ext (by show win0_9.index t 1 * 4096 + 1 * j.val = _; rw [(index9 t).2]; omega)
  have key : s2Row (row (iblk m c 1 t : Vec Ideal S256x4096 .f32) p) j = s2 (V m c main_v28) E := by
    rw [rows1 m c t p (E 0) hE0, ← hE1]; rfl
  by_cases h : t.val % 8 = 0
  · rw [outsAt0_A m c t h]
    dsimp only
    rw [block9_A]
    exact key
  · rw [outsAt0_B m c t h]
    dsimp only
    rw [block9_B]
    exact key

theorem final10 (c : Dev nD) : (dats m 0 c).arrAt 10 cfg0.N = dx (V m c main_arg0) (V m c main_v28) (V m c main_arg4) (V m c main_arg5) (V m c main_v13) (V m c main_arg1) (V m c main_arg6) := by
  refine (dats m 0 c).arrAt_eq_of_covers 10 _ (by decide +kernel) fun t hf y => ?_
  blk_simp
  rw [after0_10]
  obtain ⟨p, j, rfl⟩ := exists_ix2 (M := 256) (N := 1024) y
  generalize hE : (win0_10.blk t).view.emb (ValueIdx.ix2 p j) = E
  have hE0 : (E 0).val = t.val * 256 + p.val := by
    rw [← hE]; show win0_10.index t 0 * 256 + 1 * p.val = _; rw [(index10 t).1]; omega
  have hE1 : E 1 = j := by
    rw [← hE]; exact Fin.ext (by show win0_10.index t 1 * 1024 + 1 * j.val = _; rw [(index10 t).2]; omega)
  have key : dxRow (row (iblk m c 0 t : Vec Ideal S256x1024 .bf16) p) (row (iblk m c 1 t : Vec Ideal S256x4096 .f32) p) (mat (iblk m c 2 t : Vec Ideal S1024x4096 .bf16))
      (mat (iblk m c 3 t : Vec Ideal S4096x1024 .bf16)) (row (iblk m c 4 t : Vec Ideal S256x1024 .f32) p) (row (iblk m c 7 t : Vec Ideal S4x1024 .f32) 3) (row (iblk m c 5 t : Vec Ideal S256x1024 .f32) p) j = dx (V m c main_arg0) (V m c main_v28) (V m c main_arg4) (V m c main_arg5) (V m c main_v13) (V m c main_arg1) (V m c main_arg6) E := by
    rw [rows0 m c t p (E 0) hE0, rows1 m c t p (E 0) hE0, whole2, whole3, rows4 m c t p (E 0) hE0, whole7, rows5 m c t p (E 0) hE0, ← hE1]; rfl
  by_cases h : t.val % 8 = 0
  · rw [outsAt0_A m c t h]
    dsimp only
    rw [block10_A]
    exact key
  · rw [outsAt0_B m c t h]
    dsimp only
    rw [block10_B]
    exact key

theorem final11 (c : Dev nD) : (dats m 0 c).arrAt 11 cfg0.N = dout (V m c main_arg0) (V m c main_v28) (V m c main_arg4) (V m c main_arg5) (V m c main_v13) (V m c main_arg1) (V m c main_arg3) (V m c main_arg6) := by
  refine (dats m 0 c).arrAt_eq_of_covers 11 _ (by decide +kernel) fun t hf y => ?_
  blk_simp
  rw [after0_11]
  obtain ⟨p, j, rfl⟩ := exists_ix2 (M := 256) (N := 1024) y
  generalize hE : (win0_11.blk t).view.emb (ValueIdx.ix2 p j) = E
  have hE0 : (E 0).val = t.val * 256 + p.val := by
    rw [← hE]; show win0_11.index t 0 * 256 + 1 * p.val = _; rw [(index11 t).1]; omega
  have hE1 : E 1 = j := by
    rw [← hE]; exact Fin.ext (by show win0_11.index t 1 * 1024 + 1 * j.val = _; rw [(index11 t).2]; omega)
  have key : kbwd (row (iblk m c 6 t : Vec Ideal S256x1024 .f32) p) (row (iblk m c 7 t : Vec Ideal S4x1024 .f32) 2) (dxRow (row (iblk m c 0 t : Vec Ideal S256x1024 .bf16) p) (row (iblk m c 1 t : Vec Ideal S256x4096 .f32) p) (mat (iblk m c 2 t : Vec Ideal S1024x4096 .bf16))
      (mat (iblk m c 3 t : Vec Ideal S4096x1024 .bf16)) (row (iblk m c 4 t : Vec Ideal S256x1024 .f32) p) (row (iblk m c 7 t : Vec Ideal S4x1024 .f32) 3) (row (iblk m c 5 t : Vec Ideal S256x1024 .f32) p)) j = dout (V m c main_arg0) (V m c main_v28) (V m c main_arg4) (V m c main_arg5) (V m c main_v13) (V m c main_arg1) (V m c main_arg3) (V m c main_arg6) E := by
    rw [rows0 m c t p (E 0) hE0, rows1 m c t p (E 0) hE0, whole2, whole3, rows4 m c t p (E 0) hE0, whole7, rows5 m c t p (E 0) hE0, rows6 m c t p (E 0) hE0, ← hE1]; rfl
  by_cases h : t.val % 8 = 0
  · rw [outsAt0_A m c t h]
    dsimp only
    rw [block11_A]
    exact key
  · rw [outsAt0_B m c t h]
    dsimp only
    rw [block11_B]
    exact key

/-- Row `P`'s share of the two gain gradients. -/
def share0 (c : Dev nD) (j : Fin 1024) (P : Fin 2048) : EReal :=
  dx (V m c main_arg0) (V m c main_v28) (V m c main_arg4) (V m c main_arg5) (V m c main_v13) (V m c main_arg1) (V m c main_arg6) (ValueIdx.ix2 P j) * (row (V m c main_arg3 : Vec Ideal S2048x1024 .f32) P j * rinv (row (V m c main_arg3 : Vec Ideal S2048x1024 .f32) P))
def share1 (c : Dev nD) (j : Fin 1024) (P : Fin 2048) : EReal :=
  dhRow (row (V m c main_arg0 : Vec Ideal S2048x1024 .bf16) P) (row (V m c main_v28 : Vec Ideal S2048x4096 .f32) P) (mat (V m c main_arg4 : Vec Ideal S1024x4096 .bf16))
    (mat (V m c main_arg5 : Vec Ideal S4096x1024 .bf16)) j * (row (V m c main_v13 : Vec Ideal S2048x1024 .f32) P j * rinv (row (V m c main_v13 : Vec Ideal S2048x1024 .f32) P))

theorem row_lt (t : Fin cfg0.N) (p : Fin 256) : t.val * 256 + p.val < 2048 := by
  have h : t.val < 8 := lt_of_lt_of_eq t.isLt N_0
  omega

theorem sum0 (c : Dev nD) (t : Fin cfg0.N) (j : Fin 1024) :
    (∑ p : Fin 256, dxRow (row (iblk m c 0 t : Vec Ideal S256x1024 .bf16) p) (row (iblk m c 1 t : Vec Ideal S256x4096 .f32) p) (mat (iblk m c 2 t : Vec Ideal S1024x4096 .bf16))
        (mat (iblk m c 3 t : Vec Ideal S4096x1024 .bf16)) (row (iblk m c 4 t : Vec Ideal S256x1024 .f32) p) (row (iblk m c 7 t : Vec Ideal S4x1024 .f32) 3) (row (iblk m c 5 t : Vec Ideal S256x1024 .f32) p) j
        * ((show EReal from (iblk m c 6 t : Vec Ideal S256x1024 .f32) (ValueIdx.ix2 p j)) * rinv (row (iblk m c 6 t : Vec Ideal S256x1024 .f32) p)))
      = ∑ p : Fin 256, share0 m c j ⟨t.val * 256 + p.val, row_lt t p⟩ := by
  refine Finset.sum_congr rfl fun p _ => ?_
  show _ * (row (iblk m c 6 t : Vec Ideal S256x1024 .f32) p j * _) = _
  rw [rows0 m c t p ⟨_, row_lt t p⟩ rfl, rows1 m c t p ⟨_, row_lt t p⟩ rfl, whole2, whole3, rows4 m c t p ⟨_, row_lt t p⟩ rfl, whole7,
    rows5 m c t p ⟨_, row_lt t p⟩ rfl, rows6 m c t p ⟨_, row_lt t p⟩ rfl]
  rfl

theorem sum1 (c : Dev nD) (t : Fin cfg0.N) (j : Fin 1024) :
    (∑ p : Fin 256, dhRow (row (iblk m c 0 t : Vec Ideal S256x1024 .bf16) p) (row (iblk m c 1 t : Vec Ideal S256x4096 .f32) p) (mat (iblk m c 2 t : Vec Ideal S1024x4096 .bf16))
        (mat (iblk m c 3 t : Vec Ideal S4096x1024 .bf16)) j
        * ((show EReal from (iblk m c 4 t : Vec Ideal S256x1024 .f32) (ValueIdx.ix2 p j)) * rinv (row (iblk m c 4 t : Vec Ideal S256x1024 .f32) p)))
      = ∑ p : Fin 256, share1 m c j ⟨t.val * 256 + p.val, row_lt t p⟩ := by
  refine Finset.sum_congr rfl fun p _ => ?_
  show _ * (row (iblk m c 4 t : Vec Ideal S256x1024 .f32) p j * _) = _
  rw [rows0 m c t p ⟨_, row_lt t p⟩ rfl, rows1 m c t p ⟨_, row_lt t p⟩ rfl, whole2, whole3, rows4 m c t p ⟨_, row_lt t p⟩ rfl]
  rfl

def point (c : Dev nD) (t : Fin cfg0.N) (i : S2x1024.Idx) : EReal :=
  if (i 0).val = 0 then ∑ p : Fin 256, share0 m c (i 1) ⟨t.val * 256 + p.val, row_lt t p⟩
  else ∑ p : Fin 256, share1 m c (i 1) ⟨t.val * 256 + p.val, row_lt t p⟩

theorem reset (c : Dev nD) (t : Fin cfg0.N) (h : t.val % 8 = 0) (i : S2x1024.Idx) :
    ((outsAt0 m c t.val t.isLt).2.2.2.2 i : EReal) = 0 + point m c t i := by
  rw [outsAt0_A m c t h]
  dsimp only
  obtain ⟨r, j, rfl⟩ := exists_ix2 (M := 2) (N := 1024) i
  match r with
  | 0 => rw [block12_A_0, sum0]; rfl
  | 1 => rw [block12_A_1, sum1]; rfl

theorem step (c : Dev nD) (t : Fin cfg0.N) (h : ¬t.val % 8 = 0) (i : S2x1024.Idx) :
    ((outsAt0 m c t.val t.isLt).2.2.2.2 i : EReal) = (outsAt0 m c (t.val - 1) (Nat.lt_of_le_of_lt (Nat.sub_le _ _) t.isLt)).2.2.2.2 i + point m c t i := by
  rw [outsAt0_B m c t h]
  dsimp only
  obtain ⟨r, j, rfl⟩ := exists_ix2 (M := 2) (N := 1024) i
  match r with
  | 0 => rw [block12_B_0, sum0]; rfl
  | 1 => rw [block12_B_1, sum1]; rfl

theorem final12 (c : Dev nD) : (dats m 0 c).arrAt 12 cfg0.N = dvec (V m c main_arg0) (V m c main_v28) (V m c main_arg4) (V m c main_arg5) (V m c main_v13) (V m c main_arg1) (V m c main_arg3) (V m c main_arg6) := by
  refine (dats m 0 c).arrAt_eq_of_after_last 12 t0_7 (by decide +kernel) _ fun i => ?_
  rw [after0_12]
  refine (Pipeline.eq_sum_fin_of_reset_step_apply_last (fun n h => ((outsAt0 m c n h).2.2.2.2 : S2x1024.Idx → EReal)) 8 (fun _ => (0 : EReal)) (point m c)
    (fun t h i => reset m c t h i) (fun t h i => step m c t h i) (le_of_eq N_0) t0_7 rfl i).trans ?_
  rw [zero_add]
  obtain ⟨r, j, rfl⟩ := exists_ix2 (M := 2) (N := 1024) i
  match r with
  | 0 =>
    show ∑ t : Fin cfg0.N, ∑ p : Fin 256, share0 m c j ⟨t.val * 256 + p.val, row_lt t p⟩ = ∑ P : Fin 2048, share0 m c j P
    exact Fin.sum_mul_add_fin 8 256 (share0 m c j)
  | 1 =>
    show ∑ t : Fin cfg0.N, ∑ p : Fin 256, share1 m c j ⟨t.val * 256 + p.val, row_lt t p⟩ = ∑ P : Fin 2048, share1 m c j P
    exact Fin.sum_mul_add_fin 8 256 (share1 m c j)

/-! ## The arguments' precondition -/

section Pre

open Cert.Pre_finite_arguments

theorem args_real [Cert.Pre_finite_arguments.Facts] (a0 : Vec Ideal S2048x1024 .bf16) (a1 a2 a3 : Vec Ideal S2048x1024 .f32) (a4 : Vec Ideal S1024x4096 .bf16)
    (a5 : Vec Ideal S4096x1024 .bf16) (a6 : Vec Ideal S4x1024 .f32) (h : Cert.Pre_finite_arguments.fn (F := Ideal) a0 a1 a2 a3 a4 a5 a6 = fun _ => 1#1) :
    (Reals fun i => (a0 i : EReal)) ∧ (Reals fun i => (a1 i : EReal)) ∧ (Reals fun i => (a2 i : EReal)) ∧ (Reals fun i => (a3 i : EReal))
      ∧ (Reals fun i => (a4 i : EReal)) ∧ (Reals fun i => (a5 i : EReal)) ∧ (Reals fun i => (a6 i : EReal)) := by
  have h := congrFun h (fun a => a.elim0)
  unfold Cert.Pre_finite_arguments.fn Cert.Pre_finite_arguments.fn_part1 at h
  dsimp only at h
  obtain ⟨h, e6⟩ := IntOp.andi_eq_one.mp h
  obtain ⟨h, e5⟩ := IntOp.andi_eq_one.mp h
  obtain ⟨h, e4⟩ := IntOp.andi_eq_one.mp h
  obtain ⟨h, e3⟩ := IntOp.andi_eq_one.mp h
  obtain ⟨h, e2⟩ := IntOp.andi_eq_one.mp h
  obtain ⟨e0, e1⟩ := IntOp.andi_eq_one.mp h
  haveI : Subsingleton (⟨0, ![]⟩ : Shape).Idx := ⟨fun a b => funext fun i => i.elim0⟩
  exact ⟨RealArgs.reals_bf16 a0 _ _ _ _ _ e0, RealArgs.reals_f32 a1 _ _ _ _ _ e1, RealArgs.reals_f32 a2 _ _ _ _ _ e2, RealArgs.reals_f32 a3 _ _ _ _ _ e3,
    RealArgs.reals_bf16 a4 _ _ _ _ _ e4, RealArgs.reals_bf16 a5 _ _ _ _ _ e5, RealArgs.reals_f32 a6 _ _ _ _ _ e6⟩

end Pre

/-- The saved pre-activation and residual stream the region finds, as the host operations before it leave them. -/
theorem pre_eq (c : Dev nD) : V m c main_v28 = Cert.Reference4Ideal.Read.val_main_v34 (m ((c : Thread nD τ).loc main_arg2)) (m ((c : Thread nD τ).loc main_arg3))
    (m ((c : Thread nD τ).loc main_arg4)) (m ((c : Thread nD τ).loc main_arg6)) := by
  show V m c main_v28 = _
  entry_read
  rfl
theorem stream_eq (c : Dev nD) : V m c main_v13 = Cert.Reference4Ideal.Read.val_main_v16 (F := Ideal) (m ((c : Thread nD τ).loc main_arg2)) (m ((c : Thread nD τ).loc main_arg3))
    (m ((c : Thread nD τ).loc main_arg6)) := by
  show V m c main_v13 = _
  entry_read
  rfl

end Cert.Kernel4Ideal.Grad

namespace Cert.FfnBwd

open Cert.Kernel4Ideal Cert.Kernel4Ideal.Gen Cert.Kernel4Ideal.Grad

theorem reference_quiescent : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

section Value

variable [Cert.Pre_finite_arguments.Facts] (m : (ℓ : Loc nD τ sig) → Buf (Elt Ideal) ℓ) (hp : Cert.Pre_Kernel4Ideal_finite_arguments m) (c : Dev nD)
include hp

theorem result8 : (dats m 0 c).arrAt 8 cfg0.N = Cert.Reference4Ideal.Read.val_main_v91 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final8, V_main_arg0, V_main_arg5, pre_eq]
  exact Cert.Reference4Ideal.Rows.da_eq

theorem result9 : (dats m 0 c).arrAt 9 cfg0.N = Cert.Reference4Ideal.Read.val_main_v92 (F := Ideal) (m ((c : Thread nD τ).loc main_arg2)) (m ((c : Thread nD τ).loc main_arg3)) (m ((c : Thread nD τ).loc main_arg4)) (m ((c : Thread nD τ).loc main_arg6)) := by
  rw [final9, pre_eq]
  exact Cert.Reference4Ideal.Rows.s2_eq

theorem result10 : (dats m 0 c).arrAt 10 cfg0.N = Cert.Reference4Ideal.Read.val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨h0, h1, h2, h3, h4, h5, h6⟩ := args_real _ _ _ _ _ _ _ (hp c)
  rw [final10, pre_eq, stream_eq, V_main_arg0, V_main_arg1, V_main_arg4, V_main_arg5, V_main_arg6]
  exact Cert.Reference4Ideal.Rows.dx_eq h0 h2 h3 h4 h5 h6

theorem result11 : (dats m 0 c).arrAt 11 cfg0.N = Cert.Reference4Ideal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨h0, h1, h2, h3, h4, h5, h6⟩ := args_real _ _ _ _ _ _ _ (hp c)
  rw [final11, pre_eq, stream_eq, V_main_arg0, V_main_arg1, V_main_arg3, V_main_arg4, V_main_arg5, V_main_arg6]
  exact Cert.Reference4Ideal.Rows.dout_eq h0 h1 h2 h3 h4 h5 h6

theorem result12 : (dats m 0 c).arrAt 12 cfg0.N = Cert.Reference4Ideal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨h0, h1, h2, h3, h4, h5, h6⟩ := args_real _ _ _ _ _ _ _ (hp c)
  rw [final12, pre_eq, stream_eq, V_main_arg0, V_main_arg1, V_main_arg3, V_main_arg4, V_main_arg5, V_main_arg6]
  exact Cert.Reference4Ideal.Rows.dvec_eq h0 h2 h3 h4 h5 h6

end Value

theorem algebraic [Cert.Pre_finite_arguments.Facts] : Cert.algebraic_Kernel4Ideal_Reference4Ideal_pre_finite_arguments := fun m ρ m' ρ' hp hag =>
  ⟨fun c => Cert.Reference4Ideal.Read.val_main_v91 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Reference4Ideal.Read.val_main_v92 (F := Ideal) (m ((c : Thread nD τ).loc main_arg2)) (m ((c : Thread nD τ).loc main_arg3)) (m ((c : Thread nD τ).loc main_arg4)) (m ((c : Thread nD τ).loc main_arg6)),
    fun c => Cert.Reference4Ideal.Read.val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Reference4Ideal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => Cert.Reference4Ideal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    (θ_run Cert.Kernel4Ideal.defs _ _).mono (fun _ h c => ⟨(h c).1.trans (result8 m hp c), (h c).2.1.trans (result9 m hp c),
        (h c).2.2.1.trans (result10 m hp c), (h c).2.2.2.1.trans (result11 m hp c), (h c).2.2.2.2.1.trans (result12 m hp c), (h c).2.2.2.2.2⟩)
      (Cert.Kernel4Ideal.Value.run_blocks (F := Ideal) m ρ),
    (θ_run Cert.Reference4Ideal.defs _ _).mono (fun _ h c => by
        obtain ⟨e0, e1, e2, e3, e4, e5, e6⟩ := hag c
        refine ⟨(h c).1.trans ?_, (h c).2.1.trans ?_, (h c).2.2.1.trans ?_, (h c).2.2.2.1.trans ?_, (h c).2.2.2.2.1.trans ?_, (h c).2.2.2.2.2⟩
        · dsimp only
          rw [← e0, ← e2, ← e3, ← e4, ← e5, ← e6]
          exact Cert.Reference4Ideal.Read.val_main_v91_eq _
        · dsimp only
          rw [← e2, ← e3, ← e4, ← e6]
          exact Cert.Reference4Ideal.Read.val_main_v92_eq _
        · dsimp only
          rw [← e0, ← e1, ← e2, ← e3, ← e4, ← e5, ← e6]
          exact Cert.Reference4Ideal.Read.val_main_v69_eq _
        · dsimp only
          rw [← e0, ← e1, ← e2, ← e3, ← e4, ← e5, ← e6]
          exact Cert.Reference4Ideal.Read.val_main_v93_eq _
        · dsimp only
          rw [← e0, ← e1, ← e2, ← e3, ← e4, ← e5, ← e6]
          exact Cert.Reference4Ideal.Read.val_main_v94_eq _)
      (Cert.Reference4Ideal.Value.run (F := Ideal) m' ρ')⟩

end Cert.FfnBwd
-- ==== Proof.AdamRow.lean ====
/- The optimiser at one entry: the summed gradient, the two moments, the step; and the chip's index, a word from 0 to 3. -/
module

public import Idealize.ShloMosaic.Lib.Pipeline.Value
public import Idealize.ShloMosaic.Lib.ValueIdx
public import Idealize.ShloMosaic.Lib.DynamicIndex
public import Idealize.ShloMosaic.Lib.StableHlo.Run
public import Idealize.ShloMosaic.PureOps.Ideal.Laws

@[expose] public section

noncomputable section

namespace Cert.AdamRow

open Idealize.ShloMosaic
open scoped BigOperators

variable {F : FTy → Type} [FloatOps F]

/-- The first moment, `0.9 m + 0.1 g`. -/
def newM (g μ : F .f32) : F .f32 :=
  FloatOps.addf (FloatOps.mulf (Scalar.ofBits .f32 0x3F666666#32) μ) (FloatOps.mulf (Scalar.ofBits .f32 0x3DCCCCCD#32) g)

/-- The second moment, `0.999 v + 0.001 g²`. -/
def newV (g ν : F .f32) : F .f32 :=
  FloatOps.addf (FloatOps.mulf (Scalar.ofBits .f32 0x3F7FBE77#32) ν) (FloatOps.mulf (Scalar.ofBits .f32 0x3A83126F#32) (FloatOps.mulf g g))

/-- The step: both moments corrected for the bias of ten steps, their quotient, and the weight's decay. -/
def delta (g w μ ν : F .f32) : F .f32 :=
  FloatOps.mulf (Scalar.ofBits .f32 0xBA83126F#32)
    (FloatOps.addf
      (FloatOps.divf (FloatOps.divf (newM g μ) (Scalar.ofBits .f32 0x3F26BD02#32))
        (FloatOps.addf (FloatOps.sqrt (FloatOps.divf (newV g ν) (Scalar.ofBits .f32 0x3C231ACC#32))) (Scalar.ofBits .f32 0x322BCC77#32)))
      (FloatOps.mulf (Scalar.ofBits .f32 0x3C23D70A#32) w))

/-- A chip's own part and the three that arrived, added one after another. -/
def gsum (p a b c : EReal) : EReal := p + a + b + c

/-- The same as the own part plus the sum of the others. -/
theorem gsum_eq (p : EReal) (r : Fin 3 → EReal) (z : EReal) (hz : z = 0) : p + (z + ∑ k : Fin 3, r k) = gsum p (r 0) (r 1) (r 2) := by
  rw [hz, zero_add, Fin.sum_univ_three]
  unfold gsum
  rw [add_assoc, add_assoc, add_assoc]

/-- Two comparisons say that a word is at most 3, read either way. -/
theorem chip_word (k : BitVec 32) (h : IntOp.andi (IntOp.cmpi .sge k 0#32) (IntOp.cmpi .sle k 3#32) = 1#1) :
    k.toNat < 4 ∧ k.toInt = (k.toNat : Int) := by
  have both (a b : BitVec 1) : IntOp.andi a b = 1#1 → a = 1#1 ∧ b = 1#1 := by revert a b; decide
  have bit (b : Bool) : BitVec.ofBool b = 1#1 → b = true := by revert b; decide
  obtain ⟨h0, h3⟩ := both _ _ h
  have lo : (0#32).sle k = true := bit _ h0
  have hi : k.sle 3#32 = true := bit _ h3
  have lo' : (0 : Int) ≤ k.toInt := by simpa [BitVec.sle] using lo
  have hi' : k.toInt ≤ 3 := by simpa [BitVec.sle] using hi
  rw [BitVec.toInt_eq_toNat_cond] at lo' hi' ⊢
  have := k.isLt
  split at lo' <;> rename_i hc
  · rw [if_pos hc] at hi' ⊢; omega
  · rw [if_neg hc] at hi'; omega

/-- A sum that keeps one of four terms by its index is that term. -/
theorem pick (f : Fin 4 → EReal) (w : BitVec 32) (k : Fin 4) (hk : w.toNat = k.val) (z y : EReal) (hz : z = 0) (hy : y = 0) :
    z + ∑ i : Fin 4, Scalar.select (IntOp.cmpi .eq (BitVec.ofNat 32 i.val) w) (f i) y = f k := by
  have hw : w = BitVec.ofNat 32 k.val := BitVec.eq_of_toNat_eq (by rw [hk, BitVec.toNat_ofNat]; omega)
  have sel : ∀ i k : Fin 4, IntOp.cmpi .eq (BitVec.ofNat 32 i.val) (BitVec.ofNat 32 k.val) = if i = k then 1#1 else 0#1 := by decide
  rw [hz, hy, hw, zero_add, Finset.sum_eq_single k]
  · rw [sel, if_pos rfl]; exact if_pos rfl
  · intro i _ hi
    rw [sel, if_neg hi]; exact if_neg (by decide)
  · intro h; exact absurd (Finset.mem_univ k) h

end Cert.AdamRow

end
-- ==== Proof.FinFf1.lean ====
/- finish_w_ff1: a weight's gradient summed over the four chips' parts, and the optimiser's step on it, tile by tile of its rows. -/
module

public import proofs.«01_k».proof.Defs
public import proofs.«01_k».proof.Proof.AdamRow
public import proofs.«01_k».proof.Proof.Common
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Pre_chip_named11
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.FinFf1

/-- The index that the word names, from the precondition. -/
theorem word_of_pre {F : FTy → Type} [FloatOps F] (k : IVec Cert.Pre_chip_named11.S1 32) p r w μ ν
    (h : Cert.Pre_chip_named11.fn (F := F) k p r w μ ν = fun _ => 1#1) (i : Cert.Pre_chip_named11.S1.Idx) :
    (k i).toNat < 4 ∧ (k i).toInt = ((k i).toNat : Int) :=
  Cert.AdamRow.chip_word (k i) (congrFun h i)

section Word

open Cert.Kernel11 Cert.Kernel11.Gen

theorem ok_word (m : (ℓ : Loc nD τ sig) → Buf (Elt Bits) ℓ) (h : Cert.Pre_Kernel11 m) : Ok m := by
  intro i
  refine ⟨fun a => ?_, .inr (Affine.block_words_dvd (of_decide_eq_true rfl) (by decide))⟩
  have hi : (i 0).val < 4 := (i 0).isLt
  match a with
  | ⟨0, _⟩ =>
    have fit : ∀ n : Nat, n < 4 → (n + 1) * 1 ≤ 4 := fun n hn => by omega
    exact fit _ (word_of_pre _ _ _ _ _ _ (h 0) ((Rect.unit (s := S1) ![0] S1.size inb_S1_S1_0).emb (Shape.Idx.first (by decide)))).1
  | ⟨1, _⟩ =>
    show ((BitVec.ofNat 32 (i 0).val).toNat + 1) * 256 ≤ 1024
    rw [BitVec.toNat_ofNat]
    omega
  | ⟨2, _⟩ => show (0 + 1) * 512 ≤ 512; omega

theorem frame_word : Cert.quiescent_Kernel11 := fun m ρ h => Cert.Kernel11.Gen.frame m ρ (ok_word m h)

end Word

end Cert.FinFf1

namespace Cert.Kernel11Ideal.Hand

open Cert.Kernel11Ideal Cert.Kernel11Ideal.Gen Cert.Common Cert.AdamRow

variable (m : (ℓ : Loc nD τ sig) → Buf (Elt Ideal) ℓ) (ρ : Dev nD → PrngReg)

theorem ok_ideal (h : Cert.Pre_Kernel11Ideal m) : Ok m := by
  intro i
  refine ⟨fun a => ?_, .inr (Affine.block_words_dvd (of_decide_eq_true rfl) (by decide))⟩
  have hi : (i 0).val < 4 := (i 0).isLt
  match a with
  | ⟨0, _⟩ =>
    have fit : ∀ n : Nat, n < 4 → (n + 1) * 1 ≤ 4 := fun n hn => by omega
    exact fit _ (Cert.FinFf1.word_of_pre _ _ _ _ _ _ (h 0) ((Rect.unit (s := S1) ![0] S1.size inb_S1_S1_0).emb (Shape.Idx.first (by decide)))).1
  | ⟨1, _⟩ =>
    show ((BitVec.ofNat 32 (i 0).val).toNat + 1) * 256 ≤ 1024
    rw [BitVec.toNat_ofNat]
    omega
  | ⟨2, _⟩ => show (0 + 1) * 512 ≤ 512; omega

/-! ## The payloads at an index -/

section Pay

variable (v0 v3 v7 v11 : Vec Ideal S1x256x512 .bf16) (v16 v17 v18 : Vec Ideal S256x512 .f32) (p : Fin 256) (j : Fin 512)

theorem drop_row (v : Vec Ideal S1x256x512 .bf16) : shapeCast S256x512 v shapeCasts_S1x256x512_S256x512 (ValueIdx.ix2 p j) = v (ValueIdx.ix3 0 p j) :=
  shapeCast_apply v _ (ValueIdx.ix2 p j) (ValueIdx.ix3 0 p j) (by
    rewrite [Shape.rowMajor_val_three, Shape.rowMajor_val_two]
    show (0 * 256 + p.val) * 512 + j.val = p.val * 512 + j.val
    omega)

theorem pay2_apply : k0_pay2 (F := Ideal) v0 v3 v7 v11 (ValueIdx.ix2 p j)
    = gsum (v0 (ValueIdx.ix3 0 p j)) (v3 (ValueIdx.ix3 0 p j)) (v7 (ValueIdx.ix3 0 p j)) (v11 (ValueIdx.ix3 0 p j)) :=
  congrArg₂ (· + · : EReal → EReal → EReal) (congrArg₂ (· + · : EReal → EReal → EReal) (congrArg₂ (· + · : EReal → EReal → EReal)
    (drop_row p j v0) (drop_row p j v3)) (drop_row p j v7)) (drop_row p j v11)

theorem pay3_apply : k0_pay3 (F := Ideal) v0 v3 v7 v11 v17 (ValueIdx.ix2 p j)
    = newM (F := Ideal) (k0_pay2 (F := Ideal) v0 v3 v7 v11 (ValueIdx.ix2 p j)) (v17 (ValueIdx.ix2 p j)) := rfl

theorem pay4_apply : k0_pay4 (F := Ideal) v0 v3 v7 v11 v18 (ValueIdx.ix2 p j)
    = newV (F := Ideal) (k0_pay2 (F := Ideal) v0 v3 v7 v11 (ValueIdx.ix2 p j)) (v18 (ValueIdx.ix2 p j)) := rfl

theorem pay1_apply : k0_pay1 (F := Ideal) v16 (k0_pay4 v0 v3 v7 v11 v18) (k0_pay5 v0 v3 v7 v11 v17) (Scalar.ofBits .f32 0x3C231ACC#32) (ValueIdx.ix2 p j)
    = delta (F := Ideal) (k0_pay2 (F := Ideal) v0 v3 v7 v11 (ValueIdx.ix2 p j)) (v16 (ValueIdx.ix2 p j)) (v17 (ValueIdx.ix2 p j)) (v18 (ValueIdx.ix2 p j)) := rfl

end Pay

/-! ## What a point leaves in each output -/

section Block

variable (c : Dev nD) (i : grid0.Coords)
variable (x0 : Vec Ideal S1x256x512 .bf16) (x1 : Vec Ideal S3x256x512 .bf16) (x2 x3 x4 : Vec Ideal S256x512 .f32) (xt : TbBuf0 (F := Ideal) c tbM0_0)
variable (p : Fin 256) (j : Fin 512)

/-- The summed gradient of a tile. -/
def tile : EReal := gsum (x0 (ValueIdx.ix3 0 p j)) (x1 (ValueIdx.ix3 0 p j)) (x1 (ValueIdx.ix3 1 p j)) (x1 (ValueIdx.ix3 2 p j))

theorem loads (k : Fin 3) inb : View.ld x1 (Rect.unit ![k.val, 0, 0] S1x256x512.size inb) (ValueIdx.ix3 0 p j) = x1 (ValueIdx.ix3 k p j) :=
  View.ld_unit_apply_of _ _ _ _ _ _ fun a => by
    match a with
    | ⟨0, _⟩ => rfl
    | ⟨1, _⟩ => exact (Nat.zero_add _).symm
    | ⟨2, _⟩ => exact (Nat.zero_add _).symm

theorem sum_tile i0 i1 i2 : k0_pay2 (F := Ideal) x0 (View.ld x1 (Rect.unit ![0, 0, 0] S1x256x512.size i0)) (View.ld x1 (Rect.unit ![1, 0, 0] S1x256x512.size i1))
    (View.ld x1 (Rect.unit ![2, 0, 0] S1x256x512.size i2)) (ValueIdx.ix2 p j) = tile x0 x1 p j := by
  rw [pay2_apply]
  unfold tile
  rw [show View.ld x1 (Rect.unit ![0, 0, 0] S1x256x512.size i0) (ValueIdx.ix3 0 p j) = _ from loads x1 p j 0 i0,
    show View.ld x1 (Rect.unit ![1, 0, 0] S1x256x512.size i1) (ValueIdx.ix3 0 p j) = _ from loads x1 p j 1 i1,
    show View.ld x1 (Rect.unit ![2, 0, 0] S1x256x512.size i2) (ValueIdx.ix3 0 p j) = _ from loads x1 p j 2 i2]

variable (g : EReal) (hg : tile x0 x1 p j = g)
include hg

theorem block5 a2 h2 a3 h3 a4 h4 a5 h5 a6 h6 a7 h7 a8 h8 a9 h9 a10 h10 :
    out0_A_5 (F := Ideal) c i a2 h2 a3 h3 a4 h4 a5 h5 a6 h6 a7 h7 a8 h8 a9 h9 a10 h10 x0 x1 x2 x3 x4 xt (ValueIdx.ix2 p j) = g := by
  frame_out
  exact (sum_tile x0 x1 p j _ _ _).trans hg

theorem block6 a2 h2 a3 h3 a4 h4 a5 h5 a6 h6 a7 h7 a8 h8 a9 h9 a10 h10 :
    out0_A_6 (F := Ideal) c i a2 h2 a3 h3 a4 h4 a5 h5 a6 h6 a7 h7 a8 h8 a9 h9 a10 h10 x0 x1 x2 x3 x4 xt (ValueIdx.ix2 p j)
      = delta (F := Ideal) g (x2 (ValueIdx.ix2 p j)) (x3 (ValueIdx.ix2 p j)) (x4 (ValueIdx.ix2 p j)) := by
  frame_out
  refine (pay1_apply _ _ _ _ _ _ _ p j).trans ?_
  rw [sum_tile, hg]

theorem block7 a2 h2 a3 h3 a4 h4 a5 h5 a6 h6 a7 h7 a8 h8 a9 h9 a10 h10 :
    out0_A_7 (F := Ideal) c i a2 h2 a3 h3 a4 h4 a5 h5 a6 h6 a7 h7 a8 h8 a9 h9 a10 h10 x0 x1 x2 x3 x4 xt (ValueIdx.ix2 p j)
      = newM (F := Ideal) g (x3 (ValueIdx.ix2 p j)) := by
  frame_out
  refine (pay3_apply _ _ _ _ _ p j).trans ?_
  rw [sum_tile, hg]

theorem block8 a2 h2 a3 h3 a4 h4 a5 h5 a6 h6 a7 h7 a8 h8 a9 h9 a10 h10 :
    out0_A_8 (F := Ideal) c i a2 h2 a3 h3 a4 h4 a5 h5 a6 h6 a7 h7 a8 h8 a9 h9 a10 h10 x0 x1 x2 x3 x4 xt (ValueIdx.ix2 p j)
      = newV (F := Ideal) g (x4 (ValueIdx.ix2 p j)) := by
  frame_out
  refine (pay4_apply _ _ _ _ _ p j).trans ?_
  rw [sum_tile, hg]

end Block

/-! ## The arrays the run ends with -/

/-- The word the index map reads. -/
abbrev word : BitVec 32 := m ((0 : Dev nD).tc.loc main_arg0) ((Rect.unit (s := S1) ![0] S1.size inb_S1_S1_0).emb (Shape.Idx.first (by decide)))

/-- The summed gradient, for chip `k`. -/
def grad (k : Fin 4) (c : Dev nD) : Vec Ideal S1024x512 .f32 := fun i =>
  gsum (V m c main_arg1 (ValueIdx.ix3 k (i 0) (i 1))) (V m c main_arg2 (ValueIdx.ix3 0 (i 0) (i 1)))
    (V m c main_arg2 (ValueIdx.ix3 1 (i 0) (i 1))) (V m c main_arg2 (ValueIdx.ix3 2 (i 0) (i 1)))

/-- The step, and the new moments. -/
def step (k : Fin 4) (c : Dev nD) : Vec Ideal S1024x512 .f32 := fun i =>
  delta (F := Ideal) (grad m k c i) (V m c main_arg3 i) (V m c main_arg4 i) (V m c main_arg5 i)
def mom1 (k : Fin 4) (c : Dev nD) : Vec Ideal S1024x512 .f32 := fun i => newM (F := Ideal) (grad m k c i) (V m c main_arg4 i)
def mom2 (k : Fin 4) (c : Dev nD) : Vec Ideal S1024x512 .f32 := fun i => newV (F := Ideal) (grad m k c i) (V m c main_arg5 i)

theorem point : ∀ t : Fin grid0.N, (BitVec.ofNat 32 (grid0.coords t 0).val).toNat = t.val := by decide +kernel

section Final

/-- The row of the whole array that row `p` of tile `t` is. -/
def row (hO : Ok m) (t : Fin (cfgM m hO).N) (p : Fin 256) : Fin 1024 := ⟨t.val * 256 + p.val, by
  have h : t.val < 4 := lt_of_lt_of_eq t.isLt (show (cfgM m hO).N = 4 from N_0)
  omega⟩

variable (hO : Ok m) (k : Fin 4) (hk : (word m).toNat = k.val) (c : Dev nD) (t : Fin (cfgM m hO).N) (p : Fin 256) (j : Fin 512)

/-- What a view places an index at is in its set. -/
theorem mem_of_emb {sp : Space} {s : Shape} {e : EltTy} (v : View sig .tc sp s e) (y : s.Idx) {i} (h : v.emb y = i) : i ∈ v.set := by
  subst h
  exact v.emb_mem_set y

theorem at2 : (((cfgM m hO).win 2).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 512 + 1 * j.val = j.val; omega

theorem at3 : (((cfgM m hO).win 3).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 512 + 1 * j.val = j.val; omega

theorem at4 : (((cfgM m hO).win 4).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 512 + 1 * j.val = j.val; omega

theorem at5 : (((cfgM m hO).win 5).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 512 + 1 * j.val = j.val; omega

theorem at6 : (((cfgM m hO).win 6).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 512 + 1 * j.val = j.val; omega

theorem at7 : (((cfgM m hO).win 7).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 512 + 1 * j.val = j.val; omega

theorem at8 : (((cfgM m hO).win 8).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 512 + 1 * j.val = j.val; omega

theorem read2 : iblk m hO c 2 t (ValueIdx.ix2 p j) = V m c main_arg3 (ValueIdx.ix2 (row m hO t p) j) :=
  congrArg (V m c main_arg3) (at2 m hO t p j)

theorem read3 : iblk m hO c 3 t (ValueIdx.ix2 p j) = V m c main_arg4 (ValueIdx.ix2 (row m hO t p) j) :=
  congrArg (V m c main_arg4) (at3 m hO t p j)

theorem read4 : iblk m hO c 4 t (ValueIdx.ix2 p j) = V m c main_arg5 (ValueIdx.ix2 (row m hO t p) j) :=
  congrArg (V m c main_arg5) (at4 m hO t p j)

include hk in
theorem tile_eq : tile (iblk m hO c 0 t) (iblk m hO c 1 t) p j = grad m k c (ValueIdx.ix2 (row m hO t p) j) := by
  obtain rfl : c = 0 := Subsingleton.elim _ _
  have r0 : iblk m hO 0 0 t (ValueIdx.ix3 0 p j) = V m 0 main_arg1 (ValueIdx.ix3 k (row m hO t p) j) :=
    congrArg (V m 0 main_arg1) (funext fun a => Fin.ext (by
      match a with
      | ⟨0, _⟩ => exact (Nat.mul_one _).trans hk
      | ⟨1, _⟩ =>
        show (BitVec.ofNat 32 (grid0.coords t 0).val).toNat * 256 + 1 * p.val = t.val * 256 + p.val
        rw [point]; omega
      | ⟨2, _⟩ => show 0 * 512 + 1 * j.val = j.val; omega))
  have r1 (q : Fin 3) : iblk m hO 0 1 t (ValueIdx.ix3 q p j) = V m 0 main_arg2 (ValueIdx.ix3 q (row m hO t p) j) :=
    congrArg (V m 0 main_arg2) (funext fun a => Fin.ext (by
      match a with
      | ⟨0, _⟩ => show 0 * 3 + 1 * q.val = q.val; omega
      | ⟨1, _⟩ =>
        show (BitVec.ofNat 32 (grid0.coords t 0).val).toNat * 256 + 1 * p.val = t.val * 256 + p.val
        rw [point]; omega
      | ⟨2, _⟩ => show 0 * 512 + 1 * j.val = j.val; omega))
  show gsum (iblk m hO 0 0 t (ValueIdx.ix3 0 p j)) (iblk m hO 0 1 t (ValueIdx.ix3 0 p j)) (iblk m hO 0 1 t (ValueIdx.ix3 1 p j)) (iblk m hO 0 1 t (ValueIdx.ix3 2 p j)) = _
  rw [r0, r1, r1, r1]
  rfl

theorem cover5 (i : S1024x512.Idx) : ∃ t : Fin (cfgM m hO).N, ((cfgM m hO).win 5).flush t = true ∧ i ∈ (((cfgM m hO).win 5).blk t).view.set := by
  obtain ⟨r, j, rfl⟩ := exists_ix2 (M := 1024) (N := 512) i
  have hr : r.val / 256 < 4 := by omega
  refine ⟨⟨r.val / 256, lt_of_lt_of_eq hr (show 4 = (cfgM m hO).N from N_0.symm)⟩, flush0_5 _ _, ?_⟩
  refine mem_of_emb _ (ValueIdx.ix2 ⟨r.val % 256, Nat.mod_lt _ (by decide)⟩ j) ((at5 m hO _ _ j).trans ?_)
  refine congrArg (fun q => ValueIdx.ix2 q j) (Fin.ext ?_)
  show r.val / 256 * 256 + r.val % 256 = r.val
  omega

theorem cover6 (i : S1024x512.Idx) : ∃ t : Fin (cfgM m hO).N, ((cfgM m hO).win 6).flush t = true ∧ i ∈ (((cfgM m hO).win 6).blk t).view.set := by
  obtain ⟨r, j, rfl⟩ := exists_ix2 (M := 1024) (N := 512) i
  have hr : r.val / 256 < 4 := by omega
  refine ⟨⟨r.val / 256, lt_of_lt_of_eq hr (show 4 = (cfgM m hO).N from N_0.symm)⟩, flush0_6 _ _, ?_⟩
  refine mem_of_emb _ (ValueIdx.ix2 ⟨r.val % 256, Nat.mod_lt _ (by decide)⟩ j) ((at6 m hO _ _ j).trans ?_)
  refine congrArg (fun q => ValueIdx.ix2 q j) (Fin.ext ?_)
  show r.val / 256 * 256 + r.val % 256 = r.val
  omega

theorem cover7 (i : S1024x512.Idx) : ∃ t : Fin (cfgM m hO).N, ((cfgM m hO).win 7).flush t = true ∧ i ∈ (((cfgM m hO).win 7).blk t).view.set := by
  obtain ⟨r, j, rfl⟩ := exists_ix2 (M := 1024) (N := 512) i
  have hr : r.val / 256 < 4 := by omega
  refine ⟨⟨r.val / 256, lt_of_lt_of_eq hr (show 4 = (cfgM m hO).N from N_0.symm)⟩, flush0_7 _ _, ?_⟩
  refine mem_of_emb _ (ValueIdx.ix2 ⟨r.val % 256, Nat.mod_lt _ (by decide)⟩ j) ((at7 m hO _ _ j).trans ?_)
  refine congrArg (fun q => ValueIdx.ix2 q j) (Fin.ext ?_)
  show r.val / 256 * 256 + r.val % 256 = r.val
  omega

theorem cover8 (i : S1024x512.Idx) : ∃ t : Fin (cfgM m hO).N, ((cfgM m hO).win 8).flush t = true ∧ i ∈ (((cfgM m hO).win 8).blk t).view.set := by
  obtain ⟨r, j, rfl⟩ := exists_ix2 (M := 1024) (N := 512) i
  have hr : r.val / 256 < 4 := by omega
  refine ⟨⟨r.val / 256, lt_of_lt_of_eq hr (show 4 = (cfgM m hO).N from N_0.symm)⟩, flush0_8 _ _, ?_⟩
  refine mem_of_emb _ (ValueIdx.ix2 ⟨r.val % 256, Nat.mod_lt _ (by decide)⟩ j) ((at8 m hO _ _ j).trans ?_)
  refine congrArg (fun q => ValueIdx.ix2 q j) (Fin.ext ?_)
  show r.val / 256 * 256 + r.val % 256 = r.val
  omega

include hk

theorem out5 : (outsAt0 m hO c t).1 (ValueIdx.ix2 p j) = grad m k c (ValueIdx.ix2 (row m hO t p) j) := by
  unfold outsAt0
  dsimp only
  have e := block5 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rfl

theorem leaves5 (y : S256x512.Idx) : (outsAt0 m hO c t).1 y = grad m k c ((((cfgM m hO).win 5).blk t).view.emb y) := by
  obtain ⟨p, j, rfl⟩ := exists_ix2 (M := 256) (N := 512) y
  exact (out5 m hO k hk c t p j).trans (congrArg (grad m k c) (at5 m hO t p j)).symm

theorem final5 : (dats m hO 0 c).arrAt 5 (cfgM m hO).N = grad m k c :=
  (dats m hO 0 c).arrAt_eq_of_emb 5 _ (fun t hf y => by
    blk_simp
    rw [after0_5]
    exact leaves5 m hO k hk c t y) (cover5 m hO)

theorem out6 : (outsAt0 m hO c t).2.1 (ValueIdx.ix2 p j) = step m k c (ValueIdx.ix2 (row m hO t p) j) := by
  unfold outsAt0
  dsimp only
  have e := block6 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read2, read3, read4]; rfl

theorem leaves6 (y : S256x512.Idx) : (outsAt0 m hO c t).2.1 y = step m k c ((((cfgM m hO).win 6).blk t).view.emb y) := by
  obtain ⟨p, j, rfl⟩ := exists_ix2 (M := 256) (N := 512) y
  exact (out6 m hO k hk c t p j).trans (congrArg (step m k c) (at6 m hO t p j)).symm

theorem final6 : (dats m hO 0 c).arrAt 6 (cfgM m hO).N = step m k c :=
  (dats m hO 0 c).arrAt_eq_of_emb 6 _ (fun t hf y => by
    blk_simp
    rw [after0_6]
    exact leaves6 m hO k hk c t y) (cover6 m hO)

theorem out7 : (outsAt0 m hO c t).2.2.1 (ValueIdx.ix2 p j) = mom1 m k c (ValueIdx.ix2 (row m hO t p) j) := by
  unfold outsAt0
  dsimp only
  have e := block7 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read3]; rfl

theorem leaves7 (y : S256x512.Idx) : (outsAt0 m hO c t).2.2.1 y = mom1 m k c ((((cfgM m hO).win 7).blk t).view.emb y) := by
  obtain ⟨p, j, rfl⟩ := exists_ix2 (M := 256) (N := 512) y
  exact (out7 m hO k hk c t p j).trans (congrArg (mom1 m k c) (at7 m hO t p j)).symm

theorem final7 : (dats m hO 0 c).arrAt 7 (cfgM m hO).N = mom1 m k c :=
  (dats m hO 0 c).arrAt_eq_of_emb 7 _ (fun t hf y => by
    blk_simp
    rw [after0_7]
    exact leaves7 m hO k hk c t y) (cover7 m hO)

theorem out8 : (outsAt0 m hO c t).2.2.2 (ValueIdx.ix2 p j) = mom2 m k c (ValueIdx.ix2 (row m hO t p) j) := by
  unfold outsAt0
  dsimp only
  have e := block8 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read4]; rfl

theorem leaves8 (y : S256x512.Idx) : (outsAt0 m hO c t).2.2.2 y = mom2 m k c ((((cfgM m hO).win 8).blk t).view.emb y) := by
  obtain ⟨p, j, rfl⟩ := exists_ix2 (M := 256) (N := 512) y
  exact (out8 m hO k hk c t p j).trans (congrArg (mom2 m k c) (at8 m hO t p j)).symm

theorem final8 : (dats m hO 0 c).arrAt 8 (cfgM m hO).N = mom2 m k c :=
  (dats m hO 0 c).arrAt_eq_of_emb 8 _ (fun t hf y => by
    blk_simp
    rw [after0_8]
    exact leaves8 m hO k hk c t y) (cover8 m hO)

include hO in
/-- The run's results. -/
theorem run_results : θ_run defs (onTc (τ := τ) (main (F := Ideal))) ⟨m, fun _ => 0, ρ⟩ (fun r => ∀ c : Dev nD,
      r.2.mem ((c.tc : Thread nD τ).loc main_v0_0) = grad m k c
      ∧ r.2.mem ((c.tc : Thread nD τ).loc main_v0_1) = step m k c
      ∧ r.2.mem ((c.tc : Thread nD τ).loc main_v0_2) = mom1 m k c
      ∧ r.2.mem ((c.tc : Thread nD τ).loc main_v0_3) = mom2 m k c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 5).trans (final5 m hO k hk c), ((h.1.1 c).1 6).trans (final6 m hO k hk c),
      ((h.1.1 c).1 7).trans (final7 m hO k hk c), ((h.1.1 c).1 8).trans (final8 m hO k hk c), h.2.1 c⟩)
    (θ_run_and (run_main_quiescent m ρ hO) (frame m ρ hO))

end Final

/-! ## The reference -/

section Ref

open Cert.Reference11Ideal.Read

variable (x0 : IVec S1 32) (x1 : Vec Ideal S4x1024x512 .bf16) (x2 : Vec Ideal S3x1024x512 .bf16) (x3 x4 x5 : Vec Ideal S1024x512 .f32)
variable (k : Fin 4) (w : BitVec 32) (hw : ∀ i, x0 i = w) (hk : w.toNat = k.val) (r : Fin 1024) (j : Fin 512)

include hw in
theorem ref_mask (i : Cert.Reference11Ideal.S4x1024x512.Idx) :
    val_main_call0_v1 (F := Ideal) x0 i = IntOp.cmpi .eq (BitVec.ofNat 32 (i 0).val) w := by
  rw [val_main_call0_v1_apply, val_main_v4_apply, val_main_v3_apply, val_main_v2_apply, val_main_v0_apply]
  exact congrArg (IntOp.cmpi .eq _) (hw _)

include hw hk in
theorem ref_grad : val_main_v10 (F := Ideal) x0 x1 x2 (ValueIdx.ix2 r j)
    = gsum (x1 (ValueIdx.ix3 k r j)) (x2 (ValueIdx.ix3 0 r j)) (x2 (ValueIdx.ix3 1 r j)) (x2 (ValueIdx.ix3 2 r j)) := by
  rw [val_main_v10_apply, val_main_v7_apply, val_main_v9_apply]
  have z : (val_main_cst (F := Ideal)) (Shape.Idx.first (by decide)) = (0 : EReal) := Ideal.ofBits_zero_f32
  refine Eq.trans (congrArg₂ (· + · : EReal → EReal → EReal) ?_ ?_) (gsum_eq (x1 (ValueIdx.ix3 k r j)) (fun q => x2 (ValueIdx.ix3 q r j)) _ Ideal.ofBits_zero_f32)
  · refine Eq.trans ?_ (pick (fun q => x1 (ValueIdx.ix3 q r j)) w k hk _ _ Ideal.ofBits_zero_f32 Ideal.ofBits_zero_f32)
    refine congrArg₂ (· + · : EReal → EReal → EReal) rfl (Finset.sum_congr rfl fun q _ => ?_)
    rw [val_main_v6_apply, ref_mask x0 w hw, val_main_call0_v2_apply]
    refine congrArg₂ (Scalar.select _) ?_ rfl
    exact congrArg x1 (funext fun a => by match a with | ⟨0, _⟩ => rfl | ⟨1, _⟩ => rfl | ⟨2, _⟩ => rfl)
  · refine congrArg₂ (· + · : EReal → EReal → EReal) rfl (Finset.sum_congr rfl fun q _ => ?_)
    exact congrArg x2 (funext fun a => by match a with | ⟨0, _⟩ => rfl | ⟨1, _⟩ => rfl | ⟨2, _⟩ => rfl)

theorem ref_mom1 (i) : val_main_v15 (F := Ideal) x0 x1 x2 x4 i = newM (F := Ideal) (val_main_v10 (F := Ideal) x0 x1 x2 i) (x4 i) := rfl
theorem ref_mom2 (i) : val_main_v21 (F := Ideal) x0 x1 x2 x5 i = newV (F := Ideal) (val_main_v10 (F := Ideal) x0 x1 x2 i) (x5 i) := rfl
theorem ref_step (i) : val_main_v34 (F := Ideal) x0 x1 x2 x3 x4 x5 i
    = delta (F := Ideal) (val_main_v10 (F := Ideal) x0 x1 x2 i) (x3 i) (x4 i) (x5 i) := rfl

end Ref

section Same

open Cert.Reference11Ideal.Read

variable (k : Fin 4) (hk : (word m).toNat = k.val) (c : Dev nD)

/-- Every index of the one word is the one the index map reads. -/
theorem word_eq (i : S1.Idx) : m ((c.tc : Thread nD τ).loc main_arg0) i = word m := by
  obtain rfl : c = 0 := Subsingleton.elim _ _
  refine congrArg (m ((0 : Dev nD).tc.loc main_arg0)) (funext fun a => Fin.ext ?_)
  have h (b : Fin 1) (u v : Fin (S1.size b)) : u.val = v.val := by
    have hu : u.val < 1 := lt_of_lt_of_eq u.isLt (by match b with | ⟨0, _⟩ => rfl)
    have hv : v.val < 1 := lt_of_lt_of_eq v.isLt (by match b with | ⟨0, _⟩ => rfl)
    omega
  exact h a _ _

include hk

theorem grad_eq : val_main_v10 (F := Ideal) (m ((c.tc : Thread nD τ).loc main_arg0)) (m ((c.tc : Thread nD τ).loc main_arg1)) (m ((c.tc : Thread nD τ).loc main_arg2)) = grad m k c := by
  funext i
  obtain ⟨r, j, rfl⟩ := exists_ix2 (M := 1024) (N := 512) i
  exact ref_grad _ _ _ k (word m) (word_eq m c) hk r j

theorem step_eq : val_main_v34 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = step m k c :=
  funext fun i => (ref_step _ _ _ _ _ _ i).trans (by rw [grad_eq m k hk c]; rfl)

theorem mom1_eq : val_main_v15 (F := Ideal) (m ((c.tc : Thread nD τ).loc main_arg0)) (m ((c.tc : Thread nD τ).loc main_arg1)) (m ((c.tc : Thread nD τ).loc main_arg2))
    (m ((c.tc : Thread nD τ).loc main_arg4)) = mom1 m k c :=
  funext fun i => (ref_mom1 _ _ _ _ i).trans (by rw [grad_eq m k hk c]; rfl)

theorem mom2_eq : val_main_v21 (F := Ideal) (m ((c.tc : Thread nD τ).loc main_arg0)) (m ((c.tc : Thread nD τ).loc main_arg1)) (m ((c.tc : Thread nD τ).loc main_arg2))
    (m ((c.tc : Thread nD τ).loc main_arg5)) = mom2 m k c :=
  funext fun i => (ref_mom2 _ _ _ _ i).trans (by rw [grad_eq m k hk c]; rfl)

end Same

end Cert.Kernel11Ideal.Hand

namespace Cert.FinFf1

open Cert.Kernel11Ideal.Hand

theorem frame_ideal : Cert.quiescent_Kernel11Ideal := fun m ρ h => Cert.Kernel11Ideal.Gen.frame m ρ (ok_ideal m h)

theorem reference_quiescent : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem algebraic : Cert.algebraic_Kernel11Ideal_Reference11Ideal := fun m ρ m' ρ' hpre hag => by
  have hk : (word m).toNat < 4 := (word_of_pre _ _ _ _ _ _ (hpre 0) _).1
  have hO := ok_ideal m hpre
  exact ⟨fun c => grad m ⟨_, hk⟩ c, fun c => step m ⟨_, hk⟩ c, fun c => mom1 m ⟨_, hk⟩ c, fun c => mom2 m ⟨_, hk⟩ c, run_results m ρ hO ⟨_, hk⟩ rfl,
    (θ_run Cert.Reference11Ideal.defs _ _).mono (fun _ h c => by
        obtain ⟨e0, e1, e2, e3, e4, e5⟩ := hag c
        refine ⟨(h c).1.trans ?_, (h c).2.1.trans ?_, (h c).2.2.1.trans ?_, (h c).2.2.2.1.trans ?_, (h c).2.2.2.2⟩
        · show _ = grad m _ c
          rw [← grad_eq m ⟨_, hk⟩ rfl c, ← e0, ← e1, ← e2]
          exact Cert.Reference11Ideal.Read.val_main_v10_eq (F := Ideal) _ _ _
        · show _ = step m _ c
          rw [← step_eq m ⟨_, hk⟩ rfl c, ← e0, ← e1, ← e2, ← e3, ← e4, ← e5]
          exact Cert.Reference11Ideal.Read.val_main_v34_eq (F := Ideal) _ _ _ _ _ _
        · show _ = mom1 m _ c
          rw [← mom1_eq m ⟨_, hk⟩ rfl c, ← e0, ← e1, ← e2, ← e4]
          exact Cert.Reference11Ideal.Read.val_main_v15_eq (F := Ideal) _ _ _ _
        · show _ = mom2 m _ c
          rw [← mom2_eq m ⟨_, hk⟩ rfl c, ← e0, ← e1, ← e2, ← e5]
          exact Cert.Reference11Ideal.Read.val_main_v21_eq (F := Ideal) _ _ _ _)
      (Cert.Reference11Ideal.Value.run (F := Ideal) m' ρ')⟩

end Cert.FinFf1

end
-- ==== Proof.FinFf2.lean ====
/- finish_w_ff2: a weight's gradient summed over the four chips' parts, and the optimiser's step on it, tile by tile of its rows. -/
module

public import proofs.«01_k».proof.Defs
public import proofs.«01_k».proof.Proof.AdamRow
public import proofs.«01_k».proof.Proof.Common
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Pre_chip_named12
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.FinFf2

/-- The index that the word names, from the precondition. -/
theorem word_of_pre {F : FTy → Type} [FloatOps F] (k : IVec Cert.Pre_chip_named12.S1 32) p r w μ ν
    (h : Cert.Pre_chip_named12.fn (F := F) k p r w μ ν = fun _ => 1#1) (i : Cert.Pre_chip_named12.S1.Idx) :
    (k i).toNat < 4 ∧ (k i).toInt = ((k i).toNat : Int) :=
  Cert.AdamRow.chip_word (k i) (congrFun h i)

section Word

open Cert.Kernel12 Cert.Kernel12.Gen

theorem ok_word (m : (ℓ : Loc nD τ sig) → Buf (Elt Bits) ℓ) (h : Cert.Pre_Kernel12 m) : Ok m := by
  intro i
  refine ⟨fun a => ?_, .inr (Affine.block_words_dvd (of_decide_eq_true rfl) (by decide))⟩
  have hi : (i 0).val < 2 := (i 0).isLt
  match a with
  | ⟨0, _⟩ =>
    have fit : ∀ n : Nat, n < 4 → (n + 1) * 1 ≤ 4 := fun n hn => by omega
    exact fit _ (word_of_pre _ _ _ _ _ _ (h 0) ((Rect.unit (s := S1) ![0] S1.size inb_S1_S1_0).emb (Shape.Idx.first (by decide)))).1
  | ⟨1, _⟩ =>
    show ((BitVec.ofNat 32 (i 0).val).toNat + 1) * 256 ≤ 512
    rw [BitVec.toNat_ofNat]
    omega
  | ⟨2, _⟩ => show (0 + 1) * 1024 ≤ 1024; omega

theorem frame_word : Cert.quiescent_Kernel12 := fun m ρ h => Cert.Kernel12.Gen.frame m ρ (ok_word m h)

end Word

end Cert.FinFf2

namespace Cert.Kernel12Ideal.Hand

open Cert.Kernel12Ideal Cert.Kernel12Ideal.Gen Cert.Common Cert.AdamRow

variable (m : (ℓ : Loc nD τ sig) → Buf (Elt Ideal) ℓ) (ρ : Dev nD → PrngReg)

theorem ok_ideal (h : Cert.Pre_Kernel12Ideal m) : Ok m := by
  intro i
  refine ⟨fun a => ?_, .inr (Affine.block_words_dvd (of_decide_eq_true rfl) (by decide))⟩
  have hi : (i 0).val < 2 := (i 0).isLt
  match a with
  | ⟨0, _⟩ =>
    have fit : ∀ n : Nat, n < 4 → (n + 1) * 1 ≤ 4 := fun n hn => by omega
    exact fit _ (Cert.FinFf2.word_of_pre _ _ _ _ _ _ (h 0) ((Rect.unit (s := S1) ![0] S1.size inb_S1_S1_0).emb (Shape.Idx.first (by decide)))).1
  | ⟨1, _⟩ =>
    show ((BitVec.ofNat 32 (i 0).val).toNat + 1) * 256 ≤ 512
    rw [BitVec.toNat_ofNat]
    omega
  | ⟨2, _⟩ => show (0 + 1) * 1024 ≤ 1024; omega

/-! ## The payloads at an index -/

section Pay

variable (v0 v3 v7 v11 : Vec Ideal S1x256x1024 .bf16) (v16 v17 v18 : Vec Ideal S256x1024 .f32) (p : Fin 256) (j : Fin 1024)

theorem drop_row (v : Vec Ideal S1x256x1024 .bf16) : shapeCast S256x1024 v shapeCasts_S1x256x1024_S256x1024 (ValueIdx.ix2 p j) = v (ValueIdx.ix3 0 p j) :=
  shapeCast_apply v _ (ValueIdx.ix2 p j) (ValueIdx.ix3 0 p j) (by
    rewrite [Shape.rowMajor_val_three, Shape.rowMajor_val_two]
    show (0 * 256 + p.val) * 1024 + j.val = p.val * 1024 + j.val
    omega)

theorem pay2_apply : k0_pay2 (F := Ideal) v0 v3 v7 v11 (ValueIdx.ix2 p j)
    = gsum (v0 (ValueIdx.ix3 0 p j)) (v3 (ValueIdx.ix3 0 p j)) (v7 (ValueIdx.ix3 0 p j)) (v11 (ValueIdx.ix3 0 p j)) :=
  congrArg₂ (· + · : EReal → EReal → EReal) (congrArg₂ (· + · : EReal → EReal → EReal) (congrArg₂ (· + · : EReal → EReal → EReal)
    (drop_row p j v0) (drop_row p j v3)) (drop_row p j v7)) (drop_row p j v11)

theorem pay3_apply : k0_pay3 (F := Ideal) v0 v3 v7 v11 v17 (ValueIdx.ix2 p j)
    = newM (F := Ideal) (k0_pay2 (F := Ideal) v0 v3 v7 v11 (ValueIdx.ix2 p j)) (v17 (ValueIdx.ix2 p j)) := rfl

theorem pay4_apply : k0_pay4 (F := Ideal) v0 v3 v7 v11 v18 (ValueIdx.ix2 p j)
    = newV (F := Ideal) (k0_pay2 (F := Ideal) v0 v3 v7 v11 (ValueIdx.ix2 p j)) (v18 (ValueIdx.ix2 p j)) := rfl

theorem pay1_apply : k0_pay1 (F := Ideal) v16 (k0_pay4 v0 v3 v7 v11 v18) (k0_pay5 v0 v3 v7 v11 v17) (Scalar.ofBits .f32 0x3C231ACC#32) (ValueIdx.ix2 p j)
    = delta (F := Ideal) (k0_pay2 (F := Ideal) v0 v3 v7 v11 (ValueIdx.ix2 p j)) (v16 (ValueIdx.ix2 p j)) (v17 (ValueIdx.ix2 p j)) (v18 (ValueIdx.ix2 p j)) := rfl

end Pay

/-! ## What a point leaves in each output -/

section Block

variable (c : Dev nD) (i : grid0.Coords)
variable (x0 : Vec Ideal S1x256x1024 .bf16) (x1 : Vec Ideal S3x256x1024 .bf16) (x2 x3 x4 : Vec Ideal S256x1024 .f32) (xt : TbBuf0 (F := Ideal) c tbM0_0)
variable (p : Fin 256) (j : Fin 1024)

/-- The summed gradient of a tile. -/
def tile : EReal := gsum (x0 (ValueIdx.ix3 0 p j)) (x1 (ValueIdx.ix3 0 p j)) (x1 (ValueIdx.ix3 1 p j)) (x1 (ValueIdx.ix3 2 p j))

theorem loads (k : Fin 3) inb : View.ld x1 (Rect.unit ![k.val, 0, 0] S1x256x1024.size inb) (ValueIdx.ix3 0 p j) = x1 (ValueIdx.ix3 k p j) :=
  View.ld_unit_apply_of _ _ _ _ _ _ fun a => by
    match a with
    | ⟨0, _⟩ => rfl
    | ⟨1, _⟩ => exact (Nat.zero_add _).symm
    | ⟨2, _⟩ => exact (Nat.zero_add _).symm

theorem sum_tile i0 i1 i2 : k0_pay2 (F := Ideal) x0 (View.ld x1 (Rect.unit ![0, 0, 0] S1x256x1024.size i0)) (View.ld x1 (Rect.unit ![1, 0, 0] S1x256x1024.size i1))
    (View.ld x1 (Rect.unit ![2, 0, 0] S1x256x1024.size i2)) (ValueIdx.ix2 p j) = tile x0 x1 p j := by
  rw [pay2_apply]
  unfold tile
  rw [show View.ld x1 (Rect.unit ![0, 0, 0] S1x256x1024.size i0) (ValueIdx.ix3 0 p j) = _ from loads x1 p j 0 i0,
    show View.ld x1 (Rect.unit ![1, 0, 0] S1x256x1024.size i1) (ValueIdx.ix3 0 p j) = _ from loads x1 p j 1 i1,
    show View.ld x1 (Rect.unit ![2, 0, 0] S1x256x1024.size i2) (ValueIdx.ix3 0 p j) = _ from loads x1 p j 2 i2]

variable (g : EReal) (hg : tile x0 x1 p j = g)
include hg

theorem block5 a2 h2 a3 h3 a4 h4 a5 h5 a6 h6 a7 h7 a8 h8 a9 h9 a10 h10 :
    out0_A_5 (F := Ideal) c i a2 h2 a3 h3 a4 h4 a5 h5 a6 h6 a7 h7 a8 h8 a9 h9 a10 h10 x0 x1 x2 x3 x4 xt (ValueIdx.ix2 p j) = g := by
  frame_out
  exact (sum_tile x0 x1 p j _ _ _).trans hg

theorem block6 a2 h2 a3 h3 a4 h4 a5 h5 a6 h6 a7 h7 a8 h8 a9 h9 a10 h10 :
    out0_A_6 (F := Ideal) c i a2 h2 a3 h3 a4 h4 a5 h5 a6 h6 a7 h7 a8 h8 a9 h9 a10 h10 x0 x1 x2 x3 x4 xt (ValueIdx.ix2 p j)
      = delta (F := Ideal) g (x2 (ValueIdx.ix2 p j)) (x3 (ValueIdx.ix2 p j)) (x4 (ValueIdx.ix2 p j)) := by
  frame_out
  refine (pay1_apply _ _ _ _ _ _ _ p j).trans ?_
  rw [sum_tile, hg]

theorem block7 a2 h2 a3 h3 a4 h4 a5 h5 a6 h6 a7 h7 a8 h8 a9 h9 a10 h10 :
    out0_A_7 (F := Ideal) c i a2 h2 a3 h3 a4 h4 a5 h5 a6 h6 a7 h7 a8 h8 a9 h9 a10 h10 x0 x1 x2 x3 x4 xt (ValueIdx.ix2 p j)
      = newM (F := Ideal) g (x3 (ValueIdx.ix2 p j)) := by
  frame_out
  refine (pay3_apply _ _ _ _ _ p j).trans ?_
  rw [sum_tile, hg]

theorem block8 a2 h2 a3 h3 a4 h4 a5 h5 a6 h6 a7 h7 a8 h8 a9 h9 a10 h10 :
    out0_A_8 (F := Ideal) c i a2 h2 a3 h3 a4 h4 a5 h5 a6 h6 a7 h7 a8 h8 a9 h9 a10 h10 x0 x1 x2 x3 x4 xt (ValueIdx.ix2 p j)
      = newV (F := Ideal) g (x4 (ValueIdx.ix2 p j)) := by
  frame_out
  refine (pay4_apply _ _ _ _ _ p j).trans ?_
  rw [sum_tile, hg]

end Block

/-! ## The arrays the run ends with -/

/-- The word the index map reads. -/
abbrev word : BitVec 32 := m ((0 : Dev nD).tc.loc main_arg0) ((Rect.unit (s := S1) ![0] S1.size inb_S1_S1_0).emb (Shape.Idx.first (by decide)))

/-- The summed gradient, for chip `k`. -/
def grad (k : Fin 4) (c : Dev nD) : Vec Ideal S512x1024 .f32 := fun i =>
  gsum (V m c main_arg1 (ValueIdx.ix3 k (i 0) (i 1))) (V m c main_arg2 (ValueIdx.ix3 0 (i 0) (i 1)))
    (V m c main_arg2 (ValueIdx.ix3 1 (i 0) (i 1))) (V m c main_arg2 (ValueIdx.ix3 2 (i 0) (i 1)))

/-- The step, and the new moments. -/
def step (k : Fin 4) (c : Dev nD) : Vec Ideal S512x1024 .f32 := fun i =>
  delta (F := Ideal) (grad m k c i) (V m c main_arg3 i) (V m c main_arg4 i) (V m c main_arg5 i)
def mom1 (k : Fin 4) (c : Dev nD) : Vec Ideal S512x1024 .f32 := fun i => newM (F := Ideal) (grad m k c i) (V m c main_arg4 i)
def mom2 (k : Fin 4) (c : Dev nD) : Vec Ideal S512x1024 .f32 := fun i => newV (F := Ideal) (grad m k c i) (V m c main_arg5 i)

theorem point : ∀ t : Fin grid0.N, (BitVec.ofNat 32 (grid0.coords t 0).val).toNat = t.val := by decide +kernel

section Final

/-- The row of the whole array that row `p` of tile `t` is. -/
def row (hO : Ok m) (t : Fin (cfgM m hO).N) (p : Fin 256) : Fin 512 := ⟨t.val * 256 + p.val, by
  have h : t.val < 2 := lt_of_lt_of_eq t.isLt (show (cfgM m hO).N = 2 from N_0)
  omega⟩

variable (hO : Ok m) (k : Fin 4) (hk : (word m).toNat = k.val) (c : Dev nD) (t : Fin (cfgM m hO).N) (p : Fin 256) (j : Fin 1024)

/-- What a view places an index at is in its set. -/
theorem mem_of_emb {sp : Space} {s : Shape} {e : EltTy} (v : View sig .tc sp s e) (y : s.Idx) {i} (h : v.emb y = i) : i ∈ v.set := by
  subst h
  exact v.emb_mem_set y

theorem at2 : (((cfgM m hO).win 2).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 1024 + 1 * j.val = j.val; omega

theorem at3 : (((cfgM m hO).win 3).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 1024 + 1 * j.val = j.val; omega

theorem at4 : (((cfgM m hO).win 4).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 1024 + 1 * j.val = j.val; omega

theorem at5 : (((cfgM m hO).win 5).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 1024 + 1 * j.val = j.val; omega

theorem at6 : (((cfgM m hO).win 6).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 1024 + 1 * j.val = j.val; omega

theorem at7 : (((cfgM m hO).win 7).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 1024 + 1 * j.val = j.val; omega

theorem at8 : (((cfgM m hO).win 8).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 1024 + 1 * j.val = j.val; omega

theorem read2 : iblk m hO c 2 t (ValueIdx.ix2 p j) = V m c main_arg3 (ValueIdx.ix2 (row m hO t p) j) :=
  congrArg (V m c main_arg3) (at2 m hO t p j)

theorem read3 : iblk m hO c 3 t (ValueIdx.ix2 p j) = V m c main_arg4 (ValueIdx.ix2 (row m hO t p) j) :=
  congrArg (V m c main_arg4) (at3 m hO t p j)

theorem read4 : iblk m hO c 4 t (ValueIdx.ix2 p j) = V m c main_arg5 (ValueIdx.ix2 (row m hO t p) j) :=
  congrArg (V m c main_arg5) (at4 m hO t p j)

include hk in
theorem tile_eq : tile (iblk m hO c 0 t) (iblk m hO c 1 t) p j = grad m k c (ValueIdx.ix2 (row m hO t p) j) := by
  obtain rfl : c = 0 := Subsingleton.elim _ _
  have r0 : iblk m hO 0 0 t (ValueIdx.ix3 0 p j) = V m 0 main_arg1 (ValueIdx.ix3 k (row m hO t p) j) :=
    congrArg (V m 0 main_arg1) (funext fun a => Fin.ext (by
      match a with
      | ⟨0, _⟩ => exact (Nat.mul_one _).trans hk
      | ⟨1, _⟩ =>
        show (BitVec.ofNat 32 (grid0.coords t 0).val).toNat * 256 + 1 * p.val = t.val * 256 + p.val
        rw [point]; omega
      | ⟨2, _⟩ => show 0 * 1024 + 1 * j.val = j.val; omega))
  have r1 (q : Fin 3) : iblk m hO 0 1 t (ValueIdx.ix3 q p j) = V m 0 main_arg2 (ValueIdx.ix3 q (row m hO t p) j) :=
    congrArg (V m 0 main_arg2) (funext fun a => Fin.ext (by
      match a with
      | ⟨0, _⟩ => show 0 * 3 + 1 * q.val = q.val; omega
      | ⟨1, _⟩ =>
        show (BitVec.ofNat 32 (grid0.coords t 0).val).toNat * 256 + 1 * p.val = t.val * 256 + p.val
        rw [point]; omega
      | ⟨2, _⟩ => show 0 * 1024 + 1 * j.val = j.val; omega))
  show gsum (iblk m hO 0 0 t (ValueIdx.ix3 0 p j)) (iblk m hO 0 1 t (ValueIdx.ix3 0 p j)) (iblk m hO 0 1 t (ValueIdx.ix3 1 p j)) (iblk m hO 0 1 t (ValueIdx.ix3 2 p j)) = _
  rw [r0, r1, r1, r1]
  rfl

theorem cover5 (i : S512x1024.Idx) : ∃ t : Fin (cfgM m hO).N, ((cfgM m hO).win 5).flush t = true ∧ i ∈ (((cfgM m hO).win 5).blk t).view.set := by
  obtain ⟨r, j, rfl⟩ := exists_ix2 (M := 512) (N := 1024) i
  have hr : r.val / 256 < 2 := by omega
  refine ⟨⟨r.val / 256, lt_of_lt_of_eq hr (show 2 = (cfgM m hO).N from N_0.symm)⟩, flush0_5 _ _, ?_⟩
  refine mem_of_emb _ (ValueIdx.ix2 ⟨r.val % 256, Nat.mod_lt _ (by decide)⟩ j) ((at5 m hO _ _ j).trans ?_)
  refine congrArg (fun q => ValueIdx.ix2 q j) (Fin.ext ?_)
  show r.val / 256 * 256 + r.val % 256 = r.val
  omega

theorem cover6 (i : S512x1024.Idx) : ∃ t : Fin (cfgM m hO).N, ((cfgM m hO).win 6).flush t = true ∧ i ∈ (((cfgM m hO).win 6).blk t).view.set := by
  obtain ⟨r, j, rfl⟩ := exists_ix2 (M := 512) (N := 1024) i
  have hr : r.val / 256 < 2 := by omega
  refine ⟨⟨r.val / 256, lt_of_lt_of_eq hr (show 2 = (cfgM m hO).N from N_0.symm)⟩, flush0_6 _ _, ?_⟩
  refine mem_of_emb _ (ValueIdx.ix2 ⟨r.val % 256, Nat.mod_lt _ (by decide)⟩ j) ((at6 m hO _ _ j).trans ?_)
  refine congrArg (fun q => ValueIdx.ix2 q j) (Fin.ext ?_)
  show r.val / 256 * 256 + r.val % 256 = r.val
  omega

theorem cover7 (i : S512x1024.Idx) : ∃ t : Fin (cfgM m hO).N, ((cfgM m hO).win 7).flush t = true ∧ i ∈ (((cfgM m hO).win 7).blk t).view.set := by
  obtain ⟨r, j, rfl⟩ := exists_ix2 (M := 512) (N := 1024) i
  have hr : r.val / 256 < 2 := by omega
  refine ⟨⟨r.val / 256, lt_of_lt_of_eq hr (show 2 = (cfgM m hO).N from N_0.symm)⟩, flush0_7 _ _, ?_⟩
  refine mem_of_emb _ (ValueIdx.ix2 ⟨r.val % 256, Nat.mod_lt _ (by decide)⟩ j) ((at7 m hO _ _ j).trans ?_)
  refine congrArg (fun q => ValueIdx.ix2 q j) (Fin.ext ?_)
  show r.val / 256 * 256 + r.val % 256 = r.val
  omega

theorem cover8 (i : S512x1024.Idx) : ∃ t : Fin (cfgM m hO).N, ((cfgM m hO).win 8).flush t = true ∧ i ∈ (((cfgM m hO).win 8).blk t).view.set := by
  obtain ⟨r, j, rfl⟩ := exists_ix2 (M := 512) (N := 1024) i
  have hr : r.val / 256 < 2 := by omega
  refine ⟨⟨r.val / 256, lt_of_lt_of_eq hr (show 2 = (cfgM m hO).N from N_0.symm)⟩, flush0_8 _ _, ?_⟩
  refine mem_of_emb _ (ValueIdx.ix2 ⟨r.val % 256, Nat.mod_lt _ (by decide)⟩ j) ((at8 m hO _ _ j).trans ?_)
  refine congrArg (fun q => ValueIdx.ix2 q j) (Fin.ext ?_)
  show r.val / 256 * 256 + r.val % 256 = r.val
  omega

include hk

theorem out5 : (outsAt0 m hO c t).1 (ValueIdx.ix2 p j) = grad m k c (ValueIdx.ix2 (row m hO t p) j) := by
  unfold outsAt0
  dsimp only
  have e := block5 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rfl

theorem leaves5 (y : S256x1024.Idx) : (outsAt0 m hO c t).1 y = grad m k c ((((cfgM m hO).win 5).blk t).view.emb y) := by
  obtain ⟨p, j, rfl⟩ := exists_ix2 (M := 256) (N := 1024) y
  exact (out5 m hO k hk c t p j).trans (congrArg (grad m k c) (at5 m hO t p j)).symm

theorem final5 : (dats m hO 0 c).arrAt 5 (cfgM m hO).N = grad m k c :=
  (dats m hO 0 c).arrAt_eq_of_emb 5 _ (fun t hf y => by
    blk_simp
    rw [after0_5]
    exact leaves5 m hO k hk c t y) (cover5 m hO)

theorem out6 : (outsAt0 m hO c t).2.1 (ValueIdx.ix2 p j) = step m k c (ValueIdx.ix2 (row m hO t p) j) := by
  unfold outsAt0
  dsimp only
  have e := block6 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read2, read3, read4]; rfl

theorem leaves6 (y : S256x1024.Idx) : (outsAt0 m hO c t).2.1 y = step m k c ((((cfgM m hO).win 6).blk t).view.emb y) := by
  obtain ⟨p, j, rfl⟩ := exists_ix2 (M := 256) (N := 1024) y
  exact (out6 m hO k hk c t p j).trans (congrArg (step m k c) (at6 m hO t p j)).symm

theorem final6 : (dats m hO 0 c).arrAt 6 (cfgM m hO).N = step m k c :=
  (dats m hO 0 c).arrAt_eq_of_emb 6 _ (fun t hf y => by
    blk_simp
    rw [after0_6]
    exact leaves6 m hO k hk c t y) (cover6 m hO)

theorem out7 : (outsAt0 m hO c t).2.2.1 (ValueIdx.ix2 p j) = mom1 m k c (ValueIdx.ix2 (row m hO t p) j) := by
  unfold outsAt0
  dsimp only
  have e := block7 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read3]; rfl

theorem leaves7 (y : S256x1024.Idx) : (outsAt0 m hO c t).2.2.1 y = mom1 m k c ((((cfgM m hO).win 7).blk t).view.emb y) := by
  obtain ⟨p, j, rfl⟩ := exists_ix2 (M := 256) (N := 1024) y
  exact (out7 m hO k hk c t p j).trans (congrArg (mom1 m k c) (at7 m hO t p j)).symm

theorem final7 : (dats m hO 0 c).arrAt 7 (cfgM m hO).N = mom1 m k c :=
  (dats m hO 0 c).arrAt_eq_of_emb 7 _ (fun t hf y => by
    blk_simp
    rw [after0_7]
    exact leaves7 m hO k hk c t y) (cover7 m hO)

theorem out8 : (outsAt0 m hO c t).2.2.2 (ValueIdx.ix2 p j) = mom2 m k c (ValueIdx.ix2 (row m hO t p) j) := by
  unfold outsAt0
  dsimp only
  have e := block8 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read4]; rfl

theorem leaves8 (y : S256x1024.Idx) : (outsAt0 m hO c t).2.2.2 y = mom2 m k c ((((cfgM m hO).win 8).blk t).view.emb y) := by
  obtain ⟨p, j, rfl⟩ := exists_ix2 (M := 256) (N := 1024) y
  exact (out8 m hO k hk c t p j).trans (congrArg (mom2 m k c) (at8 m hO t p j)).symm

theorem final8 : (dats m hO 0 c).arrAt 8 (cfgM m hO).N = mom2 m k c :=
  (dats m hO 0 c).arrAt_eq_of_emb 8 _ (fun t hf y => by
    blk_simp
    rw [after0_8]
    exact leaves8 m hO k hk c t y) (cover8 m hO)

include hO in
/-- The run's results. -/
theorem run_results : θ_run defs (onTc (τ := τ) (main (F := Ideal))) ⟨m, fun _ => 0, ρ⟩ (fun r => ∀ c : Dev nD,
      r.2.mem ((c.tc : Thread nD τ).loc main_v0_0) = grad m k c
      ∧ r.2.mem ((c.tc : Thread nD τ).loc main_v0_1) = step m k c
      ∧ r.2.mem ((c.tc : Thread nD τ).loc main_v0_2) = mom1 m k c
      ∧ r.2.mem ((c.tc : Thread nD τ).loc main_v0_3) = mom2 m k c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 5).trans (final5 m hO k hk c), ((h.1.1 c).1 6).trans (final6 m hO k hk c),
      ((h.1.1 c).1 7).trans (final7 m hO k hk c), ((h.1.1 c).1 8).trans (final8 m hO k hk c), h.2.1 c⟩)
    (θ_run_and (run_main_quiescent m ρ hO) (frame m ρ hO))

end Final

/-! ## The reference -/

section Ref

open Cert.Reference12Ideal.Read

variable (x0 : IVec S1 32) (x1 : Vec Ideal S4x512x1024 .bf16) (x2 : Vec Ideal S3x512x1024 .bf16) (x3 x4 x5 : Vec Ideal S512x1024 .f32)
variable (k : Fin 4) (w : BitVec 32) (hw : ∀ i, x0 i = w) (hk : w.toNat = k.val) (r : Fin 512) (j : Fin 1024)

include hw in
theorem ref_mask (i : Cert.Reference12Ideal.S4x512x1024.Idx) :
    val_main_call0_v1 (F := Ideal) x0 i = IntOp.cmpi .eq (BitVec.ofNat 32 (i 0).val) w := by
  rw [val_main_call0_v1_apply, val_main_v4_apply, val_main_v3_apply, val_main_v2_apply, val_main_v0_apply]
  exact congrArg (IntOp.cmpi .eq _) (hw _)

include hw hk in
theorem ref_grad : val_main_v10 (F := Ideal) x0 x1 x2 (ValueIdx.ix2 r j)
    = gsum (x1 (ValueIdx.ix3 k r j)) (x2 (ValueIdx.ix3 0 r j)) (x2 (ValueIdx.ix3 1 r j)) (x2 (ValueIdx.ix3 2 r j)) := by
  rw [val_main_v10_apply, val_main_v7_apply, val_main_v9_apply]
  have z : (val_main_cst (F := Ideal)) (Shape.Idx.first (by decide)) = (0 : EReal) := Ideal.ofBits_zero_f32
  refine Eq.trans (congrArg₂ (· + · : EReal → EReal → EReal) ?_ ?_) (gsum_eq (x1 (ValueIdx.ix3 k r j)) (fun q => x2 (ValueIdx.ix3 q r j)) _ Ideal.ofBits_zero_f32)
  · refine Eq.trans ?_ (pick (fun q => x1 (ValueIdx.ix3 q r j)) w k hk _ _ Ideal.ofBits_zero_f32 Ideal.ofBits_zero_f32)
    refine congrArg₂ (· + · : EReal → EReal → EReal) rfl (Finset.sum_congr rfl fun q _ => ?_)
    rw [val_main_v6_apply, ref_mask x0 w hw, val_main_call0_v2_apply]
    refine congrArg₂ (Scalar.select _) ?_ rfl
    exact congrArg x1 (funext fun a => by match a with | ⟨0, _⟩ => rfl | ⟨1, _⟩ => rfl | ⟨2, _⟩ => rfl)
  · refine congrArg₂ (· + · : EReal → EReal → EReal) rfl (Finset.sum_congr rfl fun q _ => ?_)
    exact congrArg x2 (funext fun a => by match a with | ⟨0, _⟩ => rfl | ⟨1, _⟩ => rfl | ⟨2, _⟩ => rfl)

theorem ref_mom1 (i) : val_main_v15 (F := Ideal) x0 x1 x2 x4 i = newM (F := Ideal) (val_main_v10 (F := Ideal) x0 x1 x2 i) (x4 i) := rfl
theorem ref_mom2 (i) : val_main_v21 (F := Ideal) x0 x1 x2 x5 i = newV (F := Ideal) (val_main_v10 (F := Ideal) x0 x1 x2 i) (x5 i) := rfl
theorem ref_step (i) : val_main_v34 (F := Ideal) x0 x1 x2 x3 x4 x5 i
    = delta (F := Ideal) (val_main_v10 (F := Ideal) x0 x1 x2 i) (x3 i) (x4 i) (x5 i) := rfl

end Ref

section Same

open Cert.Reference12Ideal.Read

variable (k : Fin 4) (hk : (word m).toNat = k.val) (c : Dev nD)

/-- Every index of the one word is the one the index map reads. -/
theorem word_eq (i : S1.Idx) : m ((c.tc : Thread nD τ).loc main_arg0) i = word m := by
  obtain rfl : c = 0 := Subsingleton.elim _ _
  refine congrArg (m ((0 : Dev nD).tc.loc main_arg0)) (funext fun a => Fin.ext ?_)
  have h (b : Fin 1) (u v : Fin (S1.size b)) : u.val = v.val := by
    have hu : u.val < 1 := lt_of_lt_of_eq u.isLt (by match b with | ⟨0, _⟩ => rfl)
    have hv : v.val < 1 := lt_of_lt_of_eq v.isLt (by match b with | ⟨0, _⟩ => rfl)
    omega
  exact h a _ _

include hk

theorem grad_eq : val_main_v10 (F := Ideal) (m ((c.tc : Thread nD τ).loc main_arg0)) (m ((c.tc : Thread nD τ).loc main_arg1)) (m ((c.tc : Thread nD τ).loc main_arg2)) = grad m k c := by
  funext i
  obtain ⟨r, j, rfl⟩ := exists_ix2 (M := 512) (N := 1024) i
  exact ref_grad _ _ _ k (word m) (word_eq m c) hk r j

theorem step_eq : val_main_v34 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = step m k c :=
  funext fun i => (ref_step _ _ _ _ _ _ i).trans (by rw [grad_eq m k hk c]; rfl)

theorem mom1_eq : val_main_v15 (F := Ideal) (m ((c.tc : Thread nD τ).loc main_arg0)) (m ((c.tc : Thread nD τ).loc main_arg1)) (m ((c.tc : Thread nD τ).loc main_arg2))
    (m ((c.tc : Thread nD τ).loc main_arg4)) = mom1 m k c :=
  funext fun i => (ref_mom1 _ _ _ _ i).trans (by rw [grad_eq m k hk c]; rfl)

theorem mom2_eq : val_main_v21 (F := Ideal) (m ((c.tc : Thread nD τ).loc main_arg0)) (m ((c.tc : Thread nD τ).loc main_arg1)) (m ((c.tc : Thread nD τ).loc main_arg2))
    (m ((c.tc : Thread nD τ).loc main_arg5)) = mom2 m k c :=
  funext fun i => (ref_mom2 _ _ _ _ i).trans (by rw [grad_eq m k hk c]; rfl)

end Same

end Cert.Kernel12Ideal.Hand

namespace Cert.FinFf2

open Cert.Kernel12Ideal.Hand

theorem frame_ideal : Cert.quiescent_Kernel12Ideal := fun m ρ h => Cert.Kernel12Ideal.Gen.frame m ρ (ok_ideal m h)

theorem reference_quiescent : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem algebraic : Cert.algebraic_Kernel12Ideal_Reference12Ideal := fun m ρ m' ρ' hpre hag => by
  have hk : (word m).toNat < 4 := (word_of_pre _ _ _ _ _ _ (hpre 0) _).1
  have hO := ok_ideal m hpre
  exact ⟨fun c => grad m ⟨_, hk⟩ c, fun c => step m ⟨_, hk⟩ c, fun c => mom1 m ⟨_, hk⟩ c, fun c => mom2 m ⟨_, hk⟩ c, run_results m ρ hO ⟨_, hk⟩ rfl,
    (θ_run Cert.Reference12Ideal.defs _ _).mono (fun _ h c => by
        obtain ⟨e0, e1, e2, e3, e4, e5⟩ := hag c
        refine ⟨(h c).1.trans ?_, (h c).2.1.trans ?_, (h c).2.2.1.trans ?_, (h c).2.2.2.1.trans ?_, (h c).2.2.2.2⟩
        · show _ = grad m _ c
          rw [← grad_eq m ⟨_, hk⟩ rfl c, ← e0, ← e1, ← e2]
          exact Cert.Reference12Ideal.Read.val_main_v10_eq (F := Ideal) _ _ _
        · show _ = step m _ c
          rw [← step_eq m ⟨_, hk⟩ rfl c, ← e0, ← e1, ← e2, ← e3, ← e4, ← e5]
          exact Cert.Reference12Ideal.Read.val_main_v34_eq (F := Ideal) _ _ _ _ _ _
        · show _ = mom1 m _ c
          rw [← mom1_eq m ⟨_, hk⟩ rfl c, ← e0, ← e1, ← e2, ← e4]
          exact Cert.Reference12Ideal.Read.val_main_v15_eq (F := Ideal) _ _ _ _
        · show _ = mom2 m _ c
          rw [← mom2_eq m ⟨_, hk⟩ rfl c, ← e0, ← e1, ← e2, ← e5]
          exact Cert.Reference12Ideal.Read.val_main_v21_eq (F := Ideal) _ _ _ _)
      (Cert.Reference12Ideal.Value.run (F := Ideal) m' ρ')⟩

end Cert.FinFf2

end
-- ==== Proof.FinIn.lean ====
/- finish_w_in: a weight's gradient summed over the four chips' parts, and the optimiser's step on it, tile by tile of its rows. -/
module

public import proofs.«01_k».proof.Defs
public import proofs.«01_k».proof.Proof.AdamRow
public import proofs.«01_k».proof.Proof.Common
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Pre_chip_named14
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.FinIn

/-- The index that the word names, from the precondition. -/
theorem word_of_pre {F : FTy → Type} [FloatOps F] (k : IVec Cert.Pre_chip_named14.S1 32) p r w μ ν
    (h : Cert.Pre_chip_named14.fn (F := F) k p r w μ ν = fun _ => 1#1) (i : Cert.Pre_chip_named14.S1.Idx) :
    (k i).toNat < 4 ∧ (k i).toInt = ((k i).toNat : Int) :=
  Cert.AdamRow.chip_word (k i) (congrFun h i)

section Word

open Cert.Kernel14 Cert.Kernel14.Gen

theorem ok_word (m : (ℓ : Loc nD τ sig) → Buf (Elt Bits) ℓ) (h : Cert.Pre_Kernel14 m) : Ok m := by
  intro i
  refine ⟨fun a => ?_, .inr (Affine.block_words_dvd (of_decide_eq_true rfl) (by decide))⟩
  have hi : (i 0).val < 4 := (i 0).isLt
  match a with
  | ⟨0, _⟩ =>
    have fit : ∀ n : Nat, n < 4 → (n + 1) * 1 ≤ 4 := fun n hn => by omega
    exact fit _ (word_of_pre _ _ _ _ _ _ (h 0) ((Rect.unit (s := S1) ![0] S1.size inb_S1_S1_0).emb (Shape.Idx.first (by decide)))).1
  | ⟨1, _⟩ =>
    show ((BitVec.ofNat 32 (i 0).val).toNat + 1) * 256 ≤ 1024
    rw [BitVec.toNat_ofNat]
    omega
  | ⟨2, _⟩ => show (0 + 1) * 896 ≤ 896; omega

theorem frame_word : Cert.quiescent_Kernel14 := fun m ρ h => Cert.Kernel14.Gen.frame m ρ (ok_word m h)

end Word

end Cert.FinIn

namespace Cert.Kernel14Ideal.Hand

open Cert.Kernel14Ideal Cert.Kernel14Ideal.Gen Cert.Common Cert.AdamRow

variable (m : (ℓ : Loc nD τ sig) → Buf (Elt Ideal) ℓ) (ρ : Dev nD → PrngReg)

theorem ok_ideal (h : Cert.Pre_Kernel14Ideal m) : Ok m := by
  intro i
  refine ⟨fun a => ?_, .inr (Affine.block_words_dvd (of_decide_eq_true rfl) (by decide))⟩
  have hi : (i 0).val < 4 := (i 0).isLt
  match a with
  | ⟨0, _⟩ =>
    have fit : ∀ n : Nat, n < 4 → (n + 1) * 1 ≤ 4 := fun n hn => by omega
    exact fit _ (Cert.FinIn.word_of_pre _ _ _ _ _ _ (h 0) ((Rect.unit (s := S1) ![0] S1.size inb_S1_S1_0).emb (Shape.Idx.first (by decide)))).1
  | ⟨1, _⟩ =>
    show ((BitVec.ofNat 32 (i 0).val).toNat + 1) * 256 ≤ 1024
    rw [BitVec.toNat_ofNat]
    omega
  | ⟨2, _⟩ => show (0 + 1) * 896 ≤ 896; omega

/-! ## The payloads at an index -/

section Pay

variable (v0 v3 v7 v11 : Vec Ideal S1x256x896 .bf16) (v16 v17 v18 : Vec Ideal S256x896 .f32) (p : Fin 256) (j : Fin 896)

theorem drop_row (v : Vec Ideal S1x256x896 .bf16) : shapeCast S256x896 v shapeCasts_S1x256x896_S256x896 (ValueIdx.ix2 p j) = v (ValueIdx.ix3 0 p j) :=
  shapeCast_apply v _ (ValueIdx.ix2 p j) (ValueIdx.ix3 0 p j) (by
    rewrite [Shape.rowMajor_val_three, Shape.rowMajor_val_two]
    show (0 * 256 + p.val) * 896 + j.val = p.val * 896 + j.val
    omega)

theorem pay2_apply : k0_pay2 (F := Ideal) v0 v3 v7 v11 (ValueIdx.ix2 p j)
    = gsum (v0 (ValueIdx.ix3 0 p j)) (v3 (ValueIdx.ix3 0 p j)) (v7 (ValueIdx.ix3 0 p j)) (v11 (ValueIdx.ix3 0 p j)) :=
  congrArg₂ (· + · : EReal → EReal → EReal) (congrArg₂ (· + · : EReal → EReal → EReal) (congrArg₂ (· + · : EReal → EReal → EReal)
    (drop_row p j v0) (drop_row p j v3)) (drop_row p j v7)) (drop_row p j v11)

theorem pay3_apply : k0_pay3 (F := Ideal) v0 v3 v7 v11 v17 (ValueIdx.ix2 p j)
    = newM (F := Ideal) (k0_pay2 (F := Ideal) v0 v3 v7 v11 (ValueIdx.ix2 p j)) (v17 (ValueIdx.ix2 p j)) := rfl

theorem pay4_apply : k0_pay4 (F := Ideal) v0 v3 v7 v11 v18 (ValueIdx.ix2 p j)
    = newV (F := Ideal) (k0_pay2 (F := Ideal) v0 v3 v7 v11 (ValueIdx.ix2 p j)) (v18 (ValueIdx.ix2 p j)) := rfl

theorem pay1_apply : k0_pay1 (F := Ideal) v16 (k0_pay4 v0 v3 v7 v11 v18) (k0_pay5 v0 v3 v7 v11 v17) (Scalar.ofBits .f32 0x3C231ACC#32) (ValueIdx.ix2 p j)
    = delta (F := Ideal) (k0_pay2 (F := Ideal) v0 v3 v7 v11 (ValueIdx.ix2 p j)) (v16 (ValueIdx.ix2 p j)) (v17 (ValueIdx.ix2 p j)) (v18 (ValueIdx.ix2 p j)) := rfl

end Pay

/-! ## What a point leaves in each output -/

section Block

variable (c : Dev nD) (i : grid0.Coords)
variable (x0 : Vec Ideal S1x256x896 .bf16) (x1 : Vec Ideal S3x256x896 .bf16) (x2 x3 x4 : Vec Ideal S256x896 .f32) (xt : TbBuf0 (F := Ideal) c tbM0_0)
variable (p : Fin 256) (j : Fin 896)

/-- The summed gradient of a tile. -/
def tile : EReal := gsum (x0 (ValueIdx.ix3 0 p j)) (x1 (ValueIdx.ix3 0 p j)) (x1 (ValueIdx.ix3 1 p j)) (x1 (ValueIdx.ix3 2 p j))

theorem loads (k : Fin 3) inb : View.ld x1 (Rect.unit ![k.val, 0, 0] S1x256x896.size inb) (ValueIdx.ix3 0 p j) = x1 (ValueIdx.ix3 k p j) :=
  View.ld_unit_apply_of _ _ _ _ _ _ fun a => by
    match a with
    | ⟨0, _⟩ => rfl
    | ⟨1, _⟩ => exact (Nat.zero_add _).symm
    | ⟨2, _⟩ => exact (Nat.zero_add _).symm

theorem sum_tile i0 i1 i2 : k0_pay2 (F := Ideal) x0 (View.ld x1 (Rect.unit ![0, 0, 0] S1x256x896.size i0)) (View.ld x1 (Rect.unit ![1, 0, 0] S1x256x896.size i1))
    (View.ld x1 (Rect.unit ![2, 0, 0] S1x256x896.size i2)) (ValueIdx.ix2 p j) = tile x0 x1 p j := by
  rw [pay2_apply]
  unfold tile
  rw [show View.ld x1 (Rect.unit ![0, 0, 0] S1x256x896.size i0) (ValueIdx.ix3 0 p j) = _ from loads x1 p j 0 i0,
    show View.ld x1 (Rect.unit ![1, 0, 0] S1x256x896.size i1) (ValueIdx.ix3 0 p j) = _ from loads x1 p j 1 i1,
    show View.ld x1 (Rect.unit ![2, 0, 0] S1x256x896.size i2) (ValueIdx.ix3 0 p j) = _ from loads x1 p j 2 i2]

variable (g : EReal) (hg : tile x0 x1 p j = g)
include hg

theorem block5 a2 h2 a3 h3 a4 h4 a5 h5 a6 h6 a7 h7 a8 h8 a9 h9 a10 h10 :
    out0_A_5 (F := Ideal) c i a2 h2 a3 h3 a4 h4 a5 h5 a6 h6 a7 h7 a8 h8 a9 h9 a10 h10 x0 x1 x2 x3 x4 xt (ValueIdx.ix2 p j) = g := by
  frame_out
  exact (sum_tile x0 x1 p j _ _ _).trans hg

theorem block6 a2 h2 a3 h3 a4 h4 a5 h5 a6 h6 a7 h7 a8 h8 a9 h9 a10 h10 :
    out0_A_6 (F := Ideal) c i a2 h2 a3 h3 a4 h4 a5 h5 a6 h6 a7 h7 a8 h8 a9 h9 a10 h10 x0 x1 x2 x3 x4 xt (ValueIdx.ix2 p j)
      = delta (F := Ideal) g (x2 (ValueIdx.ix2 p j)) (x3 (ValueIdx.ix2 p j)) (x4 (ValueIdx.ix2 p j)) := by
  frame_out
  refine (pay1_apply _ _ _ _ _ _ _ p j).trans ?_
  rw [sum_tile, hg]

theorem block7 a2 h2 a3 h3 a4 h4 a5 h5 a6 h6 a7 h7 a8 h8 a9 h9 a10 h10 :
    out0_A_7 (F := Ideal) c i a2 h2 a3 h3 a4 h4 a5 h5 a6 h6 a7 h7 a8 h8 a9 h9 a10 h10 x0 x1 x2 x3 x4 xt (ValueIdx.ix2 p j)
      = newM (F := Ideal) g (x3 (ValueIdx.ix2 p j)) := by
  frame_out
  refine (pay3_apply _ _ _ _ _ p j).trans ?_
  rw [sum_tile, hg]

theorem block8 a2 h2 a3 h3 a4 h4 a5 h5 a6 h6 a7 h7 a8 h8 a9 h9 a10 h10 :
    out0_A_8 (F := Ideal) c i a2 h2 a3 h3 a4 h4 a5 h5 a6 h6 a7 h7 a8 h8 a9 h9 a10 h10 x0 x1 x2 x3 x4 xt (ValueIdx.ix2 p j)
      = newV (F := Ideal) g (x4 (ValueIdx.ix2 p j)) := by
  frame_out
  refine (pay4_apply _ _ _ _ _ p j).trans ?_
  rw [sum_tile, hg]

end Block

/-! ## The arrays the run ends with -/

/-- The word the index map reads. -/
abbrev word : BitVec 32 := m ((0 : Dev nD).tc.loc main_arg0) ((Rect.unit (s := S1) ![0] S1.size inb_S1_S1_0).emb (Shape.Idx.first (by decide)))

/-- The summed gradient, for chip `k`. -/
def grad (k : Fin 4) (c : Dev nD) : Vec Ideal S1024x896 .f32 := fun i =>
  gsum (V m c main_arg1 (ValueIdx.ix3 k (i 0) (i 1))) (V m c main_arg2 (ValueIdx.ix3 0 (i 0) (i 1)))
    (V m c main_arg2 (ValueIdx.ix3 1 (i 0) (i 1))) (V m c main_arg2 (ValueIdx.ix3 2 (i 0) (i 1)))

/-- The step, and the new moments. -/
def step (k : Fin 4) (c : Dev nD) : Vec Ideal S1024x896 .f32 := fun i =>
  delta (F := Ideal) (grad m k c i) (V m c main_arg3 i) (V m c main_arg4 i) (V m c main_arg5 i)
def mom1 (k : Fin 4) (c : Dev nD) : Vec Ideal S1024x896 .f32 := fun i => newM (F := Ideal) (grad m k c i) (V m c main_arg4 i)
def mom2 (k : Fin 4) (c : Dev nD) : Vec Ideal S1024x896 .f32 := fun i => newV (F := Ideal) (grad m k c i) (V m c main_arg5 i)

theorem point : ∀ t : Fin grid0.N, (BitVec.ofNat 32 (grid0.coords t 0).val).toNat = t.val := by decide +kernel

section Final

/-- The row of the whole array that row `p` of tile `t` is. -/
def row (hO : Ok m) (t : Fin (cfgM m hO).N) (p : Fin 256) : Fin 1024 := ⟨t.val * 256 + p.val, by
  have h : t.val < 4 := lt_of_lt_of_eq t.isLt (show (cfgM m hO).N = 4 from N_0)
  omega⟩

variable (hO : Ok m) (k : Fin 4) (hk : (word m).toNat = k.val) (c : Dev nD) (t : Fin (cfgM m hO).N) (p : Fin 256) (j : Fin 896)

/-- What a view places an index at is in its set. -/
theorem mem_of_emb {sp : Space} {s : Shape} {e : EltTy} (v : View sig .tc sp s e) (y : s.Idx) {i} (h : v.emb y = i) : i ∈ v.set := by
  subst h
  exact v.emb_mem_set y

theorem at2 : (((cfgM m hO).win 2).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 896 + 1 * j.val = j.val; omega

theorem at3 : (((cfgM m hO).win 3).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 896 + 1 * j.val = j.val; omega

theorem at4 : (((cfgM m hO).win 4).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 896 + 1 * j.val = j.val; omega

theorem at5 : (((cfgM m hO).win 5).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 896 + 1 * j.val = j.val; omega

theorem at6 : (((cfgM m hO).win 6).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 896 + 1 * j.val = j.val; omega

theorem at7 : (((cfgM m hO).win 7).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 896 + 1 * j.val = j.val; omega

theorem at8 : (((cfgM m hO).win 8).blk t).view.emb (ValueIdx.ix2 p j) = ValueIdx.ix2 (row m hO t p) j := by
  funext a
  apply Fin.ext
  match a with
  | ⟨0, _⟩ =>
    show (BitVec.ofNat 32 (grid0.coords t 0).val).toNat * 256 + 1 * p.val = t.val * 256 + p.val
    rw [point]; omega
  | ⟨1, _⟩ => show 0 * 896 + 1 * j.val = j.val; omega

theorem read2 : iblk m hO c 2 t (ValueIdx.ix2 p j) = V m c main_arg3 (ValueIdx.ix2 (row m hO t p) j) :=
  congrArg (V m c main_arg3) (at2 m hO t p j)

theorem read3 : iblk m hO c 3 t (ValueIdx.ix2 p j) = V m c main_arg4 (ValueIdx.ix2 (row m hO t p) j) :=
  congrArg (V m c main_arg4) (at3 m hO t p j)

theorem read4 : iblk m hO c 4 t (ValueIdx.ix2 p j) = V m c main_arg5 (ValueIdx.ix2 (row m hO t p) j) :=
  congrArg (V m c main_arg5) (at4 m hO t p j)

include hk in
theorem tile_eq : tile (iblk m hO c 0 t) (iblk m hO c 1 t) p j = grad m k c (ValueIdx.ix2 (row m hO t p) j) := by
  obtain rfl : c = 0 := Subsingleton.elim _ _
  have r0 : iblk m hO 0 0 t (ValueIdx.ix3 0 p j) = V m 0 main_arg1 (ValueIdx.ix3 k (row m hO t p) j) :=
    congrArg (V m 0 main_arg1) (funext fun a => Fin.ext (by
      match a with
      | ⟨0, _⟩ => exact (Nat.mul_one _).trans hk
      | ⟨1, _⟩ =>
        show (BitVec.ofNat 32 (grid0.coords t 0).val).toNat * 256 + 1 * p.val = t.val * 256 + p.val
        rw [point]; omega
      | ⟨2, _⟩ => show 0 * 896 + 1 * j.val = j.val; omega))
  have r1 (q : Fin 3) : iblk m hO 0 1 t (ValueIdx.ix3 q p j) = V m 0 main_arg2 (ValueIdx.ix3 q (row m hO t p) j) :=
    congrArg (V m 0 main_arg2) (funext fun a => Fin.ext (by
      match a with
      | ⟨0, _⟩ => show 0 * 3 + 1 * q.val = q.val; omega
      | ⟨1, _⟩ =>
        show (BitVec.ofNat 32 (grid0.coords t 0).val).toNat * 256 + 1 * p.val = t.val * 256 + p.val
        rw [point]; omega
      | ⟨2, _⟩ => show 0 * 896 + 1 * j.val = j.val; omega))
  show gsum (iblk m hO 0 0 t (ValueIdx.ix3 0 p j)) (iblk m hO 0 1 t (ValueIdx.ix3 0 p j)) (iblk m hO 0 1 t (ValueIdx.ix3 1 p j)) (iblk m hO 0 1 t (ValueIdx.ix3 2 p j)) = _
  rw [r0, r1, r1, r1]
  rfl

theorem cover5 (i : S1024x896.Idx) : ∃ t : Fin (cfgM m hO).N, ((cfgM m hO).win 5).flush t = true ∧ i ∈ (((cfgM m hO).win 5).blk t).view.set := by
  obtain ⟨r, j, rfl⟩ := exists_ix2 (M := 1024) (N := 896) i
  have hr : r.val / 256 < 4 := by omega
  refine ⟨⟨r.val / 256, lt_of_lt_of_eq hr (show 4 = (cfgM m hO).N from N_0.symm)⟩, flush0_5 _ _, ?_⟩
  refine mem_of_emb _ (ValueIdx.ix2 ⟨r.val % 256, Nat.mod_lt _ (by decide)⟩ j) ((at5 m hO _ _ j).trans ?_)
  refine congrArg (fun q => ValueIdx.ix2 q j) (Fin.ext ?_)
  show r.val / 256 * 256 + r.val % 256 = r.val
  omega

theorem cover6 (i : S1024x896.Idx) : ∃ t : Fin (cfgM m hO).N, ((cfgM m hO).win 6).flush t = true ∧ i ∈ (((cfgM m hO).win 6).blk t).view.set := by
  obtain ⟨r, j, rfl⟩ := exists_ix2 (M := 1024) (N := 896) i
  have hr : r.val / 256 < 4 := by omega
  refine ⟨⟨r.val / 256, lt_of_lt_of_eq hr (show 4 = (cfgM m hO).N from N_0.symm)⟩, flush0_6 _ _, ?_⟩
  refine mem_of_emb _ (ValueIdx.ix2 ⟨r.val % 256, Nat.mod_lt _ (by decide)⟩ j) ((at6 m hO _ _ j).trans ?_)
  refine congrArg (fun q => ValueIdx.ix2 q j) (Fin.ext ?_)
  show r.val / 256 * 256 + r.val % 256 = r.val
  omega

theorem cover7 (i : S1024x896.Idx) : ∃ t : Fin (cfgM m hO).N, ((cfgM m hO).win 7).flush t = true ∧ i ∈ (((cfgM m hO).win 7).blk t).view.set := by
  obtain ⟨r, j, rfl⟩ := exists_ix2 (M := 1024) (N := 896) i
  have hr : r.val / 256 < 4 := by omega
  refine ⟨⟨r.val / 256, lt_of_lt_of_eq hr (show 4 = (cfgM m hO).N from N_0.symm)⟩, flush0_7 _ _, ?_⟩
  refine mem_of_emb _ (ValueIdx.ix2 ⟨r.val % 256, Nat.mod_lt _ (by decide)⟩ j) ((at7 m hO _ _ j).trans ?_)
  refine congrArg (fun q => ValueIdx.ix2 q j) (Fin.ext ?_)
  show r.val / 256 * 256 + r.val % 256 = r.val
  omega

theorem cover8 (i : S1024x896.Idx) : ∃ t : Fin (cfgM m hO).N, ((cfgM m hO).win 8).flush t = true ∧ i ∈ (((cfgM m hO).win 8).blk t).view.set := by
  obtain ⟨r, j, rfl⟩ := exists_ix2 (M := 1024) (N := 896) i
  have hr : r.val / 256 < 4 := by omega
  refine ⟨⟨r.val / 256, lt_of_lt_of_eq hr (show 4 = (cfgM m hO).N from N_0.symm)⟩, flush0_8 _ _, ?_⟩
  refine mem_of_emb _ (ValueIdx.ix2 ⟨r.val % 256, Nat.mod_lt _ (by decide)⟩ j) ((at8 m hO _ _ j).trans ?_)
  refine congrArg (fun q => ValueIdx.ix2 q j) (Fin.ext ?_)
  show r.val / 256 * 256 + r.val % 256 = r.val
  omega

include hk

theorem out5 : (outsAt0 m hO c t).1 (ValueIdx.ix2 p j) = grad m k c (ValueIdx.ix2 (row m hO t p) j) := by
  unfold outsAt0
  dsimp only
  have e := block5 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rfl

theorem leaves5 (y : S256x896.Idx) : (outsAt0 m hO c t).1 y = grad m k c ((((cfgM m hO).win 5).blk t).view.emb y) := by
  obtain ⟨p, j, rfl⟩ := exists_ix2 (M := 256) (N := 896) y
  exact (out5 m hO k hk c t p j).trans (congrArg (grad m k c) (at5 m hO t p j)).symm

theorem final5 : (dats m hO 0 c).arrAt 5 (cfgM m hO).N = grad m k c :=
  (dats m hO 0 c).arrAt_eq_of_emb 5 _ (fun t hf y => by
    blk_simp
    rw [after0_5]
    exact leaves5 m hO k hk c t y) (cover5 m hO)

theorem out6 : (outsAt0 m hO c t).2.1 (ValueIdx.ix2 p j) = step m k c (ValueIdx.ix2 (row m hO t p) j) := by
  unfold outsAt0
  dsimp only
  have e := block6 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read2, read3, read4]; rfl

theorem leaves6 (y : S256x896.Idx) : (outsAt0 m hO c t).2.1 y = step m k c ((((cfgM m hO).win 6).blk t).view.emb y) := by
  obtain ⟨p, j, rfl⟩ := exists_ix2 (M := 256) (N := 896) y
  exact (out6 m hO k hk c t p j).trans (congrArg (step m k c) (at6 m hO t p j)).symm

theorem final6 : (dats m hO 0 c).arrAt 6 (cfgM m hO).N = step m k c :=
  (dats m hO 0 c).arrAt_eq_of_emb 6 _ (fun t hf y => by
    blk_simp
    rw [after0_6]
    exact leaves6 m hO k hk c t y) (cover6 m hO)

theorem out7 : (outsAt0 m hO c t).2.2.1 (ValueIdx.ix2 p j) = mom1 m k c (ValueIdx.ix2 (row m hO t p) j) := by
  unfold outsAt0
  dsimp only
  have e := block7 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read3]; rfl

theorem leaves7 (y : S256x896.Idx) : (outsAt0 m hO c t).2.2.1 y = mom1 m k c ((((cfgM m hO).win 7).blk t).view.emb y) := by
  obtain ⟨p, j, rfl⟩ := exists_ix2 (M := 256) (N := 896) y
  exact (out7 m hO k hk c t p j).trans (congrArg (mom1 m k c) (at7 m hO t p j)).symm

theorem final7 : (dats m hO 0 c).arrAt 7 (cfgM m hO).N = mom1 m k c :=
  (dats m hO 0 c).arrAt_eq_of_emb 7 _ (fun t hf y => by
    blk_simp
    rw [after0_7]
    exact leaves7 m hO k hk c t y) (cover7 m hO)

theorem out8 : (outsAt0 m hO c t).2.2.2 (ValueIdx.ix2 p j) = mom2 m k c (ValueIdx.ix2 (row m hO t p) j) := by
  unfold outsAt0
  dsimp only
  have e := block8 c (grid0.coords t) (iblk m hO c 0 t) (iblk m hO c 1 t) (iblk m hO c 2 t) (iblk m hO c 3 t) (iblk m hO c 4 t) (tbl m 0) p j _ (tile_eq m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
  refine e.trans ?_
  rw [read4]; rfl

theorem leaves8 (y : S256x896.Idx) : (outsAt0 m hO c t).2.2.2 y = mom2 m k c ((((cfgM m hO).win 8).blk t).view.emb y) := by
  obtain ⟨p, j, rfl⟩ := exists_ix2 (M := 256) (N := 896) y
  exact (out8 m hO k hk c t p j).trans (congrArg (mom2 m k c) (at8 m hO t p j)).symm

theorem final8 : (dats m hO 0 c).arrAt 8 (cfgM m hO).N = mom2 m k c :=
  (dats m hO 0 c).arrAt_eq_of_emb 8 _ (fun t hf y => by
    blk_simp
    rw [after0_8]
    exact leaves8 m hO k hk c t y) (cover8 m hO)

include hO in
/-- The run's results. -/
theorem run_results : θ_run defs (onTc (τ := τ) (main (F := Ideal))) ⟨m, fun _ => 0, ρ⟩ (fun r => ∀ c : Dev nD,
      r.2.mem ((c.tc : Thread nD τ).loc main_v0_0) = grad m k c
      ∧ r.2.mem ((c.tc : Thread nD τ).loc main_v0_1) = step m k c
      ∧ r.2.mem ((c.tc : Thread nD τ).loc main_v0_2) = mom1 m k c
      ∧ r.2.mem ((c.tc : Thread nD τ).loc main_v0_3) = mom2 m k c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 5).trans (final5 m hO k hk c), ((h.1.1 c).1 6).trans (final6 m hO k hk c),
      ((h.1.1 c).1 7).trans (final7 m hO k hk c), ((h.1.1 c).1 8).trans (final8 m hO k hk c), h.2.1 c⟩)
    (θ_run_and (run_main_quiescent m ρ hO) (frame m ρ hO))

end Final

/-! ## The reference -/

section Ref

open Cert.Reference14Ideal.Read

variable (x0 : IVec S1 32) (x1 : Vec Ideal S4x1024x896 .bf16) (x2 : Vec Ideal S3x1024x896 .bf16) (x3 x4 x5 : Vec Ideal S1024x896 .f32)
variable (k : Fin 4) (w : BitVec 32) (hw : ∀ i, x0 i = w) (hk : w.toNat = k.val) (r : Fin 1024) (j : Fin 896)

include hw in
theorem ref_mask (i : Cert.Reference14Ideal.S4x1024x896.Idx) :
    val_main_call0_v1 (F := Ideal) x0 i = IntOp.cmpi .eq (BitVec.ofNat 32 (i 0).val) w := by
  rw [val_main_call0_v1_apply, val_main_v4_apply, val_main_v3_apply, val_main_v2_apply, val_main_v0_apply]
  exact congrArg (IntOp.cmpi .eq _) (hw _)

include hw hk in
theorem ref_grad : val_main_v10 (F := Ideal) x0 x1 x2 (ValueIdx.ix2 r j)
    = gsum (x1 (ValueIdx.ix3 k r j)) (x2 (ValueIdx.ix3 0 r j)) (x2 (ValueIdx.ix3 1 r j)) (x2 (ValueIdx.ix3 2 r j)) := by
  rw [val_main_v10_apply, val_main_v7_apply, val_main_v9_apply]
  have z : (val_main_cst (F := Ideal)) (Shape.Idx.first (by decide)) = (0 : EReal) := Ideal.ofBits_zero_f32
  refine Eq.trans (congrArg₂ (· + · : EReal → EReal → EReal) ?_ ?_) (gsum_eq (x1 (ValueIdx.ix3 k r j)) (fun q => x2 (ValueIdx.ix3 q r j)) _ Ideal.ofBits_zero_f32)
  · refine Eq.trans ?_ (pick (fun q => x1 (ValueIdx.ix3 q r j)) w k hk _ _ Ideal.ofBits_zero_f32 Ideal.ofBits_zero_f32)
    refine congrArg₂ (· + · : EReal → EReal → EReal) rfl (Finset.sum_congr rfl fun q _ => ?_)
    rw [val_main_v6_apply, ref_mask x0 w hw, val_main_call0_v2_apply]
    refine congrArg₂ (Scalar.select _) ?_ rfl
    exact congrArg x1 (funext fun a => by match a with | ⟨0, _⟩ => rfl | ⟨1, _⟩ => rfl | ⟨2, _⟩ => rfl)
  · refine congrArg₂ (· + · : EReal → EReal → EReal) rfl (Finset.sum_congr rfl fun q _ => ?_)
    exact congrArg x2 (funext fun a => by match a with | ⟨0, _⟩ => rfl | ⟨1, _⟩ => rfl | ⟨2, _⟩ => rfl)

theorem ref_mom1 (i) : val_main_v15 (F := Ideal) x0 x1 x2 x4 i = newM (F := Ideal) (val_main_v10 (F := Ideal) x0 x1 x2 i) (x4 i) := rfl
theorem ref_mom2 (i) : val_main_v21 (F := Ideal) x0 x1 x2 x5 i = newV (F := Ideal) (val_main_v10 (F := Ideal) x0 x1 x2 i) (x5 i) := rfl
theorem ref_step (i) : val_main_v34 (F := Ideal) x0 x1 x2 x3 x4 x5 i
    = delta (F := Ideal) (val_main_v10 (F := Ideal) x0 x1 x2 i) (x3 i) (x4 i) (x5 i) := rfl

end Ref

section Same

open Cert.Reference14Ideal.Read

variable (k : Fin 4) (hk : (word m).toNat = k.val) (c : Dev nD)

/-- Every index of the one word is the one the index map reads. -/
theorem word_eq (i : S1.Idx) : m ((c.tc : Thread nD τ).loc main_arg0) i = word m := by
  obtain rfl : c = 0 := Subsingleton.elim _ _
  refine congrArg (m ((0 : Dev nD).tc.loc main_arg0)) (funext fun a => Fin.ext ?_)
  have h (b : Fin 1) (u v : Fin (S1.size b)) : u.val = v.val := by
    have hu : u.val < 1 := lt_of_lt_of_eq u.isLt (by match b with | ⟨0, _⟩ => rfl)
    have hv : v.val < 1 := lt_of_lt_of_eq v.isLt (by match b with | ⟨0, _⟩ => rfl)
    omega
  exact h a _ _

include hk

theorem grad_eq : val_main_v10 (F := Ideal) (m ((c.tc : Thread nD τ).loc main_arg0)) (m ((c.tc : Thread nD τ).loc main_arg1)) (m ((c.tc : Thread nD τ).loc main_arg2)) = grad m k c := by
  funext i
  obtain ⟨r, j, rfl⟩ := exists_ix2 (M := 1024) (N := 896) i
  exact ref_grad _ _ _ k (word m) (word_eq m c) hk r j

theorem step_eq : val_main_v34 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = step m k c :=
  funext fun i => (ref_step _ _ _ _ _ _ i).trans (by rw [grad_eq m k hk c]; rfl)

theorem mom1_eq : val_main_v15 (F := Ideal) (m ((c.tc : Thread nD τ).loc main_arg0)) (m ((c.tc : Thread nD τ).loc main_arg1)) (m ((c.tc : Thread nD τ).loc main_arg2))
    (m ((c.tc : Thread nD τ).loc main_arg4)) = mom1 m k c :=
  funext fun i => (ref_mom1 _ _ _ _ i).trans (by rw [grad_eq m k hk c]; rfl)

theorem mom2_eq : val_main_v21 (F := Ideal) (m ((c.tc : Thread nD τ).loc main_arg0)) (m ((c.tc : Thread nD τ).loc main_arg1)) (m ((c.tc : Thread nD τ).loc main_arg2))
    (m ((c.tc : Thread nD τ).loc main_arg5)) = mom2 m k c :=
  funext fun i => (ref_mom2 _ _ _ _ i).trans (by rw [grad_eq m k hk c]; rfl)

end Same

end Cert.Kernel14Ideal.Hand

namespace Cert.FinIn

open Cert.Kernel14Ideal.Hand

theorem frame_ideal : Cert.quiescent_Kernel14Ideal := fun m ρ h => Cert.Kernel14Ideal.Gen.frame m ρ (ok_ideal m h)

theorem reference_quiescent : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem algebraic : Cert.algebraic_Kernel14Ideal_Reference14Ideal := fun m ρ m' ρ' hpre hag => by
  have hk : (word m).toNat < 4 := (word_of_pre _ _ _ _ _ _ (hpre 0) _).1
  have hO := ok_ideal m hpre
  exact ⟨fun c => grad m ⟨_, hk⟩ c, fun c => step m ⟨_, hk⟩ c, fun c => mom1 m ⟨_, hk⟩ c, fun c => mom2 m ⟨_, hk⟩ c, run_results m ρ hO ⟨_, hk⟩ rfl,
    (θ_run Cert.Reference14Ideal.defs _ _).mono (fun _ h c => by
        obtain ⟨e0, e1, e2, e3, e4, e5⟩ := hag c
        refine ⟨(h c).1.trans ?_, (h c).2.1.trans ?_, (h c).2.2.1.trans ?_, (h c).2.2.2.1.trans ?_, (h c).2.2.2.2⟩
        · show _ = grad m _ c
          rw [← grad_eq m ⟨_, hk⟩ rfl c, ← e0, ← e1, ← e2]
          exact Cert.Reference14Ideal.Read.val_main_v10_eq (F := Ideal) _ _ _
        · show _ = step m _ c
          rw [← step_eq m ⟨_, hk⟩ rfl c, ← e0, ← e1, ← e2, ← e3, ← e4, ← e5]
          exact Cert.Reference14Ideal.Read.val_main_v34_eq (F := Ideal) _ _ _ _ _ _
        · show _ = mom1 m _ c
          rw [← mom1_eq m ⟨_, hk⟩ rfl c, ← e0, ← e1, ← e2, ← e4]
          exact Cert.Reference14Ideal.Read.val_main_v15_eq (F := Ideal) _ _ _ _
        · show _ = mom2 m _ c
          rw [← mom2_eq m ⟨_, hk⟩ rfl c, ← e0, ← e1, ← e2, ← e5]
          exact Cert.Reference14Ideal.Read.val_main_v21_eq (F := Ideal) _ _ _ _)
      (Cert.Reference14Ideal.Value.run (F := Ideal) m' ρ')⟩

end Cert.FinIn

end
-- ==== Proof.FinMid.lean ====
/- finish_mid: the gradients of three weights, each summed over the four chips' parts, and the optimiser's step on each. -/
module

public import proofs.«01_k».proof.Defs
public import proofs.«01_k».proof.Proof.AdamRow
public import proofs.«01_k».proof.Proof.Common
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Pre_chip_named13
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.FinMid

/-- The index that the word names, from the precondition. -/
theorem word_of_pre {F : FTy → Type} [FloatOps F] k a1 a2 a3 a4 a5 a6 a7 a8 a9 a10 a11 a12 a13 a14 a15
    (h : Cert.Pre_chip_named13.fn (F := F) k a1 a2 a3 a4 a5 a6 a7 a8 a9 a10 a11 a12 a13 a14 a15 = fun _ => 1#1) (i : Cert.Pre_chip_named13.S1.Idx) :
    (k i).toNat < 4 ∧ (k i).toInt = ((k i).toNat : Int) :=
  Cert.AdamRow.chip_word (k i) (congrFun h i)

/-- The block of one of the four parts lies inside the array. -/
theorem part_fits (n : Nat) (hn : n < 4) (q : Nat) (hq : q < 1) (a : Fin 3) :
    ((![n, (BitVec.ofNat 32 q).toNat, (0#32 : BitVec 32).toNat] : Fin 3 → Nat) a + 1) * (![1, 128, 1024] : Fin 3 → Nat) a ≤ (![4, 128, 1024] : Fin 3 → Nat) a := by
  obtain rfl : q = 0 := by omega
  match a with
  | ⟨0, _⟩ => show (n + 1) * 1 ≤ 4; omega
  | ⟨1, _⟩ => show (0 + 1) * 128 ≤ 128; omega
  | ⟨2, _⟩ => show (0 + 1) * 1024 ≤ 1024; omega

section Word

open Cert.Kernel13 Cert.Kernel13.Gen

theorem ok_word (m : (ℓ : Loc nD τ sig) → Buf (Elt Bits) ℓ) (h : Cert.Pre_Kernel13 m) : Ok m := by
  refine ⟨fun i => ?_, fun i => ?_, fun i => ?_⟩
  · exact ⟨fun a => Cert.FinMid.part_fits _ (word_of_pre _ _ _ _ _ _ _ _ _ _ _ _ _ _ _ _ (h 0) ((Rect.unit (s := S1) ![0] S1.size inb_S1_S1_0).emb (Shape.Idx.first (by decide)))).1 (i 0).val (i 0).isLt a,
      .inr (Affine.block_words_dvd (of_decide_eq_true rfl) (by decide))⟩
  · exact ⟨fun a => Cert.FinMid.part_fits _ (word_of_pre _ _ _ _ _ _ _ _ _ _ _ _ _ _ _ _ (h 0) ((Rect.unit (s := S1) ![0] S1.size inb_S1_S1_0).emb (Shape.Idx.first (by decide)))).1 (i 0).val (i 0).isLt a,
      .inr (Affine.block_words_dvd (of_decide_eq_true rfl) (by decide))⟩
  · exact ⟨fun a => Cert.FinMid.part_fits _ (word_of_pre _ _ _ _ _ _ _ _ _ _ _ _ _ _ _ _ (h 0) ((Rect.unit (s := S1) ![0] S1.size inb_S1_S1_0).emb (Shape.Idx.first (by decide)))).1 (i 0).val (i 0).isLt a,
      .inr (Affine.block_words_dvd (of_decide_eq_true rfl) (by decide))⟩

theorem frame_word : Cert.quiescent_Kernel13 := fun m ρ h => Cert.Kernel13.Gen.frame m ρ (ok_word m h)

end Word

end Cert.FinMid

namespace Cert.Kernel13Ideal.Hand

open Cert.Kernel13Ideal Cert.Kernel13Ideal.Gen Cert.Common Cert.AdamRow

variable (m : (ℓ : Loc nD τ sig) → Buf (Elt Ideal) ℓ) (ρ : Dev nD → PrngReg)

theorem ok_ideal (h : Cert.Pre_Kernel13Ideal m) : Ok m := by
  refine ⟨fun i => ?_, fun i => ?_, fun i => ?_⟩
  · exact ⟨fun a => Cert.FinMid.part_fits _ (Cert.FinMid.word_of_pre _ _ _ _ _ _ _ _ _ _ _ _ _ _ _ _ (h 0) ((Rect.unit (s := S1) ![0] S1.size inb_S1_S1_0).emb (Shape.Idx.first (by decide)))).1 (i 0).val (i 0).isLt a,
      .inr (Affine.block_words_dvd (of_decide_eq_true rfl) (by decide))⟩
  · exact ⟨fun a => Cert.FinMid.part_fits _ (Cert.FinMid.word_of_pre _ _ _ _ _ _ _ _ _ _ _ _ _ _ _ _ (h 0) ((Rect.unit (s := S1) ![0] S1.size inb_S1_S1_0).emb (Shape.Idx.first (by decide)))).1 (i 0).val (i 0).isLt a,
      .inr (Affine.block_words_dvd (of_decide_eq_true rfl) (by decide))⟩
  · exact ⟨fun a => Cert.FinMid.part_fits _ (Cert.FinMid.word_of_pre _ _ _ _ _ _ _ _ _ _ _ _ _ _ _ _ (h 0) ((Rect.unit (s := S1) ![0] S1.size inb_S1_S1_0).emb (Shape.Idx.first (by decide)))).1 (i 0).val (i 0).isLt a,
      .inr (Affine.block_words_dvd (of_decide_eq_true rfl) (by decide))⟩

/-! ## The payloads at an index -/

section Pay

variable (v0 v3 v7 v11 : Vec Ideal S1x128x1024 .bf16) (v16 v17 v18 : Vec Ideal S128x1024 .f32) (p : Fin 128) (j : Fin 1024)

theorem drop_row (v : Vec Ideal S1x128x1024 .bf16) : shapeCast S128x1024 v shapeCasts_S1x128x1024_S128x1024 (ValueIdx.ix2 p j) = v (ValueIdx.ix3 0 p j) :=
  shapeCast_apply v _ (ValueIdx.ix2 p j) (ValueIdx.ix3 0 p j) (by
    rewrite [Shape.rowMajor_val_three, Shape.rowMajor_val_two]
    show (0 * 128 + p.val) * 1024 + j.val = p.val * 1024 + j.val
    omega)

/-- The sum of the four parts. -/
def total : Vec Ideal S128x1024 .f32 := k0_pay2 (F := Ideal) v0 v3 v7 v11

theorem total_apply : total v0 v3 v7 v11 (ValueIdx.ix2 p j)
    = gsum (v0 (ValueIdx.ix3 0 p j)) (v3 (ValueIdx.ix3 0 p j)) (v7 (ValueIdx.ix3 0 p j)) (v11 (ValueIdx.ix3 0 p j)) :=
  congrArg₂ (· + · : EReal → EReal → EReal) (congrArg₂ (· + · : EReal → EReal → EReal) (congrArg₂ (· + · : EReal → EReal → EReal)
    (drop_row p j v0) (drop_row p j v3)) (drop_row p j v7)) (drop_row p j v11)

theorem pay_sum_0 : k0_pay2 (F := Ideal) v0 v3 v7 v11 (ValueIdx.ix2 p j) = total v0 v3 v7 v11 (ValueIdx.ix2 p j) := rfl
theorem pay_step_0 : k0_pay6 (F := Ideal) v16 (k0_pay4 v0 v3 v7 v11 v18) (k0_pay5 v0 v3 v7 v11 v17) (Scalar.ofBits .f32 0x3C231ACC#32) (ValueIdx.ix2 p j) = delta (F := Ideal) (total v0 v3 v7 v11 (ValueIdx.ix2 p j)) (v16 (ValueIdx.ix2 p j)) (v17 (ValueIdx.ix2 p j)) (v18 (ValueIdx.ix2 p j)) := rfl
theorem pay_mom1_0 : k0_pay3 (F := Ideal) v0 v3 v7 v11 v17 (ValueIdx.ix2 p j) = newM (F := Ideal) (total v0 v3 v7 v11 (ValueIdx.ix2 p j)) (v17 (ValueIdx.ix2 p j)) := rfl
theorem pay_mom2_0 : k0_pay4 (F := Ideal) v0 v3 v7 v11 v18 (ValueIdx.ix2 p j) = newV (F := Ideal) (total v0 v3 v7 v11 (ValueIdx.ix2 p j)) (v18 (ValueIdx.ix2 p j)) := rfl
theorem pay_sum_1 : k0_pay7 (F := Ideal) v0 v3 v7 v11 (ValueIdx.ix2 p j) = total v0 v3 v7 v11 (ValueIdx.ix2 p j) := rfl
theorem pay_step_1 : k0_pay10 (F := Ideal) (k0_pay7 v0 v3 v7 v11) v16 v17 v18 (ValueIdx.ix2 p j) = delta (F := Ideal) (total v0 v3 v7 v11 (ValueIdx.ix2 p j)) (v16 (ValueIdx.ix2 p j)) (v17 (ValueIdx.ix2 p j)) (v18 (ValueIdx.ix2 p j)) := rfl
theorem pay_mom1_1 : k0_pay8 (F := Ideal) (k0_pay7 v0 v3 v7 v11) v17 (ValueIdx.ix2 p j) = newM (F := Ideal) (total v0 v3 v7 v11 (ValueIdx.ix2 p j)) (v17 (ValueIdx.ix2 p j)) := rfl
theorem pay_mom2_1 : k0_pay9 (F := Ideal) (k0_pay7 v0 v3 v7 v11) v18 (ValueIdx.ix2 p j) = newV (F := Ideal) (total v0 v3 v7 v11 (ValueIdx.ix2 p j)) (v18 (ValueIdx.ix2 p j)) := rfl
theorem pay_sum_2 : k0_pay12 (F := Ideal) (k0_pay11 v0) v3 v7 v11 (ValueIdx.ix2 p j) = total v0 v3 v7 v11 (ValueIdx.ix2 p j) := rfl
theorem pay_step_2 : k0_pay1 (F := Ideal) (k0_pay15 (k0_pay11 v0) v3 v7 v11 v17 v18) (k0_pay16 v16) (ValueIdx.ix2 p j) = delta (F := Ideal) (total v0 v3 v7 v11 (ValueIdx.ix2 p j)) (v16 (ValueIdx.ix2 p j)) (v17 (ValueIdx.ix2 p j)) (v18 (ValueIdx.ix2 p j)) := rfl
theorem pay_mom1_2 : k0_pay13 (F := Ideal) (k0_pay11 v0) v3 v7 v11 v17 (ValueIdx.ix2 p j) = newM (F := Ideal) (total v0 v3 v7 v11 (ValueIdx.ix2 p j)) (v17 (ValueIdx.ix2 p j)) := rfl
theorem pay_mom2_2 : k0_pay14 (F := Ideal) (k0_pay11 v0) v3 v7 v11 v18 (ValueIdx.ix2 p j) = newV (F := Ideal) (total v0 v3 v7 v11 (ValueIdx.ix2 p j)) (v18 (ValueIdx.ix2 p j)) := rfl

end Pay

/-! ## What a point leaves in each output -/

section Block

/-- The summed gradient of a tile. -/
def tile (x : Vec Ideal S1x128x1024 .bf16) (y : Vec Ideal S3x128x1024 .bf16) (p : Fin 128) (j : Fin 1024) : EReal :=
  gsum (x (ValueIdx.ix3 0 p j)) (y (ValueIdx.ix3 0 p j)) (y (ValueIdx.ix3 1 p j)) (y (ValueIdx.ix3 2 p j))

theorem loads (y : Vec Ideal S3x128x1024 .bf16) (p : Fin 128) (j : Fin 1024) (k : Fin 3) inb :
    View.ld y (Rect.unit ![k.val, 0, 0] S1x128x1024.size inb) (ValueIdx.ix3 0 p j) = y (ValueIdx.ix3 k p j) :=
  View.ld_unit_apply_of _ _ _ _ _ _ fun a => by
    match a with
    | ⟨0, _⟩ => rfl
    | ⟨1, _⟩ => exact (Nat.zero_add _).symm
    | ⟨2, _⟩ => exact (Nat.zero_add _).symm

theorem total_tile (x : Vec Ideal S1x128x1024 .bf16) (y : Vec Ideal S3x128x1024 .bf16) (p : Fin 128) (j : Fin 1024) i0 i1 i2 :
    total x (View.ld y (Rect.unit ![0, 0, 0] S1x128x1024.size i0)) (View.ld y (Rect.unit ![1, 0, 0] S1x128x1024.size i1))
      (View.ld y (Rect.unit ![2, 0, 0] S1x128x1024.size i2)) (ValueIdx.ix2 p j) = tile x y p j := by
  rw [total_apply]
  unfold tile
  rw [show View.ld y (Rect.unit ![0, 0, 0] S1x128x1024.size i0) (ValueIdx.ix3 0 p j) = _ from loads y p j 0 i0,
    show View.ld y (Rect.unit ![1, 0, 0] S1x128x1024.size i1) (ValueIdx.ix3 0 p j) = _ from loads y p j 1 i1,
    show View.ld y (Rect.unit ![2, 0, 0] S1x128x1024.size i2) (ValueIdx.ix3 0 p j) = _ from loads y p j 2 i2]

variable (c : Dev nD) (i : grid0.Coords)
variable (x0 x1 x2 : Vec Ideal S1x128x1024 .bf16) (x3 x4 x5 : Vec Ideal S3x128x1024 .bf16) (x6 x7 x8 x9 x10 x11 x12 x13 x14 : Vec Ideal S128x1024 .f32) (xt : TbBuf0 (F := Ideal) c tbM0_0)
variable (p : Fin 128) (j : Fin 1024) (g : EReal)

theorem block15 (hg : tile x0 x3 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_15 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = g := by
  frame_out
  refine (pay_sum_0 _ _ _ _ p j).trans ?_
  rw [total_tile, hg]

theorem block16 (hg : tile x0 x3 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_16 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = delta (F := Ideal) g (x6 (ValueIdx.ix2 p j)) (x9 (ValueIdx.ix2 p j)) (x12 (ValueIdx.ix2 p j)) := by
  frame_out
  refine (pay_step_0 _ _ _ _ _ _ _ p j).trans ?_
  rw [total_tile, hg]

theorem block17 (hg : tile x0 x3 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_17 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = newM (F := Ideal) g (x9 (ValueIdx.ix2 p j)) := by
  frame_out
  refine (pay_mom1_0 _ _ _ _ _ p j).trans ?_
  rw [total_tile, hg]

theorem block18 (hg : tile x0 x3 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_18 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = newV (F := Ideal) g (x12 (ValueIdx.ix2 p j)) := by
  frame_out
  refine (pay_mom2_0 _ _ _ _ _ p j).trans ?_
  rw [total_tile, hg]

theorem block19 (hg : tile x1 x4 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_19 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = g := by
  frame_out
  refine (pay_sum_1 _ _ _ _ p j).trans ?_
  rw [total_tile, hg]

theorem block20 (hg : tile x1 x4 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_20 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = delta (F := Ideal) g (x7 (ValueIdx.ix2 p j)) (x10 (ValueIdx.ix2 p j)) (x13 (ValueIdx.ix2 p j)) := by
  frame_out
  refine (pay_step_1 _ _ _ _ _ _ _ p j).trans ?_
  rw [total_tile, hg]

theorem block21 (hg : tile x1 x4 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_21 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = newM (F := Ideal) g (x10 (ValueIdx.ix2 p j)) := by
  frame_out
  refine (pay_mom1_1 _ _ _ _ _ p j).trans ?_
  rw [total_tile, hg]

theorem block22 (hg : tile x1 x4 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_22 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = newV (F := Ideal) g (x13 (ValueIdx.ix2 p j)) := by
  frame_out
  refine (pay_mom2_1 _ _ _ _ _ p j).trans ?_
  rw [total_tile, hg]

theorem block23 (hg : tile x2 x5 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_23 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = g := by
  frame_out
  refine (pay_sum_2 _ _ _ _ p j).trans ?_
  rw [total_tile, hg]

theorem block24 (hg : tile x2 x5 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_24 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = delta (F := Ideal) g (x8 (ValueIdx.ix2 p j)) (x11 (ValueIdx.ix2 p j)) (x14 (ValueIdx.ix2 p j)) := by
  frame_out
  refine (pay_step_2 _ _ _ _ _ _ _ p j).trans ?_
  rw [total_tile, hg]

theorem block25 (hg : tile x2 x5 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_25 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = newM (F := Ideal) g (x11 (ValueIdx.ix2 p j)) := by
  frame_out
  refine (pay_mom1_2 _ _ _ _ _ p j).trans ?_
  rw [total_tile, hg]

theorem block26 (hg : tile x2 x5 p j = g) a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 :
    out0_A_26 (F := Ideal) c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 x0 x1 x2 x3 x4 x5 x6 x7 x8 x9 x10 x11 x12 x13 x14 xt (ValueIdx.ix2 p j) = newV (F := Ideal) g (x14 (ValueIdx.ix2 p j)) := by
  frame_out
  refine (pay_mom2_2 _ _ _ _ _ p j).trans ?_
  rw [total_tile, hg]

end Block

/-! ## The arrays the run ends with -/

/-- The word the index map reads. -/
abbrev word : BitVec 32 := m ((0 : Dev nD).tc.loc main_arg0) ((Rect.unit (s := S1) ![0] S1.size inb_S1_S1_0).emb (Shape.Idx.first (by decide)))

/-- The summed gradient for chip `k`, the step, and the new moments, of a weight with parts `a` and `b`. -/
def grad (k : Fin 4) (a : Vec Ideal S4x128x1024 .bf16) (b : Vec Ideal S3x128x1024 .bf16) : Vec Ideal S128x1024 .f32 := fun i =>
  gsum (a (ValueIdx.ix3 k (i 0) (i 1))) (b (ValueIdx.ix3 0 (i 0) (i 1))) (b (ValueIdx.ix3 1 (i 0) (i 1))) (b (ValueIdx.ix3 2 (i 0) (i 1)))
def step (g w u v : Vec Ideal S128x1024 .f32) : Vec Ideal S128x1024 .f32 := fun i => delta (F := Ideal) (g i) (w i) (u i) (v i)
def mom1 (g u : Vec Ideal S128x1024 .f32) : Vec Ideal S128x1024 .f32 := fun i => newM (F := Ideal) (g i) (u i)
def mom2 (g v : Vec Ideal S128x1024 .f32) : Vec Ideal S128x1024 .f32 := fun i => newV (F := Ideal) (g i) (v i)

abbrev end15 (k : Fin 4) (c : Dev nD) : Vec Ideal S128x1024 .f32 := grad k (V m c main_arg1) (V m c main_arg4)
abbrev end16 (k : Fin 4) (c : Dev nD) : Vec Ideal S128x1024 .f32 := step (grad k (V m c main_arg1) (V m c main_arg4)) (V m c main_arg7) (V m c main_arg10) (V m c main_arg13)
abbrev end17 (k : Fin 4) (c : Dev nD) : Vec Ideal S128x1024 .f32 := mom1 (grad k (V m c main_arg1) (V m c main_arg4)) (V m c main_arg10)
abbrev end18 (k : Fin 4) (c : Dev nD) : Vec Ideal S128x1024 .f32 := mom2 (grad k (V m c main_arg1) (V m c main_arg4)) (V m c main_arg13)
abbrev end19 (k : Fin 4) (c : Dev nD) : Vec Ideal S128x1024 .f32 := grad k (V m c main_arg2) (V m c main_arg5)
abbrev end20 (k : Fin 4) (c : Dev nD) : Vec Ideal S128x1024 .f32 := step (grad k (V m c main_arg2) (V m c main_arg5)) (V m c main_arg8) (V m c main_arg11) (V m c main_arg14)
abbrev end21 (k : Fin 4) (c : Dev nD) : Vec Ideal S128x1024 .f32 := mom1 (grad k (V m c main_arg2) (V m c main_arg5)) (V m c main_arg11)
abbrev end22 (k : Fin 4) (c : Dev nD) : Vec Ideal S128x1024 .f32 := mom2 (grad k (V m c main_arg2) (V m c main_arg5)) (V m c main_arg14)
abbrev end23 (k : Fin 4) (c : Dev nD) : Vec Ideal S128x1024 .f32 := grad k (V m c main_arg3) (V m c main_arg6)
abbrev end24 (k : Fin 4) (c : Dev nD) : Vec Ideal S128x1024 .f32 := step (grad k (V m c main_arg3) (V m c main_arg6)) (V m c main_arg9) (V m c main_arg12) (V m c main_arg15)
abbrev end25 (k : Fin 4) (c : Dev nD) : Vec Ideal S128x1024 .f32 := mom1 (grad k (V m c main_arg3) (V m c main_arg6)) (V m c main_arg12)
abbrev end26 (k : Fin 4) (c : Dev nD) : Vec Ideal S128x1024 .f32 := mom2 (grad k (V m c main_arg3) (V m c main_arg6)) (V m c main_arg15)

theorem point : ∀ t : Fin grid0.N, (BitVec.ofNat 32 (grid0.coords t 0).val).toNat = 0 := by decide +kernel

section Final

variable (hO : Ok m) (k : Fin 4) (hk : (word m).toNat = k.val) (c : Dev nD) (t : Fin (cfgM m hO).N) (p : Fin 128) (j : Fin 1024)

/-- What a view places an index at is in its set. -/
theorem mem_of_emb {sp : Space} {s : Shape} {e : EltTy} (v : View sig .tc sp s e) (y : s.Idx) {i} (h : v.emb y = i) : i ∈ v.set := by
  subst h
  exact v.emb_mem_set y

/-- An index whose coordinates are a tile's, at the one grid point, is the tile's own index. -/
theorem place (e : S128x1024.Idx) (h0 : (e 0).val = (BitVec.ofNat 32 (grid0.coords t 0).val).toNat * 128 + 1 * p.val)
    (h1 : (e 1).val = 0 * 1024 + 1 * j.val) : e = ValueIdx.ix2 p j := by
  have hp := point t
  funext a
  apply Fin.ext
  match a with
  | ⟨0, _⟩ => exact h0.trans (by rw [hp]; show 0 * 128 + 1 * p.val = p.val; omega)
  | ⟨1, _⟩ => exact h1.trans (by show 0 * 1024 + 1 * j.val = j.val; omega)

theorem at6 : (((cfgM m hO).win 6).blk t).view.emb (ValueIdx.ix2 p j) = ValueIdx.ix2 p j := place m hO t p j _ rfl rfl
theorem at7 : (((cfgM m hO).win 7).blk t).view.emb (ValueIdx.ix2 p j) = ValueIdx.ix2 p j := place m hO t p j _ rfl rfl
theorem at8 : (((cfgM m hO).win 8).blk t).view.emb (ValueIdx.ix2 p j) = ValueIdx.ix2 p j := place m hO t p j _ rfl rfl
theorem at9 : (((cfgM m hO).win 9).blk t).view.emb (ValueIdx.ix2 p j) = ValueIdx.ix2 p j := place m hO t p j _ rfl rfl
theorem at10 : (((cfgM m hO).win 10).blk t).view.emb (ValueIdx.ix2 p j) = ValueIdx.ix2 p j := place m hO t p j _ rfl rfl
theorem at11 : (((cfgM m hO).win 11).blk t).view.emb (ValueIdx.ix2 p j) = ValueIdx.ix2 p j := place m hO t p j _ rfl rfl
theorem at12 : (((cfgM m hO).win 12).blk t).view.emb (ValueIdx.ix2 p j) = ValueIdx.ix2 p j := place m hO t p j _ rfl rfl
theorem at13 : (((cfgM m hO).win 13).blk t).view.emb (ValueIdx.ix2 p j) = ValueIdx.ix2 p j := place m hO t p j _ rfl rfl
theorem at14 : (((cfgM m hO).win 14).blk t).view.emb (ValueIdx.ix2 p j) = ValueIdx.ix2 p j := place m hO t p j _ rfl rfl
theorem at15 : (((cfgM m hO).win 15).blk t).view.emb (ValueIdx.ix2 p j) = ValueIdx.ix2 p j := place m hO t p j _ rfl rfl
theorem at16 : (((cfgM m hO).win 16).blk t).view.emb (ValueIdx.ix2 p j) = ValueIdx.ix2 p j := place m hO t p j _ rfl rfl
theorem at17 : (((cfgM m hO).win 17).blk t).view.emb (ValueIdx.ix2 p j) = ValueIdx.ix2 p j := place m hO t p j _ rfl rfl
theorem at18 : (((cfgM m hO).win 18).blk t).view.emb (ValueIdx.ix2 p j) = ValueIdx.ix2 p j := place m hO t p j _ rfl rfl
theorem at19 : (((cfgM m hO).win 19).blk t).view.emb (ValueIdx.ix2 p j) = ValueIdx.ix2 p j := place m hO t p j _ rfl rfl
theorem at20 : (((cfgM m hO).win 20).blk t).view.emb (ValueIdx.ix2 p j) = ValueIdx.ix2 p j := place m hO t p j _ rfl rfl
theorem at21 : (((cfgM m hO).win 21).blk t).view.emb (ValueIdx.ix2 p j) = ValueIdx.ix2 p j := place m hO t p j _ rfl rfl
theorem at22 : (((cfgM m hO).win 22).blk t).view.emb (ValueIdx.ix2 p j) = ValueIdx.ix2 p j := place m hO t p j _ rfl rfl
theorem at23 : (((cfgM m hO).win 23).blk t).view.emb (ValueIdx.ix2 p j) = ValueIdx.ix2 p j := place m hO t p j _ rfl rfl
theorem at24 : (((cfgM m hO).win 24).blk t).view.emb (ValueIdx.ix2 p j) = ValueIdx.ix2 p j := place m hO t p j _ rfl rfl
theorem at25 : (((cfgM m hO).win 25).blk t).view.emb (ValueIdx.ix2 p j) = ValueIdx.ix2 p j := place m hO t p j _ rfl rfl
theorem at26 : (((cfgM m hO).win 26).blk t).view.emb (ValueIdx.ix2 p j) = ValueIdx.ix2 p j := place m hO t p j _ rfl rfl

theorem read6 : iblk m hO c 6 t (ValueIdx.ix2 p j) = V m c main_arg7 (ValueIdx.ix2 p j) := congrArg (V m c main_arg7) (at6 m hO t p j)
theorem read7 : iblk m hO c 7 t (ValueIdx.ix2 p j) = V m c main_arg8 (ValueIdx.ix2 p j) := congrArg (V m c main_arg8) (at7 m hO t p j)
theorem read8 : iblk m hO c 8 t (ValueIdx.ix2 p j) = V m c main_arg9 (ValueIdx.ix2 p j) := congrArg (V m c main_arg9) (at8 m hO t p j)
theorem read9 : iblk m hO c 9 t (ValueIdx.ix2 p j) = V m c main_arg10 (ValueIdx.ix2 p j) := congrArg (V m c main_arg10) (at9 m hO t p j)
theorem read10 : iblk m hO c 10 t (ValueIdx.ix2 p j) = V m c main_arg11 (ValueIdx.ix2 p j) := congrArg (V m c main_arg11) (at10 m hO t p j)
theorem read11 : iblk m hO c 11 t (ValueIdx.ix2 p j) = V m c main_arg12 (ValueIdx.ix2 p j) := congrArg (V m c main_arg12) (at11 m hO t p j)
theorem read12 : iblk m hO c 12 t (ValueIdx.ix2 p j) = V m c main_arg13 (ValueIdx.ix2 p j) := congrArg (V m c main_arg13) (at12 m hO t p j)
theorem read13 : iblk m hO c 13 t (ValueIdx.ix2 p j) = V m c main_arg14 (ValueIdx.ix2 p j) := congrArg (V m c main_arg14) (at13 m hO t p j)
theorem read14 : iblk m hO c 14 t (ValueIdx.ix2 p j) = V m c main_arg15 (ValueIdx.ix2 p j) := congrArg (V m c main_arg15) (at14 m hO t p j)

/-- The same of an index of the four parts, or of the three that arrived. -/
theorem place3 {n : Nat} (r : Fin n) (e : (⟨3, ![n, 128, 1024]⟩ : Shape).Idx) (h0 : (e 0).val = r.val)
    (h1 : (e 1).val = (BitVec.ofNat 32 (grid0.coords t 0).val).toNat * 128 + 1 * p.val) (h2 : (e 2).val = 0 * 1024 + 1 * j.val) : e = ValueIdx.ix3 r p j := by
  have hp := point t
  funext a
  apply Fin.ext
  match a with
  | ⟨0, _⟩ => exact h0
  | ⟨1, _⟩ => exact h1.trans (by rw [hp]; show 0 * 128 + 1 * p.val = p.val; omega)
  | ⟨2, _⟩ => exact h2.trans (by show 0 * 1024 + 1 * j.val = j.val; omega)

theorem low (q : Fin 3) : 0 * 3 + 1 * q.val = q.val := by omega

include hk in
theorem tile0 : tile (iblk m hO c 0 t) (iblk m hO c 3 t) p j = grad k (V m c main_arg1) (V m c main_arg4) (ValueIdx.ix2 p j) := by
  obtain rfl : c = 0 := Subsingleton.elim _ _
  have r0 : iblk m hO 0 0 t (ValueIdx.ix3 0 p j) = V m 0 main_arg1 (ValueIdx.ix3 k p j) :=
    congrArg (V m 0 main_arg1) (place3 m hO t p j k _ ((Nat.mul_one _).trans hk) rfl rfl)
  have r1 (q : Fin 3) : iblk m hO 0 3 t (ValueIdx.ix3 q p j) = V m 0 main_arg4 (ValueIdx.ix3 q p j) :=
    congrArg (V m 0 main_arg4) (place3 m hO t p j q _ (low q) rfl rfl)
  show gsum (iblk m hO 0 0 t (ValueIdx.ix3 0 p j)) (iblk m hO 0 3 t (ValueIdx.ix3 0 p j)) (iblk m hO 0 3 t (ValueIdx.ix3 1 p j)) (iblk m hO 0 3 t (ValueIdx.ix3 2 p j)) = _
  rw [r0, r1, r1, r1]
  rfl

include hk in
theorem tile1 : tile (iblk m hO c 1 t) (iblk m hO c 4 t) p j = grad k (V m c main_arg2) (V m c main_arg5) (ValueIdx.ix2 p j) := by
  obtain rfl : c = 0 := Subsingleton.elim _ _
  have r0 : iblk m hO 0 1 t (ValueIdx.ix3 0 p j) = V m 0 main_arg2 (ValueIdx.ix3 k p j) :=
    congrArg (V m 0 main_arg2) (place3 m hO t p j k _ ((Nat.mul_one _).trans hk) rfl rfl)
  have r1 (q : Fin 3) : iblk m hO 0 4 t (ValueIdx.ix3 q p j) = V m 0 main_arg5 (ValueIdx.ix3 q p j) :=
    congrArg (V m 0 main_arg5) (place3 m hO t p j q _ (low q) rfl rfl)
  show gsum (iblk m hO 0 1 t (ValueIdx.ix3 0 p j)) (iblk m hO 0 4 t (ValueIdx.ix3 0 p j)) (iblk m hO 0 4 t (ValueIdx.ix3 1 p j)) (iblk m hO 0 4 t (ValueIdx.ix3 2 p j)) = _
  rw [r0, r1, r1, r1]
  rfl

include hk in
theorem tile2 : tile (iblk m hO c 2 t) (iblk m hO c 5 t) p j = grad k (V m c main_arg3) (V m c main_arg6) (ValueIdx.ix2 p j) := by
  obtain rfl : c = 0 := Subsingleton.elim _ _
  have r0 : iblk m hO 0 2 t (ValueIdx.ix3 0 p j) = V m 0 main_arg3 (ValueIdx.ix3 k p j) :=
    congrArg (V m 0 main_arg3) (place3 m hO t p j k _ ((Nat.mul_one _).trans hk) rfl rfl)
  have r1 (q : Fin 3) : iblk m hO 0 5 t (ValueIdx.ix3 q p j) = V m 0 main_arg6 (ValueIdx.ix3 q p j) :=
    congrArg (V m 0 main_arg6) (place3 m hO t p j q _ (low q) rfl rfl)
  show gsum (iblk m hO 0 2 t (ValueIdx.ix3 0 p j)) (iblk m hO 0 5 t (ValueIdx.ix3 0 p j)) (iblk m hO 0 5 t (ValueIdx.ix3 1 p j)) (iblk m hO 0 5 t (ValueIdx.ix3 2 p j)) = _
  rw [r0, r1, r1, r1]
  rfl

theorem one : 0 < (cfgM m hO).N := by rw [show (cfgM m hO).N = 1 from N_0]; decide

theorem cover15 (i : S128x1024.Idx) : ∃ t : Fin (cfgM m hO).N, ((cfgM m hO).win 15).flush t = true ∧ i ∈ (((cfgM m hO).win 15).blk t).view.set := by
  obtain ⟨r, j, rfl⟩ := exists_ix2 (M := 128) (N := 1024) i
  exact ⟨⟨0, one m hO⟩, flush0_15 _ _, mem_of_emb _ (ValueIdx.ix2 r j) (at15 m hO _ r j)⟩

theorem cover16 (i : S128x1024.Idx) : ∃ t : Fin (cfgM m hO).N, ((cfgM m hO).win 16).flush t = true ∧ i ∈ (((cfgM m hO).win 16).blk t).view.set := by
  obtain ⟨r, j, rfl⟩ := exists_ix2 (M := 128) (N := 1024) i
  exact ⟨⟨0, one m hO⟩, flush0_16 _ _, mem_of_emb _ (ValueIdx.ix2 r j) (at16 m hO _ r j)⟩

theorem cover17 (i : S128x1024.Idx) : ∃ t : Fin (cfgM m hO).N, ((cfgM m hO).win 17).flush t = true ∧ i ∈ (((cfgM m hO).win 17).blk t).view.set := by
  obtain ⟨r, j, rfl⟩ := exists_ix2 (M := 128) (N := 1024) i
  exact ⟨⟨0, one m hO⟩, flush0_17 _ _, mem_of_emb _ (ValueIdx.ix2 r j) (at17 m hO _ r j)⟩

theorem cover18 (i : S128x1024.Idx) : ∃ t : Fin (cfgM m hO).N, ((cfgM m hO).win 18).flush t = true ∧ i ∈ (((cfgM m hO).win 18).blk t).view.set := by
  obtain ⟨r, j, rfl⟩ := exists_ix2 (M := 128) (N := 1024) i
  exact ⟨⟨0, one m hO⟩, flush0_18 _ _, mem_of_emb _ (ValueIdx.ix2 r j) (at18 m hO _ r j)⟩

theorem cover19 (i : S128x1024.Idx) : ∃ t : Fin (cfgM m hO).N, ((cfgM m hO).win 19).flush t = true ∧ i ∈ (((cfgM m hO).win 19).blk t).view.set := by
  obtain ⟨r, j, rfl⟩ := exists_ix2 (M := 128) (N := 1024) i
  exact ⟨⟨0, one m hO⟩, flush0_19 _ _, mem_of_emb _ (ValueIdx.ix2 r j) (at19 m hO _ r j)⟩

theorem cover20 (i : S128x1024.Idx) : ∃ t : Fin (cfgM m hO).N, ((cfgM m hO).win 20).flush t = true ∧ i ∈ (((cfgM m hO).win 20).blk t).view.set := by
  obtain ⟨r, j, rfl⟩ := exists_ix2 (M := 128) (N := 1024) i
  exact ⟨⟨0, one m hO⟩, flush0_20 _ _, mem_of_emb _ (ValueIdx.ix2 r j) (at20 m hO _ r j)⟩

theorem cover21 (i : S128x1024.Idx) : ∃ t : Fin (cfgM m hO).N, ((cfgM m hO).win 21).flush t = true ∧ i ∈ (((cfgM m hO).win 21).blk t).view.set := by
  obtain ⟨r, j, rfl⟩ := exists_ix2 (M := 128) (N := 1024) i
  exact ⟨⟨0, one m hO⟩, flush0_21 _ _, mem_of_emb _ (ValueIdx.ix2 r j) (at21 m hO _ r j)⟩

theorem cover22 (i : S128x1024.Idx) : ∃ t : Fin (cfgM m hO).N, ((cfgM m hO).win 22).flush t = true ∧ i ∈ (((cfgM m hO).win 22).blk t).view.set := by
  obtain ⟨r, j, rfl⟩ := exists_ix2 (M := 128) (N := 1024) i
  exact ⟨⟨0, one m hO⟩, flush0_22 _ _, mem_of_emb _ (ValueIdx.ix2 r j) (at22 m hO _ r j)⟩

theorem cover23 (i : S128x1024.Idx) : ∃ t : Fin (cfgM m hO).N, ((cfgM m hO).win 23).flush t = true ∧ i ∈ (((cfgM m hO).win 23).blk t).view.set := by
  obtain ⟨r, j, rfl⟩ := exists_ix2 (M := 128) (N := 1024) i
  exact ⟨⟨0, one m hO⟩, flush0_23 _ _, mem_of_emb _ (ValueIdx.ix2 r j) (at23 m hO _ r j)⟩

theorem cover24 (i : S128x1024.Idx) : ∃ t : Fin (cfgM m hO).N, ((cfgM m hO).win 24).flush t = true ∧ i ∈ (((cfgM m hO).win 24).blk t).view.set := by
  obtain ⟨r, j, rfl⟩ := exists_ix2 (M := 128) (N := 1024) i
  exact ⟨⟨0, one m hO⟩, flush0_24 _ _, mem_of_emb _ (ValueIdx.ix2 r j) (at24 m hO _ r j)⟩

theorem cover25 (i : S128x1024.Idx) : ∃ t : Fin (cfgM m hO).N, ((cfgM m hO).win 25).flush t = true ∧ i ∈ (((cfgM m hO).win 25).blk t).view.set := by
  obtain ⟨r, j, rfl⟩ := exists_ix2 (M := 128) (N := 1024) i
  exact ⟨⟨0, one m hO⟩, flush0_25 _ _, mem_of_emb _ (ValueIdx.ix2 r j) (at25 m hO _ r j)⟩

theorem cover26 (i : S128x1024.Idx) : ∃ t : Fin (cfgM m hO).N, ((cfgM m hO).win 26).flush t = true ∧ i ∈ (((cfgM m hO).win 26).blk t).view.set := by
  obtain ⟨r, j, rfl⟩ := exists_ix2 (M := 128) (N := 1024) i
  exact ⟨⟨0, one m hO⟩, flush0_26 _ _, mem_of_emb _ (ValueIdx.ix2 r j) (at26 m hO _ r j)⟩

include hk

theorem out15 : (outsAt0 m hO c t).1 (ValueIdx.ix2 p j) = end15 m k c (ValueIdx.ix2 p j) := by
  unfold outsAt0
  dsimp only
  have e := block15 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile0 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rfl

theorem leaves15 (y : S128x1024.Idx) : (outsAt0 m hO c t).1 y = end15 m k c ((((cfgM m hO).win 15).blk t).view.emb y) := by
  obtain ⟨p, j, rfl⟩ := exists_ix2 (M := 128) (N := 1024) y
  exact (out15 m hO k hk c t p j).trans (congrArg (end15 m k c) (at15 m hO t p j)).symm

theorem final15 : (dats m hO 0 c).arrAt 15 (cfgM m hO).N = end15 m k c :=
  (dats m hO 0 c).arrAt_eq_of_emb 15 _ (fun t hf y => by
    blk_simp
    rw [after0_15]
    exact leaves15 m hO k hk c t y) (cover15 m hO)

theorem out16 : (outsAt0 m hO c t).2.1 (ValueIdx.ix2 p j) = end16 m k c (ValueIdx.ix2 p j) := by
  unfold outsAt0
  dsimp only
  have e := block16 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile0 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read6, read9, read12]; rfl

theorem leaves16 (y : S128x1024.Idx) : (outsAt0 m hO c t).2.1 y = end16 m k c ((((cfgM m hO).win 16).blk t).view.emb y) := by
  obtain ⟨p, j, rfl⟩ := exists_ix2 (M := 128) (N := 1024) y
  exact (out16 m hO k hk c t p j).trans (congrArg (end16 m k c) (at16 m hO t p j)).symm

theorem final16 : (dats m hO 0 c).arrAt 16 (cfgM m hO).N = end16 m k c :=
  (dats m hO 0 c).arrAt_eq_of_emb 16 _ (fun t hf y => by
    blk_simp
    rw [after0_16]
    exact leaves16 m hO k hk c t y) (cover16 m hO)

theorem out17 : (outsAt0 m hO c t).2.2.1 (ValueIdx.ix2 p j) = end17 m k c (ValueIdx.ix2 p j) := by
  unfold outsAt0
  dsimp only
  have e := block17 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile0 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read9]; rfl

theorem leaves17 (y : S128x1024.Idx) : (outsAt0 m hO c t).2.2.1 y = end17 m k c ((((cfgM m hO).win 17).blk t).view.emb y) := by
  obtain ⟨p, j, rfl⟩ := exists_ix2 (M := 128) (N := 1024) y
  exact (out17 m hO k hk c t p j).trans (congrArg (end17 m k c) (at17 m hO t p j)).symm

theorem final17 : (dats m hO 0 c).arrAt 17 (cfgM m hO).N = end17 m k c :=
  (dats m hO 0 c).arrAt_eq_of_emb 17 _ (fun t hf y => by
    blk_simp
    rw [after0_17]
    exact leaves17 m hO k hk c t y) (cover17 m hO)

theorem out18 : (outsAt0 m hO c t).2.2.2.1 (ValueIdx.ix2 p j) = end18 m k c (ValueIdx.ix2 p j) := by
  unfold outsAt0
  dsimp only
  have e := block18 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile0 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read12]; rfl

theorem leaves18 (y : S128x1024.Idx) : (outsAt0 m hO c t).2.2.2.1 y = end18 m k c ((((cfgM m hO).win 18).blk t).view.emb y) := by
  obtain ⟨p, j, rfl⟩ := exists_ix2 (M := 128) (N := 1024) y
  exact (out18 m hO k hk c t p j).trans (congrArg (end18 m k c) (at18 m hO t p j)).symm

theorem final18 : (dats m hO 0 c).arrAt 18 (cfgM m hO).N = end18 m k c :=
  (dats m hO 0 c).arrAt_eq_of_emb 18 _ (fun t hf y => by
    blk_simp
    rw [after0_18]
    exact leaves18 m hO k hk c t y) (cover18 m hO)

theorem out19 : (outsAt0 m hO c t).2.2.2.2.1 (ValueIdx.ix2 p j) = end19 m k c (ValueIdx.ix2 p j) := by
  unfold outsAt0
  dsimp only
  have e := block19 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile1 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rfl

theorem leaves19 (y : S128x1024.Idx) : (outsAt0 m hO c t).2.2.2.2.1 y = end19 m k c ((((cfgM m hO).win 19).blk t).view.emb y) := by
  obtain ⟨p, j, rfl⟩ := exists_ix2 (M := 128) (N := 1024) y
  exact (out19 m hO k hk c t p j).trans (congrArg (end19 m k c) (at19 m hO t p j)).symm

theorem final19 : (dats m hO 0 c).arrAt 19 (cfgM m hO).N = end19 m k c :=
  (dats m hO 0 c).arrAt_eq_of_emb 19 _ (fun t hf y => by
    blk_simp
    rw [after0_19]
    exact leaves19 m hO k hk c t y) (cover19 m hO)

theorem out20 : (outsAt0 m hO c t).2.2.2.2.2.1 (ValueIdx.ix2 p j) = end20 m k c (ValueIdx.ix2 p j) := by
  unfold outsAt0
  dsimp only
  have e := block20 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile1 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read7, read10, read13]; rfl

theorem leaves20 (y : S128x1024.Idx) : (outsAt0 m hO c t).2.2.2.2.2.1 y = end20 m k c ((((cfgM m hO).win 20).blk t).view.emb y) := by
  obtain ⟨p, j, rfl⟩ := exists_ix2 (M := 128) (N := 1024) y
  exact (out20 m hO k hk c t p j).trans (congrArg (end20 m k c) (at20 m hO t p j)).symm

theorem final20 : (dats m hO 0 c).arrAt 20 (cfgM m hO).N = end20 m k c :=
  (dats m hO 0 c).arrAt_eq_of_emb 20 _ (fun t hf y => by
    blk_simp
    rw [after0_20]
    exact leaves20 m hO k hk c t y) (cover20 m hO)

theorem out21 : (outsAt0 m hO c t).2.2.2.2.2.2.1 (ValueIdx.ix2 p j) = end21 m k c (ValueIdx.ix2 p j) := by
  unfold outsAt0
  dsimp only
  have e := block21 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile1 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read10]; rfl

theorem leaves21 (y : S128x1024.Idx) : (outsAt0 m hO c t).2.2.2.2.2.2.1 y = end21 m k c ((((cfgM m hO).win 21).blk t).view.emb y) := by
  obtain ⟨p, j, rfl⟩ := exists_ix2 (M := 128) (N := 1024) y
  exact (out21 m hO k hk c t p j).trans (congrArg (end21 m k c) (at21 m hO t p j)).symm

theorem final21 : (dats m hO 0 c).arrAt 21 (cfgM m hO).N = end21 m k c :=
  (dats m hO 0 c).arrAt_eq_of_emb 21 _ (fun t hf y => by
    blk_simp
    rw [after0_21]
    exact leaves21 m hO k hk c t y) (cover21 m hO)

theorem out22 : (outsAt0 m hO c t).2.2.2.2.2.2.2.1 (ValueIdx.ix2 p j) = end22 m k c (ValueIdx.ix2 p j) := by
  unfold outsAt0
  dsimp only
  have e := block22 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile1 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read13]; rfl

theorem leaves22 (y : S128x1024.Idx) : (outsAt0 m hO c t).2.2.2.2.2.2.2.1 y = end22 m k c ((((cfgM m hO).win 22).blk t).view.emb y) := by
  obtain ⟨p, j, rfl⟩ := exists_ix2 (M := 128) (N := 1024) y
  exact (out22 m hO k hk c t p j).trans (congrArg (end22 m k c) (at22 m hO t p j)).symm

theorem final22 : (dats m hO 0 c).arrAt 22 (cfgM m hO).N = end22 m k c :=
  (dats m hO 0 c).arrAt_eq_of_emb 22 _ (fun t hf y => by
    blk_simp
    rw [after0_22]
    exact leaves22 m hO k hk c t y) (cover22 m hO)

theorem out23 : (outsAt0 m hO c t).2.2.2.2.2.2.2.2.1 (ValueIdx.ix2 p j) = end23 m k c (ValueIdx.ix2 p j) := by
  unfold outsAt0
  dsimp only
  have e := block23 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile2 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rfl

theorem leaves23 (y : S128x1024.Idx) : (outsAt0 m hO c t).2.2.2.2.2.2.2.2.1 y = end23 m k c ((((cfgM m hO).win 23).blk t).view.emb y) := by
  obtain ⟨p, j, rfl⟩ := exists_ix2 (M := 128) (N := 1024) y
  exact (out23 m hO k hk c t p j).trans (congrArg (end23 m k c) (at23 m hO t p j)).symm

theorem final23 : (dats m hO 0 c).arrAt 23 (cfgM m hO).N = end23 m k c :=
  (dats m hO 0 c).arrAt_eq_of_emb 23 _ (fun t hf y => by
    blk_simp
    rw [after0_23]
    exact leaves23 m hO k hk c t y) (cover23 m hO)

theorem out24 : (outsAt0 m hO c t).2.2.2.2.2.2.2.2.2.1 (ValueIdx.ix2 p j) = end24 m k c (ValueIdx.ix2 p j) := by
  unfold outsAt0
  dsimp only
  have e := block24 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile2 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read8, read11, read14]; rfl

theorem leaves24 (y : S128x1024.Idx) : (outsAt0 m hO c t).2.2.2.2.2.2.2.2.2.1 y = end24 m k c ((((cfgM m hO).win 24).blk t).view.emb y) := by
  obtain ⟨p, j, rfl⟩ := exists_ix2 (M := 128) (N := 1024) y
  exact (out24 m hO k hk c t p j).trans (congrArg (end24 m k c) (at24 m hO t p j)).symm

theorem final24 : (dats m hO 0 c).arrAt 24 (cfgM m hO).N = end24 m k c :=
  (dats m hO 0 c).arrAt_eq_of_emb 24 _ (fun t hf y => by
    blk_simp
    rw [after0_24]
    exact leaves24 m hO k hk c t y) (cover24 m hO)

theorem out25 : (outsAt0 m hO c t).2.2.2.2.2.2.2.2.2.2.1 (ValueIdx.ix2 p j) = end25 m k c (ValueIdx.ix2 p j) := by
  unfold outsAt0
  dsimp only
  have e := block25 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile2 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read11]; rfl

theorem leaves25 (y : S128x1024.Idx) : (outsAt0 m hO c t).2.2.2.2.2.2.2.2.2.2.1 y = end25 m k c ((((cfgM m hO).win 25).blk t).view.emb y) := by
  obtain ⟨p, j, rfl⟩ := exists_ix2 (M := 128) (N := 1024) y
  exact (out25 m hO k hk c t p j).trans (congrArg (end25 m k c) (at25 m hO t p j)).symm

theorem final25 : (dats m hO 0 c).arrAt 25 (cfgM m hO).N = end25 m k c :=
  (dats m hO 0 c).arrAt_eq_of_emb 25 _ (fun t hf y => by
    blk_simp
    rw [after0_25]
    exact leaves25 m hO k hk c t y) (cover25 m hO)

theorem out26 : (outsAt0 m hO c t).2.2.2.2.2.2.2.2.2.2.2 (ValueIdx.ix2 p j) = end26 m k c (ValueIdx.ix2 p j) := by
  unfold outsAt0
  dsimp only
  have e := block26 c (grid0.coords t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (tbl m 0) p j _ (tile2 m hO k hk c t p j)
    (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t)
  refine e.trans ?_
  rw [read14]; rfl

theorem leaves26 (y : S128x1024.Idx) : (outsAt0 m hO c t).2.2.2.2.2.2.2.2.2.2.2 y = end26 m k c ((((cfgM m hO).win 26).blk t).view.emb y) := by
  obtain ⟨p, j, rfl⟩ := exists_ix2 (M := 128) (N := 1024) y
  exact (out26 m hO k hk c t p j).trans (congrArg (end26 m k c) (at26 m hO t p j)).symm

theorem final26 : (dats m hO 0 c).arrAt 26 (cfgM m hO).N = end26 m k c :=
  (dats m hO 0 c).arrAt_eq_of_emb 26 _ (fun t hf y => by
    blk_simp
    rw [after0_26]
    exact leaves26 m hO k hk c t y) (cover26 m hO)

include hO in
/-- The run's results. -/
theorem run_results : θ_run defs (onTc (τ := τ) (main (F := Ideal))) ⟨m, fun _ => 0, ρ⟩ (fun r => ∀ c : Dev nD,
      r.2.mem ((c.tc : Thread nD τ).loc main_v0_0) = end15 m k c
      ∧ r.2.mem ((c.tc : Thread nD τ).loc main_v0_1) = end16 m k c
      ∧ r.2.mem ((c.tc : Thread nD τ).loc main_v0_2) = end17 m k c
      ∧ r.2.mem ((c.tc : Thread nD τ).loc main_v0_3) = end18 m k c
      ∧ r.2.mem ((c.tc : Thread nD τ).loc main_v0_4) = end19 m k c
      ∧ r.2.mem ((c.tc : Thread nD τ).loc main_v0_5) = end20 m k c
      ∧ r.2.mem ((c.tc : Thread nD τ).loc main_v0_6) = end21 m k c
      ∧ r.2.mem ((c.tc : Thread nD τ).loc main_v0_7) = end22 m k c
      ∧ r.2.mem ((c.tc : Thread nD τ).loc main_v0_8) = end23 m k c
      ∧ r.2.mem ((c.tc : Thread nD τ).loc main_v0_9) = end24 m k c
      ∧ r.2.mem ((c.tc : Thread nD τ).loc main_v0_10) = end25 m k c
      ∧ r.2.mem ((c.tc : Thread nD τ).loc main_v0_11) = end26 m k c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h.1.1 c).1 15).trans (final15 m hO k hk c), ((h.1.1 c).1 16).trans (final16 m hO k hk c), ((h.1.1 c).1 17).trans (final17 m hO k hk c), ((h.1.1 c).1 18).trans (final18 m hO k hk c), ((h.1.1 c).1 19).trans (final19 m hO k hk c), ((h.1.1 c).1 20).trans (final20 m hO k hk c), ((h.1.1 c).1 21).trans (final21 m hO k hk c), ((h.1.1 c).1 22).trans (final22 m hO k hk c), ((h.1.1 c).1 23).trans (final23 m hO k hk c), ((h.1.1 c).1 24).trans (final24 m hO k hk c), ((h.1.1 c).1 25).trans (final25 m hO k hk c), ((h.1.1 c).1 26).trans (final26 m hO k hk c), h.2.1 c⟩)
    (θ_run_and (run_main_quiescent m ρ hO) (frame m ρ hO))

end Final

/-! ## The reference -/

section Ref

open Cert.Reference13Ideal.Read

variable (x0 : IVec S1 32) (a : Vec Ideal S4x128x1024 .bf16) (b : Vec Ideal S3x128x1024 .bf16) (u v z : Vec Ideal S128x1024 .f32)
variable (k : Fin 4) (w : BitVec 32) (hw : ∀ i, x0 i = w) (hk : w.toNat = k.val)

include hw in
theorem ref_mask0 (i : Cert.Reference13Ideal.S4x128x1024.Idx) :
    val_main_call0_v1 (F := Ideal) x0 i = IntOp.cmpi .eq (BitVec.ofNat 32 (i 0).val) w := by
  rw [val_main_call0_v1_apply, val_main_v4_apply, val_main_v3_apply, val_main_v2_apply, val_main_v0_apply]
  exact congrArg (IntOp.cmpi .eq _) (hw _)

include hw hk in
theorem ref_grad0 : val_main_v10 (F := Ideal) x0 a b = grad k a b := by
  funext i
  obtain ⟨r, j, rfl⟩ := exists_ix2 (M := 128) (N := 1024) i
  rw [val_main_v10_apply, val_main_v7_apply, val_main_v9_apply]
  refine Eq.trans (congrArg₂ (· + · : EReal → EReal → EReal) ?_ ?_) (gsum_eq (a (ValueIdx.ix3 k r j)) (fun q => b (ValueIdx.ix3 q r j)) _ Ideal.ofBits_zero_f32)
  · refine Eq.trans ?_ (pick (fun q => a (ValueIdx.ix3 q r j)) w k hk _ _ Ideal.ofBits_zero_f32 Ideal.ofBits_zero_f32)
    refine congrArg₂ (· + · : EReal → EReal → EReal) rfl (Finset.sum_congr rfl fun q _ => ?_)
    rw [val_main_v6_apply, ref_mask0 x0 w hw, val_main_call0_v2_apply]
    refine congrArg₂ (Scalar.select _) ?_ rfl
    exact congrArg a (funext fun d => by match d with | ⟨0, _⟩ => rfl | ⟨1, _⟩ => rfl | ⟨2, _⟩ => rfl)
  · refine congrArg₂ (· + · : EReal → EReal → EReal) rfl (Finset.sum_congr rfl fun q _ => ?_)
    exact congrArg b (funext fun d => by match d with | ⟨0, _⟩ => rfl | ⟨1, _⟩ => rfl | ⟨2, _⟩ => rfl)

theorem ref_mom1_0 : val_main_v15 (F := Ideal) x0 a b u = mom1 (val_main_v10 (F := Ideal) x0 a b) u := rfl
theorem ref_mom2_0 : val_main_v21 (F := Ideal) x0 a b u = mom2 (val_main_v10 (F := Ideal) x0 a b) u := rfl
theorem ref_step0 : val_main_v34 (F := Ideal) x0 a b u v z = step (val_main_v10 (F := Ideal) x0 a b) u v z := rfl

include hw in
theorem ref_mask1 (i : Cert.Reference13Ideal.S4x128x1024.Idx) :
    val_main_call1_v1 (F := Ideal) x0 i = IntOp.cmpi .eq (BitVec.ofNat 32 (i 0).val) w := by
  rw [val_main_call1_v1_apply, val_main_v39_apply, val_main_v38_apply, val_main_v37_apply, val_main_v35_apply]
  exact congrArg (IntOp.cmpi .eq _) (hw _)

include hw hk in
theorem ref_grad1 : val_main_v45 (F := Ideal) x0 a b = grad k a b := by
  funext i
  obtain ⟨r, j, rfl⟩ := exists_ix2 (M := 128) (N := 1024) i
  rw [val_main_v45_apply, val_main_v42_apply, val_main_v44_apply]
  refine Eq.trans (congrArg₂ (· + · : EReal → EReal → EReal) ?_ ?_) (gsum_eq (a (ValueIdx.ix3 k r j)) (fun q => b (ValueIdx.ix3 q r j)) _ Ideal.ofBits_zero_f32)
  · refine Eq.trans ?_ (pick (fun q => a (ValueIdx.ix3 q r j)) w k hk _ _ Ideal.ofBits_zero_f32 Ideal.ofBits_zero_f32)
    refine congrArg₂ (· + · : EReal → EReal → EReal) rfl (Finset.sum_congr rfl fun q _ => ?_)
    rw [val_main_v41_apply, ref_mask1 x0 w hw, val_main_call1_v2_apply]
    refine congrArg₂ (Scalar.select _) ?_ rfl
    exact congrArg a (funext fun d => by match d with | ⟨0, _⟩ => rfl | ⟨1, _⟩ => rfl | ⟨2, _⟩ => rfl)
  · refine congrArg₂ (· + · : EReal → EReal → EReal) rfl (Finset.sum_congr rfl fun q _ => ?_)
    exact congrArg b (funext fun d => by match d with | ⟨0, _⟩ => rfl | ⟨1, _⟩ => rfl | ⟨2, _⟩ => rfl)

theorem ref_mom1_1 : val_main_v50 (F := Ideal) x0 a b u = mom1 (val_main_v45 (F := Ideal) x0 a b) u := rfl
theorem ref_mom2_1 : val_main_v56 (F := Ideal) x0 a b u = mom2 (val_main_v45 (F := Ideal) x0 a b) u := rfl
theorem ref_step1 : val_main_v69 (F := Ideal) x0 a b u v z = step (val_main_v45 (F := Ideal) x0 a b) u v z := rfl

include hw in
theorem ref_mask2 (i : Cert.Reference13Ideal.S4x128x1024.Idx) :
    val_main_call2_v1 (F := Ideal) x0 i = IntOp.cmpi .eq (BitVec.ofNat 32 (i 0).val) w := by
  rw [val_main_call2_v1_apply, val_main_v74_apply, val_main_v73_apply, val_main_v72_apply, val_main_v70_apply]
  exact congrArg (IntOp.cmpi .eq _) (hw _)

include hw hk in
theorem ref_grad2 : val_main_v80 (F := Ideal) x0 a b = grad k a b := by
  funext i
  obtain ⟨r, j, rfl⟩ := exists_ix2 (M := 128) (N := 1024) i
  rw [val_main_v80_apply, val_main_v77_apply, val_main_v79_apply]
  refine Eq.trans (congrArg₂ (· + · : EReal → EReal → EReal) ?_ ?_) (gsum_eq (a (ValueIdx.ix3 k r j)) (fun q => b (ValueIdx.ix3 q r j)) _ Ideal.ofBits_zero_f32)
  · refine Eq.trans ?_ (pick (fun q => a (ValueIdx.ix3 q r j)) w k hk _ _ Ideal.ofBits_zero_f32 Ideal.ofBits_zero_f32)
    refine congrArg₂ (· + · : EReal → EReal → EReal) rfl (Finset.sum_congr rfl fun q _ => ?_)
    rw [val_main_v76_apply, ref_mask2 x0 w hw, val_main_call2_v2_apply]
    refine congrArg₂ (Scalar.select _) ?_ rfl
    exact congrArg a (funext fun d => by match d with | ⟨0, _⟩ => rfl | ⟨1, _⟩ => rfl | ⟨2, _⟩ => rfl)
  · refine congrArg₂ (· + · : EReal → EReal → EReal) rfl (Finset.sum_congr rfl fun q _ => ?_)
    exact congrArg b (funext fun d => by match d with | ⟨0, _⟩ => rfl | ⟨1, _⟩ => rfl | ⟨2, _⟩ => rfl)

theorem ref_mom1_2 : val_main_v85 (F := Ideal) x0 a b u = mom1 (val_main_v80 (F := Ideal) x0 a b) u := rfl
theorem ref_mom2_2 : val_main_v91 (F := Ideal) x0 a b u = mom2 (val_main_v80 (F := Ideal) x0 a b) u := rfl
theorem ref_step2 : val_main_v104 (F := Ideal) x0 a b u v z = step (val_main_v80 (F := Ideal) x0 a b) u v z := rfl

end Ref

section Same

variable (k : Fin 4) (hk : (word m).toNat = k.val) (c : Dev nD)

/-- Every index of the one word is the one the index map reads. -/
theorem word_eq (i : S1.Idx) : m ((c.tc : Thread nD τ).loc main_arg0) i = word m := by
  obtain rfl : c = 0 := Subsingleton.elim _ _
  refine congrArg (m ((0 : Dev nD).tc.loc main_arg0)) (funext fun a => Fin.ext ?_)
  have h (b : Fin 1) (u v : Fin (S1.size b)) : u.val = v.val := by
    have hu : u.val < 1 := lt_of_lt_of_eq u.isLt (by match b with | ⟨0, _⟩ => rfl)
    have hv : v.val < 1 := lt_of_lt_of_eq v.isLt (by match b with | ⟨0, _⟩ => rfl)
    omega
  exact h a _ _

end Same

end Cert.Kernel13Ideal.Hand

namespace Cert.FinMid

open Cert.Kernel13Ideal.Hand

theorem frame_ideal : Cert.quiescent_Kernel13Ideal := fun m ρ h => Cert.Kernel13Ideal.Gen.frame m ρ (ok_ideal m h)

theorem reference_quiescent : Cert.quiescent_Reference13Ideal := fun m ρ _ =>
  (θ_run Cert.Reference13Ideal.defs _ _).mono (fun r h => ⟨fun c => (h c).2.2.2.2.2.2.2.2.2.2.2.2, sem_eq_zero_of_no_sems (by decide) r.2⟩)
    (Cert.Reference13Ideal.Value.run (F := Ideal) m ρ)

theorem algebraic : Cert.algebraic_Kernel13Ideal_Reference13Ideal := fun m ρ m' ρ' hpre hag => by
  have hk : (word m).toNat < 4 := (word_of_pre _ _ _ _ _ _ _ _ _ _ _ _ _ _ _ _ (hpre 0) _).1
  have hO := ok_ideal m hpre
  exact ⟨fun c => end15 m ⟨_, hk⟩ c, fun c => end16 m ⟨_, hk⟩ c, fun c => end17 m ⟨_, hk⟩ c, fun c => end18 m ⟨_, hk⟩ c, fun c => end19 m ⟨_, hk⟩ c, fun c => end20 m ⟨_, hk⟩ c, fun c => end21 m ⟨_, hk⟩ c, fun c => end22 m ⟨_, hk⟩ c, fun c => end23 m ⟨_, hk⟩ c, fun c => end24 m ⟨_, hk⟩ c, fun c => end25 m ⟨_, hk⟩ c, fun c => end26 m ⟨_, hk⟩ c, run_results m ρ hO ⟨_, hk⟩ rfl,
    (θ_run Cert.Reference13Ideal.defs _ _).mono (fun _ h c => by
        obtain ⟨e0, e1, e2, e3, e4, e5, e6, e7, e8, e9, e10, e11, e12, e13, e14, e15⟩ := hag c
        refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩
        · refine (Cert.Reference13Ideal.Read.val_main_v10_eq (F := Ideal) _ _ _).trans ?_
          rw [e0, e1, e4]
          exact ref_grad0 _ _ _ ⟨_, hk⟩ (word m) (word_eq m c) rfl
        · refine (Cert.Reference13Ideal.Read.val_main_v34_eq (F := Ideal) _ _ _ _ _ _).trans ?_
          rw [e0, e1, e4, e7, e10, e13]
          exact (ref_step0 _ _ _ _ _ _).trans (congrArg (fun g => step g _ _ _) (ref_grad0 _ _ _ ⟨_, hk⟩ (word m) (word_eq m c) rfl))
        · refine (Cert.Reference13Ideal.Read.val_main_v15_eq (F := Ideal) _ _ _ _).trans ?_
          rw [e0, e1, e4, e10]
          exact (ref_mom1_0 _ _ _ _).trans (congrArg (fun g => mom1 g _) (ref_grad0 _ _ _ ⟨_, hk⟩ (word m) (word_eq m c) rfl))
        · refine (Cert.Reference13Ideal.Read.val_main_v21_eq (F := Ideal) _ _ _ _).trans ?_
          rw [e0, e1, e4, e13]
          exact (ref_mom2_0 _ _ _ _).trans (congrArg (fun g => mom2 g _) (ref_grad0 _ _ _ ⟨_, hk⟩ (word m) (word_eq m c) rfl))
        · refine (Cert.Reference13Ideal.Read.val_main_v45_eq (F := Ideal) _ _ _).trans ?_
          rw [e0, e2, e5]
          exact ref_grad1 _ _ _ ⟨_, hk⟩ (word m) (word_eq m c) rfl
        · refine (Cert.Reference13Ideal.Read.val_main_v69_eq (F := Ideal) _ _ _ _ _ _).trans ?_
          rw [e0, e2, e5, e8, e11, e14]
          exact (ref_step1 _ _ _ _ _ _).trans (congrArg (fun g => step g _ _ _) (ref_grad1 _ _ _ ⟨_, hk⟩ (word m) (word_eq m c) rfl))
        · refine (Cert.Reference13Ideal.Read.val_main_v50_eq (F := Ideal) _ _ _ _).trans ?_
          rw [e0, e2, e5, e11]
          exact (ref_mom1_1 _ _ _ _).trans (congrArg (fun g => mom1 g _) (ref_grad1 _ _ _ ⟨_, hk⟩ (word m) (word_eq m c) rfl))
        · refine (Cert.Reference13Ideal.Read.val_main_v56_eq (F := Ideal) _ _ _ _).trans ?_
          rw [e0, e2, e5, e14]
          exact (ref_mom2_1 _ _ _ _).trans (congrArg (fun g => mom2 g _) (ref_grad1 _ _ _ ⟨_, hk⟩ (word m) (word_eq m c) rfl))
        · refine (Cert.Reference13Ideal.Read.val_main_v80_eq (F := Ideal) _ _ _).trans ?_
          rw [e0, e3, e6]
          exact ref_grad2 _ _ _ ⟨_, hk⟩ (word m) (word_eq m c) rfl
        · refine (Cert.Reference13Ideal.Read.val_main_v104_eq (F := Ideal) _ _ _ _ _ _).trans ?_
          rw [e0, e3, e6, e9, e12, e15]
          exact (ref_step2 _ _ _ _ _ _).trans (congrArg (fun g => step g _ _ _) (ref_grad2 _ _ _ ⟨_, hk⟩ (word m) (word_eq m c) rfl))
        · refine (Cert.Reference13Ideal.Read.val_main_v85_eq (F := Ideal) _ _ _ _).trans ?_
          rw [e0, e3, e6, e12]
          exact (ref_mom1_2 _ _ _ _).trans (congrArg (fun g => mom1 g _) (ref_grad2 _ _ _ ⟨_, hk⟩ (word m) (word_eq m c) rfl))
        · refine (Cert.Reference13Ideal.Read.val_main_v91_eq (F := Ideal) _ _ _ _).trans ?_
          rw [e0, e3, e6, e15]
          exact (ref_mom2_2 _ _ _ _).trans (congrArg (fun g => mom2 g _) (ref_grad2 _ _ _ ⟨_, hk⟩ (word m) (word_eq m c) rfl)))
      (Cert.Reference13Ideal.Value.run (F := Ideal) m' ρ')⟩

end Cert.FinMid

end
-- ==== Proof.InRef.lean ====
/- in_bwd: the reference's stages, row by row. -/
module

public import proofs.«01_k».proof.Defs
public import proofs.«01_k».proof.Proof.Sections
public import proofs.«01_k».proof.Proof.RmsBwd
public import proofs.«01_k».proof.Proof.RmsOps
public import proofs.«01_k».proof.Proof.Gen.Reference5Ideal.Read
public import Idealize.ShloMosaic.Lib.ValueIdx

@[expose] public section

set_option maxRecDepth 16384

noncomputable section

open Idealize.ShloMosaic Idealize.ShloMosaic.TcCoe Idealize.ShloMosaic.ValueIdx

namespace Cert.InGrad

open Cert.Common Cert.Rms Cert.RmsOps

/-- The gradient of the normalised input at row `p`: the seven sections of `dz` against the columns of the weight. -/
def dyRow (dz : (⟨3, ![8, 2048, 1024]⟩ : Shape).Idx → EReal) (w : (⟨2, ![1024, 7168]⟩ : Shape).Idx → EReal) (p : Fin 2048) (j : Fin 1024) : EReal :=
  ∑ k : Fin 7168, dz (ix3 (sect (k.val / 1024)) p ⟨k.val % 1024, Nat.mod_lt _ (by decide)⟩) * w (ix2 j k)

/-- The input's gradient. -/
def dx (dz : (⟨3, ![8, 2048, 1024]⟩ : Shape).Idx → EReal) (w : (⟨2, ![1024, 7168]⟩ : Shape).Idx → EReal)
    (x dx1 : (⟨2, ![2048, 1024]⟩ : Shape).Idx → EReal) (g : (⟨2, ![1, 1024]⟩ : Shape).Idx → EReal) (i : (⟨2, ![2048, 1024]⟩ : Shape).Idx) : EReal :=
  kbwd (row x (i 0)) (row g 0) (dyRow dz w (i 0)) (i 1) + dx1 i

/-- The gain's gradient. -/
def dg (dz : (⟨3, ![8, 2048, 1024]⟩ : Shape).Idx → EReal) (w : (⟨2, ![1024, 7168]⟩ : Shape).Idx → EReal)
    (x : (⟨2, ![2048, 1024]⟩ : Shape).Idx → EReal) (i : (⟨2, ![1, 1024]⟩ : Shape).Idx) : EReal :=
  ∑ p : Fin 2048, dyRow dz w p (i 1) * (x (ix2 p (i 1)) * rinv (row x p))

end Cert.InGrad

namespace Cert.Reference5Ideal.Rows

open Cert.Reference5Ideal Cert.Reference5Ideal.Read Cert.Common Cert.Rms Cert.RmsOps Cert.InGrad

variable (x0 : Vec Ideal S8x2048x1024 .bf16) (x1 : Vec Ideal S1024x7168 .bf16) (x2 x3 : Vec Ideal S2048x1024 .f32) (x4 : Vec Ideal S1x1024 .f32)

theorem v6_at (p : Fin 2048) (z : Fin 1) : (val_main_v6 (F := Ideal) x2 (ix2 p z) : EReal) = msq (row x2 p) := by
  simp only [val_main_v6_apply, val_main_v5_apply, val_main_v4_apply, val_main_v3_apply, val_main_v2_apply, val_main_v1_apply, val_main_v0_apply]
  have e : ∀ k, idx_main_v1 (idx_main_v2 (ix2 p z)) k = ix2 p k := fun k => funext fun a => by match a with | ⟨0, _⟩ => rfl | ⟨1, _⟩ => rfl
  simp only [e]
  show Ideal.div (Ideal.ofBits .f32 0x00000000#32 + ∑ k : Fin 1024, x2 (ix2 p k) * x2 (ix2 p k)) wide + eps = _
  rw [Ideal.ofBits_zero_f32, zero_add]
  rfl

theorem v7_at (p : Fin 2048) (z : Fin 1) : (val_main_v7 (F := Ideal) x2 (ix2 p z) : EReal) = rinv (row x2 p) := by
  rw [val_main_v7_apply]
  exact congrArg Ideal.rsqrt (v6_at x2 p z)

theorem v12_at (p : Fin 2048) (j : Fin 1024) : (val_main_v12 (F := Ideal) x2 (ix2 p j) : EReal) = x2 (ix2 p j) * rinv (row x2 p) := by
  simp only [val_main_v12_apply, val_main_v11_apply]
  have e : idx_main_v11 (ix2 p j) = ix2 p (0 : Fin 1) := funext fun a => by match a with | ⟨0, _⟩ => rfl | ⟨1, _⟩ => rfl
  rw [e, v7_at]
  rfl

theorem v32_at (i : S2048x7168.Idx) :
    (val_main_v32 (F := Ideal) x0 i : EReal) = x0 (ix3 (sect ((i 1).val / 1024)) (i 0) ⟨(i 1).val % 1024, Nat.mod_lt _ (by decide)⟩) := by
  rw [val_main_v32_apply]
  show val_main_v31 x0 i = _
  unfold val_main_v31
  exact concat_sections x0 _ _ _ _ _ _ _ _ _ i

theorem v33_at (p : Fin 2048) (j : Fin 1024) : (val_main_v33 x0 x1 (ix2 p j) : EReal) = dyRow x0 x1 p j := by
  simp only [val_main_v33_apply, val_main_v15_apply]
  refine Finset.sum_congr rfl fun k _ => ?_
  have e : lidx_main_v33 (ix2 p j) k = ix2 p k := funext fun a => by match a with | ⟨0, _⟩ => rfl | ⟨1, _⟩ => rfl
  have e' : ridx_main_v33 (ix2 p j) k = ix2 j k := funext fun a => by match a with | ⟨0, _⟩ => rfl | ⟨1, _⟩ => rfl
  rw [e, e', v32_at]
  rfl

theorem gain (p : Fin 2048) (j : Fin 1024) : (val_main_v37 (F := Ideal) x4 (ix2 p j) : EReal) = row x4 0 j := by
  rw [val_main_v37_apply]
  exact congrArg x4 (funext fun a => by match a with | ⟨0, _⟩ => rfl | ⟨1, _⟩ => rfl)

theorem v46_at (p : Fin 2048) (z : Fin 1) : (val_main_v46 x0 x1 x2 x4 (ix2 p z) : EReal) = wbwd (row x2 p) (row x4 0) (dyRow x0 x1 p) := by
  simp only [val_main_v46_apply, val_main_v45_apply, val_main_v44_apply, val_main_v41_apply, val_main_v40_apply, val_main_v39_apply, val_main_v38_apply,
    val_main_v10_apply, val_main_v9_apply, val_main_v8_apply]
  have e : ∀ k, idx_main_v40 (idx_main_v41 (ix2 p z)) k = ix2 p k := fun k => funext fun a => by
    match a with
    | ⟨0, _⟩ => exact Fin.ext (by show p.val * 1 + z.val = p.val; omega)
    | ⟨1, _⟩ => rfl
  simp only [e, gain, v6_at, v7_at, v33_at]
  generalize dyRow x0 x1 p = D
  show Ideal.div ((Ideal.ofBits .f32 0x00000000#32 + ∑ k : Fin 1024, x2 (ix2 p k) * (D k * row x4 0 k)) * (negHalf * Ideal.div (rinv (row x2 p)) (msq (row x2 p)))) wide = _
  rw [Ideal.ofBits_zero_f32, zero_add]
  rfl

theorem v52_at (p : Fin 2048) (j : Fin 1024) : (val_main_v52 x0 x1 x2 x4 (ix2 p j) : EReal) = rbwd (row x2 p) (row x4 0) (dyRow x0 x1 p) j := by
  simp only [val_main_v52_apply, val_main_v51_apply, val_main_v50_apply, val_main_v49_apply, val_main_v48_apply, val_main_v47_apply, val_main_v43_apply, val_main_v42_apply,
    val_main_v38_apply]
  have e : ∀ z, idx_main_v47 (idx_main_v48 (ix2 p j)) z = ix2 p (0 : Fin 1) := fun z => funext fun a => by match a with | ⟨0, _⟩ => rfl | ⟨1, _⟩ => exact (Subsingleton.elim (α := Fin 1) _ _)
  have e' : idx_main_v42 (ix2 p j) = ix2 p (0 : Fin 1) := funext fun a => by match a with | ⟨0, _⟩ => rfl | ⟨1, _⟩ => rfl
  simp only [e, e', gain, v7_at, v33_at, v46_at, Fin.sum_univ_one]
  unfold rbwd
  generalize wbwd _ _ _ = W
  have z : ∀ i, (val_main_cst_6 (F := Ideal) i : EReal) + W = W := fun _ => (congrArg (· + W) Ideal.ofBits_zero_f32).trans (zero_add _)
  simp only [z]
  rfl

/-- The gain's gradient is the reference's. -/
theorem dg_eq : dg x0 x1 x2 = val_main_v36 (F := Ideal) x0 x1 x2 := by
  funext i
  obtain ⟨r, j, rfl⟩ := exists_ix2 (M := 1) (N := 1024) i
  simp only [val_main_v36_apply, val_main_v35_apply, val_main_v34_apply]
  have e : ∀ k, idx_main_v35 (idx_main_v36 (ix2 r j)) k = ix2 k j := fun k => funext fun a => by
    match a with
    | ⟨0, _⟩ => rfl
    | ⟨1, _⟩ => exact Fin.ext (by simp [idx_main_v35, idx_main_v36])
  simp only [e, v12_at, v33_at]
  refine ((congrArg₂ (· + · : EReal → EReal → EReal) Ideal.ofBits_zero_f32 (Finset.sum_congr rfl fun p _ => ?_)).trans (zero_add _)).symm
  exact mul_comm (G := EReal) _ _

/-- On real arguments the input's gradient is the reference's. -/
theorem dx_eq (h0 : Reals fun i => (x0 i : EReal)) (h1 : Reals fun i => (x1 i : EReal)) (h2 : Reals fun i => (x2 i : EReal)) (h4 : Reals fun i => (x4 i : EReal)) :
    dx x0 x1 x2 x3 x4 = val_main_v53 (F := Ideal) x0 x1 x2 x3 x4 := by
  funext i
  obtain ⟨p, j, rfl⟩ := exists_ix2 (M := 2048) (N := 1024) i
  rw [val_main_v53_apply, v52_at]
  have hd : Reals (dyRow x0 x1 p) := Reals.sum fun j => (h0.comp fun k : Fin 7168 => ix3 (sect (k.val / 1024)) p ⟨k.val % 1024, Nat.mod_lt _ (by decide)⟩).mul (h1.comp fun k => ix2 j k)
  rw [← kbwd_eq_rbwd (h2.comp fun j => ix2 p j) (h4.comp fun j => ix2 0 j) hd j]
  exact add_comm (G := EReal) _ _

end Cert.Reference5Ideal.Rows

end
-- ==== Proof.InRun.lean ====
/- in_bwd: one point of the grid. -/
module

public import proofs.«01_k».proof.Proof.Gen.Kernel5Ideal.Frame
public import proofs.«01_k».proof.Proof.Gen.Kernel5Ideal.Skeleton
public import Idealize.ShloMosaic.Lib.Transfers
public import Idealize.ShloMosaic.Lib.VecWindow
public import Idealize.ShloMosaic.Lib.Claim

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.Kernel5Ideal Cert.Kernel5Ideal.Gen

variable {F : FTy → Type} [FloatOps F]

local notation "𝕄" => MT nD τ sig Unit (Elt F) ℕ (UD sig nD τ) ℕ

/-! ## The operands left in HBM, the scratch they are copied to, the two completion cells -/

abbrev xM : Memref sig .tc .hbm S2048x1024 .f32 := Memref.whole main_arg2
abbrev dM : Memref sig .tc .hbm S2048x1024 .f32 := Memref.whole main_arg3
abbrev accM : Memref sig .tc .vmem S1024x1024 .f32 := Memref.whole cc0_scratch0
abbrev xB : Memref sig .tc .vmem S1024x1024 .f32 := Memref.whole cc0_scratch1
abbrev dB : Memref sig .tc .vmem S1024x1024 .f32 := Memref.whole cc0_scratch2
abbrev cellX : DmaSem sig := ⟨8, by decide⟩
abbrev cellD : DmaSem sig := ⟨9, by decide⟩

/-- The row block of an HBM operand that starts at `o`. -/
abbrev win (M : Memref sig .tc .hbm S2048x1024 .f32) (o : Fin 2 → Nat) (h : ∀ a, o a + S1024x1024.size a ≤ S2048x1024.size a) :
    Memref sig .tc .hbm S1024x1024 .f32 :=
  M.slice (Rect.unit (s := S2048x1024) o S1024x1024.size h) (fun _ => rfl)

/-- A buffer held whole. -/
abbrev held (c : Dev nD) {sp : Space} {s : Shape} (M : Memref sig .tc sp s .f32) (f : Buf (Elt F) (M.view.loc (c : Thread nD τ))) : sProp 𝕄 :=
  M.view.loc (c : Thread nD τ) ↦{fullShare} f

/-- A row block of an HBM operand, held by its own elements. -/
abbrev home (c : Dev nD) (M : Memref sig .tc .hbm S2048x1024 .f32) (o : Fin 2 → Nat) (h : ∀ a, o a + S1024x1024.size a ≤ S2048x1024.size a)
    (f : Buf (Elt F) (M.view.loc (c : Thread nD τ))) : sProp 𝕄 :=
  (win M o h).view.loc (c : Thread nD τ) ↦[(win M o h).view.set]{fullShare} f

/-- The copy of a row block of `M` at contents `f` into the scratch `B` over contents `g`, under way on `sem`. -/
abbrev flight (c : Dev nD) (sem : DmaSem sig) (M : Memref sig .tc .hbm S2048x1024 .f32) (o : Fin 2 → Nat) (h : ∀ a, o a + S1024x1024.size a ≤ S2048x1024.size a)
    (B : Memref sig .tc .vmem S1024x1024 .f32) (f : Buf (Elt F) (M.view.loc (c : Thread nD τ))) (g : Buf (Elt F) (B.view.loc (c : Thread nD τ))) : sProp 𝕄 :=
  Transfers.Flight (countersEmb (U := UD sig nD τ)) (c : Thread nD τ) (.dma sem) () 131072
    iprop((B.view.loc (c : Thread nD τ) ↦{fullShare} B.view.write (Elt F) g ((win M o h).view.read (Elt F) f) Finset.univ) ∗ home c M o h f)

abbrev cond3 (i : grid0.Coords) : BitVec 1 := Scalar.cmpi .ne (Scalar.extui (Scalar.cmpi .sgt (BitVec.ofNat 32 (i 1).val) 0#32) : BitVec 32) 0#32

/-- A whole load of a buffer that reads `x`. -/
theorem load_whole {sp : Space} {s : Shape} {e : EltTy} (M : Memref sig .tc sp s e) (hM : M.IsWhole) (x : Vec F s e) {off : Fin s.rank → ℕ}
    (inb : ∀ a, off a + s.size a ≤ s.size a) :
    M.view.readAt (Elt F) (Rect.unit off s.size inb).toLoadRect (hM.unread x) = x := by
  rw [View.readAt_full, hM.read_unread]

/-- A whole load of a buffer a transfer has filled with `v`. -/
theorem load_landed {sp : Space} {s : Shape} {e : EltTy} (M : Memref sig .tc sp s e) (g : M.view.ty.Contents (Elt F)) (v : Vec F s e) {off : Fin s.rank → ℕ}
    (inb : ∀ a, off a + s.size a ≤ s.size a) :
    M.view.readAt (Elt F) (Rect.unit off s.size inb).toLoadRect (M.view.write (Elt F) g v Finset.univ) = v := by
  rw [View.readAt_full, View.read_write_univ]

set_option maxHeartbeats 2000000 in
/-- The first point: the gain's gradient is zeroed, the accumulator takes the product, the two copies start. -/
theorem run_first (c : Dev nD) (i : grid0.Coords) (arg2 : Memref sig .tc .vmem S1x1024x1024 .bf16) (harg2 : arg2.IsWhole) (arg3 : Memref sig .tc .vmem S1024x1024 .bf16) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole)
    (h1 : k0_cond1 i = 1#1) (h2 : k0_cond2 i = 1#1) (h3 : ¬cond3 i = 1#1) (h4 : ¬k0_cond4 i = 1#1) (o : Fin 2 → Nat) (h : ∀ a, o a + S1024x1024.size a ≤ S2048x1024.size a) (ho : k0_off1 i = o)
    (x0 : Vec F S1x1024x1024 .bf16) (x1 : Vec F S1024x1024 .bf16) (fx : Buf (Elt F) (xM.view.loc (c : Thread nD τ))) (fd : Buf (Elt F) (dM.view.loc (c : Thread nD τ))) (K : PUnit → sProp 𝕄) :
    iprop(owns (c : Thread nD τ) arg2 fullShare x0 ∗ owns (c : Thread nD τ) arg3 fullShare x1 ∗ (∃ d, owns (c : Thread nD τ) arg8 fullShare d) ∗ (∃ d, owns (c : Thread nD τ) accM fullShare d) ∗ home c xM o h fx ∗ home c dM o h fd ∗ (∃ f, held c xB f) ∗ (∃ f, held c dB f) ∗ semVal ((c : Thread nD τ), SemLoc.dma cellX) 0 ∗ semVal ((c : Thread nD τ), SemLoc.dma cellD) 0
        ∗ (iprop(owns (c : Thread nD τ) arg2 fullShare x0 ∗ owns (c : Thread nD τ) arg3 fullShare x1 ∗ owns (c : Thread nD τ) arg8 fullShare (k0_pay1 (F := F)) ∗ owns (c : Thread nD τ) accM fullShare (k0_pay3 x0 x1) ∗ (∃ g, flight c cellX xM o h xB fx g) ∗ (∃ g, flight c cellD dM o h dB fd g)) -∗ K ⟨⟩))
      ⊢ wp frame (wpE (defs₀ (F := F)) Variants.none c none) Set.univ
          (cc0_in_bwd i arg2 harg2 arg3 harg3 xM (Memref.isWhole_whole _) dM (Memref.isWhole_whole _) arg6 harg6 arg7 harg7 arg8 harg8 accM (Memref.isWhole_whole _) xB (Memref.isWhole_whole _) dB (Memref.isWhole_whole _) cc0_scratch3) K := by
  subst ho
  simp only [cc0_in_bwd_eq_skeleton]; unfold cc0_in_bwd_skel
  simp only [k0_part1_eq_skeleton]
  unfold owns
  iintro ⟨⟨%f0, %hf0, H0⟩, ⟨%f1, %hf1, H1⟩, ⟨%d8, %f8, -, H8⟩, ⟨%d9, %f9, -, H9⟩, Hx, Hd, ⟨%fxb, Hxb⟩, ⟨%fdb, Hdb⟩, Hs0, Hs1, Hk⟩
  obtain rfl := harg2.eq_unread hf0; obtain rfl := harg3.eq_unread hf1; clear hf0 hf1
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H8]
  · iexists _; isplitr
    swap; · iexact H8
    ipureintro
    exact View.read_writes_full _ _ _ _ _
  isplitl [H9]
  · iexists _; isplitr
    swap; · iexact H9
    ipureintro
    refine (View.read_writes_full _ _ _ _ _).trans ?_; rw [load_whole arg2 harg2, load_whole arg3 harg3]
  isplitl [Hs0]; · iexists _; iexact Hs0
  iexists _; iexact Hs1

set_option maxHeartbeats 2000000 in
/-- A later row's first point: the accumulator takes the product, the two copies start. -/
theorem run_start (c : Dev nD) (i : grid0.Coords) (arg2 : Memref sig .tc .vmem S1x1024x1024 .bf16) (harg2 : arg2.IsWhole) (arg3 : Memref sig .tc .vmem S1024x1024 .bf16) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole)
    (h1 : ¬k0_cond1 i = 1#1) (h2 : k0_cond2 i = 1#1) (h3 : ¬cond3 i = 1#1) (h4 : ¬k0_cond4 i = 1#1) (o : Fin 2 → Nat) (h : ∀ a, o a + S1024x1024.size a ≤ S2048x1024.size a) (ho : k0_off1 i = o)
    (x0 : Vec F S1x1024x1024 .bf16) (x1 : Vec F S1024x1024 .bf16) (fx : Buf (Elt F) (xM.view.loc (c : Thread nD τ))) (fd : Buf (Elt F) (dM.view.loc (c : Thread nD τ))) (K : PUnit → sProp 𝕄) :
    iprop(owns (c : Thread nD τ) arg2 fullShare x0 ∗ owns (c : Thread nD τ) arg3 fullShare x1 ∗ (∃ d, owns (c : Thread nD τ) accM fullShare d) ∗ home c xM o h fx ∗ home c dM o h fd ∗ (∃ f, held c xB f) ∗ (∃ f, held c dB f) ∗ semVal ((c : Thread nD τ), SemLoc.dma cellX) 0 ∗ semVal ((c : Thread nD τ), SemLoc.dma cellD) 0
        ∗ (iprop(owns (c : Thread nD τ) arg2 fullShare x0 ∗ owns (c : Thread nD τ) arg3 fullShare x1 ∗ owns (c : Thread nD τ) accM fullShare (k0_pay3 x0 x1) ∗ (∃ g, flight c cellX xM o h xB fx g) ∗ (∃ g, flight c cellD dM o h dB fd g)) -∗ K ⟨⟩))
      ⊢ wp frame (wpE (defs₀ (F := F)) Variants.none c none) Set.univ
          (cc0_in_bwd i arg2 harg2 arg3 harg3 xM (Memref.isWhole_whole _) dM (Memref.isWhole_whole _) arg6 harg6 arg7 harg7 arg8 harg8 accM (Memref.isWhole_whole _) xB (Memref.isWhole_whole _) dB (Memref.isWhole_whole _) cc0_scratch3) K := by
  subst ho
  simp only [cc0_in_bwd_eq_skeleton]; unfold cc0_in_bwd_skel
  simp only [k0_part1_eq_skeleton]
  unfold owns
  iintro ⟨⟨%f0, %hf0, H0⟩, ⟨%f1, %hf1, H1⟩, ⟨%d9, %f9, -, H9⟩, Hx, Hd, ⟨%fxb, Hxb⟩, ⟨%fdb, Hdb⟩, Hs0, Hs1, Hk⟩
  obtain rfl := harg2.eq_unread hf0; obtain rfl := harg3.eq_unread hf1; clear hf0 hf1
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H9]
  · iexists _; isplitr
    swap; · iexact H9
    ipureintro
    refine (View.read_writes_full _ _ _ _ _).trans ?_; rw [load_whole arg2 harg2, load_whole arg3 harg3]
  isplitl [Hs0]; · iexists _; iexact Hs0
  iexists _; iexact Hs1

set_option maxHeartbeats 2000000 in
/-- A point inside a row: the accumulator takes the product on top. -/
theorem run_mid (c : Dev nD) (i : grid0.Coords) (arg2 : Memref sig .tc .vmem S1x1024x1024 .bf16) (harg2 : arg2.IsWhole) (arg3 : Memref sig .tc .vmem S1024x1024 .bf16) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole)
    (h1 : ¬k0_cond1 i = 1#1) (h2 : ¬k0_cond2 i = 1#1) (h3 : cond3 i = 1#1) (h4 : ¬k0_cond4 i = 1#1)
    (x0 : Vec F S1x1024x1024 .bf16) (x1 : Vec F S1024x1024 .bf16) (xa : Vec F S1024x1024 .f32) (K : PUnit → sProp 𝕄) :
    iprop(owns (c : Thread nD τ) arg2 fullShare x0 ∗ owns (c : Thread nD τ) arg3 fullShare x1 ∗ owns (c : Thread nD τ) accM fullShare xa
        ∗ (iprop(owns (c : Thread nD τ) arg2 fullShare x0 ∗ owns (c : Thread nD τ) arg3 fullShare x1 ∗ owns (c : Thread nD τ) accM fullShare (k0_pay4 x0 x1 xa)) -∗ K ⟨⟩))
      ⊢ wp frame (wpE (defs₀ (F := F)) Variants.none c none) Set.univ
          (cc0_in_bwd i arg2 harg2 arg3 harg3 xM (Memref.isWhole_whole _) dM (Memref.isWhole_whole _) arg6 harg6 arg7 harg7 arg8 harg8 accM (Memref.isWhole_whole _) xB (Memref.isWhole_whole _) dB (Memref.isWhole_whole _) cc0_scratch3) K := by
  skip
  simp only [cc0_in_bwd_eq_skeleton]; unfold cc0_in_bwd_skel
  simp only [k0_part1_eq_skeleton]
  unfold owns
  iintro ⟨⟨%f0, %hf0, H0⟩, ⟨%f1, %hf1, H1⟩, ⟨%f9, %hf9, H9⟩, Hk⟩
  obtain rfl := harg2.eq_unread hf0; obtain rfl := harg3.eq_unread hf1; obtain rfl := (Memref.isWhole_whole _).eq_unread hf9; clear hf0 hf1 hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  · iexists _; isplitr
    swap; · iexact H9
    ipureintro
    refine (View.read_writes_full _ _ _ _ _).trans ?_; rw [load_whole arg2 harg2, load_whole arg3 harg3]; exact congrArg (k0_pay4 x0 x1) (load_whole accM (Memref.isWhole_whole _) xa _)

set_option maxHeartbeats 2000000 in
/-- A row's last point: the copies are waited for, the row's gradient is stored, the gain's is added to. -/
theorem run_last (c : Dev nD) (i : grid0.Coords) (arg2 : Memref sig .tc .vmem S1x1024x1024 .bf16) (harg2 : arg2.IsWhole) (arg3 : Memref sig .tc .vmem S1024x1024 .bf16) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole)
    (h1 : ¬k0_cond1 i = 1#1) (h2 : ¬k0_cond2 i = 1#1) (h3 : cond3 i = 1#1) (h4 : k0_cond4 i = 1#1) (o : Fin 2 → Nat) (h : ∀ a, o a + S1024x1024.size a ≤ S2048x1024.size a) (ho : k0_off2 i = o)
    (x0 : Vec F S1x1024x1024 .bf16) (x1 : Vec F S1024x1024 .bf16) (x2 : Vec F S1x1024 .f32) (xa : Vec F S1024x1024 .f32) (xg : Vec F S1x1024 .f32) (W : Waits sig Unit) (fx : Buf (Elt F) (xM.view.loc (c : Thread nD τ))) (fd : Buf (Elt F) (dM.view.loc (c : Thread nD τ))) (K : PUnit → sProp 𝕄) :
    iprop(owns (c : Thread nD τ) arg2 fullShare x0 ∗ owns (c : Thread nD τ) arg3 fullShare x1 ∗ owns (c : Thread nD τ) arg6 fullShare x2 ∗ (∃ d, owns (c : Thread nD τ) arg7 fullShare d) ∗ owns (c : Thread nD τ) arg8 fullShare xg ∗ owns (c : Thread nD τ) accM fullShare xa ∗ (∃ g, flight c cellX xM o h xB fx g) ∗ (∃ g, flight c cellD dM o h dB fd g) ∗ owes (c : Thread nD τ) 0 W
        ∗ (iprop(owns (c : Thread nD τ) arg2 fullShare x0 ∗ owns (c : Thread nD τ) arg3 fullShare x1 ∗ owns (c : Thread nD τ) arg6 fullShare x2 ∗ owns (c : Thread nD τ) arg7 fullShare (k0_pay8 ((win xM o h).view.read (Elt F) fx) x2 (k0_pay4 x0 x1 xa) ((win dM o h).view.read (Elt F) fd)) ∗ owns (c : Thread nD τ) arg8 fullShare (k0_pay5 (k0_pay7 ((win xM o h).view.read (Elt F) fx) (k0_pay4 x0 x1 xa)) xg) ∗ (∃ d, owns (c : Thread nD τ) accM fullShare d) ∗ home c xM o h fx ∗ home c dM o h fd ∗ (∃ f, held c xB f) ∗ (∃ f, held c dB f) ∗ semVal ((c : Thread nD τ), SemLoc.dma cellX) 0 ∗ semVal ((c : Thread nD τ), SemLoc.dma cellD) 0 ∗ (∃ W, owes (c : Thread nD τ) 0 W)) -∗ K ⟨⟩))
      ⊢ wp frame (wpE (defs₀ (F := F)) Variants.none c none) Set.univ
          (cc0_in_bwd i arg2 harg2 arg3 harg3 xM (Memref.isWhole_whole _) dM (Memref.isWhole_whole _) arg6 harg6 arg7 harg7 arg8 harg8 accM (Memref.isWhole_whole _) xB (Memref.isWhole_whole _) dB (Memref.isWhole_whole _) cc0_scratch3) K := by
  subst ho
  simp only [cc0_in_bwd_eq_skeleton]; unfold cc0_in_bwd_skel
  simp only [k0_part1_eq_skeleton]
  unfold owns
  iintro ⟨⟨%f0, %hf0, H0⟩, ⟨%f1, %hf1, H1⟩, ⟨%f6, %hf6, H6⟩, ⟨%d7, %f7, -, H7⟩, ⟨%f8, %hf8, H8⟩, ⟨%f9, %hf9, H9⟩, ⟨%g0, HF⟩, ⟨%g1, HG⟩, HO, Hk⟩
  obtain rfl := harg2.eq_unread hf0; obtain rfl := harg3.eq_unread hf1; obtain rfl := harg6.eq_unread hf6; obtain rfl := harg8.eq_unread hf8; obtain rfl := (Memref.isWhole_whole _).eq_unread hf9; clear hf0 hf1 hf6 hf8 hf9
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H6]
  · iexists _; isplitr; · ipureintro; exact harg6.read_unread _
    iexact H6
  unfold run_last.sl.r run_last.sl.r_1 run_last.sl.H9_1
  have eA : run_last.sl.v28 c arg2 harg2 arg3 harg3 x0 x1 xa = k0_pay4 x0 x1 xa := by
    unfold run_last.sl.v28 run_last.sl.H9_1
    refine (View.readCov_full _ _ _ _ _).trans ?_
    rw [load_whole arg2 harg2, load_whole arg3 harg3]; exact congrArg (k0_pay4 x0 x1) (load_whole accM (Memref.isWhole_whole _) xa _)
  rw [eA]
  isplitl [H7]
  · iexists _; isplitr
    swap; · iexact H7
    ipureintro
    refine (View.read_writes_full _ _ _ _ _).trans ?_; rw [load_landed xB, load_landed dB, load_whole arg6 harg6]
  isplitl [H8]
  · iexists _; isplitr
    swap; · iexact H8
    ipureintro
    refine (View.read_writes_full _ _ _ _ _).trans ?_; rw [load_landed xB, load_whole arg8 harg8]
  isplitl [H9]
  · iexists _; iexists _; isplitr
    swap; · iexact H9
    ipureintro; rfl
  isplitl [HF_src]; · iexact HF_src
  isplitl [HG_src]; · iexact HG_src
  isplitl [HF_dst]; · iexists _; iexact HF_dst
  isplitl [HG_dst]; · iexists _; iexact HG_dst
  isplitl [HF]; · iexact HF
  isplitl [HG]; · iexact HG
  iexists _; iexact HO

end Cert.Kernel5Ideal.Hand

end
-- ==== Proof.InFrame.lean ====
/- in_bwd: the frame of the whole call. -/
module

public import proofs.«01_k».proof.Proof.InRun
public import Idealize.ShloMosaic.Lib.Pipeline.TableIdle
public import Idealize.ShloMosaic.Lib.Claim

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.Kernel5Ideal Cert.Kernel5Ideal.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## Where each point is in the grid -/

theorem first_iff : ∀ t : Fin grid0.N, k0_cond1 (grid0.coords t) = 1#1 ↔ t.val = 0 := by decide +kernel
theorem start_iff : ∀ t : Fin grid0.N, k0_cond2 (grid0.coords t) = 1#1 ↔ t.val % 7 = 0 := by decide +kernel
theorem later_iff : ∀ t : Fin grid0.N, cond3 (grid0.coords t) = 1#1 ↔ ¬t.val % 7 = 0 := by decide +kernel
theorem last_iff : ∀ t : Fin grid0.N, k0_cond4 (grid0.coords t) = 1#1 ↔ t.val % 7 = 6 := by decide +kernel

/-- The row block point `n` is in, and where it starts. -/
abbrev rowOf (n : ℕ) : Fin 2 := ⟨n / 7 % 2, Nat.mod_lt _ (by omega)⟩
abbrev ro (r : Fin 2) : Fin 2 → ℕ := ![1024 * r.val, 0]
theorem ro_le : ∀ (r : Fin 2) (a : Fin 2), ro r a + S1024x1024.size a ≤ S2048x1024.size a := by decide
theorem off1_eq : ∀ t : Fin grid0.N, k0_off1 (grid0.coords t) = ro (rowOf t.val) := by decide +kernel
theorem off2_eq : ∀ t : Fin grid0.N, k0_off2 (grid0.coords t) = ro (rowOf t.val) := by decide +kernel

/-! ## What the scratch and the outputs hold after each point -/

abbrev X (c : Dev nD) : Buf (Elt F) (xM.view.loc (c : Thread nD τ)) := V m c main_arg2
abbrev D (c : Dev nD) : Buf (Elt F) (dM.view.loc (c : Thread nD τ)) := V m c main_arg3

/-- A row block of the two HBM operands. -/
def xRow (c : Dev nD) (r : Fin 2) : Vec F S1024x1024 .f32 := (win xM (ro r) (ro_le r)).view.read (Elt F) (X m c)
def dRow (c : Dev nD) (r : Fin 2) : Vec F S1024x1024 .f32 := (win dM (ro r) (ro_le r)).view.read (Elt F) (D m c)

/-- The accumulator after point `n`: the row's products so far. -/
def accAt (c : Dev nD) : (n : ℕ) → n < cfg0.N → Vec F S1024x1024 .f32
  | 0, h => k0_pay3 (iblk m c 0 ⟨0, h⟩) (iblk m c 1 ⟨0, h⟩)
  | n + 1, h =>
    if (n + 1) % 7 = 0 then k0_pay3 (iblk m c 0 ⟨n + 1, h⟩) (iblk m c 1 ⟨n + 1, h⟩)
    else k0_pay4 (iblk m c 0 ⟨n + 1, h⟩) (iblk m c 1 ⟨n + 1, h⟩) (accAt c n (Nat.lt_of_succ_lt h))

theorem accAt_start (c : Dev nD) (t : Fin cfg0.N) (h : t.val % 7 = 0) :
    accAt m c t.val t.isLt = k0_pay3 (iblk m c 0 t) (iblk m c 1 t) := by
  obtain ⟨n, hn⟩ := t
  cases n with
  | zero => rfl
  | succ n => exact if_pos h

theorem accAt_later (c : Dev nD) (t : Fin cfg0.N) (h : ¬t.val % 7 = 0) :
    accAt m c t.val t.isLt = k0_pay4 (iblk m c 0 t) (iblk m c 1 t) (accAt m c (t.val - 1) (Nat.lt_of_le_of_lt (Nat.sub_le _ _) t.isLt)) := by
  obtain ⟨n, hn⟩ := t
  cases n with
  | zero => exact absurd (Nat.zero_mod _) h
  | succ n => exact if_neg h

/-- The gain's gradient after point `n`: the rows done so far. -/
def gainAt (c : Dev nD) : (n : ℕ) → n < cfg0.N → Vec F S1x1024 .f32
  | 0, h => k0_pay1 (F := F)
  | n + 1, h =>
    if (n + 1) % 7 = 6 then
      k0_pay5 (k0_pay7 (xRow m c (rowOf (n + 1))) (accAt m c (n + 1) h)) (gainAt c n (Nat.lt_of_succ_lt h))
    else gainAt c n (Nat.lt_of_succ_lt h)

theorem gainAt_last (c : Dev nD) (t : Fin cfg0.N) (h : t.val % 7 = 6) :
    gainAt m c t.val t.isLt
      = k0_pay5 (k0_pay7 (xRow m c (rowOf t.val)) (accAt m c t.val t.isLt)) (gainAt m c (t.val - 1) (Nat.lt_of_le_of_lt (Nat.sub_le _ _) t.isLt)) := by
  obtain ⟨n, hn⟩ := t
  cases n with
  | zero => exact absurd h (by simp)
  | succ n => exact if_pos h

theorem gainAt_kept (c : Dev nD) (t : Fin cfg0.N) (h0 : t.val ≠ 0) (h : ¬t.val % 7 = 6) :
    gainAt m c t.val t.isLt = gainAt m c (t.val - 1) (Nat.lt_of_le_of_lt (Nat.sub_le _ _) t.isLt) := by
  obtain ⟨n, hn⟩ := t
  cases n with
  | zero => exact absurd rfl h0
  | succ n => exact if_neg h

/-! ## The invariant -/

/-- What is left of an HBM operand while a row block of it is being copied. -/
abbrev rest (c : Dev nD) (M : Memref sig .tc .hbm S2048x1024 .f32) (r : Fin 2) (f : Buf (Elt F) (M.view.loc (c : Thread nD τ))) : sProp 𝕄 :=
  M.view.loc (c : Thread nD τ) ↦[Finset.univ \ (win M (ro r) (ro_le r)).view.set]{fullShare} f

/-- Between rows: the scratch at any contents, both cells at zero, the operands whole. -/
def PhiIdle (c : Dev nD) : sProp 𝕄 :=
  iprop((∃ d, owns (c : Thread nD τ) accM fullShare d) ∗ (∃ f, held c xB f) ∗ (∃ f, held c dB f) ∗ (∃ r, prngReg c r)
    ∗ semVal ((c : Thread nD τ), SemLoc.dma cellX) 0 ∗ semVal ((c : Thread nD τ), SemLoc.dma cellD) 0 ∗ held c xM (X m c) ∗ held c dM (D m c))

/-- Inside row `r`: the accumulator at `a`, the row's two copies under way. -/
def PhiBusy (c : Dev nD) (r : Fin 2) (a : Vec F S1024x1024 .f32) : sProp 𝕄 :=
  iprop(owns (c : Thread nD τ) accM fullShare a ∗ (∃ g, flight c cellX xM (ro r) (ro_le r) xB (X m c) g) ∗ (∃ g, flight c cellD dM (ro r) (ro_le r) dB (D m c) g)
    ∗ (∃ r, prngReg c r) ∗ rest c xM r (X m c) ∗ rest c dM r (D m c))

def PhiS (c : Dev nD) (n : ℕ) (h : n ≤ cfg0.N) : sProp 𝕄 :=
  if n % 7 = 0 then PhiIdle m c
  else PhiBusy m c (rowOf n) (accAt m c (n - 1) (by have := show cfg0.N = 14 from N_0; omega))

theorem PhiS_idle (c : Dev nD) (n : ℕ) (h : n ≤ cfg0.N) (h0 : n % 7 = 0) : PhiS m c n h = PhiIdle m c := if_pos h0

theorem PhiS_busy (c : Dev nD) (t : Fin cfg0.N) (h0 : ¬(t.val + 1) % 7 = 0) :
    PhiS m c (t.val + 1) t.isLt = PhiBusy m c (rowOf t.val) (accAt m c t.val t.isLt) := by
  unfold PhiS; rw [if_neg h0]
  have e : rowOf (t.val + 1) = rowOf t.val := Fin.ext (by show (t.val + 1) / 7 % 2 = t.val / 7 % 2; omega)
  rw [e]; rfl

theorem PhiS_later (c : Dev nD) (t : Fin cfg0.N) (h0 : ¬t.val % 7 = 0) :
    PhiS m c t.val (Nat.le_of_lt t.isLt) = PhiBusy m c (rowOf t.val) (accAt m c (t.val - 1) (Nat.lt_of_le_of_lt (Nat.sub_le _ _) t.isLt)) := by
  unfold PhiS; rw [if_neg h0]

def dats (_ : Fin 1) (c : Dev nD) : Dat τ (Elt F) Unit ℕ (UD sig nD τ) ℕ cfg0 c where
  A w := V m c (Pipeline.arrRef spec0 w)
  after w t := match w with
    | 0 => iblk m c 0 t
    | 1 => iblk m c 1 t
    | 2 => iblk m c 2 t
    | 3 => k0_pay8 (xRow m c (rowOf t.val)) (iblk m c 2 t) (accAt m c t.val t.isLt) (dRow m c (rowOf t.val))
    | 4 => gainAt m c t.val t.isLt
    | ⟨_ + 5, h⟩ => absurd h (Nat.not_lt_of_ge (Nat.le_add_left _ _))
  Φ t := PhiS m c t.val (Nat.le_of_lt_succ t.isLt)
  q := fun _ => fullShare
  owed := fun _ => 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay8 (xRow m c (rowOf t.val)) (iblk m c 2 t) (accAt m c t.val t.isLt) (dRow m c (rowOf t.val)) := by dsimp only [dats]
theorem after_4 (c : Dev nD) (t : Fin cfg0.N) : (dats m 0 c).after 4 t = gainAt m c t.val t.isLt := by dsimp only [dats]
theorem Phi_castSucc (c : Dev nD) (t : Fin cfg0.N) : (dats m 0 c).Φ t.castSucc = PhiS m c t.val (Nat.le_of_lt t.isLt) := by
  dsimp only [dats]; exact Dat.Φ_castSucc (PhiS m c) t
theorem Phi_succ (c : Dev nD) (t : Fin cfg0.N) : (dats m 0 c).Φ t.succ = PhiS m c (t.val + 1) t.isLt := by dsimp only [dats]; rfl

/-! ## What each staging buffer holds when the body runs -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem idle_3 : ∀ t : Fin grid0.N, cfg0.idle 3 (grid0.coords t) = true ↔ ¬t.val % 7 = 6 := by decide +kernel
theorem idle_4 : ∀ t : Fin grid0.N, cfg0.idle 4 (grid0.coords t) = true ↔ ¬t.val = 0 ∧ ¬t.val % 7 = 6 := by decide +kernel

theorem fresh_4 (t : Fin cfg0.N) (h : t.val ≠ 0) : cfg0.fresh 4 t.val = false := by
  have hN : cfg0.N = 14 := N_0
  refine (Cfg.fresh_tab cfg0 4 (fun n => n == 0 || n == 14) rfl ?_ t.val (Nat.le_of_lt t.isLt)).trans ?_
  · decide +kernel
  · have := t.isLt; simp; omega

theorem before_4 (c : Dev nD) (t : Fin cfg0.N) (h : t.val ≠ 0) (d) :
    (dats m 0 c).before 4 t d = gainAt m c (t.val - 1) (Nat.lt_of_le_of_lt (Nat.sub_le _ _) t.isLt) := by
  rw [Dat.before_out_traj (dats m 0 c) 4 rfl (fun _ _ => rfl) ?_ t.val t rfl d, fresh_4 t h, if_neg Bool.false_ne_true, after_4]
  intro t ht hi _
  rw [after_4, after_4]
  exact gainAt_kept m c t ht ((idle_4 t).mp hi).2

/-! ## The body at any point -/

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

theorem split_home (c : Dev nD) (M : Memref sig .tc .hbm S2048x1024 .f32) (r : Fin 2) (f : Buf (Elt F) (M.view.loc (c : Thread nD τ))) :
    (held c M f : sProp 𝕄) ⊣⊢ iprop(home c M (ro r) (ro_le r) f ∗ rest c M r f) :=
  pointsTo_split_subset (Finset.subset_univ _)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  have hN : t.val < 14 := lt_of_lt_of_eq t.isLt (show cfg0.N = 14 from N_0)
  unfold bodyPre bodyPost bodyAt0
  simp only [before_0, before_1, before_2]
  rw [Phi_castSucc, Phi_succ, after_0, after_1, after_2,
    show (dats m 0 c).owesAt () t.succ = (dats m 0 c).owesAt () t.castSucc from rfl]
  by_cases hs : t.val % 7 = 0
  · rw [PhiS_idle m c _ _ hs, PhiS_busy m c t (by omega), accAt_start m c t hs,
      Dat.leavesExact_idle _ 3 t ((idle_3 t).mpr (by omega)) (Bool.eq_false_iff.mpr fun h => by have := (flush0_3 t).mp h; omega)]
    unfold PhiIdle PhiBusy
    by_cases h0 : t.val = 0
    · rw [leaves_live m c 4 t (Bool.eq_false_iff.mpr fun h => ((idle_4 t).mp h).1 h0), after_4,
        show gainAt m c t.val t.isLt = k0_pay1 (F := F) by obtain ⟨n, hn⟩ := t; obtain rfl : n = 0 := h0; rfl]
      iintro ⟨⟨Ha, Hxb, Hdb, Hp, Hs0, Hs1, Hx, Hd⟩, Ho, ⟨%d0, H0⟩, ⟨%d1, H1⟩, ⟨%d2, H2⟩, H3, ⟨%d4, H4⟩⟩
      ihave Hx := (split_home c xM (rowOf t.val) (X m c)).1 $$ Hx
      ihave Hd := (split_home c dM (rowOf t.val) (D m c)).1 $$ Hd
      icases Hx with ⟨Hx, Rx⟩
      icases Hd with ⟨Hd, Rd⟩
      iapply (run_first c (grid0.coords t) _ _ _ _ _ _ _ _ _ _ ((first_iff t).mpr h0) ((start_iff t).mpr hs) (fun h => (later_iff t).mp h hs)
        (fun h => by have := (last_iff t).mp h; omega) (ro (rowOf t.val)) (ro_le _) (off1_eq t) (iblk m c 0 t) (iblk m c 1 t) (X m c) (D m c) _)
      isplitl [H0]; · iexact H0
      isplitl [H1]; · iexact H1
      isplitl [H4]; · iexists _; iexact H4
      isplitl [Ha]; · iexact Ha
      isplitl [Hx]; · iexact Hx
      isplitl [Hd]; · iexact Hd
      isplitl [Hxb]; · iexact Hxb
      isplitl [Hdb]; · iexact Hdb
      isplitl [Hs0]; · iexact Hs0
      isplitl [Hs1]; · iexact Hs1
      iintro ⟨H0, H1, H4, Ha, Fx, Fd⟩
      isplitl [Ha Fx Fd Hp Rx Rd]
      · isplitl [Ha]; · iexact Ha
        isplitl [Fx]; · iexact Fx
        isplitl [Fd]; · iexact Fd
        isplitl [Hp]; · iexact Hp
        isplitl [Rx]; · iexact Rx
        iexact Rd
      isplitl [Ho]; · iexact Ho
      isplitl [H0]; · iexact H0
      isplitl [H1]; · iexact H1
      isplitl [H2]; · iexact H2
      isplitl [H3]; · iexact H3
      iexact H4
    · rw [Dat.leavesExact_idle _ 4 t ((idle_4 t).mpr ⟨h0, by omega⟩) (Bool.eq_false_iff.mpr fun h => by have := (flush0_4 t).mp h; omega)]
      iintro ⟨⟨Ha, Hxb, Hdb, Hp, Hs0, Hs1, Hx, Hd⟩, Ho, ⟨%d0, H0⟩, ⟨%d1, H1⟩, ⟨%d2, H2⟩, H3, H4⟩
      ihave Hx := (split_home c xM (rowOf t.val) (X m c)).1 $$ Hx
      ihave Hd := (split_home c dM (rowOf t.val) (D m c)).1 $$ Hd
      icases Hx with ⟨Hx, Rx⟩
      icases Hd with ⟨Hd, Rd⟩
      iapply (run_start c (grid0.coords t) _ _ _ _ _ _ _ _ _ _ (fun h => h0 ((first_iff t).mp h)) ((start_iff t).mpr hs) (fun h => (later_iff t).mp h hs)
        (fun h => by have := (last_iff t).mp h; omega) (ro (rowOf t.val)) (ro_le _) (off1_eq t) (iblk m c 0 t) (iblk m c 1 t) (X m c) (D m c) _)
      isplitl [H0]; · iexact H0
      isplitl [H1]; · iexact H1
      isplitl [Ha]; · iexact Ha
      isplitl [Hx]; · iexact Hx
      isplitl [Hd]; · iexact Hd
      isplitl [Hxb]; · iexact Hxb
      isplitl [Hdb]; · iexact Hdb
      isplitl [Hs0]; · iexact Hs0
      isplitl [Hs1]; · iexact Hs1
      iintro ⟨H0, H1, Ha, Fx, Fd⟩
      isplitl [Ha Fx Fd Hp Rx Rd]
      · isplitl [Ha]; · iexact Ha
        isplitl [Fx]; · iexact Fx
        isplitl [Fd]; · iexact Fd
        isplitl [Hp]; · iexact Hp
        isplitl [Rx]; · iexact Rx
        iexact Rd
      isplitl [Ho]; · iexact Ho
      isplitl [H0]; · iexact H0
      isplitl [H1]; · iexact H1
      isplitl [H2]; · iexact H2
      isplitl [H3]; · iexact H3
      iexact H4
  · have h0 : t.val ≠ 0 := fun h => hs (by omega)
    by_cases hl : t.val % 7 = 6
    · rw [PhiS_later m c t hs, PhiS_idle m c _ _ (by omega), leaves_live m c 3 t (Bool.eq_false_iff.mpr fun h => (idle_3 t).mp h hl),
        leaves_live m c 4 t (Bool.eq_false_iff.mpr fun h => ((idle_4 t).mp h).2 hl), after_3, after_4, gainAt_last m c t hl, accAt_later m c t hs]
      simp only [before_4 m c t h0]
      unfold PhiIdle PhiBusy xRow dRow
      iintro ⟨⟨Ha, Fx, Fd, Hp, Rx, Rd⟩, ⟨%W, -, Ho⟩, ⟨%d0, H0⟩, ⟨%d1, H1⟩, ⟨%d2, H2⟩, ⟨%d3, H3⟩, ⟨%d4, H4⟩⟩
      iapply (run_last c (grid0.coords t) _ _ _ _ _ _ _ _ _ _ (fun h => h0 ((first_iff t).mp h)) (fun h => hs ((start_iff t).mp h)) ((later_iff t).mpr hs)
        ((last_iff t).mpr hl) (ro (rowOf t.val)) (ro_le _) (off2_eq t) (iblk m c 0 t) (iblk m c 1 t) (iblk m c 2 t) _ _ W (X m c) (D m c) _)
      isplitl [H0]; · iexact H0
      isplitl [H1]; · iexact H1
      isplitl [H2]; · iexact H2
      isplitl [H3]; · iexists _; iexact H3
      isplitl [H4]; · iexact H4
      isplitl [Ha]; · iexact Ha
      isplitl [Fx]; · iexact Fx
      isplitl [Fd]; · iexact Fd
      isplitl [Ho]; · iexact Ho
      iintro ⟨H0, H1, H2, H3, H4, Ha, Hx, Hd, Hxb, Hdb, Hs0, Hs1, ⟨%W', Ho⟩⟩
      isplitl [Ha Hxb Hdb Hp Hs0 Hs1 Hx Rx Hd Rd]
      · isplitl [Ha]; · iexact Ha
        isplitl [Hxb]; · iexact Hxb
        isplitl [Hdb]; · iexact Hdb
        isplitl [Hp]; · iexact Hp
        isplitl [Hs0]; · iexact Hs0
        isplitl [Hs1]; · iexact Hs1
        isplitl [Hx Rx]
        · iapply (split_home c xM (rowOf t.val) (X m c)).2
          isplitl [Hx]; · iexact Hx
          iexact Rx
        iapply (split_home c dM (rowOf t.val) (D m c)).2
        isplitl [Hd]; · iexact Hd
        iexact Rd
      isplitl [Ho]
      · iexists W'; isplitr
        · ipureintro; exact fun _ _ => Or.inl trivial
        iexact Ho
      isplitl [H0]; · iexact H0
      isplitl [H1]; · iexact H1
      isplitl [H2]; · iexact H2
      isplitl [H3]; · iexact H3
      iexact H4
    · rw [PhiS_later m c t hs, PhiS_busy m c t (by omega), accAt_later m c t hs,
        Dat.leavesExact_idle _ 3 t ((idle_3 t).mpr hl) (Bool.eq_false_iff.mpr fun h => by have := (flush0_3 t).mp h; omega),
        Dat.leavesExact_idle _ 4 t ((idle_4 t).mpr ⟨h0, hl⟩) (Bool.eq_false_iff.mpr fun h => by have := (flush0_4 t).mp h; omega)]
      unfold PhiBusy
      iintro ⟨⟨Ha, Fx, Fd, Hp, Rx, Rd⟩, Ho, ⟨%d0, H0⟩, ⟨%d1, H1⟩, ⟨%d2, H2⟩, H3, H4⟩
      iapply (run_mid c (grid0.coords t) _ _ _ _ _ _ _ _ _ _ (fun h => h0 ((first_iff t).mp h)) (fun h => hs ((start_iff t).mp h)) ((later_iff t).mpr hs)
        (fun h => hl ((last_iff t).mp h)) (iblk m c 0 t) (iblk m c 1 t) _ _)
      isplitl [H0]; · iexact H0
      isplitl [H1]; · iexact H1
      isplitl [Ha]; · iexact Ha
      iintro ⟨H0, H1, Ha⟩
      isplitl [Ha Fx Fd Hp Rx Rd]
      · isplitl [Ha]; · iexact Ha
        isplitl [Fx]; · iexact Fx
        isplitl [Fd]; · iexact Fd
        isplitl [Hp]; · iexact Hp
        isplitl [Rx]; · iexact Rx
        iexact Rd
      isplitl [Ho]; · iexact Ho
      isplitl [H0]; · iexact H0
      isplitl [H1]; · iexact H1
      isplitl [H2]; · iexact H2
      isplitl [H3]; · iexact H3
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The kernel's own two semaphores. -/
def osem : Fin 2 → SemLoc sig
  | 0 => .dma cellX
  | 1 => .dma cellD

/-- What the launch hands the body, part by part. -/
theorem entry_eq (c : Dev nD) : Pipeline.ΦD osem spec0 {main_arg2, main_arg3} (V m) c
    = iprop(((∃ f, (c : Thread nD τ).loc cc0_scratch0 ↦{fullShare} f) ∗ (∃ f, (c : Thread nD τ).loc cc0_scratch1 ↦{fullShare} f) ∗ (∃ f, (c : Thread nD τ).loc cc0_scratch2 ↦{fullShare} f))
      ∗ (∃ r, prngReg c r) ∗ (semVal ((c : Thread nD τ), SemLoc.dma cellX) 0 ∗ semVal ((c : Thread nD τ), SemLoc.dma cellD) 0)
      ∗ ((c : Thread nD τ).loc main_arg2 ↦{fullShare} V m c main_arg2) ∗ ((c : Thread nD τ).loc main_arg3 ↦{fullShare} V m c main_arg3)) := by
  rw [Pipeline.ΦD_eq, scopedRest0_eq, Pipeline.ownSems0_eq_of_list c osem [0, 1] (by decide) (by decide),
    bigSep_eq_bigSepL_of_eq [main_arg2, main_arg3] (by decide) (by decide)]
  rfl

theorem entry_idle (c : Dev nD) : Pipeline.ΦD osem spec0 {main_arg2, main_arg3} (V m) c ⊢ PhiIdle m c := by
  rw [entry_eq]; unfold PhiIdle
  iintro ⟨⟨⟨%a, Ha⟩, Hb, Hd⟩, Hp, ⟨Hs0, Hs1⟩, Hx, Hy⟩
  isplitl [Ha]; · iexists a; iapply (Entails.of_eq (owns_whole (c : Thread nD τ) cc0_scratch0 fullShare a).symm); iexact Ha
  isplitl [Hb]; · iexact Hb
  isplitl [Hd]; · iexact Hd
  isplitl [Hp]; · iexact Hp
  isplitl [Hs0]; · iexact Hs0
  isplitl [Hs1]; · iexact Hs1
  isplitl [Hx]; · iexact Hx
  iexact Hy

theorem idle_entry (c : Dev nD) : PhiIdle m c ⊢ Pipeline.ΦD osem spec0 {main_arg2, main_arg3} (V m) c := by
  rw [entry_eq]; unfold PhiIdle
  iintro ⟨⟨%a, Ha⟩, Hb, Hd, Hp, Hs0, Hs1, Hx, Hy⟩
  isplitl [Ha Hb Hd]
  · isplitl [Ha]; · iexists a; iapply (Entails.of_eq (owns_whole (c : Thread nD τ) cc0_scratch0 fullShare a)); iexact Ha
    isplitl [Hb]; · iexact Hb
    iexact Hd
  isplitl [Hp]; · iexact Hp
  isplitl [Hs0 Hs1]
  · isplitl [Hs0]; · iexact Hs0
    iexact Hs1
  isplitl [Hx]; · iexact Hx
  iexact Hy

theorem hmain (𝒱₀ : Variants) : Pipeline.HMain (Ix := Unit) (Name := ℕ) (U := UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none (by decide) {main_arg2, main_arg3} (by decide) m ρ main
    (hbody := fun c => (body_obligation m c).loose) (hshare := fun c => (dats m 0 c).share_full fun _ => rfl)
    (howed := fun _ _ => rfl) (V := V m) (hmain := hmain m Variants.none) (hA := A_eq m)
    (hin := fun c => entry_idle m c) (hout := fun c => idle_entry m c)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hs => ⟨fun c => ⟨((hs.1 c).1 0).trans (((dats m 0 c).arrAt_in 0 rfl _).trans (A_eq m c 0)),
      ((hs.1 c).1 1).trans (((dats m 0 c).arrAt_in 1 rfl _).trans (A_eq m c 1)),
      (hs.1 c).2 main_arg2 (Pipeline.mem_restRefs_of main_arg2 (by decide) (by decide)),
      (hs.1 c).2 main_arg3 (Pipeline.mem_restRefs_of main_arg3 (by decide) (by decide)),
      ((hs.1 c).1 2).trans (((dats m 0 c).arrAt_in 2 rfl _).trans (A_eq m c 2))⟩, hs.2⟩) (run_main_quiescent m ρ)

end Cert.Kernel5Ideal.Hand

end
-- ==== Proof.InBwd.lean ====
/- in_bwd: the gradient of the normalised in-projection with respect to its input and its gain. -/
module

public import proofs.«01_k».proof.Defs
public import proofs.«01_k».proof.Proof.InRef
public import proofs.«01_k».proof.Proof.InFrame
public import proofs.«01_k».proof.Proof.RealArgs
public import proofs.«01_k».proof.Pre_finite_section_gradients
public import proofs.«01_k».proof.Proof.Gen.Reference5Ideal.Run
public import proofs.«01_k».proof.Proof.Gen.Reference5Ideal.Read
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen Cert.Common Cert.Rms Cert.RmsOps Cert.InGrad

variable (m : (ℓ : Loc nD τ sig) → Buf (Elt Ideal) ℓ) (ρ : Dev nD → PrngReg)

/-! ## The payloads at an index -/

theorem part_apply (a : Vec Ideal S1x1024x1024 .bf16) (b : Vec Ideal S1024x1024 .bf16) (p j : Fin 1024) :
    (k0_pay2 (F := Ideal) a b (ValueIdx.ix2 p j) : EReal) = ∑ k : Fin 1024, a (ValueIdx.ix3 0 p k) * b (ValueIdx.ix2 j k) := by
  unfold k0_pay2
  refine (matmul_nt_zero (φ₁ := .bf16) (φ₂ := .bf16) _ none _ b p j).trans (Finset.sum_congr rfl fun k _ => ?_)
  rw [shapeCast_dropUnit_apply ![1024, 1024]]
  exact congrArg (fun i => (a i * b (ValueIdx.ix2 j k) : EReal)) (funext fun a => by match a with | ⟨0, _⟩ => rfl | ⟨1, _⟩ => rfl | ⟨2, _⟩ => rfl)

theorem rinv_at (x : Vec Ideal S1024x1024 .f32) (p : Fin 1024) (z : Fin 1) : (k0_pay6 (F := Ideal) x (ValueIdx.ix2 p z) : EReal) = rinv (row x p) := by
  unfold k0_pay6
  exact rinv_apply x _ _ _ _ p z

theorem dx_at (x d y : Vec Ideal S1024x1024 .f32) (g : Vec Ideal S1x1024 .f32) (p j : Fin 1024) :
    (k0_pay8 (F := Ideal) x g d y (ValueIdx.ix2 p j) : EReal) = kbwd (row x p) (row g 0) (row d p) j + y (ValueIdx.ix2 p j) := by
  unfold k0_pay8
  exact congrArg₂ (· + · : EReal → EReal → EReal) (kbwd_apply x d g (k0_pay6 x) _ _ _ _ _ _ (fun p z => rinv_at x p z) p j) rfl

theorem dg_at (x d : Vec Ideal S1024x1024 .f32) (z : Fin 1) (j : Fin 1024) :
    (k0_pay7 (F := Ideal) x d (ValueIdx.ix2 z j) : EReal) = ∑ p : Fin 1024, d (ValueIdx.ix2 p j) * (x (ValueIdx.ix2 p j) * rinv (row x p)) := by
  unfold k0_pay7
  refine (colSum_apply _ _ _ _ _ z j).trans (Finset.sum_congr rfl fun p _ => ?_)
  exact congrArg₂ (· * · : EReal → EReal → EReal) rfl (congrArg₂ (· * · : EReal → EReal → EReal) rfl ((column_apply _ _ p j).trans (rinv_at x p _)))

/-! ## The blocks -/

theorem index0 : ∀ t : Fin cfg0.N, win0_0.index t 0 = (sect (t.val % 7)).val ∧ win0_0.index t 1 = t.val / 7 ∧ win0_0.index t 2 = 0 :=
  (by decide +kernel : ∀ t : Fin grid0.N, win0_0.index t 0 = (sect (t.val % 7)).val ∧ win0_0.index t 1 = t.val / 7 ∧ win0_0.index t 2 = 0)
theorem index1 : ∀ t : Fin cfg0.N, win0_1.index t 0 = 0 ∧ win0_1.index t 1 = t.val % 7 :=
  (by decide +kernel : ∀ t : Fin grid0.N, win0_1.index t 0 = 0 ∧ win0_1.index t 1 = t.val % 7)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val / 7 ∧ win0_3.index t 1 = 0 :=
  (by decide +kernel : ∀ t : Fin grid0.N, win0_3.index t 0 = t.val / 7 ∧ win0_3.index t 1 = 0)

abbrev dz (c : Dev nD) : Vec Ideal S8x2048x1024 .bf16 := V m c main_arg0
abbrev w (c : Dev nD) : Vec Ideal S1024x7168 .bf16 := V m c main_arg1
abbrev x (c : Dev nD) : Vec Ideal S2048x1024 .f32 := V m c main_arg2
abbrev dx1 (c : Dev nD) : Vec Ideal S2048x1024 .f32 := V m c main_arg3
abbrev g (c : Dev nD) : Vec Ideal S1x1024 .f32 := V m c main_arg4

/-- Row `p` of row block `r`. -/
abbrev at_ (r : Fin 2) (p : Fin 1024) : Fin 2048 := ⟨1024 * r.val + p.val, by omega⟩

theorem lt14 (t : Fin cfg0.N) : t.val < 14 := lt_of_lt_of_eq t.isLt (show cfg0.N = 14 from N_0)

theorem block0 (c : Dev nD) (t : Fin cfg0.N) (p k : Fin 1024) :
    (iblk m c 0 t : Vec Ideal S1x1024x1024 .bf16) (ValueIdx.ix3 0 p k) = dz m c (ValueIdx.ix3 (sect (t.val % 7)) (at_ (rowOf t.val) p) k) := by
  have ht := lt14 t
  show V m c main_arg0 _ = V m c main_arg0 _
  congr 1
  funext a
  apply Fin.ext
  match a with
  | ⟨0, _⟩ => show win0_0.index t 0 * 1 + 1 * 0 = _; rw [(index0 t).1]; show _ = (sect (t.val % 7)).val; omega
  | ⟨1, _⟩ => show win0_0.index t 1 * 1024 + 1 * p.val = 1024 * (t.val / 7 % 2) + p.val; rw [(index0 t).2.1]; omega
  | ⟨2, _⟩ => show win0_0.index t 2 * 1024 + 1 * k.val = k.val; rw [(index0 t).2.2]; omega

theorem block1 (c : Dev nD) (t : Fin cfg0.N) (j k : Fin 1024) :
    (iblk m c 1 t : Vec Ideal S1024x1024 .bf16) (ValueIdx.ix2 j k) = w m c (ValueIdx.ix2 j ⟨t.val % 7 * 1024 + k.val, by omega⟩) := by
  show V m c main_arg1 _ = V m c main_arg1 _
  congr 1
  funext a
  apply Fin.ext
  match a with
  | ⟨0, _⟩ => show win0_1.index t 0 * 1024 + 1 * j.val = j.val; rw [(index1 t).1]; omega
  | ⟨1, _⟩ => show win0_1.index t 1 * 1024 + 1 * k.val = t.val % 7 * 1024 + k.val; rw [(index1 t).2]; omega

theorem block2 (c : Dev nD) (t : Fin cfg0.N) : (iblk m c 2 t : Vec Ideal S1x1024 .f32) = g m c := by
  funext i
  show V m c main_arg4 _ = V m c main_arg4 _
  congr 1
  funext a
  apply Fin.ext
  match a with
  | ⟨0, _⟩ => show win0_2.index t 0 * 1 + 1 * (i 0).val = (i 0).val; rw [(index2 t).1]; omega
  | ⟨1, _⟩ => show win0_2.index t 1 * 1024 + 1 * (i 1).val = (i 1).val; rw [(index2 t).2]; omega

theorem xRow_at (c : Dev nD) (r : Fin 2) (p j : Fin 1024) : xRow m c r (ValueIdx.ix2 p j) = x m c (ValueIdx.ix2 (at_ r p) j) := by
  unfold xRow
  rw [View.read_apply]
  show V m c main_arg2 _ = V m c main_arg2 _
  congr 1
  funext a
  apply Fin.ext
  match a with
  | ⟨0, _⟩ => show 1024 * r.val + 1 * p.val = 1024 * r.val + p.val; omega
  | ⟨1, _⟩ => show 0 + 1 * j.val = j.val; omega

theorem dRow_at (c : Dev nD) (r : Fin 2) (p j : Fin 1024) : dRow m c r (ValueIdx.ix2 p j) = dx1 m c (ValueIdx.ix2 (at_ r p) j) := by
  unfold dRow
  rw [View.read_apply]
  show V m c main_arg3 _ = V m c main_arg3 _
  congr 1
  funext a
  apply Fin.ext
  match a with
  | ⟨0, _⟩ => show 1024 * r.val + 1 * p.val = 1024 * r.val + p.val; omega
  | ⟨1, _⟩ => show 0 + 1 * j.val = j.val; omega

theorem xRow_row (c : Dev nD) (r : Fin 2) (p : Fin 1024) : row (xRow m c r) p = row (x m c) (at_ r p) := funext fun j => xRow_at m c r p j

/-! ## The accumulated product -/

/-- What point `t` adds to the accumulator. -/
def term (c : Dev nD) (t : Fin cfg0.N) (i : S1024x1024.Idx) : EReal :=
  ∑ k : Fin 1024, dz m c (ValueIdx.ix3 (sect (t.val % 7)) (at_ (rowOf t.val) (i 0)) k) * w m c (ValueIdx.ix2 (i 1) ⟨t.val % 7 * 1024 + k.val, by omega⟩)

theorem part_term (c : Dev nD) (t : Fin cfg0.N) (i : S1024x1024.Idx) : (k0_pay2 (F := Ideal) (iblk m c 0 t) (iblk m c 1 t) i : EReal) = term m c t i := by
  obtain ⟨p, j, rfl⟩ := exists_ix2 (M := 1024) (N := 1024) i
  refine (part_apply _ _ p j).trans (Finset.sum_congr rfl fun k _ => ?_)
  exact congrArg₂ (· * · : EReal → EReal → EReal) (block0 m c t p k) (block1 m c t j k)

theorem acc_reset (c : Dev nD) (t : Fin cfg0.N) (h : t.val % 7 = 0) (i : S1024x1024.Idx) : (accAt m c t.val t.isLt i : EReal) = 0 + term m c t i := by
  rw [accAt_start m c t h, zero_add, ← part_term]
  unfold k0_pay3
  rw [shapeCast_self]

theorem acc_step (c : Dev nD) (t : Fin cfg0.N) (h : ¬t.val % 7 = 0) (i : S1024x1024.Idx) :
    (accAt m c t.val t.isLt i : EReal) = accAt m c (t.val - 1) (Nat.lt_of_le_of_lt (Nat.sub_le _ _) t.isLt) i + term m c t i := by
  rw [accAt_later m c t h, ← part_term]
  unfold k0_pay4
  rw [shapeCast_self]
  rfl

/-- After a row's last point the accumulator holds the row block of the product. -/
theorem acc_last (c : Dev nD) (t : Fin cfg0.N) (h : t.val % 7 = 6) (p j : Fin 1024) :
    (accAt m c t.val t.isLt (ValueIdx.ix2 p j) : EReal) = dyRow (dz m c) (w m c) (at_ (rowOf t.val) p) j := by
  have ht := lt14 t
  refine (Pipeline.eq_sum_fin_of_reset_step_apply_of_flush (fun n h => (accAt m c n h : S1024x1024.Idx → EReal)) 7 (fun _ => (0 : EReal)) (term m c)
    (fun t h i => acc_reset m c t h i) (fun t h i => acc_step m c t h i) t h (ValueIdx.ix2 p j)).trans ?_
  rw [zero_add]
  refine Eq.trans (Finset.sum_congr rfl fun s _ => Finset.sum_congr rfl fun k _ => ?_)
    (Fin.sum_mul_add_fin 7 1024 (fun K : Fin 7168 => dz m c (ValueIdx.ix3 (sect (K.val / 1024)) (at_ (rowOf t.val) p) ⟨K.val % 1024, Nat.mod_lt _ (by decide)⟩) * w m c (ValueIdx.ix2 j K)))
  have e0 : (7 * (t.val / 7) + s.val) % 7 = s.val := by have := s.isLt; omega
  have e1 : (s.val * 1024 + k.val) / 1024 = s.val := by have := k.isLt; omega
  have e2 : (s.val * 1024 + k.val) % 1024 = k.val := by have := k.isLt; omega
  have e3 : rowOf (7 * (t.val / 7) + s.val) = rowOf t.val := Fin.ext (by show (7 * (t.val / 7) + s.val) / 7 % 2 = t.val / 7 % 2; have := s.isLt; omega)
  refine congrArg₂ (· * · : EReal → EReal → EReal) (congrArg (dz m c) ?_) (congrArg (w m c) ?_)
  · funext a
    match a with
    | ⟨0, _⟩ => show sect ((7 * (t.val / 7) + s.val) % 7) = sect ((s.val * 1024 + k.val) / 1024); rw [e0, e1]
    | ⟨1, _⟩ => show at_ (rowOf (7 * (t.val / 7) + s.val)) p = at_ (rowOf t.val) p; rw [e3]
    | ⟨2, _⟩ => exact Fin.ext e2.symm
  · funext a
    match a with
    | ⟨0, _⟩ => rfl
    | ⟨1, _⟩ => exact Fin.ext (by show (7 * (t.val / 7) + s.val) % 7 * 1024 + k.val = s.val * 1024 + k.val; rw [e0])

theorem acc_row (c : Dev nD) (t : Fin cfg0.N) (h : t.val % 7 = 6) (p : Fin 1024) :
    row (accAt m c t.val t.isLt) p = dyRow (dz m c) (w m c) (at_ (rowOf t.val) p) := funext fun j => acc_last m c t h p j

/-! ## The two results -/

theorem final3 (c : Dev nD) : (dats m 0 c).arrAt 3 cfg0.N = dx (dz m c) (w m c) (x m c) (dx1 m c) (g m c) := by
  refine (dats m 0 c).arrAt_eq_of_covers 3 _ (by decide +kernel) fun t hf y => ?_
  have ht := lt14 t
  have h6 : t.val % 7 = 6 := (flush0_3 t).mp hf
  blk_simp
  rw [after_3]
  obtain ⟨p, j, rfl⟩ := exists_ix2 (M := 1024) (N := 1024) y
  generalize hE : (win0_3.blk t).view.emb (ValueIdx.ix2 p j) = E
  have e : E = ValueIdx.ix2 (at_ (rowOf t.val) p) j := by
    rw [← hE]
    funext a
    apply Fin.ext
    match a with
    | ⟨0, _⟩ => show win0_3.index t 0 * 1024 + 1 * p.val = 1024 * (t.val / 7 % 2) + p.val; rw [(index3 t).1]; omega
    | ⟨1, _⟩ => show win0_3.index t 1 * 1024 + 1 * j.val = j.val; rw [(index3 t).2]; omega
  rw [e]
  refine (dx_at _ _ _ _ p j).trans ?_
  rw [xRow_row, acc_row m c t h6, block2, dRow_at]
  rfl

/-- What row block `r` adds to the gain's gradient. -/
theorem share (c : Dev nD) (t : Fin cfg0.N) (h : t.val % 7 = 6) (z : Fin 1) (j : Fin 1024) :
    (k0_pay7 (F := Ideal) (xRow m c (rowOf t.val)) (accAt m c t.val t.isLt) (ValueIdx.ix2 z j) : EReal)
      = ∑ p : Fin 1024, dyRow (dz m c) (w m c) (at_ (rowOf t.val) p) j * (x m c (ValueIdx.ix2 (at_ (rowOf t.val) p) j) * rinv (row (x m c) (at_ (rowOf t.val) p))) := by
  refine (dg_at _ _ z j).trans (Finset.sum_congr rfl fun p _ => ?_)
  rw [acc_last m c t h, xRow_at, xRow_row]

theorem gain_first (c : Dev nD) : ∀ (n : ℕ) (h : n < cfg0.N), n < 6 → gainAt m c n h = k0_pay1 (F := Ideal)
  | 0, _, _ => rfl
  | n + 1, h, h6 => (gainAt_kept m c ⟨n + 1, h⟩ (Nat.succ_ne_zero n) (by show ¬(n + 1) % 7 = 6; omega)).trans (gain_first c n (Nat.lt_of_succ_lt h) (by omega))

theorem gain_second (c : Dev nD) : ∀ (n : ℕ) (h : n < cfg0.N) (h6 : 6 ≤ n), n < 13 → gainAt m c n h = gainAt m c 6 (lt_of_le_of_lt h6 h)
  | 0, _, h6, _ => absurd h6 (by decide)
  | n + 1, h, h6, h13 => by
    by_cases e : n + 1 = 6
    · obtain rfl : n = 5 := by omega
      rfl
    · exact (gainAt_kept m c ⟨n + 1, h⟩ (Nat.succ_ne_zero n) (by show ¬(n + 1) % 7 = 6; omega)).trans (gain_second c n (Nat.lt_of_succ_lt h) (by omega) (by omega))

theorem add_at (a b : Vec Ideal S1x1024 .f32) (i : S1x1024.Idx) : (k0_pay5 (F := Ideal) a b i : EReal) = b i + a i := by
  unfold k0_pay5
  rw [shapeCast_self]
  rfl

theorem gain_end (c : Dev nD) (z : Fin 1) (j : Fin 1024) :
    (gainAt m c t0_13.val t0_13.isLt (ValueIdx.ix2 z j) : EReal) = dg (dz m c) (w m c) (x m c) (ValueIdx.ix2 z j) := by
  have hN : cfg0.N = 14 := N_0
  have e5 : gainAt m c (t0_6.val - 1) (Nat.lt_of_le_of_lt (Nat.sub_le _ _) t0_6.isLt) = k0_pay1 (F := Ideal) := gain_first m c 5 (by omega) (by decide)
  have e6 : (gainAt m c t0_6.val t0_6.isLt (ValueIdx.ix2 z j) : EReal)
      = 0 + ∑ p : Fin 1024, dyRow (dz m c) (w m c) (at_ (rowOf t0_6.val) p) j * (x m c (ValueIdx.ix2 (at_ (rowOf t0_6.val) p) j) * rinv (row (x m c) (at_ (rowOf t0_6.val) p))) := by
    rw [gainAt_last m c t0_6 rfl, e5]
    exact (add_at _ _ _).trans (congrArg₂ (· + · : EReal → EReal → EReal) Ideal.ofBits_zero_f32 (share m c t0_6 rfl z j))
  have e12 : gainAt m c (t0_13.val - 1) (Nat.lt_of_le_of_lt (Nat.sub_le _ _) t0_13.isLt) = gainAt m c t0_6.val t0_6.isLt :=
    gain_second m c 12 (by omega) (by decide) (by decide)
  rw [gainAt_last m c t0_13 rfl, e12]
  refine ((add_at _ _ _).trans (congrArg₂ (· + · : EReal → EReal → EReal) e6 (share m c t0_13 rfl z j))).trans ?_
  rw [zero_add]
  unfold dg
  refine Eq.trans ?_ (Fin.sum_mul_add_fin 2 1024 (fun P : Fin 2048 => dyRow (dz m c) (w m c) P j * (x m c (ValueIdx.ix2 P j) * rinv (row (x m c) P))))
  rw [Fin.sum_univ_two]
  refine congrArg₂ (· + · : EReal → EReal → EReal) (Finset.sum_congr rfl fun p _ => ?_) (Finset.sum_congr rfl fun p _ => ?_)
  · have e : at_ (rowOf t0_6.val) p = ⟨(0 : Fin 2).val * 1024 + p.val, by have := p.isLt; simp; omega⟩ := Fin.ext (by simp [t0_6])
    rw [e]
  · have e : at_ (rowOf t0_13.val) p = ⟨(1 : Fin 2).val * 1024 + p.val, by have := p.isLt; simp; omega⟩ := Fin.ext (by simp [t0_13])
    rw [e]

theorem final4 (c : Dev nD) : (dats m 0 c).arrAt 4 cfg0.N = dg (dz m c) (w m c) (x m c) := by
  refine (dats m 0 c).arrAt_eq_of_after_last 4 t0_13 (by decide +kernel) _ fun i => ?_
  obtain ⟨z, j, rfl⟩ := exists_ix2 (M := 1) (N := 1024) i
  rw [after_4]
  exact gain_end m c z j

/-! ## The arguments' precondition -/

section Pre

theorem args_real [Cert.Pre_finite_section_gradients.Facts] (a0 : Vec Ideal S8x2048x1024 .bf16) (a1 : Vec Ideal S1024x7168 .bf16) (a2 a3 : Vec Ideal S2048x1024 .f32)
    (a4 : Vec Ideal S1x1024 .f32) (h : Cert.Pre_finite_section_gradients.fn (F := Ideal) a0 a1 a2 a3 a4 = fun _ => 1#1) :
    (Reals fun i => (a0 i : EReal)) ∧ (Reals fun i => (a1 i : EReal)) ∧ (Reals fun i => (a2 i : EReal)) ∧ (Reals fun i => (a4 i : EReal)) := by
  have h := congrFun h (fun a => a.elim0)
  unfold Cert.Pre_finite_section_gradients.fn at h
  dsimp only at h
  obtain ⟨h, e4⟩ := IntOp.andi_eq_one.mp h
  obtain ⟨h, e2⟩ := IntOp.andi_eq_one.mp h
  obtain ⟨e0, e1⟩ := IntOp.andi_eq_one.mp h
  haveI : Subsingleton (⟨0, ![]⟩ : Shape).Idx := ⟨fun a b => funext fun i => i.elim0⟩
  exact ⟨RealArgs.reals_bf16 a0 _ _ _ _ _ e0, RealArgs.reals_bf16 a1 _ _ _ _ _ e1, RealArgs.reals_f32 a2 _ _ _ _ _ e2, RealArgs.reals_f32 a4 _ _ _ _ _ e4⟩

end Pre

/-- The run's results. -/
theorem run_results : θ_run defs (onTc (τ := τ) (main (F := Ideal))) ⟨m, fun _ => 0, ρ⟩ (fun r => ∀ c : Dev nD,
      r.2.mem ((c.tc : Thread nD τ).loc main_v0_0) = dx (dz m c) (w m c) (x m c) (dx1 m c) (g m c)
      ∧ r.2.mem ((c.tc : Thread nD τ).loc main_v0_1) = dg (dz m c) (w m c) (x m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 3).trans (final3 m c), ((h.1.1 c).1 4).trans (final4 m c), h.2.1 c⟩)
    (θ_run_and (run_main_quiescent m ρ) (frame m ρ))

end Cert.Kernel5Ideal.Hand

namespace Cert.InBwd

open Cert.Kernel5Ideal Cert.Kernel5Ideal.Gen Cert.Kernel5Ideal.Hand Cert.InGrad

theorem reference_quiescent : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic [Cert.Pre_finite_section_gradients.Facts] : Cert.algebraic_Kernel5Ideal_Reference5Ideal_pre_finite_section_gradients := fun m ρ m' ρ' hp hag =>
  ⟨fun c => Cert.Reference5Ideal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => Cert.Reference5Ideal.Read.val_main_v36 (F := Ideal) (m ((c : Thread nD τ).loc main_arg0)) (m ((c : Thread nD τ).loc main_arg1)) (m ((c : Thread nD τ).loc main_arg2)),
    (θ_run Cert.Kernel5Ideal.defs _ _).mono (fun _ h c => by
        obtain ⟨h0, h1, h2, h4⟩ := args_real _ _ _ _ _ (hp c)
        exact ⟨(h c).1.trans (Cert.Reference5Ideal.Rows.dx_eq _ _ _ _ _ h0 h1 h2 h4), (h c).2.1.trans (Cert.Reference5Ideal.Rows.dg_eq _ _ _), (h c).2.2⟩)
      (run_results m ρ),
    (θ_run Cert.Reference5Ideal.defs _ _).mono (fun _ h c => by
        obtain ⟨e0, e1, e2, e3, e4⟩ := hag c
        refine ⟨(h c).1.trans ?_, (h c).2.1.trans ?_, (h c).2.2⟩
        · dsimp only
          rw [← e0, ← e1, ← e2, ← e3, ← e4]
          exact Cert.Reference5Ideal.Read.val_main_v53_eq (F := Ideal) _ _
        · dsimp only
          rw [← e0, ← e1, ← e2]
          exact Cert.Reference5Ideal.Read.val_main_v36_eq (F := Ideal) _ _ _)
      (Cert.Reference5Ideal.Value.run (F := Ideal) m' ρ')⟩

end Cert.InBwd

end
-- ==== Proof.InProjFrame.lean ====
/- in_proj: the frame of the whole call, with what each output block holds after each point. -/
module

public import proofs.«01_k».proof.Proof.Gen.Kernel10Ideal.Frame
public import proofs.«01_k».proof.Proof.Gen.Kernel10Ideal.Skeleton
public import proofs.«01_k».proof.Proof.IdleWindow
public import Idealize.ShloMosaic.Lib.Claim
public import Idealize.ShloMosaic.Lib.Quiescent

@[expose] public section

set_option maxRecDepth 16384

noncomputable section

namespace Cert.Kernel10Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen Cert.IdleWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

set_option maxHeartbeats 1000000 in
/-- A point of the first section. -/
theorem run_uv (c : Dev nD) (i : grid0.Coords) (arg1 : Memref sig .tc .vmem S2048x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .bf16) (harg4 : arg4.IsWhole) (arg5 : Memref sig .tc .vmem S2048x1024 .f32) (harg5 : arg5.IsWhole)
    (h1 : k0_cond1 i = 1#1) (h2 : ¬k0_cond2 i = 1#1) (h3 : ¬k0_cond3 i = 1#1) (x0 : Vec F S2048x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) Set.univ (cc0_in_proj i arg1 harg1 arg2 harg2 arg3 harg3 arg4 harg4 arg5 harg5) K := by
  simp only [cc0_in_proj_eq_skeleton]; unfold cc0_in_proj_skel
  unfold owns
  iintro ⟨⟨%f0, %hf0, H0⟩, ⟨%f1, %hf1, H1⟩, ⟨%d2, %f2, -, H2⟩, Hk⟩
  obtain rfl := harg1.eq_unread hf0; obtain rfl := harg2.eq_unread hf1; clear hf0 hf1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (View.read_writes_full _ _ _ _ _).trans ?_; rw [load_whole arg1 harg1, load_whole arg2 harg2]

set_option maxHeartbeats 1000000 in
/-- A point of the second. -/
theorem run_qkv (c : Dev nD) (i : grid0.Coords) (arg1 : Memref sig .tc .vmem S2048x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .bf16) (harg4 : arg4.IsWhole) (arg5 : Memref sig .tc .vmem S2048x1024 .f32) (harg5 : arg5.IsWhole)
    (h1 : ¬k0_cond1 i = 1#1) (h2 : k0_cond2 i = 1#1) (h3 : ¬k0_cond3 i = 1#1) (x0 : Vec F S2048x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (k0_pay2 x0 x1)) -∗ K ⟨⟩))
      ⊢ wp frame (wpE (defs₀ (F := F)) Variants.none c none) Set.univ (cc0_in_proj i arg1 harg1 arg2 harg2 arg3 harg3 arg4 harg4 arg5 harg5) K := by
  simp only [cc0_in_proj_eq_skeleton]; unfold cc0_in_proj_skel
  unfold owns
  iintro ⟨⟨%f0, %hf0, H0⟩, ⟨%f1, %hf1, H1⟩, ⟨%d2, %f2, -, H2⟩, Hk⟩
  obtain rfl := harg1.eq_unread hf0; obtain rfl := harg2.eq_unread hf1; clear hf0 hf1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (View.read_writes_full _ _ _ _ _).trans ?_; rw [load_whole arg1 harg1, load_whole arg2 harg2]

set_option maxHeartbeats 1000000 in
/-- A point of the third. -/
theorem run_g (c : Dev nD) (i : grid0.Coords) (arg1 : Memref sig .tc .vmem S2048x1024 .bf16) (harg1 : arg1.IsWhole) (arg2 : Memref sig .tc .vmem S1024x1024 .bf16) (harg2 : arg2.IsWhole)
    (arg3 : Memref sig .tc .vmem S2048x1024 .f32) (harg3 : arg3.IsWhole) (arg4 : Memref sig .tc .vmem S2048x1024 .bf16) (harg4 : arg4.IsWhole) (arg5 : Memref sig .tc .vmem S2048x1024 .f32) (harg5 : arg5.IsWhole)
    (h1 : ¬k0_cond1 i = 1#1) (h2 : ¬k0_cond2 i = 1#1) (h3 : k0_cond3 i = 1#1) (x0 : Vec F S2048x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg5 fullShare d)
        ∗ (iprop(owns (c : Thread nD τ) arg1 fullShare x0 ∗ owns (c : Thread nD τ) arg2 fullShare x1 ∗ owns (c : Thread nD τ) arg5 fullShare (k0_pay3 x0 x1)) -∗ K ⟨⟩))
      ⊢ wp frame (wpE (defs₀ (F := F)) Variants.none c none) Set.univ (cc0_in_proj i arg1 harg1 arg2 harg2 arg3 harg3 arg4 harg4 arg5 harg5) K := by
  simp only [cc0_in_proj_eq_skeleton]; unfold cc0_in_proj_skel
  unfold owns
  iintro ⟨⟨%f0, %hf0, H0⟩, ⟨%f1, %hf1, H1⟩, ⟨%d2, %f2, -, H2⟩, Hk⟩
  obtain rfl := harg1.eq_unread hf0; obtain rfl := harg2.eq_unread hf1; clear hf0 hf1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  refine (View.read_writes_full _ _ _ _ _).trans ?_; rw [load_whole arg1 harg1, load_whole arg2 harg2]

/-! ## Which section each point is in -/

theorem cond1_iff : ∀ t : Fin grid0.N, k0_cond1 (grid0.coords t) = 1#1 ↔ t.val < 2 := by decide +kernel
theorem cond2_iff : ∀ t : Fin grid0.N, k0_cond2 (grid0.coords t) = 1#1 ↔ 2 ≤ t.val ∧ t.val < 5 := by decide +kernel
theorem cond3_iff : ∀ t : Fin grid0.N, k0_cond3 (grid0.coords t) = 1#1 ↔ 5 ≤ t.val := by decide +kernel

theorem idle_2 : ∀ t : Fin grid0.N, cfg0.idle 2 (grid0.coords t) = true ↔ ¬t.val < 2 := by decide +kernel
theorem idle_3 : ∀ t : Fin grid0.N, cfg0.idle 3 (grid0.coords t) = true ↔ ¬(2 ≤ t.val ∧ t.val < 5) := by decide +kernel
theorem idle_4 : ∀ t : Fin grid0.N, cfg0.idle 4 (grid0.coords t) = true ↔ ¬5 ≤ t.val := by decide +kernel

/-- The last point of each section at or before point `t` (its first where there is none). -/
abbrev at2 (t : Fin cfg0.N) : Fin cfg0.N := ⟨min t.val 1, lt_of_le_of_lt (min_le_left _ _) t.isLt⟩
theorem at3_lt (t : Fin cfg0.N) : max (min t.val 4) 2 < cfg0.N := by have hN : cfg0.N = 7 := N_0; omega
theorem at4_lt (t : Fin cfg0.N) : max t.val 5 < cfg0.N := by have := t.isLt; have hN : cfg0.N = 7 := N_0; omega
abbrev at3 (t : Fin cfg0.N) : Fin cfg0.N := ⟨max (min t.val 4) 2, at3_lt t⟩
abbrev at4 (t : Fin cfg0.N) : Fin cfg0.N := ⟨max t.val 5, at4_lt t⟩

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => k0_pay1 (iblk m c 0 (at2 t)) (iblk m c 1 (at2 t))
    | 3 => k0_pay2 (iblk m c 0 (at3 t)) (iblk m c 1 (at3 t))
    | 4 => k0_pay3 (iblk m c 0 (at4 t)) (iblk m c 1 (at4 t))
    | ⟨_ + 5, h⟩ => absurd h (Nat.not_lt_of_ge (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 (at2 t)) (iblk m c 1 (at2 t)) := by dsimp only [dats]
theorem after_3 (c : Dev nD) (t : Fin cfg0.N) : (dats m 0 c).after 3 t = k0_pay2 (iblk m c 0 (at3 t)) (iblk m c 1 (at3 t)) := by dsimp only [dats]
theorem after_4 (c : Dev nD) (t : Fin cfg0.N) : (dats m 0 c).after 4 t = k0_pay3 (iblk m c 0 (at4 t)) (iblk m c 1 (at4 t)) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d

/-! ## What an output keeps outside its section -/

theorem flush_2 : ∀ t : Fin grid0.N, win0_2.flush t = true → ¬t.val < 2 → t.val = 6 := by decide +kernel
theorem flush_3 : ∀ t : Fin grid0.N, win0_3.flush t = true → ¬(2 ≤ t.val ∧ t.val < 5) → t.val = 6 := by decide +kernel
theorem flush_4 : ∀ t : Fin grid0.N, win0_4.flush t = true → 5 ≤ t.val := by decide +kernel

theorem fresh_2 (t : Fin cfg0.N) (h : t.val = 6) : cfg0.fresh 2 t.val = false := by
  refine (Cfg.fresh_tab cfg0 2 (fun n => n == 0 || n == 1 || n == 7) rfl ?_ t.val (Nat.le_of_lt t.isLt)).trans ?_
  · decide +kernel
  · rw [h]; rfl
theorem fresh_3 (t : Fin cfg0.N) (h : t.val = 6) : cfg0.fresh 3 t.val = false := by
  refine (Cfg.fresh_tab cfg0 3 (fun n => n == 0 || n == 1 || n == 2 || n == 3 || n == 4 || n == 7) rfl ?_ t.val (Nat.le_of_lt t.isLt)).trans ?_
  · decide +kernel
  · rw [h]; rfl

theorem kept_2 (c : Dev nD) (t : Fin cfg0.N) (h : ¬t.val < 2) (hf : (cfg0.win 2).flush t = true) (d) : (dats m 0 c).before 2 t d = (dats m 0 c).after 2 t := by
  have h6 := flush_2 t hf h
  rw [Dat.before_out_traj (dats m 0 c) 2 rfl (fun _ _ => rfl) ?_ t.val t rfl d, fresh_2 t h6, if_neg Bool.false_ne_true, after_2, after_2]
  · rw [show at2 ⟨t.val - 1, Nat.lt_of_le_of_lt (Nat.sub_le _ _) t.isLt⟩ = at2 t from Fin.ext (by show min (t.val - 1) 1 = min t.val 1; omega)]
  · intro s _ hi _
    have := (idle_2 s).mp hi
    rw [after_2, after_2, show at2 ⟨s.val - 1, Nat.lt_of_le_of_lt (Nat.sub_le _ _) s.isLt⟩ = at2 s from Fin.ext (by show min (s.val - 1) 1 = min s.val 1; omega)]

theorem kept_3 (c : Dev nD) (t : Fin cfg0.N) (h : ¬(2 ≤ t.val ∧ t.val < 5)) (hf : (cfg0.win 3).flush t = true) (d) : (dats m 0 c).before 3 t d = (dats m 0 c).after 3 t := by
  have h6 := flush_3 t hf h
  rw [Dat.before_out_traj (dats m 0 c) 3 rfl (fun _ _ => rfl) ?_ t.val t rfl d, fresh_3 t h6, if_neg Bool.false_ne_true, after_3, after_3]
  · rw [show at3 ⟨t.val - 1, Nat.lt_of_le_of_lt (Nat.sub_le _ _) t.isLt⟩ = at3 t from Fin.ext (by show max (min (t.val - 1) 4) 2 = max (min t.val 4) 2; omega)]
  · intro s _ hi _
    have := (idle_3 s).mp hi
    rw [after_3, after_3, show at3 ⟨s.val - 1, Nat.lt_of_le_of_lt (Nat.sub_le _ _) s.isLt⟩ = at3 s from Fin.ext (by show max (min (s.val - 1) 4) 2 = max (min s.val 4) 2; omega)]

theorem kept_4 (c : Dev nD) (t : Fin cfg0.N) (h : ¬5 ≤ t.val) (hf : (cfg0.win 4).flush t = true) (d) : (dats m 0 c).before 4 t d = (dats m 0 c).after 4 t :=
  absurd (flush_4 t hf) h

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t
    ∗ (dats m 0 c).leavesExact 3 t
    ∗ (dats m 0 c).leavesExact 4 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  have hN : t.val < 7 := lt_of_lt_of_eq t.isLt (show cfg0.N = 7 from N_0)
  unfold bodyPre bodyPost bodyAt0
  rw [show (dats m 0 c).Φ t.succ = (dats m 0 c).Φ t.castSucc from rfl, show (dats m 0 c).owesAt () t.succ = (dats m 0 c).owesAt () t.castSucc from rfl, after_0, after_1]
  have sec : t.val < 2 ∨ (2 ≤ t.val ∧ t.val < 5) ∨ 5 ≤ t.val := by omega
  rcases sec with h1 | h2 | h3
  · have h2 : ¬(2 ≤ t.val ∧ t.val < 5) := by omega
    have h3 : ¬5 ≤ t.val := by omega
    rw [leaves_live (dats m 0 c) 2 t (Bool.eq_false_iff.mpr fun h => (idle_2 t).mp h h1), after_2, show at2 t = t from Fin.ext (by show min t.val 1 = t.val; omega)]
    iintro ⟨HΦ, Ho, ⟨%d0, H0⟩, ⟨%d1, H1⟩, H2, H3, H4⟩
    icases H2 with ⟨%dw, H2⟩
    rw [before_0, before_1]
    iapply (run_uv c (grid0.coords t) _ _ _ _ _ _ _ _ _ _ ((cond1_iff t).mpr h1) (fun h => h2 ((cond2_iff t).mp h)) (fun h => h3 ((cond3_iff t).mp h)) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    isplitl [H3]; · iapply (leaves_kept (dats m 0 c) 3 t ((idle_3 t).mpr h2) (kept_3 m c t h2)); iexact H3
    iapply (leaves_kept (dats m 0 c) 4 t ((idle_4 t).mpr h3) (kept_4 m c t h3)); iexact H4
  · have h1 : ¬t.val < 2 := by omega
    have h3 : ¬5 ≤ t.val := by omega
    rw [leaves_live (dats m 0 c) 3 t (Bool.eq_false_iff.mpr fun h => (idle_3 t).mp h h2), after_3, show at3 t = t from Fin.ext (by show max (min t.val 4) 2 = t.val; omega)]
    iintro ⟨HΦ, Ho, ⟨%d0, H0⟩, ⟨%d1, H1⟩, H2, H3, H4⟩
    icases H3 with ⟨%dw, H3⟩
    rw [before_0, before_1]
    iapply (run_qkv c (grid0.coords t) _ _ _ _ _ _ _ _ _ _ (fun h => h1 ((cond1_iff t).mp h)) ((cond2_iff t).mpr h2) (fun h => h3 ((cond3_iff t).mp h)) (iblk m c 0 t) (iblk m c 1 t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iapply (leaves_kept (dats m 0 c) 2 t ((idle_2 t).mpr h1) (kept_2 m c t h1)); iexact H2
    isplitl [H3]; · iexact H3
    iapply (leaves_kept (dats m 0 c) 4 t ((idle_4 t).mpr h3) (kept_4 m c t h3)); iexact H4
  · have h1 : ¬t.val < 2 := by omega
    have h2 : ¬(2 ≤ t.val ∧ t.val < 5) := by omega
    rw [leaves_live (dats m 0 c) 4 t (Bool.eq_false_iff.mpr fun h => (idle_4 t).mp h h3), after_4, show at4 t = t from Fin.ext (by show max t.val 5 = t.val; omega)]
    iintro ⟨HΦ, Ho, ⟨%d0, H0⟩, ⟨%d1, H1⟩, H2, H3, H4⟩
    icases H4 with ⟨%dw, H4⟩
    rw [before_0, before_1]
    iapply (run_g c (grid0.coords t) _ _ _ _ _ _ _ _ _ _ (fun h => h1 ((cond1_iff t).mp h)) (fun h => h2 ((cond2_iff t).mp h)) ((cond3_iff t).mpr h3) (iblk m c 0 t) (iblk m c 1 t) _)
    isplitl [H0]; · iexact H0
    isplitl [H1]; · iexact H1
    isplitl [H4]; · iexists _; iexact H4
    iintro ⟨H0, H1, H4⟩
    isplitl [HΦ]; · iexact HΦ
    isplitl [Ho]; · iexact Ho
    isplitl [H0]; · iexact H0
    isplitl [H1]; · iexact H1
    isplitl [H2]; · iapply (leaves_kept (dats m 0 c) 2 t ((idle_2 t).mpr h1) (kept_2 m c t h1)); iexact H2
    isplitl [H3]; · iapply (leaves_kept (dats m 0 c) 3 t ((idle_3 t).mpr h2) (kept_3 m c t h2)); iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ))) ((θ_run defs _ _).mono (fun _ h => h.2) (run_main_quiescent m ρ))

end Cert.Kernel10Ideal.Hand

end
-- ==== Proof.InProj.lean ====
/- in_proj: the in-projection of the normalised input, `rms_norm(x) @ w_in`, in three sections. -/
module

public import proofs.«01_k».proof.Defs
public import proofs.«01_k».proof.Proof.Common
public import proofs.«01_k».proof.Proof.InProjFrame
public import proofs.«01_k».proof.Proof.Gen.Reference10Ideal.Run
public import proofs.«01_k».proof.Proof.Gen.Reference10Ideal.Read
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel10Ideal.Hand

open Cert.Kernel10Ideal Cert.Kernel10Ideal.Gen Cert.Common

variable (m : (ℓ : Loc nD τ sig) → Buf (Elt Ideal) ℓ) (ρ : Dev nD → PrngReg)

/-- The normalised input and the weight, as the region finds them. -/
abbrev lhs (c : Dev nD) : Vec Ideal S2048x1024 .bf16 := V m c main_v12
abbrev rhs (c : Dev nD) : Vec Ideal S1024x7168 .bf16 := V m c main_arg2

/-- An entry of the whole product. -/
def z (c : Dev nD) (p : Fin 2048) (n : Fin 7168) : EReal := ∑ k : Fin 1024, lhs m c (ValueIdx.ix2 p k) * rhs m c (ValueIdx.ix2 k n)

/-- The three sections of its columns. -/
def uv (c : Dev nD) : Vec Ideal S2048x2048 .f32 := fun i => z m c (i 0) ⟨(i 1).val, lt_of_lt_of_le (i 1).isLt (by decide)⟩
def qkv (c : Dev nD) : Vec Ideal S2048x3072 .bf16 := fun i => z m c (i 0) ⟨2048 + (i 1).val, by have : (i 1).val < 3072 := (i 1).isLt; omega⟩
def gab (c : Dev nD) : Vec Ideal S2048x2048 .f32 := fun i => z m c (i 0) ⟨5120 + (i 1).val, by have : (i 1).val < 2048 := (i 1).isLt; omega⟩

theorem lt7 (t : Fin cfg0.N) : t.val < 7 := lt_of_lt_of_eq t.isLt (show cfg0.N = 7 from N_0)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = t.val :=
  (by decide +kernel : ∀ t : Fin grid0.N, win0_1.index t 0 = 0 ∧ win0_1.index t 1 = t.val)
theorem index2 : ∀ t : Fin cfg0.N, win0_2.index t 0 = 0 ∧ win0_2.index t 1 = min t.val 1 :=
  (by decide +kernel : ∀ t : Fin grid0.N, win0_2.index t 0 = 0 ∧ win0_2.index t 1 = min t.val 1)
theorem index3 : ∀ t : Fin cfg0.N, win0_3.index t 0 = 0 ∧ win0_3.index t 1 + 2 = max (min t.val 4) 2 :=
  (by decide +kernel : ∀ t : Fin grid0.N, win0_3.index t 0 = 0 ∧ win0_3.index t 1 + 2 = max (min t.val 4) 2)
theorem index4 : ∀ t : Fin cfg0.N, win0_4.index t 0 = 0 ∧ win0_4.index t 1 + 5 = max t.val 5 :=
  (by decide +kernel : ∀ t : Fin grid0.N, win0_4.index t 0 = 0 ∧ win0_4.index t 1 + 5 = max t.val 5)

theorem prod_apply (a : Vec Ideal S2048x1024 .bf16) (b : Vec Ideal S1024x1024 .bf16) (p : Fin 2048) (j : Fin 1024) :
    (k0_pay1 (F := Ideal) a b (ValueIdx.ix2 p j) : EReal) = ∑ k : Fin 1024, a (ValueIdx.ix2 p k) * b (ValueIdx.ix2 k j) := by
  unfold k0_pay1
  simp only [shapeCast_self]
  exact matmul_nn_zero (φ₁ := .bf16) (φ₂ := .bf16) _ none a b p j

/-- A point's product is its column block of the whole. -/
theorem prod_block (c : Dev nD) (t : Fin cfg0.N) (p : Fin 2048) (j : Fin 1024) (n : Fin 7168) (hn : n.val = t.val * 1024 + j.val) :
    (k0_pay1 (F := Ideal) (iblk m c 0 t) (iblk m c 1 t) (ValueIdx.ix2 p j) : EReal) = z m c p n := by
  refine (prod_apply _ _ p j).trans (Finset.sum_congr rfl fun k _ => congrArg₂ (· * · : EReal → EReal → EReal) ?_ ?_)
  · show V m c main_v12 _ = V m c main_v12 _
    congr 1
    funext a
    apply Fin.ext
    match a with
    | ⟨0, _⟩ => show win0_0.index t 0 * 2048 + 1 * p.val = p.val; rw [(index0 t).1]; omega
    | ⟨1, _⟩ => show win0_0.index t 1 * 1024 + 1 * k.val = k.val; rw [(index0 t).2]; omega
  · show V m c main_arg2 _ = V m c main_arg2 _
    congr 1
    funext a
    apply Fin.ext
    match a with
    | ⟨0, _⟩ => show win0_1.index t 0 * 1024 + 1 * k.val = k.val; rw [(index1 t).1]; omega
    | ⟨1, _⟩ => show win0_1.index t 1 * 1024 + 1 * j.val = n.val; rw [(index1 t).2, hn]; omega

theorem final2 (c : Dev nD) : (dats m 0 c).arrAt 2 cfg0.N = uv m c := by
  refine (dats m 0 c).arrAt_eq_of_covers 2 _ (by decide +kernel) fun t hf y => ?_
  have ht := lt7 t
  blk_simp
  rw [after_2]
  obtain ⟨p, j, rfl⟩ := exists_ix2 (M := 2048) (N := 1024) y
  have e0 : ((win0_2.blk t).view.emb (ValueIdx.ix2 p j) 0).val = p.val := by
    show win0_2.index t 0 * 2048 + 1 * p.val = p.val; rw [(index2 t).1]; omega
  have e1 : ((win0_2.blk t).view.emb (ValueIdx.ix2 p j) 1).val = win0_2.index t 1 * 1024 + 1 * j.val := rfl
  have e : (win0_2.blk t).view.emb (ValueIdx.ix2 p j) 0 = p := Fin.ext e0
  refine (prod_block m c (at2 t) p j _ ?_).trans (congrArg (fun q => z m c q _) e.symm)
  have := (index2 t).2
  show ((win0_2.blk t).view.emb (ValueIdx.ix2 p j) 1).val = _
  rw [e1]
  show _ = min t.val 1 * 1024 + j.val
  omega

theorem final3 (c : Dev nD) : (dats m 0 c).arrAt 3 cfg0.N = qkv m c := by
  refine (dats m 0 c).arrAt_eq_of_covers 3 _ (by decide +kernel) fun t hf y => ?_
  have ht := lt7 t
  blk_simp
  rw [after_3]
  obtain ⟨p, j, rfl⟩ := exists_ix2 (M := 2048) (N := 1024) y
  have e0 : ((win0_3.blk t).view.emb (ValueIdx.ix2 p j) 0).val = p.val := by
    show win0_3.index t 0 * 2048 + 1 * p.val = p.val; rw [(index3 t).1]; omega
  have e1 : ((win0_3.blk t).view.emb (ValueIdx.ix2 p j) 1).val = win0_3.index t 1 * 1024 + 1 * j.val := rfl
  have e : (win0_3.blk t).view.emb (ValueIdx.ix2 p j) 0 = p := Fin.ext e0
  refine (prod_block m c (at3 t) p j _ ?_).trans (congrArg (fun q => z m c q _) e.symm)
  have := (index3 t).2
  show 2048 + ((win0_3.blk t).view.emb (ValueIdx.ix2 p j) 1).val = _
  rw [e1]
  show _ = max (min t.val 4) 2 * 1024 + j.val
  omega

theorem final4 (c : Dev nD) : (dats m 0 c).arrAt 4 cfg0.N = gab m c := by
  refine (dats m 0 c).arrAt_eq_of_covers 4 _ (by decide +kernel) fun t hf y => ?_
  have ht := lt7 t
  blk_simp
  rw [after_4]
  obtain ⟨p, j, rfl⟩ := exists_ix2 (M := 2048) (N := 1024) y
  have e0 : ((win0_4.blk t).view.emb (ValueIdx.ix2 p j) 0).val = p.val := by
    show win0_4.index t 0 * 2048 + 1 * p.val = p.val; rw [(index4 t).1]; omega
  have e1 : ((win0_4.blk t).view.emb (ValueIdx.ix2 p j) 1).val = win0_4.index t 1 * 1024 + 1 * j.val := rfl
  have e : (win0_4.blk t).view.emb (ValueIdx.ix2 p j) 0 = p := Fin.ext e0
  refine (prod_block m c (at4 t) p j _ ?_).trans (congrArg (fun q => z m c q _) e.symm)
  have := (index4 t).2
  show 5120 + ((win0_4.blk t).view.emb (ValueIdx.ix2 p j) 1).val = _
  rw [e1]
  show _ = max t.val 5 * 1024 + j.val
  omega

/-! ## The reference -/

theorem lhs_eq (c : Dev nD) : lhs m c = Cert.Reference10Ideal.Read.val_main_v11 (m ((c : Thread nD τ).loc main_arg0)) (m ((c : Thread nD τ).loc main_arg1)) := by
  show V m c main_v12 = _
  entry_read
  rfl

theorem z_eq (c : Dev nD) (i : Cert.Reference10Ideal.S2048x7168.Idx) : Cert.Reference10Ideal.Read.val_main_v13 (F := Ideal) (m ((c : Thread nD τ).loc main_arg0)) (m ((c : Thread nD τ).loc main_arg1)) (m ((c : Thread nD τ).loc main_arg2)) i = z m c (i 0) (i 1) := by
  rw [Cert.Reference10Ideal.Read.val_main_v13_apply]
  unfold z rhs
  rw [lhs_eq, V_main_arg2]
  refine Finset.sum_congr rfl fun k _ => congrArg₂ (· * · : EReal → EReal → EReal) ?_ ?_
  · exact congrArg (Cert.Reference10Ideal.Read.val_main_v11 (m ((c : Thread nD τ).loc main_arg0)) (m ((c : Thread nD τ).loc main_arg1))) (funext fun a => by match a with | ⟨0, _⟩ => rfl | ⟨1, _⟩ => rfl)
  · exact congrArg (m ((c : Thread nD τ).loc main_arg2)) (funext fun a => by match a with | ⟨0, _⟩ => rfl | ⟨1, _⟩ => rfl)

theorem uv_eq (c : Dev nD) : uv m c = Cert.Reference10Ideal.Read.val_main_v14 (F := Ideal) (m ((c : Thread nD τ).loc main_arg0)) (m ((c : Thread nD τ).loc main_arg1)) (m ((c : Thread nD τ).loc main_arg2)) := by
  funext i
  rw [Cert.Reference10Ideal.Read.val_main_v14_apply]
  refine Eq.trans ?_ (z_eq m c _).symm
  exact congrArg₂ (z m c) (Fin.ext (by first | rfl | exact (Nat.zero_add _).symm)) (Fin.ext (by first | rfl | exact (Nat.zero_add _).symm))

theorem qkv_eq (c : Dev nD) : qkv m c = Cert.Reference10Ideal.Read.val_main_v16 (F := Ideal) (m ((c : Thread nD τ).loc main_arg0)) (m ((c : Thread nD τ).loc main_arg1)) (m ((c : Thread nD τ).loc main_arg2)) := by
  funext i
  rw [Cert.Reference10Ideal.Read.val_main_v16_apply, Cert.Reference10Ideal.Read.val_main_v15_apply]
  refine Eq.trans ?_ (z_eq m c _).symm
  exact congrArg₂ (z m c) (Fin.ext (by first | rfl | exact (Nat.zero_add _).symm)) (Fin.ext (by first | rfl | exact (Nat.zero_add _).symm))

theorem gab_eq (c : Dev nD) : gab m c = Cert.Reference10Ideal.Read.val_main_v17 (F := Ideal) (m ((c : Thread nD τ).loc main_arg0)) (m ((c : Thread nD τ).loc main_arg1)) (m ((c : Thread nD τ).loc main_arg2)) := by
  funext i
  rw [Cert.Reference10Ideal.Read.val_main_v17_apply]
  refine Eq.trans ?_ (z_eq m c _).symm
  exact congrArg₂ (z m c) (Fin.ext (by first | rfl | exact (Nat.zero_add _).symm)) (Fin.ext (by first | rfl | exact (Nat.zero_add _).symm))

/-- The run's results. -/
theorem run_results : θ_run defs (onTc (τ := τ) (main (F := Ideal))) ⟨m, fun _ => 0, ρ⟩ (fun r => ∀ c : Dev nD,
      r.2.mem ((c.tc : Thread nD τ).loc main_v13_0) = uv m c
      ∧ r.2.mem ((c.tc : Thread nD τ).loc main_v13_1) = qkv m c
      ∧ r.2.mem ((c.tc : Thread nD τ).loc main_v13_2) = gab m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 2).trans (final2 m c), ((h.1.1 c).1 3).trans (final3 m c), ((h.1.1 c).1 4).trans (final4 m c), h.2.1 c⟩)
    (θ_run_and (run_main_quiescent m ρ) (frame m ρ))

end Cert.Kernel10Ideal.Hand

namespace Cert.InProj

open Cert.Kernel10Ideal.Hand

theorem reference_quiescent : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem algebraic : Cert.algebraic_Kernel10Ideal_Reference10Ideal := fun m ρ m' ρ' _ hag =>
  ⟨fun c => uv m c, fun c => qkv m c, fun c => gab m c, run_results m ρ,
    (θ_run Cert.Reference10Ideal.defs _ _).mono (fun _ h c => by
        obtain ⟨e0, e1, e2⟩ := hag c
        refine ⟨(h c).1.trans ?_, (h c).2.1.trans ?_, (h c).2.2.1.trans ?_, (h c).2.2.2⟩
        · show _ = uv m c
          rw [uv_eq, ← e0, ← e1, ← e2]
          exact Cert.Reference10Ideal.Read.val_main_v14_eq (F := Ideal) _ _ _
        · show _ = qkv m c
          rw [qkv_eq, ← e0, ← e1, ← e2]
          exact Cert.Reference10Ideal.Read.val_main_v16_eq (F := Ideal) _ _ _
        · show _ = gab m c
          rw [gab_eq, ← e0, ← e1, ← e2]
          exact Cert.Reference10Ideal.Read.val_main_v17_eq (F := Ideal) _ _ _)
      (Cert.Reference10Ideal.Value.run (F := Ideal) m' ρ')⟩

end Cert.InProj

end
-- ==== Proof.Merge.lean ====
/- merge_bwd: the gradient of the gated merge of the two branches — the output projection, the two gates, and the branch projections. -/
module

public import proofs.«01_k».proof.Defs
public import proofs.«01_k».proof.Proof.Common
public import proofs.«01_k».proof.Proof.RmsOps
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit
public import Idealize.ShloMosaic.Lib.Tactic
public import Idealize.ShloMosaic.Lib.Claim
public import Idealize.ShloMosaic.Lib.KernelVsHost
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Grad

open Cert.Kernel3Ideal Cert.Kernel3Ideal.Gen Cert.Common Cert.Rms Cert.RmsOps

/-! ## One row of the gradient -/

/-- The word of `1`. -/
def one : EReal := Ideal.ofBits .f32 0x3F800000#32

theorem one_eq : one = 1 := Ideal.ofBits_one_f32

/-- The left and the right half of a row of `2048`. -/
def lo (j : Fin 1024) : Fin 2048 := ⟨j.val, Nat.lt_trans j.isLt (by decide)⟩
def hi (j : Fin 1024) : Fin 2048 := ⟨1024 + j.val, Nat.add_lt_add_left j.isLt 1024⟩

/-- A row times the transpose of a matrix. -/
def back (d : Fin 1024 → EReal) (w : Fin 1024 → Fin 1024 → EReal) (j : Fin 1024) : EReal := ∑ k : Fin 1024, d k * w j k

/-- The two gates of a row. -/
def gateA (g : Fin 2048 → EReal) (v : Fin 4 → Fin 1024 → EReal) (j : Fin 1024) : EReal := Ideal.logistic (g (lo j) + v 0 j)
def gateB (g : Fin 2048 → EReal) (v : Fin 4 → Fin 1024 → EReal) (j : Fin 1024) : EReal := Ideal.logistic (g (hi j) + v 1 j)

/-- The gradients of the two branch projections. -/
def dpA (d : Fin 1024 → EReal) (w : Fin 1024 → Fin 1024 → EReal) (g : Fin 2048 → EReal) (v : Fin 4 → Fin 1024 → EReal) (j : Fin 1024) : EReal :=
  back d w j * gateA g v j
def dpB (d : Fin 1024 → EReal) (w : Fin 1024 → Fin 1024 → EReal) (g : Fin 2048 → EReal) (v : Fin 4 → Fin 1024 → EReal) (j : Fin 1024) : EReal :=
  back d w j * gateB g v j

/-- The gradients of the two gates' pre-activations. -/
def dgA (d : Fin 1024 → EReal) (w : Fin 1024 → Fin 1024 → EReal) (g q : Fin 2048 → EReal) (v : Fin 4 → Fin 1024 → EReal) (j : Fin 1024) : EReal :=
  back d w j * q (lo j) * (gateA g v j * (one - gateA g v j))
def dgB (d : Fin 1024 → EReal) (w : Fin 1024 → Fin 1024 → EReal) (g q : Fin 2048 → EReal) (v : Fin 4 → Fin 1024 → EReal) (j : Fin 1024) : EReal :=
  back d w j * q (hi j) * (gateB g v j * (one - gateB g v j))

theorem exists_ix3 {A M N : ℕ} (x : (⟨3, ![A, M, N]⟩ : Shape).Idx) : ∃ (u : Fin A) (p : Fin M) (q : Fin N), x = ValueIdx.ix3 u p q :=
  ⟨_, _, _, ValueIdx.eq_ix3 x⟩

/-! ## The payloads at an index -/

section Pay

variable {v3 : Vec Ideal S512x1024 .bf16} {v5 : Vec Ideal S1024x1024 .bf16} {v7 v23 : Vec Ideal S512x1024 .f32} {v8 : Vec Ideal S1x1024 .f32}
  {x0 : Vec Ideal S512x1024 .bf16} {x1 x2 : Vec Ideal S512x2048 .f32} {x5 : Vec Ideal S1024x1024 .bf16} {x6 : Vec Ideal S4x1024 .f32}

theorem pay3_row (e3 : ∀ p k, v3 (ValueIdx.ix2 p k) = x0 (ValueIdx.ix2 p k)) (e5 : ∀ j k, v5 (ValueIdx.ix2 j k) = x5 (ValueIdx.ix2 j k)) (p : Fin 512) (j : Fin 1024) :
    k0_pay3 (F := Ideal) v3 v5 (ValueIdx.ix2 p j) = back (row x0 p) (mat x5) j :=
  (matmul_nt_zero (φ₁ := .bf16) (φ₂ := .bf16) _ _ v3 v5 p j).trans
    (Finset.sum_congr rfl fun k _ => congrArg₂ (· * · : EReal → EReal → EReal) (e3 p k) (e5 j k))

theorem pay4_row (e7 : ∀ p j, v7 (ValueIdx.ix2 p j) = x1 (ValueIdx.ix2 p (lo j))) (e8 : ∀ j, v8 (ValueIdx.ix2 0 j) = x6 (ValueIdx.ix2 0 j)) (p : Fin 512) (j : Fin 1024) :
    k0_pay4 (F := Ideal) v7 v8 (ValueIdx.ix2 p j) = gateA (row x1 p) (mat x6) j := by
  show Ideal.logistic (v7 (ValueIdx.ix2 p j) + broadcastTo S512x1024 v8 broadcasts_S1x1024_S512x1024 (ValueIdx.ix2 p j)) = _
  rw [ValueIdx.broadcastTo_1b_ab_apply, e7, e8]
  rfl

theorem pay5_row (e7 : ∀ p j, v7 (ValueIdx.ix2 p j) = x1 (ValueIdx.ix2 p (hi j))) (e8 : ∀ j, v8 (ValueIdx.ix2 0 j) = x6 (ValueIdx.ix2 1 j)) (p : Fin 512) (j : Fin 1024) :
    k0_pay5 (F := Ideal) v7 v8 (ValueIdx.ix2 p j) = gateB (row x1 p) (mat x6) j := by
  show Ideal.logistic (v7 (ValueIdx.ix2 p j) + broadcastTo S512x1024 v8 broadcasts_S1x1024_S512x1024 (ValueIdx.ix2 p j)) = _
  rw [ValueIdx.broadcastTo_1b_ab_apply, e7, e8]
  rfl

theorem pay6_row (e3 : ∀ p k, v3 (ValueIdx.ix2 p k) = x0 (ValueIdx.ix2 p k)) (e5 : ∀ j k, v5 (ValueIdx.ix2 j k) = x5 (ValueIdx.ix2 j k))
    (e7 : ∀ p j, v7 (ValueIdx.ix2 p j) = x1 (ValueIdx.ix2 p (lo j))) (e8 : ∀ j, v8 (ValueIdx.ix2 0 j) = x6 (ValueIdx.ix2 0 j)) (p : Fin 512) (j : Fin 1024) :
    k0_pay6 (F := Ideal) v3 v5 v7 v8 (ValueIdx.ix2 p j) = dpA (row x0 p) (mat x5) (row x1 p) (mat x6) j :=
  congrArg₂ (· * · : EReal → EReal → EReal) (pay3_row e3 e5 p j) (pay4_row e7 e8 p j)

theorem pay7_row (e3 : ∀ p k, v3 (ValueIdx.ix2 p k) = x0 (ValueIdx.ix2 p k)) (e5 : ∀ j k, v5 (ValueIdx.ix2 j k) = x5 (ValueIdx.ix2 j k))
    (e7 : ∀ p j, v7 (ValueIdx.ix2 p j) = x1 (ValueIdx.ix2 p (hi j))) (e8 : ∀ j, v8 (ValueIdx.ix2 0 j) = x6 (ValueIdx.ix2 1 j)) (p : Fin 512) (j : Fin 1024) :
    k0_pay7 (F := Ideal) v3 v5 v7 v8 (ValueIdx.ix2 p j) = dpB (row x0 p) (mat x5) (row x1 p) (mat x6) j :=
  congrArg₂ (· * · : EReal → EReal → EReal) (pay3_row e3 e5 p j) (pay5_row e7 e8 p j)

theorem pay8_row (e3 : ∀ p k, v3 (ValueIdx.ix2 p k) = x0 (ValueIdx.ix2 p k)) (e5 : ∀ j k, v5 (ValueIdx.ix2 j k) = x5 (ValueIdx.ix2 j k))
    (e7 : ∀ p j, v7 (ValueIdx.ix2 p j) = x1 (ValueIdx.ix2 p (lo j))) (e8 : ∀ j, v8 (ValueIdx.ix2 0 j) = x6 (ValueIdx.ix2 0 j))
    (e23 : ∀ p j, v23 (ValueIdx.ix2 p j) = x2 (ValueIdx.ix2 p (lo j))) (p : Fin 512) (j : Fin 1024) :
    k0_pay8 (F := Ideal) v3 v5 v7 v8 v23 (ValueIdx.ix2 p j) = dgA (row x0 p) (mat x5) (row x1 p) (row x2 p) (mat x6) j := by
  unfold k0_pay8
  try dsimp only
  rw [shapeCast_self]
  exact congrArg₂ (· * · : EReal → EReal → EReal)
    (congrArg₂ (· * · : EReal → EReal → EReal) (pay3_row e3 e5 p j) (e23 p j))
    (congrArg (fun s : EReal => s * (one - s)) (pay4_row e7 e8 p j))

theorem pay9_row (e3 : ∀ p k, v3 (ValueIdx.ix2 p k) = x0 (ValueIdx.ix2 p k)) (e5 : ∀ j k, v5 (ValueIdx.ix2 j k) = x5 (ValueIdx.ix2 j k))
    (e7 : ∀ p j, v7 (ValueIdx.ix2 p j) = x1 (ValueIdx.ix2 p (hi j))) (e8 : ∀ j, v8 (ValueIdx.ix2 0 j) = x6 (ValueIdx.ix2 1 j))
    (e23 : ∀ p j, v23 (ValueIdx.ix2 p j) = x2 (ValueIdx.ix2 p (hi j))) (p : Fin 512) (j : Fin 1024) :
    k0_pay9 (F := Ideal) (k0_pay3 v3 v5) (k0_pay5 v7 v8) v23 (ValueIdx.ix2 p j) = dgB (row x0 p) (mat x5) (row x1 p) (row x2 p) (mat x6) j := by
  unfold k0_pay9
  try dsimp only
  rw [shapeCast_self]
  exact congrArg₂ (· * · : EReal → EReal → EReal)
    (congrArg₂ (· * · : EReal → EReal → EReal) (pay3_row e3 e5 p j) (e23 p j))
    (congrArg (fun s : EReal => s * (one - s)) (pay5_row e7 e8 p j))

theorem pay10_apply (v : FVec Ideal S512x1024 .f32) (p : Fin 512) (j : Fin 1024) :
    k0_pay10 (F := Ideal) v (ValueIdx.ix3 0 p j) = v (ValueIdx.ix2 p j) := by
  unfold k0_pay10
  refine (shapeCast_addUnit_apply ![512, 1024] _ _ _).trans ?_
  exact congrArg v (funext fun a => by match a with | ⟨0, _⟩ => rfl | ⟨1, _⟩ => rfl)

theorem pay11_apply (a b : FVec Ideal S512x1024 .f32) (v : Vec Ideal S512x1024 .f32) (p : Fin 512) (j : Fin 1024) :
    k0_pay11 (F := Ideal) a b v (ValueIdx.ix3 0 p j) = k0_pay9 (F := Ideal) a b v (ValueIdx.ix2 p j) := by
  unfold k0_pay11
  refine (shapeCast_addUnit_apply ![512, 1024] _ _ _).trans ?_
  exact congrArg (k0_pay9 (F := Ideal) a b v) (funext fun a => by match a with | ⟨0, _⟩ => rfl | ⟨1, _⟩ => rfl)

theorem pay12_apply (y : FVec Ideal S512x1024 .f32) (v : Vec Ideal S1x1024 .f32) (j : Fin 1024) :
    k0_pay12 (F := Ideal) y v (ValueIdx.ix2 0 j) = (v (ValueIdx.ix2 0 j) : EReal) + ∑ p : Fin 512, (y (ValueIdx.ix2 p j) : EReal) := by
  unfold k0_pay12
  try dsimp only
  rw [shapeCast_self]
  try rw [shapeCast_self]
  exact congrArg₂ (· + · : EReal → EReal → EReal) rfl (colSum_apply y _ _ _ _ _ _)

theorem pay13_apply (a b : FVec Ideal S512x1024 .f32) (w : Vec Ideal S512x1024 .f32) (v : Vec Ideal S1x1024 .f32) (j : Fin 1024) :
    k0_pay13 (F := Ideal) a b w v (ValueIdx.ix2 0 j)
      = (v (ValueIdx.ix2 0 j) : EReal) + ∑ p : Fin 512, (k0_pay9 (F := Ideal) a b w (ValueIdx.ix2 p j) : EReal) := by
  unfold k0_pay13
  try dsimp only
  rw [shapeCast_self]
  try rw [shapeCast_self]
  exact congrArg₂ (· + · : EReal → EReal → EReal) rfl (colSum_apply (k0_pay9 (F := Ideal) a b w) _ _ _ _ _ _)

theorem pay14_row {d : Fin 1024 → EReal} {y : FVec Ideal S512x1024 .bf16} {p : Fin 512} (ey : ∀ k, y (ValueIdx.ix2 p k) = d k)
    (e5 : ∀ j k, v5 (ValueIdx.ix2 j k) = x5 (ValueIdx.ix2 j k)) (j : Fin 1024) :
    k0_pay14 (F := Ideal) y v5 (ValueIdx.ix2 p j) = back d (mat x5) j :=
  (matmul_nt_zero (φ₁ := .bf16) (φ₂ := .bf16) _ _ y v5 p j).trans
    (Finset.sum_congr rfl fun k _ => congrArg₂ (· * · : EReal → EReal → EReal) (ey k) (e5 j k))

theorem pay1_row {d : Fin 1024 → EReal} {y : FVec Ideal S512x1024 .bf16} {p : Fin 512} (ey : ∀ k, y (ValueIdx.ix2 p k) = d k)
    (e5 : ∀ j k, v5 (ValueIdx.ix2 j k) = x5 (ValueIdx.ix2 j k)) (j : Fin 1024) :
    k0_pay1 (F := Ideal) y v5 (ValueIdx.ix2 p j) = back d (mat x5) j :=
  (matmul_nt_zero (φ₁ := .bf16) (φ₂ := .bf16) _ none y v5 p j).trans
    (Finset.sum_congr rfl fun k _ => congrArg₂ (· * · : EReal → EReal → EReal) (ey k) (e5 j k))

theorem pay2_apply (i : S2x1024.Idx) : (k0_pay2 (F := Ideal) i : EReal) = 0 := Ideal.ofBits_zero_f32

end Pay

/-! ## The stored blocks -/

/-- A row of the first result: the incoming gradient and the two projections' gradients, side by side. -/
def opp (d : Fin 1024 → EReal) (w : Fin 1024 → Fin 1024 → EReal) (g : Fin 2048 → EReal) (v : Fin 4 → Fin 1024 → EReal) (j : Fin 3072) : EReal :=
  if h : j.val < 1024 then d ⟨j.val, h⟩
  else if h : j.val < 2048 then dpA d w g v ⟨j.val - 1024, by omega⟩
  else dpB d w g v ⟨j.val - 2048, by omega⟩

theorem opp_0 (d w g v) (j : Fin 3072) (q : Fin 1024) (h : j.val = q.val) : opp d w g v j = d q := by
  have hq := q.isLt
  unfold opp
  rw [dif_pos (by omega)]
  exact congrArg d (Fin.ext h)
theorem opp_1 (d w g v) (j : Fin 3072) (q : Fin 1024) (h : j.val = 1024 + q.val) : opp d w g v j = dpA d w g v q := by
  have hq := q.isLt
  unfold opp
  rw [dif_neg (by omega), dif_pos (by omega)]
  exact congrArg (dpA d w g v) (Fin.ext (by show j.val - 1024 = q.val; omega))
theorem opp_2 (d w g v) (j : Fin 3072) (q : Fin 1024) (h : j.val = 2048 + q.val) : opp d w g v j = dpB d w g v q := by
  have hq := q.isLt
  unfold opp
  rw [dif_neg (by omega), dif_neg (by omega)]
  exact congrArg (dpB d w g v) (Fin.ext (by show j.val - 2048 = q.val; omega))

/-- The two gates' pre-activation gradients, one above the other. -/
def gates (b : Nat) (d : Fin 1024 → EReal) (w : Fin 1024 → Fin 1024 → EReal) (g q : Fin 2048 → EReal) (v : Fin 4 → Fin 1024 → EReal) (j : Fin 1024) : EReal :=
  if b = 0 then dgA d w g q v j else dgB d w g q v j

theorem block7_A (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (y : S512x3072.Idx) :
    out0_A_7 (F := Ideal) c i a1 h1 a2 h2 a3 h3 a4 h4 a5 h5 a6 h6 a7 h7 a8 h8 a9 h9 a10 h10 a11 h11 a12 h12 c0 x0 x1 x2 x3 x4 x5 x6 y = opp (row x0 (y 0)) (mat x5) (row x1 (y 0)) (mat x6) (y 1) := by
  frame_out
  canon_tiles x h
  all_goals
    obtain ⟨p, q, rfl⟩ := exists_ix2 (M := 512) (N := 1024) x
    obtain ⟨p', k, rfl⟩ := exists_ix2 (M := 512) (N := 3072) y
    obtain rfl : p' = p := Fin.ext h0
  · refine Eq.trans ?_ (opp_2 _ _ _ _ k q h1).symm
    refine pay7_row ?_ ?_ ?_ ?_ _ _
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)
  · refine Eq.trans ?_ (opp_1 _ _ _ _ k q h1).symm
    refine pay6_row ?_ ?_ ?_ ?_ _ _
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)
  · refine Eq.trans ?_ (opp_0 _ _ _ _ k q h1).symm
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)

theorem block8_A (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (y : S2x512x1024.Idx) :
    out0_A_8 (F := Ideal) c i a1 h1 a2 h2 a3 h3 a4 h4 a5 h5 a6 h6 a7 h7 a8 h8 a9 h9 a10 h10 a11 h11 a12 h12 c0 x0 x1 x2 x3 x4 x5 x6 y = gates (y 0).val (row x0 (y 1)) (mat x5) (row x1 (y 1)) (row x2 (y 1)) (mat x6) (y 2) := by
  frame_out
  canon_tiles x h
  all_goals
    obtain ⟨u, p, q, rfl⟩ := exists_ix3 (A := 1) (M := 512) (N := 1024) x
    obtain rfl : u = 0 := Subsingleton.elim _ _
    obtain rfl : y 1 = p := Fin.ext h1
    obtain rfl : y 2 = q := Fin.ext h2
  · rw [show (y 0).val = 1 from h0]
    refine (pay11_apply _ _ _ _ _).trans (pay9_row ?_ ?_ ?_ ?_ ?_ _ _)
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)
  · rw [show (y 0).val = 0 from h0]
    refine (pay10_apply _ _ _).trans (pay8_row ?_ ?_ ?_ ?_ ?_ _ _)
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)

theorem block9_A (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (p : Fin 512) (j : Fin 1024) :
    out0_A_9 (F := Ideal) c i a1 h1 a2 h2 a3 h3 a4 h4 a5 h5 a6 h6 a7 h7 a8 h8 a9 h9 a10 h10 a11 h11 a12 h12 c0 x0 x1 x2 x3 x4 x5 x6 (ValueIdx.ix2 p j) = back (dpA (row x0 p) (mat x5) (row x1 p) (mat x6)) (mat x3) j := by
  frame_out
  refine pay14_row (fun k => pay6_row ?_ ?_ ?_ ?_ p k) ?_ j
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

theorem block10_A (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (p : Fin 512) (j : Fin 1024) :
    out0_A_10 (F := Ideal) c i a1 h1 a2 h2 a3 h3 a4 h4 a5 h5 a6 h6 a7 h7 a8 h8 a9 h9 a10 h10 a11 h11 a12 h12 c0 x0 x1 x2 x3 x4 x5 x6 (ValueIdx.ix2 p j) = back (dpB (row x0 p) (mat x5) (row x1 p) (mat x6)) (mat x4) j := by
  frame_out
  refine pay1_row (fun k => pay7_row ?_ ?_ ?_ ?_ p k) ?_ j
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

theorem block11_A_0 (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (j : Fin 1024) :
    out0_A_11 (F := Ideal) c i a1 h1 a2 h2 a3 h3 a4 h4 a5 h5 a6 h6 a7 h7 a8 h8 a9 h9 a10 h10 a11 h11 a12 h12 c0 x0 x1 x2 x3 x4 x5 x6 (ValueIdx.ix2 0 j) = (0 : EReal) + ∑ p : Fin 512, dgA (row x0 p) (mat x5) (row x1 p) (row x2 p) (mat x6) j := by
  frame_out
  have e : (ValueIdx.ix2 (0 : Fin 2) j : S2x1024.Idx) = (Rect.unit ![0, 0] ![1, 1024] inb_S2x1024_S1x1024_0_0).emb (ValueIdx.ix2 0 j) := by
    refine funext fun a => Fin.ext ?_
    match a with
    | 0 => rfl
    | 1 => show j.val = 0 + 1 * j.val; omega
  refine (View.canon_cons_of_not_mem _ _ fun h => by
    have h' := (Rect.mem_set_unit (inb := inb_S2x1024_S1x1024_1_0)).mp h 0
    exact absurd (show 1 ≤ 0 from h'.1) (by decide)).trans ?_
  refine (congrArg _ e).trans ((View.canon_cons_emb _ _ _ _).trans ?_)
  rw [pay12_apply]
  refine congrArg₂ (· + · : EReal → EReal → EReal) ?_ (Finset.sum_congr rfl fun p _ => pay8_row ?_ ?_ ?_ ?_ ?_ p j)
  · rw [View.readCov_eq_canon']
    exact (congrFun (View.canon_cons_unit_lit _ _ _ (by decide)) _).trans (pay2_apply _)
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

theorem block11_A_1 (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (j : Fin 1024) :
    out0_A_11 (F := Ideal) c i a1 h1 a2 h2 a3 h3 a4 h4 a5 h5 a6 h6 a7 h7 a8 h8 a9 h9 a10 h10 a11 h11 a12 h12 c0 x0 x1 x2 x3 x4 x5 x6 (ValueIdx.ix2 1 j) = (0 : EReal) + ∑ p : Fin 512, dgB (row x0 p) (mat x5) (row x1 p) (row x2 p) (mat x6) j := by
  frame_out
  have e : (ValueIdx.ix2 (1 : Fin 2) j : S2x1024.Idx) = (Rect.unit ![1, 0] ![1, 1024] inb_S2x1024_S1x1024_1_0).emb (ValueIdx.ix2 0 j) := by
    refine funext fun a => Fin.ext ?_
    match a with
    | 0 => rfl
    | 1 => show j.val = 0 + 1 * j.val; omega
  refine (congrArg _ e).trans ((View.canon_cons_emb _ _ _ _).trans ?_)
  rw [pay13_apply]
  refine congrArg₂ (· + · : EReal → EReal → EReal) ?_ (Finset.sum_congr rfl fun p _ => pay9_row ?_ ?_ ?_ ?_ ?_ p j)
  · rw [View.readCov_eq_canon']
    refine (View.canon_cons_of_not_mem _ _ fun h => by
      have h' := (Rect.mem_set_unit (inb := inb_S2x1024_S1x1024_0_0)).mp h 0
      exact absurd (show 1 < 0 + 1 from h'.2) (by decide)).trans ?_
    exact (congrFun (View.canon_cons_unit_lit _ _ _ (by decide)) _).trans (pay2_apply _)
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

theorem block7_B (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (xa : Vec Ideal S2x1024 .f32)
    (y : S512x3072.Idx) :
    out0_B_7 (F := Ideal) c i a1 h1 a2 h2 a3 h3 a4 h4 a5 h5 a6 h6 a7 h7 a8 h8 a9 h9 a10 h10 a11 h11 a12 h12 c0 x0 x1 x2 x3 x4 x5 x6 xa y = opp (row x0 (y 0)) (mat x5) (row x1 (y 0)) (mat x6) (y 1) := by
  frame_out
  canon_tiles x h
  all_goals
    obtain ⟨p, q, rfl⟩ := exists_ix2 (M := 512) (N := 1024) x
    obtain ⟨p', k, rfl⟩ := exists_ix2 (M := 512) (N := 3072) y
    obtain rfl : p' = p := Fin.ext h0
  · refine Eq.trans ?_ (opp_2 _ _ _ _ k q h1).symm
    refine pay7_row ?_ ?_ ?_ ?_ _ _
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)
  · refine Eq.trans ?_ (opp_1 _ _ _ _ k q h1).symm
    refine pay6_row ?_ ?_ ?_ ?_ _ _
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)
  · refine Eq.trans ?_ (opp_0 _ _ _ _ k q h1).symm
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)

theorem block8_B (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (xa : Vec Ideal S2x1024 .f32)
    (y : S2x512x1024.Idx) :
    out0_B_8 (F := Ideal) c i a1 h1 a2 h2 a3 h3 a4 h4 a5 h5 a6 h6 a7 h7 a8 h8 a9 h9 a10 h10 a11 h11 a12 h12 c0 x0 x1 x2 x3 x4 x5 x6 xa y = gates (y 0).val (row x0 (y 1)) (mat x5) (row x1 (y 1)) (row x2 (y 1)) (mat x6) (y 2) := by
  frame_out
  canon_tiles x h
  all_goals
    obtain ⟨u, p, q, rfl⟩ := exists_ix3 (A := 1) (M := 512) (N := 1024) x
    obtain rfl : u = 0 := Subsingleton.elim _ _
    obtain rfl : y 1 = p := Fin.ext h1
    obtain rfl : y 2 = q := Fin.ext h2
  · rw [show (y 0).val = 1 from h0]
    refine (pay11_apply _ _ _ _ _).trans (pay9_row ?_ ?_ ?_ ?_ ?_ _ _)
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)
  · rw [show (y 0).val = 0 from h0]
    refine (pay10_apply _ _ _).trans (pay8_row ?_ ?_ ?_ ?_ ?_ _ _)
    all_goals first
      | (intros; rfl)
      | (intros
         refine View.ld_unit_apply_of _ _ _ _ _ _ fun a => ?_
         match a with
         | 0 =>
           first
           | rfl
           | exact (Nat.zero_add _).symm
         | 1 =>
           first
           | rfl
           | exact (Nat.zero_add _).symm)

theorem block9_B (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (xa : Vec Ideal S2x1024 .f32)
    (p : Fin 512) (j : Fin 1024) :
    out0_B_9 (F := Ideal) c i a1 h1 a2 h2 a3 h3 a4 h4 a5 h5 a6 h6 a7 h7 a8 h8 a9 h9 a10 h10 a11 h11 a12 h12 c0 x0 x1 x2 x3 x4 x5 x6 xa (ValueIdx.ix2 p j) = back (dpA (row x0 p) (mat x5) (row x1 p) (mat x6)) (mat x3) j := by
  frame_out
  refine pay14_row (fun k => pay6_row ?_ ?_ ?_ ?_ p k) ?_ j
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

theorem block10_B (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (xa : Vec Ideal S2x1024 .f32)
    (p : Fin 512) (j : Fin 1024) :
    out0_B_10 (F := Ideal) c i a1 h1 a2 h2 a3 h3 a4 h4 a5 h5 a6 h6 a7 h7 a8 h8 a9 h9 a10 h10 a11 h11 a12 h12 c0 x0 x1 x2 x3 x4 x5 x6 xa (ValueIdx.ix2 p j) = back (dpB (row x0 p) (mat x5) (row x1 p) (mat x6)) (mat x4) j := by
  frame_out
  refine pay1_row (fun k => pay7_row ?_ ?_ ?_ ?_ p k) ?_ j
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

theorem block11_B_0 (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (xa : Vec Ideal S2x1024 .f32)
    (j : Fin 1024) :
    out0_B_11 (F := Ideal) c i a1 h1 a2 h2 a3 h3 a4 h4 a5 h5 a6 h6 a7 h7 a8 h8 a9 h9 a10 h10 a11 h11 a12 h12 c0 x0 x1 x2 x3 x4 x5 x6 xa (ValueIdx.ix2 0 j) = (xa (ValueIdx.ix2 0 j) : EReal) + ∑ p : Fin 512, dgA (row x0 p) (mat x5) (row x1 p) (row x2 p) (mat x6) j := by
  frame_out
  canon_tiles x h
  · exact absurd h0 (by show ¬ (0 = 1 + (x 0).val); omega)
  obtain ⟨p0, q, rfl⟩ := exists_ix2 (M := 1) (N := 1024) x
  obtain rfl : j = q := Fin.ext h1
  obtain rfl : p0 = 0 := Subsingleton.elim _ _
  rw [pay12_apply]
  refine congrArg₂ (· + · : EReal → EReal → EReal) ?_ (Finset.sum_congr rfl fun p _ => pay8_row ?_ ?_ ?_ ?_ ?_ p j)
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

theorem block11_B_1 (c : Dev nD) (i : grid0.Coords) a1 h1 a2 h2 a3 h3 a4 h4 a5 h5 a6 h6 a7 h7 a8 h8 a9 h9 a10 h10 a11 h11 a12 h12 c0
    (x0 : Vec Ideal S512x1024 .bf16) (x1 x2 : Vec Ideal S512x2048 .f32) (x3 x4 x5 : Vec Ideal S1024x1024 .bf16) (x6 : Vec Ideal S4x1024 .f32)
    (xa : Vec Ideal S2x1024 .f32)
    (j : Fin 1024) :
    out0_B_11 (F := Ideal) c i a1 h1 a2 h2 a3 h3 a4 h4 a5 h5 a6 h6 a7 h7 a8 h8 a9 h9 a10 h10 a11 h11 a12 h12 c0 x0 x1 x2 x3 x4 x5 x6 xa (ValueIdx.ix2 1 j) = (xa (ValueIdx.ix2 1 j) : EReal) + ∑ p : Fin 512, dgB (row x0 p) (mat x5) (row x1 p) (row x2 p) (mat x6) j := by
  frame_out
  canon_tiles x h
  rotate_left
  · exact absurd h0 (by show ¬ (1 = (x 0).val); omega)
  obtain ⟨p0, q, rfl⟩ := exists_ix2 (M := 1) (N := 1024) x
  obtain rfl : j = q := Fin.ext h1
  obtain rfl : p0 = 0 := Subsingleton.elim _ _
  rw [pay13_apply]
  refine congrArg₂ (· + · : EReal → EReal → EReal) ?_ (Finset.sum_congr rfl fun p _ => pay9_row ?_ ?_ ?_ ?_ ?_ p j)
  all_goals first
    | (intros; rfl)
    | (intros
       refine View.ld_unit_apply_of _ _ _ _ _ _ fun a => ?_
       match a with
       | 0 =>
         first
         | rfl
         | exact (Nat.zero_add _).symm
       | 1 =>
         first
         | rfl
         | exact (Nat.zero_add _).symm)

/-! ## The windows' blocks -/

variable (m : (ℓ : Loc nD τ sig) → Buf (Elt Ideal) ℓ) (ρ : Dev nD → PrngReg)

theorem row_lt (t : Fin cfg0.N) (p : Fin 512) : t.val * 512 + p.val < 2048 := by
  have h := t.isLt
  have hN : cfg0.N = 4 := N_0
  have hp := p.isLt
  omega

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)
theorem index10 : ∀ t : Fin cfg0.N, win0_10.index t 0 = t.val ∧ win0_10.index t 1 = 0 :=
  (by decide +kernel : ∀ t : Fin grid0.N, win0_10.index t 0 = t.val ∧ win0_10.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index11 : ∀ t : Fin cfg0.N, win0_11.index t 0 = 0 ∧ win0_11.index t 1 = 0 :=
  (by decide +kernel : ∀ t : Fin grid0.N, win0_11.index t 0 = 0 ∧ win0_11.index t 1 = 0)
theorem index8 : ∀ t : Fin cfg0.N, win0_8.index t 0 = 1 ∧ win0_8.index t 1 = t.val ∧ win0_8.index t 2 = 0 :=
  (by decide +kernel : ∀ t : Fin grid0.N, win0_8.index t 0 = 1 ∧ win0_8.index t 1 = t.val ∧ win0_8.index t 2 = 0)

theorem rows0 (c : Dev nD) (t : Fin cfg0.N) (p : Fin 512) (P : Fin 2048) (hP : P.val = t.val * 512 + p.val) :
    row (iblk m c 0 t : Vec Ideal S512x1024 .bf16) p = row (V m c main_arg0 : Vec Ideal S2048x1024 .bf16) P := by
  funext j
  show V m c main_arg0 _ = V m c main_arg0 _
  congr 1
  funext a
  apply Fin.ext
  match a with
  | ⟨0, _⟩ => show win0_0.index t 0 * 512 + 1 * p.val = P.val; rw [(index0 t).1, hP]; omega
  | ⟨1, _⟩ => show win0_0.index t 1 * 1024 + 1 * j.val = j.val; rw [(index0 t).2]; omega
theorem rows1 (c : Dev nD) (t : Fin cfg0.N) (p : Fin 512) (P : Fin 2048) (hP : P.val = t.val * 512 + p.val) :
    row (iblk m c 1 t : Vec Ideal S512x2048 .f32) p = row (V m c main_arg1 : Vec Ideal S2048x2048 .f32) P := by
  funext j
  show V m c main_arg1 _ = V m c main_arg1 _
  congr 1
  funext a
  apply Fin.ext
  match a with
  | ⟨0, _⟩ => show win0_1.index t 0 * 512 + 1 * p.val = P.val; rw [(index1 t).1, hP]; omega
  | ⟨1, _⟩ => show win0_1.index t 1 * 2048 + 1 * j.val = j.val; rw [(index1 t).2]; omega
theorem rows2 (c : Dev nD) (t : Fin cfg0.N) (p : Fin 512) (P : Fin 2048) (hP : P.val = t.val * 512 + p.val) :
    row (iblk m c 2 t : Vec Ideal S512x2048 .f32) p = row (V m c main_v6 : Vec Ideal S2048x2048 .f32) P := by
  funext j
  show V m c main_v6 _ = V m c main_v6 _
  congr 1
  funext a
  apply Fin.ext
  match a with
  | ⟨0, _⟩ => show win0_2.index t 0 * 512 + 1 * p.val = P.val; rw [(index2 t).1, hP]; omega
  | ⟨1, _⟩ => show win0_2.index t 1 * 2048 + 1 * j.val = j.val; rw [(index2 t).2]; omega
theorem whole3 (c : Dev nD) (t : Fin cfg0.N) : (iblk m c 3 t : Vec Ideal S1024x1024 .bf16) = V m c main_arg4 := by
  funext y
  show V m c main_arg4 _ = V m c main_arg4 _
  congr 1
  funext a
  apply Fin.ext
  match a with
  | ⟨0, _⟩ => show win0_3.index t 0 * 1024 + 1 * (y 0).val = (y 0).val; rw [(index3 t).1]; omega
  | ⟨1, _⟩ => show win0_3.index t 1 * 1024 + 1 * (y 1).val = (y 1).val; rw [(index3 t).2]; omega
theorem whole4 (c : Dev nD) (t : Fin cfg0.N) : (iblk m c 4 t : Vec Ideal S1024x1024 .bf16) = V m c main_arg5 := by
  funext y
  show V m c main_arg5 _ = V m c main_arg5 _
  congr 1
  funext a
  apply Fin.ext
  match a with
  | ⟨0, _⟩ => show win0_4.index t 0 * 1024 + 1 * (y 0).val = (y 0).val; rw [(index4 t).1]; omega
  | ⟨1, _⟩ => show win0_4.index t 1 * 1024 + 1 * (y 1).val = (y 1).val; rw [(index4 t).2]; omega
theorem whole5 (c : Dev nD) (t : Fin cfg0.N) : (iblk m c 5 t : Vec Ideal S1024x1024 .bf16) = V m c main_arg6 := by
  funext y
  show V m c main_arg6 _ = V m c main_arg6 _
  congr 1
  funext a
  apply Fin.ext
  match a with
  | ⟨0, _⟩ => show win0_5.index t 0 * 1024 + 1 * (y 0).val = (y 0).val; rw [(index5 t).1]; omega
  | ⟨1, _⟩ => show win0_5.index t 1 * 1024 + 1 * (y 1).val = (y 1).val; rw [(index5 t).2]; omega
theorem whole6 (c : Dev nD) (t : Fin cfg0.N) : (iblk m c 6 t : Vec Ideal S4x1024 .f32) = V m c main_arg7 := by
  funext y
  show V m c main_arg7 _ = V m c main_arg7 _
  congr 1
  funext a
  apply Fin.ext
  match a with
  | ⟨0, _⟩ => show win0_6.index t 0 * 4 + 1 * (y 0).val = (y 0).val; rw [(index6 t).1]; omega
  | ⟨1, _⟩ => show win0_6.index t 1 * 1024 + 1 * (y 1).val = (y 1).val; rw [(index6 t).2]; omega

/-! ## The results, over the whole arrays -/

def dopp (d : Vec Ideal S2048x1024 .bf16) (w : Vec Ideal S1024x1024 .bf16) (g : Vec Ideal S2048x2048 .f32) (v : Vec Ideal S4x1024 .f32) : S2048x3072.Idx → EReal :=
  fun i => opp (row d (i 0)) (mat w) (row g (i 0)) (mat v) (i 1)
def dza (d : Vec Ideal S2048x1024 .bf16) (w : Vec Ideal S1024x1024 .bf16) (g q : Vec Ideal S2048x2048 .f32) (v : Vec Ideal S4x1024 .f32) (P : Fin 2048) (j : Fin 1024) : EReal :=
  dgA (row d P) (mat w) (row g P) (row q P) (mat v) j
def dzb (d : Vec Ideal S2048x1024 .bf16) (w : Vec Ideal S1024x1024 .bf16) (g q : Vec Ideal S2048x2048 .f32) (v : Vec Ideal S4x1024 .f32) (P : Fin 2048) (j : Fin 1024) : EReal :=
  dgB (row d P) (mat w) (row g P) (row q P) (mat v) j
/-- The sections of the gradient buffer this call fills, `2` and `3` of the eight. -/
def dz (d : Vec Ideal S2048x1024 .bf16) (w : Vec Ideal S1024x1024 .bf16) (g q : Vec Ideal S2048x2048 .f32) (v : Vec Ideal S4x1024 .f32) : S8x2048x1024.Idx → EReal :=
  fun i => gates ((i 0).val - 2) (row d (i 1)) (mat w) (row g (i 1)) (row q (i 1)) (mat v) (i 2)
def dya (d : Vec Ideal S2048x1024 .bf16) (w : Vec Ideal S1024x1024 .bf16) (g : Vec Ideal S2048x2048 .f32) (v : Vec Ideal S4x1024 .f32) (u : Vec Ideal S1024x1024 .bf16) : S2048x1024.Idx → EReal :=
  fun i => back (dpA (row d (i 0)) (mat w) (row g (i 0)) (mat v)) (mat u) (i 1)
def dyb (d : Vec Ideal S2048x1024 .bf16) (w : Vec Ideal S1024x1024 .bf16) (g : Vec Ideal S2048x2048 .f32) (v : Vec Ideal S4x1024 .f32) (u : Vec Ideal S1024x1024 .bf16) : S2048x1024.Idx → EReal :=
  fun i => back (dpB (row d (i 0)) (mat w) (row g (i 0)) (mat v)) (mat u) (i 1)
def dvec (d : Vec Ideal S2048x1024 .bf16) (w : Vec Ideal S1024x1024 .bf16) (g q : Vec Ideal S2048x2048 .f32) (v : Vec Ideal S4x1024 .f32) : S2x1024.Idx → EReal :=
  fun i => if (i 0).val = 0 then ∑ P : Fin 2048, dza d w g q v P (i 1) else ∑ P : Fin 2048, dzb d w g q v P (i 1)

theorem final7 (c : Dev nD) : (dats m 0 c).arrAt 7 cfg0.N = dopp (V m c main_arg0) (V m c main_arg6) (V m c main_arg1) (V m c main_arg7) := by
  refine (dats m 0 c).arrAt_eq_of_covers 7 _ (by decide +kernel) fun t hf y => ?_
  blk_simp
  rw [after0_7]
  obtain ⟨p, j, rfl⟩ := exists_ix2 (M := 512) (N := 3072) y
  generalize hE : (win0_7.blk t).view.emb (ValueIdx.ix2 p j) = E
  have hE0 : (E 0).val = t.val * 512 + p.val := by
    rw [← hE]; show win0_7.index t 0 * 512 + 1 * p.val = _; rw [(index7 t).1]; omega
  have hE1 : E 1 = j := by
    rw [← hE]; exact Fin.ext (by show win0_7.index t 1 * 3072 + 1 * j.val = _; rw [(index7 t).2]; omega)
  have key : opp (row (iblk m c 0 t : Vec Ideal S512x1024 .bf16) p) (mat (iblk m c 5 t : Vec Ideal S1024x1024 .bf16)) (row (iblk m c 1 t : Vec Ideal S512x2048 .f32) p) (mat (iblk m c 6 t : Vec Ideal S4x1024 .f32)) j
      = dopp (V m c main_arg0) (V m c main_arg6) (V m c main_arg1) (V m c main_arg7) E := by
    rw [rows0 m c t p (E 0) hE0, rows1 m c t p (E 0) hE0, whole5, whole6, ← hE1]; rfl
  by_cases h : t.val % 4 = 0
  · rw [outsAt0_A m c t h]
    dsimp only
    rw [block7_A]
    exact key
  · rw [outsAt0_B m c t h]
    dsimp only
    rw [block7_B]
    exact key

theorem final9 (c : Dev nD) : (dats m 0 c).arrAt 9 cfg0.N = dya (V m c main_arg0) (V m c main_arg6) (V m c main_arg1) (V m c main_arg7) (V m c main_arg4) := by
  refine (dats m 0 c).arrAt_eq_of_covers 9 _ (by decide +kernel) fun t hf y => ?_
  blk_simp
  rw [after0_9]
  obtain ⟨p, j, rfl⟩ := exists_ix2 (M := 512) (N := 1024) y
  generalize hE : (win0_9.blk t).view.emb (ValueIdx.ix2 p j) = E
  have hE0 : (E 0).val = t.val * 512 + p.val := by
    rw [← hE]; show win0_9.index t 0 * 512 + 1 * p.val = _; rw [(index9 t).1]; omega
  have hE1 : E 1 = j := by
    rw [← hE]; exact Fin.ext (by show win0_9.index t 1 * 1024 + 1 * j.val = _; rw [(index9 t).2]; omega)
  have key : back (dpA (row (iblk m c 0 t : Vec Ideal S512x1024 .bf16) p) (mat (iblk m c 5 t : Vec Ideal S1024x1024 .bf16)) (row (iblk m c 1 t : Vec Ideal S512x2048 .f32) p) (mat (iblk m c 6 t : Vec Ideal S4x1024 .f32))) (mat (iblk m c 3 t : Vec Ideal S1024x1024 .bf16)) j
      = dya (V m c main_arg0) (V m c main_arg6) (V m c main_arg1) (V m c main_arg7) (V m c main_arg4) E := by
    rw [rows0 m c t p (E 0) hE0, rows1 m c t p (E 0) hE0, whole5, whole6, whole3, ← hE1]; rfl
  by_cases h : t.val % 4 = 0
  · rw [outsAt0_A m c t h]
    dsimp only
    rw [block9_A]
    exact key
  · rw [outsAt0_B m c t h]
    dsimp only
    rw [block9_B]
    exact key

theorem final10 (c : Dev nD) : (dats m 0 c).arrAt 10 cfg0.N = dyb (V m c main_arg0) (V m c main_arg6) (V m c main_arg1) (V m c main_arg7) (V m c main_arg5) := by
  refine (dats m 0 c).arrAt_eq_of_covers 10 _ (by decide +kernel) fun t hf y => ?_
  blk_simp
  rw [after0_10]
  obtain ⟨p, j, rfl⟩ := exists_ix2 (M := 512) (N := 1024) y
  generalize hE : (win0_10.blk t).view.emb (ValueIdx.ix2 p j) = E
  have hE0 : (E 0).val = t.val * 512 + p.val := by
    rw [← hE]; show win0_10.index t 0 * 512 + 1 * p.val = _; rw [(index10 t).1]; omega
  have hE1 : E 1 = j := by
    rw [← hE]; exact Fin.ext (by show win0_10.index t 1 * 1024 + 1 * j.val = _; rw [(index10 t).2]; omega)
  have key : back (dpB (row (iblk m c 0 t : Vec Ideal S512x1024 .bf16) p) (mat (iblk m c 5 t : Vec Ideal S1024x1024 .bf16)) (row (iblk m c 1 t : Vec Ideal S512x2048 .f32) p) (mat (iblk m c 6 t : Vec Ideal S4x1024 .f32))) (mat (iblk m c 4 t : Vec Ideal S1024x1024 .bf16)) j
      = dyb (V m c main_arg0) (V m c main_arg6) (V m c main_arg1) (V m c main_arg7) (V m c main_arg5) E := by
    rw [rows0 m c t p (E 0) hE0, rows1 m c t p (E 0) hE0, whole5, whole6, whole4, ← hE1]; rfl
  by_cases h : t.val % 4 = 0
  · rw [outsAt0_A m c t h]
    dsimp only
    rw [block10_A]
    exact key
  · rw [outsAt0_B m c t h]
    dsimp only
    rw [block10_B]
    exact key

theorem final8 (c : Dev nD) (i : S8x2048x1024.Idx) (hi : (i 0).val / 2 = 1) :
    (dats m 0 c).arrAt 8 cfg0.N i = dz (V m c main_arg0) (V m c main_arg6) (V m c main_arg1) (V m c main_v6) (V m c main_arg7) i := by
  refine ((dats m 0 c).arrAt_apply_of_coversWhere 8 (dz (V m c main_arg0) (V m c main_arg6) (V m c main_arg1) (V m c main_v6) (V m c main_arg7)) (P := fun i : S8x2048x1024.Idx => (i 0).val / 2 = 1)
    (fun β => β (0 : Fin 3) = 1) (by decide +kernel) (fun t hf y => ?_) (fun j => Iff.rfl) i).trans (if_pos hi)
  blk_simp
  rw [after0_8]
  obtain ⟨u, p, j, rfl⟩ := exists_ix3 (A := 2) (M := 512) (N := 1024) y
  generalize hE : (win0_8.blk t).view.emb (ValueIdx.ix3 u p j) = E
  have hE0 : (E 0).val = 2 + u.val := by
    rw [← hE]; show win0_8.index t 0 * 2 + 1 * u.val = _; rw [(index8 t).1]; omega
  have hE1 : (E 1).val = t.val * 512 + p.val := by
    rw [← hE]; show win0_8.index t 1 * 512 + 1 * p.val = _; rw [(index8 t).2.1]; omega
  have hE2 : E 2 = j := by
    rw [← hE]; exact Fin.ext (by show win0_8.index t 2 * 1024 + 1 * j.val = _; rw [(index8 t).2.2]; omega)
  have key : gates u.val (row (iblk m c 0 t : Vec Ideal S512x1024 .bf16) p) (mat (iblk m c 5 t : Vec Ideal S1024x1024 .bf16)) (row (iblk m c 1 t : Vec Ideal S512x2048 .f32) p) (row (iblk m c 2 t : Vec Ideal S512x2048 .f32) p) (mat (iblk m c 6 t : Vec Ideal S4x1024 .f32)) j
      = dz (V m c main_arg0) (V m c main_arg6) (V m c main_arg1) (V m c main_v6) (V m c main_arg7) E := by
    have hu : u.val = (E 0).val - 2 := by omega
    rw [rows0 m c t p (E 1) hE1, rows1 m c t p (E 1) hE1, rows2 m c t p (E 1) hE1, whole5, whole6, ← hE2, hu]; rfl
  by_cases h : t.val % 4 = 0
  · rw [outsAt0_A m c t h]
    dsimp only
    rw [block8_A]
    exact key
  · rw [outsAt0_B m c t h]
    dsimp only
    rw [block8_B]
    exact key

def share0 (c : Dev nD) (j : Fin 1024) (P : Fin 2048) : EReal := dza (V m c main_arg0) (V m c main_arg6) (V m c main_arg1) (V m c main_v6) (V m c main_arg7) P j
theorem sum0 (c : Dev nD) (t : Fin cfg0.N) (j : Fin 1024) :
    ∑ p : Fin 512, dgA (row (iblk m c 0 t : Vec Ideal S512x1024 .bf16) p) (mat (iblk m c 5 t : Vec Ideal S1024x1024 .bf16)) (row (iblk m c 1 t : Vec Ideal S512x2048 .f32) p) (row (iblk m c 2 t : Vec Ideal S512x2048 .f32) p) (mat (iblk m c 6 t : Vec Ideal S4x1024 .f32)) j = ∑ p : Fin 512, share0 m c j ⟨t.val * 512 + p.val, row_lt t p⟩ := by
  refine Finset.sum_congr rfl fun p _ => ?_
  rw [rows0 m c t p ⟨_, row_lt t p⟩ rfl, rows1 m c t p ⟨_, row_lt t p⟩ rfl, rows2 m c t p ⟨_, row_lt t p⟩ rfl, whole5, whole6]
  rfl

def share1 (c : Dev nD) (j : Fin 1024) (P : Fin 2048) : EReal := dzb (V m c main_arg0) (V m c main_arg6) (V m c main_arg1) (V m c main_v6) (V m c main_arg7) P j
theorem sum1 (c : Dev nD) (t : Fin cfg0.N) (j : Fin 1024) :
    ∑ p : Fin 512, dgB (row (iblk m c 0 t : Vec Ideal S512x1024 .bf16) p) (mat (iblk m c 5 t : Vec Ideal S1024x1024 .bf16)) (row (iblk m c 1 t : Vec Ideal S512x2048 .f32) p) (row (iblk m c 2 t : Vec Ideal S512x2048 .f32) p) (mat (iblk m c 6 t : Vec Ideal S4x1024 .f32)) j = ∑ p : Fin 512, share1 m c j ⟨t.val * 512 + p.val, row_lt t p⟩ := by
  refine Finset.sum_congr rfl fun p _ => ?_
  rw [rows0 m c t p ⟨_, row_lt t p⟩ rfl, rows1 m c t p ⟨_, row_lt t p⟩ rfl, rows2 m c t p ⟨_, row_lt t p⟩ rfl, whole5, whole6]
  rfl

/-- What point `t` adds to the accumulated result. -/
def point (c : Dev nD) (t : Fin cfg0.N) (i : S2x1024.Idx) : EReal :=
  if (i 0).val = 0 then ∑ p : Fin 512, share0 m c (i 1) ⟨t.val * 512 + p.val, row_lt t p⟩
  else ∑ p : Fin 512, share1 m c (i 1) ⟨t.val * 512 + p.val, row_lt t p⟩

theorem reset (c : Dev nD) (t : Fin cfg0.N) (h : t.val % 4 = 0) (i : S2x1024.Idx) :
    ((outsAt0 m c t.val t.isLt).2.2.2.2 i : EReal) = 0 + point m c t i := by
  rw [outsAt0_A m c t h]
  dsimp only
  obtain ⟨r, j, rfl⟩ := exists_ix2 (M := 2) (N := 1024) i
  match r with
  | 0 => rw [block11_A_0, sum0]; rfl
  | 1 => rw [block11_A_1, sum1]; rfl

theorem step (c : Dev nD) (t : Fin cfg0.N) (h : ¬t.val % 4 = 0) (i : S2x1024.Idx) :
    ((outsAt0 m c t.val t.isLt).2.2.2.2 i : EReal) = (outsAt0 m c (t.val - 1) (Nat.lt_of_le_of_lt (Nat.sub_le _ _) t.isLt)).2.2.2.2 i + point m c t i := by
  rw [outsAt0_B m c t h]
  dsimp only
  obtain ⟨r, j, rfl⟩ := exists_ix2 (M := 2) (N := 1024) i
  match r with
  | 0 => rw [block11_B_0, sum0]; rfl
  | 1 => rw [block11_B_1, sum1]; rfl

theorem final11 (c : Dev nD) : (dats m 0 c).arrAt 11 cfg0.N = dvec (V m c main_arg0) (V m c main_arg6) (V m c main_arg1) (V m c main_v6) (V m c main_arg7) := by
  refine (dats m 0 c).arrAt_eq_of_after_last 11 t0_3 (by decide +kernel) _ fun i => ?_
  rw [after0_11]
  refine (Pipeline.eq_sum_fin_of_reset_step_apply_last (fun n h => ((outsAt0 m c n h).2.2.2.2 : S2x1024.Idx → EReal)) 4 (fun _ => (0 : EReal)) (point m c)
    (fun t h i => reset m c t h i) (fun t h i => step m c t h i) (le_of_eq N_0) t0_3 rfl i).trans ?_
  rw [zero_add]
  obtain ⟨r, j, rfl⟩ := exists_ix2 (M := 2) (N := 1024) i
  match r with
  | 0 =>
    show ∑ t : Fin cfg0.N, ∑ p : Fin 512, share0 m c j ⟨t.val * 512 + p.val, row_lt t p⟩ = ∑ P : Fin 2048, share0 m c j P
    exact Fin.sum_mul_add_fin 4 512 (share0 m c j)
  | 1 =>
    show ∑ t : Fin cfg0.N, ∑ p : Fin 512, share1 m c j ⟨t.val * 512 + p.val, row_lt t p⟩ = ∑ P : Fin 2048, share1 m c j P
    exact Fin.sum_mul_add_fin 4 512 (share1 m c j)

/-! ## What the run leaves in the results -/

/-- The sections the host cuts out of the gradient buffer after the region. -/
def sections (c : Dev nD) : S2x2048x1024.Idx → EReal := fun i =>
  gates (i 0).val (row (V m c main_arg0 : Vec Ideal S2048x1024 .bf16) (i 1)) (mat (V m c main_arg6 : Vec Ideal S1024x1024 .bf16))
    (row (V m c main_arg1 : Vec Ideal S2048x2048 .f32) (i 1)) (row (V m c main_v6 : Vec Ideal S2048x2048 .f32) (i 1)) (mat (V m c main_arg7 : Vec Ideal S4x1024 .f32)) (i 2)

theorem tail_eq (c : Dev nD) : Pipeline.afterTail₀ cfgs (dats m) 0 (V0 m) [hostOps1] c main_v8 = sections m c := by
  unfold Pipeline.afterTail₀
  show StableHlo.after hostOps1 _ (Proc.devRef .tc main_v8) = _
  after_results
  refine Eq.trans (congrArg (fun v : S8x2048x1024.Idx → EReal => (extractStridedSlice S2x2048x1024 ![2, 0, 0] v slices_S8x2048x1024_S2x2048x1024_2_0_0 : S2x2048x1024.Idx → EReal))
    (Pipeline.withArrays_arr spec0 (by decide) c _ _ 8)) ?_
  funext i
  obtain ⟨u, P, j, rfl⟩ := exists_ix3 (A := 2) (M := 2048) (N := 1024) i
  have hu := u.isLt
  refine (extractStridedSlice_apply (t := S2x2048x1024) ![2, 0, 0] _ _ (ValueIdx.ix3 u P j)
    (ValueIdx.ix3 (⟨2 + u.val, by omega⟩ : Fin 8) P j : S8x2048x1024.Idx) (fun a => by
      match a with
      | ⟨0, _⟩ => rfl
      | ⟨1, _⟩ => exact (Nat.zero_add _).symm
      | ⟨2, _⟩ => exact (Nat.zero_add _).symm)).trans ?_
  refine (final8 m c _ (by show (2 + u.val) / 2 = 1; omega)).trans ?_
  show gates (2 + u.val - 2) _ _ _ _ _ _ = gates u.val _ _ _ _ _ _
  rw [Nat.add_sub_cancel_left]

theorem run_results : θ_run defs (onTc (τ := τ) (main (F := Ideal))) (s₀ m ρ) fun r => ∀ c : Dev nD,
      r.2.mem ((c : Thread nD τ).loc main_v7_0) = dopp (V m c main_arg0) (V m c main_arg6) (V m c main_arg1) (V m c main_arg7)
      ∧ r.2.mem ((c : Thread nD τ).loc main_v8) = sections m c
      ∧ r.2.mem ((c : Thread nD τ).loc main_v7_2) = dya (V m c main_arg0) (V m c main_arg6) (V m c main_arg1) (V m c main_arg7) (V m c main_arg4)
      ∧ r.2.mem ((c : Thread nD τ).loc main_v7_3) = dyb (V m c main_arg0) (V m c main_arg6) (V m c main_arg1) (V m c main_arg7) (V m c main_arg5)
      ∧ r.2.mem ((c : Thread nD τ).loc main_v7_4) = dvec (V m c main_arg0) (V m c main_arg6) (V m c main_arg1) (V m c main_v6) (V m c main_arg7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 7).trans (final7 m c),
      ((h c).2 main_v8 (Pipeline.mem_restRefs_of main_v8 (by decide) (by decide))).trans (tail_eq m c),
      ((h c).1 9).trans (final9 m c),
      ((h c).1 10).trans (final10 m c),
      ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩)
    (run_main m ρ)

/-! ## The branch projections the region finds -/

/-- The two projections side by side. -/
def pab (x2 x3 : Vec Ideal S2048x1024 .bf16) (x4 x5 : Vec Ideal S1024x1024 .bf16) : Vec Ideal S2048x2048 .f32 :=
  concatenate S2048x2048 1 [⟨S2048x1024, (Cert.Reference3Ideal.Read.val_main_v2 (F := Ideal) x2 x4 : S2048x1024.Idx → EReal)⟩,
    ⟨S2048x1024, (Cert.Reference3Ideal.Read.val_main_v5 (F := Ideal) x3 x5 : S2048x1024.Idx → EReal)⟩] concatenates_S2048x1024_S2048x1024_S2048x2048_d1

theorem pab_eq (c : Dev nD) : V m c main_v6 = pab (m ((c : Thread nD τ).loc main_arg2)) (m ((c : Thread nD τ).loc main_arg3))
    (m ((c : Thread nD τ).loc main_arg4)) (m ((c : Thread nD τ).loc main_arg5)) := by
  show V m c main_v6 = _
  entry_read
  rfl

theorem pab_lo (x2 x3 : Vec Ideal S2048x1024 .bf16) (x4 x5 : Vec Ideal S1024x1024 .bf16) (P : Fin 2048) (j : Fin 1024) :
    row (pab x2 x3 x4 x5) P (lo j) = Cert.Reference3Ideal.Read.val_main_v2 (F := Ideal) x2 x4 (ValueIdx.ix2 P j) :=
  concatenate_pair_apply_left (t := S2048x2048) (s₁ := S2048x1024) (s₂ := S2048x1024) 1 _ _ _ _ rfl (ValueIdx.ix2 P j) fun b => by
    match b with
    | ⟨0, _⟩ => rfl
    | ⟨1, _⟩ => rfl

theorem pab_hi (x2 x3 : Vec Ideal S2048x1024 .bf16) (x4 x5 : Vec Ideal S1024x1024 .bf16) (P : Fin 2048) (j : Fin 1024) :
    row (pab x2 x3 x4 x5) P (hi j) = Cert.Reference3Ideal.Read.val_main_v5 (F := Ideal) x3 x5 (ValueIdx.ix2 P j) :=
  concatenate_pair_apply_right (t := S2048x2048) (s₁ := S2048x1024) (s₂ := S2048x1024) 1 _ _ _ _ rfl rfl (ValueIdx.ix2 P j) (fun b hb => by
    match b with
    | ⟨0, _⟩ => rfl
    | ⟨1, _⟩ => exact absurd rfl hb) (Nat.add_comm _ _)

end Cert.Kernel3Ideal.Grad

/-! ## The reference, row by row -/

namespace Cert.Reference3Ideal.Rows

open Cert.Reference3Ideal Cert.Reference3Ideal.Read Cert.Kernel3Ideal.Grad Cert.Common Cert.Rms Cert.RmsOps

variable (x0 x2 x3 : Vec Ideal S2048x1024 .bf16) (x1 : Vec Ideal S2048x2048 .f32) (x4 x5 x6 : Vec Ideal S1024x1024 .bf16) (x7 : Vec Ideal S4x1024 .f32)

theorem gateA_eq (P : Fin 2048) (j : Fin 1024) : val_main_v19 (F := Ideal) x1 x7 (ValueIdx.ix2 P j) = gateA (row x1 P) (mat x7) j := by
  simp only [val_main_v19_apply, val_main_v18_apply, val_main_v17_apply, val_main_v16_apply, val_main_v15_apply, val_main_v14_apply, val_main_v13_apply, val_main_v6_apply, val_main_v12_apply, val_main_v11_apply, val_main_v10_apply, val_main_v9_apply, val_main_v8_apply]
  show Ideal.div one (one + Ideal.exp (-(x1 _ + x7 _))) = Ideal.div 1 (1 + Ideal.exp (-(x1 _ + x7 _)))
  rw [one_eq]
  refine congrArg (fun z : EReal => Ideal.div 1 (1 + Ideal.exp (-z))) (congrArg₂ (· + · : EReal → EReal → EReal) (congrArg x1 ?_) (congrArg x7 ?_))
  all_goals
    refine funext fun a => Fin.ext ?_
    match a with
    | ⟨0, _⟩ =>
      first
      | rfl
      | exact Nat.zero_add _
      | (show _ = _; simp; done)
    | ⟨1, _⟩ =>
      first
      | rfl
      | exact Nat.zero_add _
      | (simp; done)

theorem gateB_eq (P : Fin 2048) (j : Fin 1024) : val_main_v34 (F := Ideal) x1 x7 (ValueIdx.ix2 P j) = gateB (row x1 P) (mat x7) j := by
  simp only [val_main_v34_apply, val_main_v33_apply, val_main_v32_apply, val_main_v31_apply, val_main_v30_apply, val_main_v29_apply, val_main_v28_apply, val_main_v7_apply, val_main_v27_apply, val_main_v26_apply, val_main_v25_apply, val_main_v24_apply, val_main_v8_apply]
  show Ideal.div one (one + Ideal.exp (-(x1 _ + x7 _))) = Ideal.div 1 (1 + Ideal.exp (-(x1 _ + x7 _)))
  rw [one_eq]
  refine congrArg (fun z : EReal => Ideal.div 1 (1 + Ideal.exp (-z))) (congrArg₂ (· + · : EReal → EReal → EReal) (congrArg x1 ?_) (congrArg x7 ?_))
  all_goals
    refine funext fun a => Fin.ext ?_
    match a with
    | ⟨0, _⟩ =>
      first
      | rfl
      | exact Nat.zero_add _
      | (show _ = _; simp; done)
    | ⟨1, _⟩ =>
      first
      | rfl
      | exact Nat.zero_add _
      | (simp; done)

theorem back_eq (P : Fin 2048) (j : Fin 1024) : val_main_v43 (F := Ideal) x0 x6 (ValueIdx.ix2 P j) = back (row x0 P) (mat x6) j := by
  rw [val_main_v43_apply]
  refine Finset.sum_congr rfl fun k _ => congrArg₂ (· * · : EReal → EReal → EReal) ?_ ?_
  · exact congrArg x0 (funext fun a => by match a with | ⟨0, _⟩ => rfl | ⟨1, _⟩ => rfl)
  · exact congrArg x6 (funext fun a => by match a with | ⟨0, _⟩ => rfl | ⟨1, _⟩ => rfl)

theorem dpA_eq (P : Fin 2048) (j : Fin 1024) : val_main_v52 (F := Ideal) x0 x1 x6 x7 (ValueIdx.ix2 P j) = dpA (row x0 P) (mat x6) (row x1 P) (mat x7) j := by
  rw [val_main_v52_apply, gateA_eq, back_eq]
  exact mul_comm (G := EReal) _ _

theorem dpB_eq (P : Fin 2048) (j : Fin 1024) : val_main_v44 (F := Ideal) x0 x1 x6 x7 (ValueIdx.ix2 P j) = dpB (row x0 P) (mat x6) (row x1 P) (mat x7) j := by
  rw [val_main_v44_apply, gateB_eq, back_eq]
  exact mul_comm (G := EReal) _ _

theorem dza_eq (P : Fin 2048) (j : Fin 1024) : val_main_v54 (F := Ideal) x0 x1 x2 x4 x6 x7 (ValueIdx.ix2 P j) = dza x0 x6 x1 (pab x2 x3 x4 x5) x7 P j := by
  rw [val_main_v54_apply, val_main_v53_apply, val_main_v22_apply, val_main_v21_apply, val_main_v20_apply, gateA_eq, back_eq]
  show _ = back _ _ j * row (pab x2 x3 x4 x5) P (lo j) * _
  rw [pab_lo]
  rfl

theorem dzb_eq (P : Fin 2048) (j : Fin 1024) : val_main_v46 (F := Ideal) x0 x1 x3 x5 x6 x7 (ValueIdx.ix2 P j) = dzb x0 x6 x1 (pab x2 x3 x4 x5) x7 P j := by
  rw [val_main_v46_apply, val_main_v45_apply, val_main_v37_apply, val_main_v36_apply, val_main_v35_apply, gateB_eq, back_eq]
  show _ = back _ _ j * row (pab x2 x3 x4 x5) P (hi j) * _
  rw [pab_hi]
  rfl

theorem dopp_eq : dopp x0 x6 x1 x7 = val_main_v65 (F := Ideal) x0 x1 x6 x7 := by
  funext i
  obtain ⟨P, j, rfl⟩ := exists_ix2 (M := 2048) (N := 3072) i
  have hj := j.isLt
  unfold val_main_v65
  by_cases h1 : j.val < 1024
  · refine (opp_0 _ _ _ _ j ⟨j.val, h1⟩ rfl).trans ?_
    exact (concatenate_apply_piece (t := S2048x3072) 1 _ _ (ValueIdx.ix2 P j) 0 (by show 0 < 3; decide) S2048x1024 _ rfl rfl 0 rfl (ValueIdx.ix2 P ⟨j.val, h1⟩)
      (fun b hb => by
        match b with
        | ⟨0, _⟩ => rfl
        | ⟨1, _⟩ => exact absurd rfl hb) (Nat.zero_add _)).symm
  by_cases h2 : j.val < 2048
  · refine (opp_1 _ _ _ _ j ⟨j.val - 1024, by omega⟩ (by show j.val = 1024 + (j.val - 1024); omega)).trans ?_
    refine (dpA_eq x0 x1 x6 x7 P ⟨j.val - 1024, by omega⟩).symm.trans ?_
    exact (concatenate_apply_piece (t := S2048x3072) 1 _ _ (ValueIdx.ix2 P j) 1 (by show 1 < 3; decide) S2048x1024 _ rfl rfl 1024 rfl (ValueIdx.ix2 P ⟨j.val - 1024, by omega⟩)
      (fun b hb => by
        match b with
        | ⟨0, _⟩ => rfl
        | ⟨1, _⟩ => exact absurd rfl hb) (by show 1024 + (j.val - 1024) = j.val; omega)).symm
  · refine (opp_2 _ _ _ _ j ⟨j.val - 2048, by omega⟩ (by show j.val = 2048 + (j.val - 2048); omega)).trans ?_
    refine (dpB_eq x0 x1 x6 x7 P ⟨j.val - 2048, by omega⟩).symm.trans ?_
    exact (concatenate_apply_piece (t := S2048x3072) 1 _ _ (ValueIdx.ix2 P j) 2 (by show 2 < 3; decide) S2048x1024 _ rfl rfl 2048 rfl (ValueIdx.ix2 P ⟨j.val - 2048, by omega⟩)
      (fun b hb => by
        match b with
        | ⟨0, _⟩ => rfl
        | ⟨1, _⟩ => exact absurd rfl hb) (by show 2048 + (j.val - 2048) = j.val; omega)).symm

theorem dz_eq (u : Fin 2) (P : Fin 2048) (j : Fin 1024) :
    gates u.val (row x0 P) (mat x6) (row x1 P) (row (pab x2 x3 x4 x5) P) (mat x7) j = val_main_v69 (F := Ideal) x0 x1 x2 x3 x4 x5 x6 x7 (ValueIdx.ix3 u P j) := by
  show _ = val_main_v68 (F := Ideal) x0 x1 x2 x3 x4 x5 x6 x7 (ValueIdx.ix3 u P j)
  unfold val_main_v68
  match u with
  | 0 =>
    refine Eq.trans ?_ (concatenate_pair_apply_left (t := S2x2048x1024) (s₁ := S1x2048x1024) (s₂ := S1x2048x1024) 0 _ _ _ _ rfl (ValueIdx.ix3 0 P j) fun b => by
      match b with
      | ⟨0, _⟩ => rfl
      | ⟨1, _⟩ => rfl
      | ⟨2, _⟩ => rfl).symm
    rw [val_main_v66_apply]
    refine (dza_eq x0 x2 x3 x1 x4 x5 x6 x7 P j).symm.trans ?_
    exact congrArg (val_main_v54 (F := Ideal) x0 x1 x2 x4 x6 x7) (funext fun a => by match a with | ⟨0, _⟩ => rfl | ⟨1, _⟩ => rfl)
  | 1 =>
    refine Eq.trans ?_ (concatenate_pair_apply_right (t := S2x2048x1024) (s₁ := S1x2048x1024) (s₂ := S1x2048x1024) 0 _ _ _ _ rfl rfl (ValueIdx.ix3 0 P j) (fun b hb => by
      match b with
      | ⟨0, _⟩ => exact absurd rfl hb
      | ⟨1, _⟩ => rfl
      | ⟨2, _⟩ => rfl) rfl).symm
    rw [val_main_v67_apply]
    refine (dzb_eq x0 x2 x3 x1 x4 x5 x6 x7 P j).symm.trans ?_
    exact congrArg (val_main_v46 (F := Ideal) x0 x1 x3 x5 x6 x7) (funext fun a => by match a with | ⟨0, _⟩ => rfl | ⟨1, _⟩ => rfl)

theorem dya_eq : dya x0 x6 x1 x7 x4 = val_main_v61 (F := Ideal) x0 x1 x4 x6 x7 := by
  funext i
  obtain ⟨P, j, rfl⟩ := exists_ix2 (M := 2048) (N := 1024) i
  rw [val_main_v61_apply]
  show ∑ k : Fin 1024, dpA (row x0 P) (mat x6) (row x1 P) (mat x7) k * mat x4 j k = _
  refine Finset.sum_congr rfl fun k _ => congrArg₂ (· * · : EReal → EReal → EReal) ?_ ?_
  · refine (dpA_eq x0 x1 x6 x7 P k).symm.trans ?_
    exact congrArg (val_main_v52 (F := Ideal) x0 x1 x6 x7) (funext fun a => by match a with | ⟨0, _⟩ => rfl | ⟨1, _⟩ => rfl)
  · exact congrArg x4 (funext fun a => by match a with | ⟨0, _⟩ => rfl | ⟨1, _⟩ => rfl)

theorem dyb_eq : dyb x0 x6 x1 x7 x5 = val_main_v70 (F := Ideal) x0 x1 x5 x6 x7 := by
  funext i
  obtain ⟨P, j, rfl⟩ := exists_ix2 (M := 2048) (N := 1024) i
  show _ = val_main_v62 (F := Ideal) x0 x1 x5 x6 x7 _
  rw [val_main_v62_apply]
  show ∑ k : Fin 1024, dpB (row x0 P) (mat x6) (row x1 P) (mat x7) k * mat x5 j k = _
  refine Finset.sum_congr rfl fun k _ => congrArg₂ (· * · : EReal → EReal → EReal) ?_ ?_
  · refine (dpB_eq x0 x1 x6 x7 P k).symm.trans ?_
    exact congrArg (val_main_v44 (F := Ideal) x0 x1 x6 x7) (funext fun a => by match a with | ⟨0, _⟩ => rfl | ⟨1, _⟩ => rfl)
  · exact congrArg x5 (funext fun a => by match a with | ⟨0, _⟩ => rfl | ⟨1, _⟩ => rfl)

theorem sumB_eq (j : Fin 1024) : val_main_v50 (F := Ideal) x0 x1 x3 x5 x6 x7 (ValueIdx.ix2 0 j) = ∑ P : Fin 2048, dzb x0 x6 x1 (pab x2 x3 x4 x5) x7 P j := by
  rw [val_main_v50_apply, val_main_v49_apply]
  refine (congrArg₂ (· + · : EReal → EReal → EReal) (show val_main_cst_6 (F := Ideal) _ = (0 : EReal) from Ideal.ofBits_zero_f32) (Finset.sum_congr rfl fun k _ => ?_)).trans ((zero_add _).trans (Fin.sum_univ_one (fun _ : Fin 1 => ∑ P : Fin 2048, dzb x0 x6 x1 (pab x2 x3 x4 x5) x7 P j)))
  rw [val_main_v48_apply, val_main_v47_apply]
  refine (congrArg₂ (· + · : EReal → EReal → EReal) (show val_main_cst_5 (F := Ideal) _ = (0 : EReal) from Ideal.ofBits_zero_f32) (Finset.sum_congr rfl fun P _ => ?_)).trans (zero_add _)
  refine Eq.trans (congrArg (val_main_v46 (F := Ideal) x0 x1 x3 x5 x6 x7) (funext fun a => ?_)) (dzb_eq x0 x2 x3 x1 x4 x5 x6 x7 P j)
  match a with
  | ⟨0, _⟩ => rfl
  | ⟨1, _⟩ =>
    first
    | rfl
    | (apply Fin.ext; simp; done)

theorem sumA_eq (j : Fin 1024) : val_main_v58 (F := Ideal) x0 x1 x2 x4 x6 x7 (ValueIdx.ix2 0 j) = ∑ P : Fin 2048, dza x0 x6 x1 (pab x2 x3 x4 x5) x7 P j := by
  rw [val_main_v58_apply, val_main_v57_apply]
  refine (congrArg₂ (· + · : EReal → EReal → EReal) (show val_main_cst_9 (F := Ideal) _ = (0 : EReal) from Ideal.ofBits_zero_f32) (Finset.sum_congr rfl fun k _ => ?_)).trans ((zero_add _).trans (Fin.sum_univ_one (fun _ : Fin 1 => ∑ P : Fin 2048, dza x0 x6 x1 (pab x2 x3 x4 x5) x7 P j)))
  rw [val_main_v56_apply, val_main_v55_apply]
  refine (congrArg₂ (· + · : EReal → EReal → EReal) (show val_main_cst_8 (F := Ideal) _ = (0 : EReal) from Ideal.ofBits_zero_f32) (Finset.sum_congr rfl fun P _ => ?_)).trans (zero_add _)
  refine Eq.trans (congrArg (val_main_v54 (F := Ideal) x0 x1 x2 x4 x6 x7) (funext fun a => ?_)) (dza_eq x0 x2 x3 x1 x4 x5 x6 x7 P j)
  match a with
  | ⟨0, _⟩ => rfl
  | ⟨1, _⟩ =>
    first
    | rfl
    | (apply Fin.ext; simp; done)

theorem dvec_eq : dvec x0 x6 x1 (pab x2 x3 x4 x5) x7 = val_main_v60 (F := Ideal) x0 x1 x2 x3 x4 x5 x6 x7 := by
  funext i
  obtain ⟨r, j, rfl⟩ := exists_ix2 (M := 2) (N := 1024) i
  rw [val_main_v60_apply]
  unfold val_main_v51 val_main_v59
  match r with
  | 0 =>
    rw [pad_apply_of_not_inside (s := S1x1024) ![1, 0] ![0, 0] ![0, 0] _ _ _ _ (ValueIdx.ix2 0 j) 0 (fun h => absurd h.1 (by show ¬ 1 ≤ 0; decide)),
      pad_apply_of_inside (s := S1x1024) ![0, 0] ![1, 0] ![0, 0] _ _ _ _ (ValueIdx.ix2 0 j) (ValueIdx.ix2 0 j) (fun a => by
        match a with
        | ⟨0, _⟩ => rfl
        | ⟨1, _⟩ => show j.val = 0 + j.val * (0 + 1); omega), sumA_eq x0 x2 x3 x1 x4 x5 x6 x7]
    exact ((congrArg (fun z : EReal => z + _) (Ideal.ofBits_zero_f32)).trans (zero_add _)).symm
  | 1 =>
    rw [pad_apply_of_inside (s := S1x1024) ![1, 0] ![0, 0] ![0, 0] _ _ _ _ (ValueIdx.ix2 1 j) (ValueIdx.ix2 0 j) (fun a => by
        match a with
        | ⟨0, _⟩ => rfl
        | ⟨1, _⟩ => show j.val = 0 + j.val * (0 + 1); omega), sumB_eq x0 x2 x3 x1 x4 x5 x6 x7,
      pad_apply_of_not_inside (s := S1x1024) ![0, 0] ![1, 0] ![0, 0] _ _ _ _ (ValueIdx.ix2 1 j) 0 (fun h => absurd h.2.2 (by show ¬ (1 - 0) / (0 + 1) < 1; decide))]
    exact ((congrArg (fun z : EReal => _ + z) (Ideal.ofBits_zero_f32)).trans (add_zero _)).symm

end Cert.Reference3Ideal.Rows

/-! ## The claims -/

namespace Cert.Merge

open Cert.Kernel3Ideal Cert.Kernel3Ideal.Gen Cert.Kernel3Ideal.Grad Cert.RmsOps

theorem reference_quiescent : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

section Value

variable (m : (ℓ : Loc nD τ sig) → Buf (Elt Ideal) ℓ) (c : Dev nD)

theorem result65 : dopp (V m c main_arg0) (V m c main_arg6) (V m c main_arg1) (V m c main_arg7) = Cert.Reference3Ideal.Read.val_main_v65 (F := Ideal) (m ((c : Thread nD τ).loc main_arg0)) (m ((c : Thread nD τ).loc main_arg1)) (m ((c : Thread nD τ).loc main_arg6)) (m ((c : Thread nD τ).loc main_arg7)) := by
  rw [V_main_arg0, V_main_arg1, V_main_arg6, V_main_arg7]
  exact Cert.Reference3Ideal.Rows.dopp_eq _ _ _ _

theorem result69 : sections m c = Cert.Reference3Ideal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨u, P, j, rfl⟩ := exists_ix3 (A := 2) (M := 2048) (N := 1024) i
  show gates u.val _ _ _ _ _ j = _
  rw [V_main_arg0, V_main_arg1, V_main_arg6, V_main_arg7, pab_eq]
  exact Cert.Reference3Ideal.Rows.dz_eq _ _ _ _ _ _ _ _ u P j

theorem result61 : dya (V m c main_arg0) (V m c main_arg6) (V m c main_arg1) (V m c main_arg7) (V m c main_arg4) = Cert.Reference3Ideal.Read.val_main_v61 (F := Ideal) (m ((c : Thread nD τ).loc main_arg0)) (m ((c : Thread nD τ).loc main_arg1)) (m ((c : Thread nD τ).loc main_arg4)) (m ((c : Thread nD τ).loc main_arg6)) (m ((c : Thread nD τ).loc main_arg7)) := by
  rw [V_main_arg0, V_main_arg1, V_main_arg4, V_main_arg6, V_main_arg7]
  exact Cert.Reference3Ideal.Rows.dya_eq _ _ _ _ _

theorem result70 : dyb (V m c main_arg0) (V m c main_arg6) (V m c main_arg1) (V m c main_arg7) (V m c main_arg5) = Cert.Reference3Ideal.Read.val_main_v70 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  rw [V_main_arg0, V_main_arg1, V_main_arg5, V_main_arg6, V_main_arg7]
  exact Cert.Reference3Ideal.Rows.dyb_eq _ _ _ _ _

theorem result60 : dvec (V m c main_arg0) (V m c main_arg6) (V m c main_arg1) (V m c main_v6) (V m c main_arg7) = Cert.Reference3Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [pab_eq, V_main_arg0, V_main_arg1, V_main_arg6, V_main_arg7]
  exact Cert.Reference3Ideal.Rows.dvec_eq _ _ _ _ _ _ _ _

end Value

theorem algebraic : Cert.algebraic_Kernel3Ideal_Reference3Ideal := fun m ρ m' ρ' _ hag =>
  ⟨fun c => Cert.Reference3Ideal.Read.val_main_v65 (F := Ideal) (m ((c : Thread nD τ).loc main_arg0)) (m ((c : Thread nD τ).loc main_arg1)) (m ((c : Thread nD τ).loc main_arg6)) (m ((c : Thread nD τ).loc main_arg7)),
    fun c => Cert.Reference3Ideal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    fun c => Cert.Reference3Ideal.Read.val_main_v61 (F := Ideal) (m ((c : Thread nD τ).loc main_arg0)) (m ((c : Thread nD τ).loc main_arg1)) (m ((c : Thread nD τ).loc main_arg4)) (m ((c : Thread nD τ).loc main_arg6)) (m ((c : Thread nD τ).loc main_arg7)),
    fun c => Cert.Reference3Ideal.Read.val_main_v70 (F := Ideal) (m ((c : Thread nD τ).loc main_arg0)) (m ((c : Thread nD τ).loc main_arg1)) (m ((c : Thread nD τ).loc main_arg5)) (m ((c : Thread nD τ).loc main_arg6)) (m ((c : Thread nD τ).loc main_arg7)),
    fun c => Cert.Reference3Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    (θ_run Cert.Kernel3Ideal.defs _ _).mono (fun _ h c => ⟨(h c).1.trans (result65 m c), (h c).2.1.trans (result69 m c),
        (h c).2.2.1.trans (result61 m c), (h c).2.2.2.1.trans (result70 m c), (h c).2.2.2.2.1.trans (result60 m c), (h c).2.2.2.2.2⟩)
      (run_results m ρ),
    (θ_run Cert.Reference3Ideal.defs _ _).mono (fun _ h c => by
        obtain ⟨e0, e1, e2, e3, e4, e5, e6, e7⟩ := hag c
        refine ⟨(h c).1.trans ?_, (h c).2.1.trans ?_, (h c).2.2.1.trans ?_, (h c).2.2.2.1.trans ?_, (h c).2.2.2.2.1.trans ?_, (h c).2.2.2.2.2⟩
        · dsimp only
          rw [← e0, ← e1, ← e6, ← e7]
          exact Cert.Reference3Ideal.Read.val_main_v65_eq (F := Ideal) _ _ _ _
        · dsimp only
          rw [← e0, ← e1, ← e2, ← e3, ← e4, ← e5, ← e6, ← e7]
          exact Cert.Reference3Ideal.Read.val_main_v69_eq (F := Ideal) _ _
        · dsimp only
          rw [← e0, ← e1, ← e4, ← e6, ← e7]
          exact Cert.Reference3Ideal.Read.val_main_v61_eq (F := Ideal) _ _ _ _ _
        · dsimp only
          rw [← e0, ← e1, ← e5, ← e6, ← e7]
          exact Cert.Reference3Ideal.Read.val_main_v70_eq (F := Ideal) _ _ _ _ _
        · dsimp only
          rw [← e0, ← e1, ← e2, ← e3, ← e4, ← e5, ← e6, ← e7]
          exact Cert.Reference3Ideal.Read.val_main_v60_eq (F := Ideal) _ _)
      (Cert.Reference3Ideal.Value.run (F := Ideal) m' ρ')⟩

end Cert.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite_arguments
public import proofs.«01_k».proof.Proof.Gen.Pre_finite_section_gradients
public import proofs.«01_k».proof.Proof.Gen.Pre_chip_named11
public import proofs.«01_k».proof.Proof.Gen.Pre_chip_named12
public import proofs.«01_k».proof.Proof.Gen.Pre_chip_named14
public import proofs.«01_k».proof.Proof.Gen.Pre_chip_named13
public import proofs.«01_k».proof.Proof.DwFf1
public import proofs.«01_k».proof.Proof.DwFf2
public import proofs.«01_k».proof.Proof.DwIn
public import proofs.«01_k».proof.Proof.DwMid
public import proofs.«01_k».proof.Proof.DwMidFrame
public import proofs.«01_k».proof.Proof.DwMidFrameW
public import proofs.«01_k».proof.Proof.FfnBwd
public import proofs.«01_k».proof.Proof.FinFf1
public import proofs.«01_k».proof.Proof.FinFf2
public import proofs.«01_k».proof.Proof.FinIn
public import proofs.«01_k».proof.Proof.FinMid
public import proofs.«01_k».proof.Proof.InBwd
public import proofs.«01_k».proof.Proof.InFrame
public import proofs.«01_k».proof.Proof.InFrameW
public import proofs.«01_k».proof.Proof.InProj
public import proofs.«01_k».proof.Proof.InProjFrame
public import proofs.«01_k».proof.Proof.InProjFrameW
public import proofs.«01_k».proof.Proof.Merge
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Kernel7.Gen.facts, Cert.Kernel7Ideal.Gen.facts, Cert.Reference7Ideal.Gen.facts, Cert.Kernel5.Gen.facts, Cert.Kernel5Ideal.Gen.facts, Cert.Reference5Ideal.Gen.facts, Cert.Kernel10.Gen.facts, Cert.Kernel10Ideal.Gen.facts, Cert.Reference10Ideal.Gen.facts, Cert.Kernel9.Gen.facts, Cert.Kernel9Ideal.Gen.facts, Cert.Reference9Ideal.Gen.facts, Cert.Kernel3.Gen.facts, Cert.Kernel3Ideal.Gen.facts, Cert.Reference3Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel14.Gen.facts, Cert.Kernel14Ideal.Gen.facts, Cert.Reference14Ideal.Gen.facts, Cert.Kernel13.Gen.facts, Cert.Kernel13Ideal.Gen.facts, Cert.Reference13Ideal.Gen.facts, Cert.Pre_finite_arguments.Gen.facts, Cert.Pre_finite_section_gradients.Gen.facts, Cert.Pre_chip_named11.Gen.facts, Cert.Pre_chip_named12.Gen.facts, Cert.Pre_chip_named14.Gen.facts, Cert.Pre_chip_named13.Gen.facts,
  fun m ρ _ => Cert.Kernel.Gen.frame m ρ,
  fun m ρ _ => Cert.KernelIdeal.Gen.frame m ρ,
  fun m ρ _ => Cert.Kernel4.Gen.frame m ρ,
  fun m ρ _ => Cert.Kernel4Ideal.Gen.frame m ρ,
  fun m ρ _ => Cert.Kernel4Ideal.Gen.frame m ρ,
  fun m ρ _ => Cert.FfnBwd.reference_quiescent m ρ trivial,
  fun m ρ _ => Cert.FfnBwd.reference_quiescent m ρ trivial,
  fun m ρ _ => Cert.Kernel6.Gen.frame m ρ,
  fun m ρ _ => Cert.Kernel6Ideal.Gen.frame m ρ,
  fun m ρ _ => Cert.DwIn.reference_quiescent m ρ trivial,
  fun m ρ _ => Cert.Kernel8.Gen.frame m ρ,
  fun m ρ _ => Cert.Kernel8Ideal.Gen.frame m ρ,
  fun m ρ _ => Cert.DwFf1.reference_quiescent m ρ trivial,
  fun m ρ _ => Cert.Kernel7.Gen.frame m ρ,
  fun m ρ _ => Cert.Kernel7Ideal.Gen.frame m ρ,
  fun m ρ _ => Cert.DwFf2.reference_quiescent m ρ trivial,
  fun m ρ _ => Cert.Kernel5.Hand.frame m ρ,
  fun m ρ _ => Cert.Kernel5Ideal.Hand.frame m ρ,
  fun m ρ _ => Cert.Kernel5Ideal.Hand.frame m ρ,
  fun m ρ _ => Cert.InBwd.reference_quiescent m ρ trivial,
  fun m ρ _ => Cert.InBwd.reference_quiescent m ρ trivial,
  fun m ρ _ => Cert.Kernel10.Hand.frame m ρ,
  fun m ρ _ => Cert.Kernel10Ideal.Hand.frame m ρ,
  fun m ρ _ => Cert.InProj.reference_quiescent m ρ trivial,
  fun m ρ _ => Cert.Kernel9.Hand.frame m ρ,
  fun m ρ _ => Cert.Kernel9Ideal.Hand.frame m ρ,
  fun m ρ _ => Cert.DwMid.reference_quiescent m ρ trivial,
  fun m ρ _ => Cert.Kernel3.Gen.frame m ρ,
  fun m ρ _ => Cert.Kernel3Ideal.Gen.frame m ρ,
  fun m ρ _ => Cert.Merge.reference_quiescent m ρ trivial,
  fun m ρ h => Cert.FinFf1.frame_word m ρ h,
  fun m ρ h => Cert.FinFf1.frame_ideal m ρ h,
  fun m ρ _ => Cert.FinFf1.reference_quiescent m ρ trivial,
  fun m ρ _ => Cert.FinFf1.reference_quiescent m ρ trivial,
  fun m ρ h => Cert.FinFf2.frame_word m ρ h,
  fun m ρ h => Cert.FinFf2.frame_ideal m ρ h,
  fun m ρ _ => Cert.FinFf2.reference_quiescent m ρ trivial,
  fun m ρ _ => Cert.FinFf2.reference_quiescent m ρ trivial,
  fun m ρ h => Cert.FinIn.frame_word m ρ h,
  fun m ρ h => Cert.FinIn.frame_ideal m ρ h,
  fun m ρ _ => Cert.FinIn.reference_quiescent m ρ trivial,
  fun m ρ _ => Cert.FinIn.reference_quiescent m ρ trivial,
  fun m ρ h => Cert.FinMid.frame_word m ρ h,
  fun m ρ h => Cert.FinMid.frame_ideal m ρ h,
  fun m ρ _ => Cert.FinMid.reference_quiescent m ρ trivial,
  fun m ρ _ => Cert.FinMid.reference_quiescent m ρ trivial,
  trivial,
  trivial,
  Cert.FfnBwd.algebraic,
  trivial,
  Cert.DwIn.algebraic,
  trivial,
  Cert.DwFf1.algebraic,
  trivial,
  Cert.DwFf2.algebraic,
  trivial,
  Cert.InBwd.algebraic,
  trivial,
  Cert.InProj.algebraic,
  trivial,
  Cert.DwMid.algebraic,
  trivial,
  Cert.Merge.algebraic,
  trivial,
  Cert.FinFf1.algebraic,
  trivial,
  Cert.FinFf2.algebraic,
  trivial,
  Cert.FinIn.algebraic,
  trivial,
  Cert.FinMid.algebraic⟩

end Cert.Proof

end
